-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_tables : Cert.Pre_tables.Facts] (m : (ℓ : Loc Cert.Kernel6.nD Cert.Kernel6.τ Cert.Kernel6.sig) → Buf (Elt Bits) ℓ) : Prop :=
  ∀ c : Dev Cert.Kernel6.nD,
    (Cert.Pre_tables.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7))).1 = (fun _ => 1#1)
    ∧ (Cert.Pre_tables.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7))).2.1 = (fun _ => 1#1)
    ∧ (Cert.Pre_tables.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7))).2.2.1 = (fun _ => 1#1)
    ∧ (Cert.Pre_tables.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7))).2.2.2 = (fun _ => 1#1)

def Pre_Kernel6Ideal [hPre_tables : Cert.Pre_tables.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_tables.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_tables.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_tables.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_tables.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_tables [hPre_tables : Cert.Pre_tables.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_tables.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_tables.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_tables.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_tables.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2 = (fun _ => 1#1)

def Pre_Kernel7 [hPre_tables : Cert.Pre_tables.Facts] (m : (ℓ : Loc Cert.Kernel7.nD Cert.Kernel7.τ Cert.Kernel7.sig) → Buf (Elt Bits) ℓ) : Prop :=
  ∀ c : Dev Cert.Kernel7.nD,
    (Cert.Pre_tables.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6)) (m ((c.tc : Thread Cert.Kernel7.nD Cert.Kernel7.τ).loc Cert.Kernel7.main_arg7))).1 = (fun _ => 1#1)
    ∧ (Cert.Pre_tables.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6)) (m ((c.tc : Thread Cert.Kernel7.nD Cert.Kernel7.τ).loc Cert.Kernel7.main_arg7))).2.1 = (fun _ => 1#1)
    ∧ (Cert.Pre_tables.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6)) (m ((c.tc : Thread Cert.Kernel7.nD Cert.Kernel7.τ).loc Cert.Kernel7.main_arg7))).2.2.1 = (fun _ => 1#1)
    ∧ (Cert.Pre_tables.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6)) (m ((c.tc : Thread Cert.Kernel7.nD Cert.Kernel7.τ).loc Cert.Kernel7.main_arg7))).2.2.2 = (fun _ => 1#1)

def Pre_Kernel7Ideal [hPre_tables : Cert.Pre_tables.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_tables.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_tables.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_tables.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_tables.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_tables [hPre_tables : Cert.Pre_tables.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_tables.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_tables.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_tables.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_tables.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_tables : Cert.Pre_tables.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] [hPre_tables : Cert.Pre_tables.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_tables [hReference6Ideal : Cert.Reference6Ideal.Facts] [hPre_tables : Cert.Pre_tables.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_tables m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] [hPre_tables : Cert.Pre_tables.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] [hPre_tables : Cert.Pre_tables.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_tables [hReference7Ideal : Cert.Reference7Ideal.Facts] [hPre_tables : Cert.Pre_tables.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_tables m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] [hPre_tables : Cert.Pre_tables.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] [hPre_tables : Cert.Pre_tables.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_tables : Cert.Pre_tables.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_tables := hPre_tables)
    ∧ quiescent_Kernel6Ideal (hKernel6Ideal := hKernel6Ideal) (hPre_tables := hPre_tables)
    ∧ quiescent_Reference6Ideal (hReference6Ideal := hReference6Ideal)
    ∧ quiescent_Reference6Ideal_pre_tables (hReference6Ideal := hReference6Ideal) (hPre_tables := hPre_tables)
    ∧ quiescent_Kernel7 (hKernel7 := hKernel7) (hPre_tables := hPre_tables)
    ∧ quiescent_Kernel7Ideal (hKernel7Ideal := hKernel7Ideal) (hPre_tables := hPre_tables)
    ∧ quiescent_Reference7Ideal (hReference7Ideal := hReference7Ideal)
    ∧ quiescent_Reference7Ideal_pre_tables (hReference7Ideal := hReference7Ideal) (hPre_tables := hPre_tables)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_tables := hPre_tables)
    ∧ preserves_Kernel7_Kernel7Ideal
    ∧ algebraic_Kernel7Ideal_Reference7Ideal (hKernel7Ideal := hKernel7Ideal) (hReference7Ideal := hReference7Ideal) (hPre_tables := hPre_tables)
-- ==== Pre_tables.lean ====
abbrev S164 : Shape := ⟨1, ![164]⟩
abbrev S1 : Shape := ⟨1, ![1]⟩
abbrev S41984x2048 : Shape := ⟨2, ![41984, 2048]⟩
abbrev S2x32x2048x512 : Shape := ⟨4, ![2, 32, 2048, 512]⟩
abbrev S2x32x512x2048 : Shape := ⟨4, ![2, 32, 512, 2048]⟩
abbrev S_ : Shape := ⟨0, ![]⟩
abbrev S163 : Shape := ⟨1, ![163]⟩

class Facts : Prop where
  shapeCasts_S1_S_ : S1.ShapeCasts S_
  bcast_S_S164 : S_.BroadcastsInDim S164 (![] : Fin 0 → Fin S164.rank)
  slices_S164_S1_0 : S164.Slices ![0] S1
  slices_S164_S163_0 : S164.Slices ![0] S163
  slices_S164_S163_1 : S164.Slices ![1] S163
  bcast_S_S163 : S_.BroadcastsInDim S163 (![] : Fin 0 → Fin S163.rank)

variable [Facts]

def fn_where {F : FTy → Type} [FloatOps F] (arg0 : IVec S164 1) (arg1 : IVec S164 1) (arg2 : IVec S164 1) : IVec S164 1 :=
  let v0 : IVec S164 1 := select arg0 arg1 arg2
  v0

def fn_where_0 {F : FTy → Type} [FloatOps F] (arg0 : IVec S163 1) (arg1 : IVec S163 1) (arg2 : IVec S163 1) : IVec S163 1 :=
  let v0 : IVec S163 1 := select arg0 arg1 arg2
  v0

def fn_part2 {F : FTy → Type} [FloatOps F] (main_v3 : IVec S164 1) (main_v12 : IVec S_ 1) (main_v23 : IVec S164 1) (main_v30 : IVec S164 1) (main_v31 : IVec S163 32) (main_v32 : IVec S163 32) (main_v33 : IVec S163 32) (main_v34 : IVec S163 32) (main_v37 : IVec S163 1) : IVec S_ 1 × IVec S164 1 × IVec S164 1 × IVec S163 1 :=
  let main_v38 : IVec S163 1 := cmpi .eq main_v33 main_v32
  let main_v39 : IVec S163 1 := cmpi .eq main_v32 main_v31
  let main_v40 : IVec S163 1 := cmpi .eq main_v34 main_v33
  let main_v41 : IVec S163 1 := andi main_v39 main_v40
  let main_v42 : IVec S163 1 := fn_where_0 (F := F) main_v37 main_v38 main_v41
  let main_v43 : IVec S163 1 := (extractStridedSlice S163 ![1] · slices_S164_S163_1) main_v3
  let main_v44 : IVec S163 1 := noti main_v43
  let main_v45 : IVec S163 1 := ori main_v42 main_v44
  (main_v12, main_v23, main_v30, main_v45)

def fn_part1 {F : FTy → Type} [FloatOps F] (main_arg0 : IVec S164 32) (main_arg1 : IVec S164 32) (main_arg2 : IVec S164 32) (main_arg3 : IVec S1 32) (main_v0 : IVec S164 32) (main_v3 : IVec S164 1) (main_v12 : IVec S_ 1) (main_v17 : IVec S164 1) (main_c_4 : IVec S_ 32) : IVec S_ 1 × IVec S164 1 × IVec S164 1 × IVec S163 1 :=
  let main_v18 : IVec S164 32 := broadcastInDim S164 ![] bcast_S_S164 main_c_4
  let main_v19 : IVec S164 1 := cmpi .slt main_arg2 main_v18
  let main_v20 : IVec S164 1 := andi main_v17 main_v19
  let main_c_5 : IVec S_ 32 := constantI S_ 32 1#32
  let main_v21 : IVec S164 32 := broadcastInDim S164 ![] bcast_S_S164 main_c_5
  let main_v22 : IVec S164 1 := cmpi .ne main_arg1 main_v21
  let main_v23 : IVec S164 1 := fn_where (F := F) main_v3 main_v20 main_v22
  let main_v24 : IVec S_ 32 := shapeCast S_ main_arg3 shapeCasts_S1_S_
  let main_c_6 : IVec S_ 32 := constantI S_ 32 1#32
  let main_v25 : IVec S_ 32 := subi main_v24 main_c_6
  let main_v26 : IVec S164 32 := broadcastInDim S164 ![] bcast_S_S164 main_v25
  let main_v27 : IVec S164 1 := cmpi .ne main_v0 main_v26
  let main_c_7 : IVec S_ 32 := constantI S_ 32 0#32
  let main_v28 : IVec S164 32 := broadcastInDim S164 ![] bcast_S_S164 main_c_7
  let main_v29 : IVec S164 1 := cmpi .slt main_arg2 main_v28
  let main_v30 : IVec S164 1 := ori main_v27 main_v29
  let main_v31 : IVec S163 32 := (extractStridedSlice S163 ![0] · slices_S164_S163_0) main_arg0
  let main_v32 : IVec S163 32 := (extractStridedSlice S163 ![1] · slices_S164_S163_1) main_arg0
  let main_v33 : IVec S163 32 := (extractStridedSlice S163 ![0] · slices_S164_S163_0) main_arg2
  let main_v34 : IVec S163 32 := (extractStridedSlice S163 ![1] · slices_S164_S163_1) main_arg2
  let main_v35 : IVec S163 32 := (extractStridedSlice S163 ![1] · slices_S164_S163_1) main_arg1
  let main_c_8 : IVec S_ 32 := constantI S_ 32 1#32
  let main_v36 : IVec S163 32 := broadcastInDim S163 ![] bcast_S_S163 main_c_8
  let main_v37 : IVec S163 1 := cmpi .eq main_v35 main_v36
  fn_part2 (F := F) main_v3 main_v12 main_v23 main_v30 main_v31 main_v32 main_v33 main_v34 main_v37

def fn {F : FTy → Type} [FloatOps F] (main_arg0 : IVec S164 32) (main_arg1 : IVec S164 32) (main_arg2 : IVec S164 32) (main_arg3 : IVec S1 32) (main_arg4 : FVec F S41984x2048 .bf16) (main_arg5 : FVec F S2x32x2048x512 .f32) (main_arg6 : FVec F S2x32x2048x512 .f32) (main_arg7 : FVec F S2x32x512x2048 .f32) : IVec S_ 1 × IVec S164 1 × IVec S164 1 × IVec S163 1 :=
  let main_v0 : IVec S164 32 := iotaInDim S164 32 0
  let main_v1 : IVec S_ 32 := shapeCast S_ main_arg3 shapeCasts_S1_S_
  let main_v2 : IVec S164 32 := broadcastInDim S164 ![] bcast_S_S164 main_v1
  let main_v3 : IVec S164 1 := cmpi .slt main_v0 main_v2
  let main_v4 : IVec S_ 32 := shapeCast S_ main_arg3 shapeCasts_S1_S_
  let main_c : IVec S_ 32 := constantI S_ 32 1#32
  let main_v5 : IVec S_ 1 := cmpi .sge main_v4 main_c
  let main_v6 : IVec S_ 32 := shapeCast S_ main_arg3 shapeCasts_S1_S_
  let main_c_0 : IVec S_ 32 := constantI S_ 32 164#32
  let main_v7 : IVec S_ 1 := cmpi .sle main_v6 main_c_0
  let main_v8 : IVec S_ 1 := andi main_v5 main_v7
  let main_v9 : IVec S1 32 := (extractStridedSlice S1 ![0] · slices_S164_S1_0) main_arg1
  let main_v10 : IVec S_ 32 := shapeCast S_ main_v9 shapeCasts_S1_S_
  let main_c_1 : IVec S_ 32 := constantI S_ 32 1#32
  let main_v11 : IVec S_ 1 := cmpi .eq main_v10 main_c_1
  let main_v12 : IVec S_ 1 := andi main_v8 main_v11
  let main_c_2 : IVec S_ 32 := constantI S_ 32 0#32
  let main_v13 : IVec S164 32 := broadcastInDim S164 ![] bcast_S_S164 main_c_2
  let main_v14 : IVec S164 1 := cmpi .sge main_arg0 main_v13
  let main_c_3 : IVec S_ 32 := constantI S_ 32 32#32
  let main_v15 : IVec S164 32 := broadcastInDim S164 ![] bcast_S_S164 main_c_3
  let main_v16 : IVec S164 1 := cmpi .slt main_arg0 main_v15
  let main_v17 : IVec S164 1 := andi main_v14 main_v16
  let main_c_4 : IVec S_ 32 := constantI S_ 32 32#32
  fn_part1 (F := F) main_arg0 main_arg1 main_arg2 main_arg3 main_v0 main_v3 main_v12 main_v17 main_c_4
-- ==== Kernel.lean ====
abbrev S4x4096x2048 : Shape := ⟨3, ![4, 4096, 2048]⟩
abbrev S8x2048 : Shape := ⟨2, ![8, 2048]⟩
abbrev S2x2048 : Shape := ⟨2, ![2, 2048]⟩
abbrev S1x2048x6144 : Shape := ⟨3, ![1, 2048, 6144]⟩
abbrev S1x3x2048 : Shape := ⟨3, ![1, 3, 2048]⟩
abbrev S16384x2048 : Shape := ⟨2, ![16384, 2048]⟩
abbrev S1x2048 : Shape := ⟨2, ![1, 2048]⟩
abbrev S2048 : Shape := ⟨1, ![2048]⟩
abbrev S2048x6144 : Shape := ⟨2, ![2048, 6144]⟩
abbrev S3x2048 : Shape := ⟨2, ![3, 2048]⟩
abbrev S128x2048 : Shape := ⟨2, ![128, 2048]⟩
abbrev S1024x2048 : Shape := ⟨2, ![1024, 2048]⟩
abbrev S2048x512 : Shape := ⟨2, ![2048, 512]⟩
abbrev S3x512 : Shape := ⟨2, ![3, 512]⟩
abbrev S8x512 : Shape := ⟨2, ![8, 512]⟩
abbrev S1024x512 : Shape := ⟨2, ![1024, 512]⟩
abbrev S4x8x512 : Shape := ⟨3, ![4, 8, 512]⟩
abbrev S1024 : Shape := ⟨1, ![1024]⟩
abbrev S1024x1 : Shape := ⟨2, ![1024, 1]⟩
abbrev S1024x256 : Shape := ⟨2, ![1024, 256]⟩
abbrev S2048x256 : Shape := ⟨2, ![2048, 256]⟩
abbrev S8x256 : Shape := ⟨2, ![8, 256]⟩
abbrev S1x8x256 : Shape := ⟨3, ![1, 8, 256]⟩
abbrev S1x256 : Shape := ⟨2, ![1, 256]⟩

abbrev nBuf : Space → Nat
  | .hbm => 14
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S8x2048, .f32⟩
  | .hbm, ⟨2, _⟩ => ⟨S2x2048, .f32⟩
  | .hbm, ⟨3, _⟩ => ⟨S1x2048x6144, .f32⟩
  | .hbm, ⟨4, _⟩ => ⟨S1x3x2048, .f32⟩
  | .hbm, ⟨5, _⟩ => ⟨S16384x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048x6144, .f32⟩
  | .hbm, ⟨10, _⟩ => ⟨S2048x6144, .bf16⟩
  | .hbm, ⟨11, _⟩ => ⟨S3x2048, .f32⟩
  | .hbm, ⟨12, _⟩ => ⟨S16384x2048, .bf16⟩
  | .hbm, ⟨13, _⟩ => ⟨S128x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S8x512, .f32⟩
  | .local _ .vmem, ⟨12, _⟩ => ⟨S8x512, .f32⟩
  | .local _ .vmem, ⟨13, _⟩ => ⟨S1024x512, .bf16⟩
  | .local _ .vmem, ⟨14, _⟩ => ⟨S1024x512, .bf16⟩
  | .local _ .vmem, ⟨15, _⟩ => ⟨S8x512, .f32⟩
  | .local _ .vmem, ⟨16, _⟩ => ⟨S8x512, .f32⟩
  | .local _ .vmem, ⟨17, _⟩ => ⟨S1024x2048, .bf16⟩
  | .local _ .vmem, ⟨18, _⟩ => ⟨S4x8x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v27 : Index := Scalar.indexCast arg1
  let c0_21 : Index := 0#32
  let c0_22 : Index := 0#32
  ![v27.toNat, 0, 0]
def k0_off2 (i : grid0.Coords) : Fin 3 → Nat :=
  let arg1 : BitVec 32 := BitVec.ofNat 32 (i 1).val
  let v76 : Index := Scalar.indexCast arg1
  let c0_38 : Index := 0#32
  let c256_39 : Index := 256#32
  ![v76.toNat, 0, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x2048 : Shape := ⟨3, ![4, 4096, 2048]⟩
abbrev S8x2048 : Shape := ⟨2, ![8, 2048]⟩
abbrev S2x2048 : Shape := ⟨2, ![2, 2048]⟩
abbrev S1x2048x6144 : Shape := ⟨3, ![1, 2048, 6144]⟩
abbrev S1x3x2048 : Shape := ⟨3, ![1, 3, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x6144 : Shape := ⟨2, ![2048, 6144]⟩
abbrev S4x4096x6144 : Shape := ⟨3, ![4, 4096, 6144]⟩
abbrev S4x2x2048 : Shape := ⟨3, ![4, 2, 2048]⟩
abbrev S4x4098x2048 : Shape := ⟨3, ![4, 4098, 2048]⟩
abbrev S16x1024x2048 : Shape := ⟨3, ![16, 1024, 2048]⟩
abbrev S16x8x2048 : Shape := ⟨3, ![16, 8, 2048]⟩
abbrev S16384x2048 : Shape := ⟨2, ![16384, 2048]⟩
abbrev S128x2048 : Shape := ⟨2, ![128, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x2048, .f32⟩
  | .hbm, ⟨2, _⟩ => ⟨S2x2048, .f32⟩
  | .hbm, ⟨3, _⟩ => ⟨S1x2048x6144, .f32⟩
  | .hbm, ⟨4, _⟩ => ⟨S1x3x2048, .f32⟩
  | .hbm, ⟨5, _⟩ => ⟨S1x2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S2048x6144, .f32⟩
  | .hbm, ⟨24, _⟩ => ⟨S4x4096x6144, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S2x2048, .f32⟩
  | .hbm, ⟨30, _⟩ => ⟨S4x2x2048, .f32⟩
  | .hbm, ⟨31, _⟩ => ⟨S4x4098x2048, .f32⟩
  | .hbm, ⟨32, _⟩ => ⟨S1x1x2048, .f32⟩
  | .hbm, ⟨33, _⟩ => ⟨S2048, .f32⟩
  | .hbm, ⟨34, _⟩ => ⟨S4x4096x2048, .f32⟩
  | .hbm, ⟨35, _⟩ => ⟨S1x1x2048, .f32⟩
  | .hbm, ⟨36, _⟩ => ⟨S4x4096x2048, .f32⟩
  | .hbm, ⟨37, _⟩ => ⟨S4x4096x2048, .f32⟩
  | .hbm, ⟨38, _⟩ => ⟨S1x1x2048, .f32⟩
  | .hbm, ⟨39, _⟩ => ⟨S2048, .f32⟩
  | .hbm, ⟨40, _⟩ => ⟨S4x4096x2048, .f32⟩
  | .hbm, ⟨41, _⟩ => ⟨S1x1x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S1x1x2048, .f32⟩
  | .hbm, ⟨46, _⟩ => ⟨S2048, .f32⟩
  | .hbm, ⟨47, _⟩ => ⟨S4x4096x2048, .f32⟩
  | .hbm, ⟨48, _⟩ => ⟨S1x1x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S16x1024x2048, .f32⟩
  | .hbm, ⟨53, _⟩ => ⟨S16x8x2048, .f32⟩
  | .hbm, ⟨54, _⟩ => ⟨S4x4096x2048, .f32⟩
  | .hbm, ⟨55, _⟩ => ⟨S4x4096x2048, .bf16⟩
  | .hbm, ⟨56, _⟩ => ⟨S16384x2048, .bf16⟩
  | .hbm, ⟨57, _⟩ => ⟨S128x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== Kernel2.lean ====
abbrev S16x2048 : Shape := ⟨2, ![16, 2048]⟩
abbrev S2x2048 : Shape := ⟨2, ![2, 2048]⟩
abbrev S1x2048x6144 : Shape := ⟨3, ![1, 2048, 6144]⟩
abbrev S1x3x2048 : Shape := ⟨3, ![1, 3, 2048]⟩
abbrev S_ : Shape := ⟨0, ![]⟩
abbrev S112x2048 : Shape := ⟨2, ![112, 2048]⟩
abbrev S384x2048 : Shape := ⟨2, ![384, 2048]⟩
abbrev S512x2048 : Shape := ⟨2, ![512, 2048]⟩
abbrev S1x2048 : Shape := ⟨2, ![1, 2048]⟩
abbrev S2048 : Shape := ⟨1, ![2048]⟩
abbrev S2048x6144 : Shape := ⟨2, ![2048, 6144]⟩
abbrev S3x2048 : Shape := ⟨2, ![3, 2048]⟩
abbrev S8x2048 : Shape := ⟨2, ![8, 2048]⟩
abbrev S2048x512 : Shape := ⟨2, ![2048, 512]⟩
abbrev S3x512 : Shape := ⟨2, ![3, 512]⟩
abbrev S8x512 : Shape := ⟨2, ![8, 512]⟩
abbrev S512x512 : Shape := ⟨2, ![512, 512]⟩
abbrev S4x8x512 : Shape := ⟨3, ![4, 8, 512]⟩
abbrev S512 : Shape := ⟨1, ![512]⟩
abbrev S512x1 : Shape := ⟨2, ![512, 1]⟩
abbrev S512x256 : Shape := ⟨2, ![512, 256]⟩
abbrev S2048x256 : Shape := ⟨2, ![2048, 256]⟩
abbrev S8x256 : Shape := ⟨2, ![8, 256]⟩
abbrev S1x8x256 : Shape := ⟨3, ![1, 8, 256]⟩
abbrev S1x256 : Shape := ⟨2, ![1, 256]⟩

abbrev nBuf : Space → Nat
  | .hbm => 19
  | .vmem => 18
  | .smem => 0
  | _ => 0

abbrev bufTy : (tb : Table) → Fin (tcTables nBuf tb) → BufTy
  | .hbm, ⟨0, _⟩ => ⟨S16x2048, .f32⟩
  | .hbm, ⟨1, _⟩ => ⟨S2x2048, .f32⟩
  | .hbm, ⟨2, _⟩ => ⟨S1x2048x6144, .f32⟩
  | .hbm, ⟨3, _⟩ => ⟨S1x3x2048, .f32⟩
  | .hbm, ⟨4, _⟩ => ⟨S_, .f32⟩
  | .hbm, ⟨5, _⟩ => ⟨S112x2048, .f32⟩
  | .hbm, ⟨6, _⟩ => ⟨S_, .f32⟩
  | .hbm, ⟨7, _⟩ => ⟨S384x2048, .f32⟩
  | .hbm, ⟨8, _⟩ => ⟨S512x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048x6144, .f32⟩
  | .hbm, ⟨13, _⟩ => ⟨S2048x6144, .bf16⟩
  | .hbm, ⟨14, _⟩ => ⟨S3x2048, .f32⟩
  | .hbm, ⟨15, _⟩ => ⟨S_, .f32⟩
  | .hbm, ⟨16, _⟩ => ⟨S8x2048, .f32⟩
  | .hbm, ⟨17, _⟩ => ⟨S512x2048, .bf16⟩
  | .hbm, ⟨18, _⟩ => ⟨S8x2048, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S8x512, .f32⟩
  | .local _ .vmem, ⟨11, _⟩ => ⟨S8x512, .f32⟩
  | .local _ .vmem, ⟨12, _⟩ => ⟨S512x512, .bf16⟩
  | .local _ .vmem, ⟨13, _⟩ => ⟨S512x512, .bf16⟩
  | .local _ .vmem, ⟨14, _⟩ => ⟨S8x512, .f32⟩
  | .local _ .vmem, ⟨15, _⟩ => ⟨S8x512, .f32⟩
  | .local _ .vmem, ⟨16, _⟩ => ⟨S512x2048, .bf16⟩
  | .local _ .vmem, ⟨17, _⟩ => ⟨S4x8x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 4], ![false, false]⟩

def k0_off1 (i : grid0.Coords) : Fin 3 → Nat :=
  let arg1 : BitVec 32 := BitVec.ofNat 32 (i 1).val
  let v28 : Index := Scalar.indexCast arg1
  let c0_21 : Index := 0#32
  let c0_22 : Index := 0#32
  ![v28.toNat, 0, 0]
def k0_off2 (i : grid0.Coords) : Fin 3 → Nat :=
  let arg1 : BitVec 32 := BitVec.ofNat 32 (i 1).val
  let v78 : Index := Scalar.indexCast arg1
  let c0_39 : Index := 0#32
  let c256_40 : Index := 256#32
  ![v78.toNat, 0, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16x2048 : Shape := ⟨2, ![16, 2048]⟩
abbrev S2x2048 : Shape := ⟨2, ![2, 2048]⟩
abbrev S1x2048x6144 : Shape := ⟨3, ![1, 2048, 6144]⟩
abbrev S1x3x2048 : Shape := ⟨3, ![1, 3, 2048]⟩
abbrev S_ : Shape := ⟨0, ![]⟩
abbrev S512x2048 : Shape := ⟨2, ![512, 2048]⟩
abbrev S1x2048 : Shape := ⟨2, ![1, 2048]⟩
abbrev S2048 : Shape := ⟨1, ![2048]⟩
abbrev S512 : Shape := ⟨1, ![512]⟩
abbrev S512x1 : Shape := ⟨2, ![512, 1]⟩
abbrev S2048x6144 : Shape := ⟨2, ![2048, 6144]⟩
abbrev S512x6144 : Shape := ⟨2, ![512, 6144]⟩
abbrev S514x2048 : Shape := ⟨2, ![514, 2048]⟩
abbrev S1x1x2048 : Shape := ⟨3, ![1, 1, 2048]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048, .f32⟩
  | .hbm, ⟨2, _⟩ => ⟨S1x2048x6144, .f32⟩
  | .hbm, ⟨3, _⟩ => ⟨S1x3x2048, .f32⟩
  | .hbm, ⟨4, _⟩ => ⟨S_, .i32⟩
  | .hbm, ⟨5, _⟩ => ⟨S_, .f32⟩
  | .hbm, ⟨6, _⟩ => ⟨S512x2048, .f32⟩
  | .hbm, ⟨7, _⟩ => ⟨S1x2048, .f32⟩
  | .hbm, ⟨8, _⟩ => ⟨S2048, .f32⟩
  | .hbm, ⟨9, _⟩ => ⟨S512x2048, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x2048, .f32⟩
  | .hbm, ⟨21, _⟩ => ⟨S512x2048, .f32⟩
  | .hbm, ⟨22, _⟩ => ⟨S1x2048, .f32⟩
  | .hbm, ⟨23, _⟩ => ⟨S512x2048, .f32⟩
  | .hbm, ⟨24, _⟩ => ⟨S512x2048, .f32⟩
  | .hbm, ⟨25, _⟩ => ⟨S2048x6144, .f32⟩
  | .hbm, ⟨26, _⟩ => ⟨S512x6144, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .i32⟩
  | .hbm, ⟨32, _⟩ => ⟨S_, .f32⟩
  | .hbm, ⟨33, _⟩ => ⟨S514x2048, .f32⟩
  | .hbm, ⟨34, _⟩ => ⟨S1x1x2048, .f32⟩
  | .hbm, ⟨35, _⟩ => ⟨S2048, .f32⟩
  | .hbm, ⟨36, _⟩ => ⟨S512x2048, .f32⟩
  | .hbm, ⟨37, _⟩ => ⟨S1x2048, .f32⟩
  | .hbm, ⟨38, _⟩ => ⟨S512x2048, .f32⟩
  | .hbm, ⟨39, _⟩ => ⟨S512x2048, .f32⟩
  | .hbm, ⟨40, _⟩ => ⟨S1x1x2048, .f32⟩
  | .hbm, ⟨41, _⟩ => ⟨S2048, .f32⟩
  | .hbm, ⟨42, _⟩ => ⟨S512x2048, .f32⟩
  | .hbm, ⟨43, _⟩ => ⟨S1x2048, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S1x1x2048, .f32⟩
  | .hbm, ⟨48, _⟩ => ⟨S2048, .f32⟩
  | .hbm, ⟨49, _⟩ => ⟨S512x2048, .f32⟩
  | .hbm, ⟨50, _⟩ => ⟨S1x2048, .f32⟩
  | .hbm, ⟨51, _⟩ => ⟨S512x2048, .f32⟩
  | .hbm, ⟨52, _⟩ => ⟨S512x2048, .f32⟩
  | .hbm, ⟨53, _⟩ => ⟨S512x2048, .f32⟩
  | .hbm, ⟨54, _⟩ => ⟨S512x2048, .f32⟩
  | .hbm, ⟨55, _⟩ => ⟨S512x2048, .bf16⟩
  | .hbm, ⟨56, _⟩ => ⟨S8x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel3.lean ====
abbrev S16384x2048 : Shape := ⟨2, ![16384, 2048]⟩
abbrev S512x2048 : Shape := ⟨2, ![512, 2048]⟩
abbrev S1x2048x2048 : Shape := ⟨3, ![1, 2048, 2048]⟩
abbrev S4x4096x2048 : Shape := ⟨3, ![4, 4096, 2048]⟩
abbrev S16x2048 : Shape := ⟨2, ![16, 2048]⟩
abbrev S_ : Shape := ⟨0, ![]⟩
abbrev S112x2048 : Shape := ⟨2, ![112, 2048]⟩
abbrev S384x2048 : Shape := ⟨2, ![384, 2048]⟩
abbrev S2048x2048 : Shape := ⟨2, ![2048, 2048]⟩
abbrev S16896x2048 : Shape := ⟨2, ![16896, 2048]⟩

abbrev nBuf : Space → Nat
  | .hbm => 13
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S1x2048x2048, .f32⟩
  | .hbm, ⟨3, _⟩ => ⟨S4x4096x2048, .f32⟩
  | .hbm, ⟨4, _⟩ => ⟨S16x2048, .f32⟩
  | .hbm, ⟨5, _⟩ => ⟨S16384x2048, .f32⟩
  | .hbm, ⟨6, _⟩ => ⟨S_, .f32⟩
  | .hbm, ⟨7, _⟩ => ⟨S112x2048, .f32⟩
  | .hbm, ⟨8, _⟩ => ⟨S_, .f32⟩
  | .hbm, ⟨9, _⟩ => ⟨S384x2048, .f32⟩
  | .hbm, ⟨10, _⟩ => ⟨S512x2048, .f32⟩
  | .hbm, ⟨11, _⟩ => ⟨S2048x2048, .f32⟩
  | .hbm, ⟨12, _⟩ => ⟨S16896x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S2048x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .sge arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x2048 : Shape := ⟨2, ![16384, 2048]⟩
abbrev S512x2048 : Shape := ⟨2, ![512, 2048]⟩
abbrev S1x2048x2048 : Shape := ⟨3, ![1, 2048, 2048]⟩
abbrev S4x4096x2048 : Shape := ⟨3, ![4, 4096, 2048]⟩
abbrev S16x2048 : Shape := ⟨2, ![16, 2048]⟩
abbrev S_ : Shape := ⟨0, ![]⟩
abbrev S16896x2048 : Shape := ⟨2, ![16896, 2048]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S1x2048x2048, .f32⟩
  | .hbm, ⟨3, _⟩ => ⟨S4x4096x2048, .f32⟩
  | .hbm, ⟨4, _⟩ => ⟨S16x2048, .f32⟩
  | .hbm, ⟨5, _⟩ => ⟨S_, .i32⟩
  | .hbm, ⟨6, _⟩ => ⟨S_, .f32⟩
  | .hbm, ⟨7, _⟩ => ⟨S512x2048, .f32⟩
  | .hbm, ⟨8, _⟩ => ⟨S16384x2048, .f32⟩
  | .hbm, ⟨9, _⟩ => ⟨S16896x2048, .f32⟩
  | .hbm, ⟨10, _⟩ => ⟨S16896x2048, .bf16⟩
  | .hbm, ⟨11, _⟩ => ⟨S16896x2048, .f32⟩
  | .hbm, ⟨12, _⟩ => ⟨S2048x2048, .f32⟩
  | .hbm, ⟨13, _⟩ => ⟨S16896x2048, .f32⟩
  | .hbm, ⟨14, _⟩ => ⟨S16896x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel4.lean ====
abbrev S16896x2048 : Shape := ⟨2, ![16896, 2048]⟩
abbrev S2x2048 : Shape := ⟨2, ![2, 2048]⟩
abbrev S1x2048x6144 : Shape := ⟨3, ![1, 2048, 6144]⟩
abbrev S1x2048 : Shape := ⟨2, ![1, 2048]⟩
abbrev S2048 : Shape := ⟨1, ![2048]⟩
abbrev S2048x6144 : Shape := ⟨2, ![2048, 6144]⟩
abbrev S16896x6144 : Shape := ⟨2, ![16896, 6144]⟩
abbrev S1536x2048 : Shape := ⟨2, ![1536, 2048]⟩
abbrev S2048x1024 : Shape := ⟨2, ![2048, 1024]⟩
abbrev S1536x1024 : Shape := ⟨2, ![1536, 1024]⟩
abbrev S1536 : Shape := ⟨1, ![1536]⟩
abbrev S1536x1 : Shape := ⟨2, ![1536, 1]⟩

abbrev nBuf : Space → Nat
  | .hbm => 9
  | .vmem => 8
  | .smem => 0
  | _ => 0

abbrev bufTy : (tb : Table) → Fin (tcTables nBuf tb) → BufTy
  | .hbm, ⟨0, _⟩ => ⟨S16896x2048, .f32⟩
  | .hbm, ⟨1, _⟩ => ⟨S2x2048, .f32⟩
  | .hbm, ⟨2, _⟩ => ⟨S1x2048x6144, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2048x6144, .f32⟩
  | .hbm, ⟨7, _⟩ => ⟨S2048x6144, .bf16⟩
  | .hbm, ⟨8, _⟩ => ⟨S16896x6144, .bf16⟩
  | .local _ .vmem, ⟨0, _⟩ => ⟨S1536x2048, .f32⟩
  | .local _ .vmem, ⟨1, _⟩ => ⟨S1536x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1536x1024, .bf16⟩
  | .local _ .vmem, ⟨6, _⟩ => ⟨S1536x1024, .bf16⟩
  | .local _ .vmem, ⟨7, _⟩ => ⟨S1536x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16896x2048 : Shape := ⟨2, ![16896, 2048]⟩
abbrev S2x2048 : Shape := ⟨2, ![2, 2048]⟩
abbrev S1x2048x6144 : Shape := ⟨3, ![1, 2048, 6144]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S2048x6144 : Shape := ⟨2, ![2048, 6144]⟩
abbrev S16896x6144 : Shape := ⟨2, ![16896, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2x2048, .f32⟩
  | .hbm, ⟨2, _⟩ => ⟨S1x2048x6144, .f32⟩
  | .hbm, ⟨3, _⟩ => ⟨S1x2048, .f32⟩
  | .hbm, ⟨4, _⟩ => ⟨S2048, .f32⟩
  | .hbm, ⟨5, _⟩ => ⟨S16896x2048, .f32⟩
  | .hbm, ⟨6, _⟩ => ⟨S_, .f32⟩
  | .hbm, ⟨7, _⟩ => ⟨S16896, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S16896x1, .f32⟩
  | .hbm, ⟨16, _⟩ => ⟨S16896x2048, .f32⟩
  | .hbm, ⟨17, _⟩ => ⟨S16896x2048, .f32⟩
  | .hbm, ⟨18, _⟩ => ⟨S1x2048, .f32⟩
  | .hbm, ⟨19, _⟩ => ⟨S16896x2048, .f32⟩
  | .hbm, ⟨20, _⟩ => ⟨S16896x2048, .f32⟩
  | .hbm, ⟨21, _⟩ => ⟨S2048x6144, .f32⟩
  | .hbm, ⟨22, _⟩ => ⟨S16896x6144, .f32⟩
  | .hbm, ⟨23, _⟩ => ⟨S16896x2048, .f32⟩
  | .hbm, ⟨24, _⟩ => ⟨S16896x2048, .f32⟩
  | .hbm, ⟨25, _⟩ => ⟨S16896x2048, .f32⟩
  | .hbm, ⟨26, _⟩ => ⟨S_, .f32⟩
  | .hbm, ⟨27, _⟩ => ⟨S16896x2048, .f32⟩
  | .hbm, ⟨28, _⟩ => ⟨S16896x2048, .f32⟩
  | .hbm, ⟨29, _⟩ => ⟨S16896x6144, .f32⟩
  | .hbm, ⟨30, _⟩ => ⟨S16896x6144, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel5.lean ====
abbrev S16896x2048 : Shape := ⟨2, ![16896, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S16896x2048, .bf16⟩
  | .hbm, ⟨1, _⟩ => ⟨S1x2048x2048, .f32⟩
  | .hbm, ⟨2, _⟩ => ⟨S16896x2048, .f32⟩
  | .hbm, ⟨3, _⟩ => ⟨S2048x2048, .f32⟩
  | .hbm, ⟨4, _⟩ => ⟨S16896x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16896x2048 : Shape := ⟨2, ![16896, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S1x2048x2048, .f32⟩
  | .hbm, ⟨2, _⟩ => ⟨S16896x2048, .f32⟩
  | .hbm, ⟨3, _⟩ => ⟨S16896x2048, .f32⟩
  | .hbm, ⟨4, _⟩ => ⟨S2048x2048, .f32⟩
  | .hbm, ⟨5, _⟩ => ⟨S16896x2048, .f32⟩
  | .hbm, ⟨6, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S164 : Shape := ⟨1, ![164]⟩
abbrev S1 : Shape := ⟨1, ![1]⟩
abbrev S41984x2048 : Shape := ⟨2, ![41984, 2048]⟩
abbrev S2x32x2048x512 : Shape := ⟨4, ![2, 32, 2048, 512]⟩
abbrev S2x32x512x2048 : Shape := ⟨4, ![2, 32, 512, 2048]⟩
abbrev S256x2048 : Shape := ⟨2, ![256, 2048]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2x3 : Shape := ⟨2, ![2, 3]⟩
abbrev S1x1 : Shape := ⟨2, ![1, 1]⟩
abbrev S_ : Shape := ⟨0, ![]⟩
abbrev S1x2048x512 : Shape := ⟨3, ![1, 2048, 512]⟩
abbrev S1x1x2048x512 : Shape := ⟨4, ![1, 1, 2048, 512]⟩
abbrev S1x512x2048 : Shape := ⟨3, ![1, 512, 2048]⟩
abbrev S1x1x512x2048 : Shape := ⟨4, ![1, 1, 512, 2048]⟩
abbrev S256x512 : Shape := ⟨2, ![256, 512]⟩

abbrev nBuf : Space → Nat
  | .hbm => 5
  | .vmem => 10
  | .smem => 5
  | _ => 0

abbrev bufTy : (tb : Table) → Fin (tcTables nBuf tb) → BufTy
  | .hbm, ⟨0, _⟩ => ⟨S41984x2048, .bf16⟩
  | .hbm, ⟨1, _⟩ => ⟨S2x32x2048x512, .f32⟩
  | .hbm, ⟨2, _⟩ => ⟨S2x32x2048x512, .f32⟩
  | .hbm, ⟨3, _⟩ => ⟨S2x32x512x2048, .f32⟩
  | .hbm, ⟨4, _⟩ => ⟨S41984x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S164, .i32⟩
  | .local _ .smem, ⟨1, _⟩ => ⟨S164, .i32⟩
  | .local _ .smem, ⟨2, _⟩ => ⟨S164, .i32⟩
  | .local _ .smem, ⟨3, _⟩ => ⟨S1, .i32⟩
  | .local _ .smem, ⟨4, _⟩ => ⟨S1, .i32⟩
  | _, _ => ⟨S41984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![164], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v17 : BitVec 32) : Fin 4 → Nat :=
  let c1_i32_8 : BitVec 32 := 1#32
  let c0_i32_14 : BitVec 32 := 0#32
  let c0_i32_15 : BitVec 32 := 0#32
  ![1, v17.toNat, 0, 0]

def k0_off2 (v17 : BitVec 32) : Fin 4 → Nat :=
  let c1_i32_24 : BitVec 32 := 1#32
  let c0_i32_29 : BitVec 32 := 0#32
  let c0_i32_30 : BitVec 32 := 0#32
  ![1, v17.toNat, 0, 0]

def k0_chk1 (i : grid0.Coords) (v17 : BitVec 32) : Prop :=
  (∀ (k0_h1 : k0_cond1 i = 1#1), ∀ a, (k0_off1 v17) a + S1x1x2048x512.size a ≤ S2x32x2048x512.size a) ∧
  (∀ (k0_h1 : k0_cond1 i = 1#1), ∀ a, (k0_off2 v17) a + S1x1x512x2048.size a ≤ S2x32x512x2048.size a)
theorem k0_off1_inb : ∀ (i : grid0.Coords) (v17 : BitVec 32) (k0_hw1 : k0_chk1 i v17), ∀ (k0_h1 : k0_cond1 i = 1#1), ∀ a, (k0_off1 v17) a + S1x1x2048x512.size a ≤ S2x32x2048x512.size a := fun i v17 k0_hw1 k0_h1 => k0_hw1.1 k0_h1
theorem k0_off2_inb : ∀ (i : grid0.Coords) (v17 : BitVec 32) (k0_hw1 : k0_chk1 i v17), ∀ (k0_h1 : k0_cond1 i = 1#1), ∀ a, (k0_off2 v17) a + S1x1x512x2048.size a ≤ S2x32x512x2048.size a := fun i v17 k0_hw1 k0_h1 => k0_hw1.2 k0_h1

def k0_off3 (i : grid0.Coords) : Fin 1 → Nat :=
  let arg0 : BitVec 32 := BitVec.ofNat 32 (i 0).val
  let v3 : Index := Scalar.indexCast arg0
  ![v3.toNat]
def k0_off4 (i : grid0.Coords) : Fin 1 → Nat :=
  let arg0 : BitVec 32 := BitVec.ofNat 32 (i 0).val
  let v17 : Index := Scalar.indexCast arg0
  ![v17.toNat]
def k0_off5 (v16 : BitVec 32) : Fin 2 → Nat :=
  let c0_i32_7 : BitVec 32 := 0#32
  ![v16.toNat, 0]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_off6 (v16 : BitVec 32) : Fin 3 → Nat :=
  let c0_i32_8 : BitVec 32 := 0#32
  let c0_i32_9 : BitVec 32 := 0#32
  ![v16.toNat, 0, 0]
def k0_off7 (v18 : BitVec 32) : Fin 4 → Nat :=
  let c1_i32_6 : BitVec 32 := 1#32
  let c0_i32_10 : BitVec 32 := 0#32
  let c0_i32_11 : BitVec 32 := 0#32
  ![1, v18.toNat, 0, 0]

def k0_off8 (v16 : BitVec 32) : Fin 2 → Nat :=
  let c1_i32_13 : BitVec 32 := 1#32
  ![v16.toNat, 1]
def k0_off9 (v16 : BitVec 32) : Fin 3 → Nat :=
  let c0_i32_14 : BitVec 32 := 0#32
  let c0_i32_15 : BitVec 32 := 0#32
  ![v16.toNat, 0, 0]
def k0_off10 (v16 : BitVec 32) : Fin 2 → Nat :=
  let c2_i32 : BitVec 32 := 2#32
  ![v16.toNat, 2]
def k0_off11 (v16 : BitVec 32) : Fin 3 → Nat :=
  let c0_i32_19 : BitVec 32 := 0#32
  let c0_i32_20 : BitVec 32 := 0#32
  ![v16.toNat, 0, 0]
def k0_off12 (v18 : BitVec 32) : Fin 4 → Nat :=
  let c1_i32_18 : BitVec 32 := 1#32
  let c0_i32_21 : BitVec 32 := 0#32
  let c0_i32_22 : BitVec 32 := 0#32
  ![1, v18.toNat, 0, 0]

def k0_chk3 (v4 : BitVec 32) (v18 : BitVec 32) : Prop :=
  (∀ (k0_h2 : k0_cond2 v4 = 1#1), ∀ a, (k0_off7 v18) a + S1x1x2048x512.size a ≤ S2x32x2048x512.size a) ∧
  (∀ (k0_h2 : k0_cond2 v4 = 1#1), ∀ a, (k0_off12 v18) a + S1x1x512x2048.size a ≤ S2x32x512x2048.size a)
theorem k0_off7_inb : ∀ (v4 : BitVec 32) (v18 : BitVec 32) (k0_hw3 : k0_chk3 v4 v18), ∀ (k0_h2 : k0_cond2 v4 = 1#1), ∀ a, (k0_off7 v18) a + S1x1x2048x512.size a ≤ S2x32x2048x512.size a := fun v4 v18 k0_hw3 k0_h2 => k0_hw3.1 k0_h2
theorem k0_off12_inb : ∀ (v4 : BitVec 32) (v18 : BitVec 32) (k0_hw3 : k0_chk3 v4 v18), ∀ (k0_h2 : k0_cond2 v4 = 1#1), ∀ a, (k0_off12 v18) a + S1x1x512x2048.size a ≤ S2x32x512x2048.size a := fun v4 v18 k0_hw3 k0_h2 => k0_hw3.2 k0_h2

def k0_off13 (i : grid0.Coords) : Fin 1 → Nat :=
  let arg0 : BitVec 32 := BitVec.ofNat 32 (i 0).val
  let v37 : Index := Scalar.indexCast arg0
  ![v37.toNat]
def k0_off14 (i : grid0.Coords) : Fin 1 → Nat :=
  let arg0 : BitVec 32 := BitVec.ofNat 32 (i 0).val
  let v65 : Index := Scalar.indexCast arg0
  ![v65.toNat]
def k0_off15 (v16 : BitVec 32) : Fin 2 → Nat :=
  let c1_i32_39 : BitVec 32 := 1#32
  let v67 : BitVec 32 := Scalar.subi c1_i32_39 v16
  let c0_i32_41 : BitVec 32 := 0#32
  ![v67.toNat, 0]
def k0_cond3 (v38 : BitVec 32) : BitVec 1 :=
  let c0_i32_23 : BitVec 32 := 0#32
  let v39 : BitVec 1 := Scalar.cmpi .sge v38 c0_i32_23
  let v40 : BitVec 32 := Scalar.extui v39
  let c0_i32_24 : BitVec 32 := 0#32
  let v41 : BitVec 1 := Scalar.cmpi .ne v40 c0_i32_24
  v41

def k0_off16 (v16 : BitVec 32) : Fin 3 → Nat :=
  let c1_i32_39 : BitVec 32 := 1#32
  let v67 : BitVec 32 := Scalar.subi c1_i32_39 v16
  let c0_i32_42 : BitVec 32 := 0#32
  let c0_i32_43 : BitVec 32 := 0#32
  ![v67.toNat, 0, 0]
def k0_off17 (v66 : BitVec 32) : Fin 4 → Nat :=
  let c1_i32_40 : BitVec 32 := 1#32
  let c0_i32_44 : BitVec 32 := 0#32
  let c0_i32_45 : BitVec 32 := 0#32
  ![1, v66.toNat, 0, 0]

def k0_off18 (v16 : BitVec 32) : Fin 2 → Nat :=
  let c1_i32_39 : BitVec 32 := 1#32
  let v67 : BitVec 32 := Scalar.subi c1_i32_39 v16
  let c1_i32_47 : BitVec 32 := 1#32
  ![v67.toNat, 1]
def k0_off19 (v16 : BitVec 32) : Fin 3 → Nat :=
  let c1_i32_39 : BitVec 32 := 1#32
  let v67 : BitVec 32 := Scalar.subi c1_i32_39 v16
  let c0_i32_48 : BitVec 32 := 0#32
  let c0_i32_49 : BitVec 32 := 0#32
  ![v67.toNat, 0, 0]
def k0_off20 (v16 : BitVec 32) : Fin 2 → Nat :=
  let c1_i32_39 : BitVec 32 := 1#32
  let v67 : BitVec 32 := Scalar.subi c1_i32_39 v16
  let c2_i32_53 : BitVec 32 := 2#32
  ![v67.toNat, 2]
def k0_off21 (v16 : BitVec 32) : Fin 3 → Nat :=
  let c1_i32_39 : BitVec 32 := 1#32
  let v67 : BitVec 32 := Scalar.subi c1_i32_39 v16
  let c0_i32_54 : BitVec 32 := 0#32
  let c0_i32_55 : BitVec 32 := 0#32
  ![v67.toNat, 0, 0]

def k0_chk4 (v4 : BitVec 32) (v16 : BitVec 32) (v38 : BitVec 32) : Prop :=
  (∀ (k0_h2 : k0_cond2 v4 = 1#1), ∀ (k0_h3 : k0_cond3 v38 = 1#1), ∀ a, (k0_off15 v16) a + S1x1.size a ≤ S2x3.size a) ∧
  (∀ (k0_h2 : k0_cond2 v4 = 1#1), ∀ (k0_h3 : k0_cond3 v38 = 1#1), ∀ a, (k0_off16 v16) a + S1x2048x512.size a ≤ S2x2048x512.size a) ∧
  (∀ (k0_h2 : k0_cond2 v4 = 1#1), ∀ (k0_h3 : k0_cond3 v38 = 1#1), ∀ a, (k0_off18 v16) a + S1x1.size a ≤ S2x3.size a) ∧
  (∀ (k0_h2 : k0_cond2 v4 = 1#1), ∀ (k0_h3 : k0_cond3 v38 = 1#1), ∀ a, (k0_off19 v16) a + S1x2048x512.size a ≤ S2x2048x512.size a) ∧
  (∀ (k0_h2 : k0_cond2 v4 = 1#1), ∀ (k0_h3 : k0_cond3 v38 = 1#1), ∀ a, (k0_off20 v16) a + S1x1.size a ≤ S2x3.size a) ∧
  (∀ (k0_h2 : k0_cond2 v4 = 1#1), ∀ (k0_h3 : k0_cond3 v38 = 1#1), ∀ a, (k0_off21 v16) a + S1x512x2048.size a ≤ S2x512x2048.size a)
theorem k0_off15_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off15 v16) a + S1x1.size a ≤ S2x3.size a := fun v4 v16 v38 k0_hw4 k0_h2 k0_h3 => k0_hw4.1 k0_h2 k0_h3
theorem k0_off16_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off16 v16) a + S1x2048x512.size a ≤ S2x2048x512.size a := fun v4 v16 v38 k0_hw4 k0_h2 k0_h3 => k0_hw4.2.1 k0_h2 k0_h3
theorem k0_off18_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off18 v16) a + S1x1.size a ≤ S2x3.size a := fun v4 v16 v38 k0_hw4 k0_h2 k0_h3 => k0_hw4.2.2.1 k0_h2 k0_h3
theorem k0_off19_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off19 v16) a + S1x2048x512.size a ≤ S2x2048x512.size a := fun v4 v16 v38 k0_hw4 k0_h2 k0_h3 => k0_hw4.2.2.2.1 k0_h2 k0_h3
theorem k0_off20_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off20 v16) a + S1x1.size a ≤ S2x3.size a := fun v4 v16 v38 k0_hw4 k0_h2 k0_h3 => k0_hw4.2.2.2.2.1 k0_h2 k0_h3
theorem k0_off21_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off21 v16) a + S1x512x2048.size a ≤ S2x512x2048.size a := fun v4 v16 v38 k0_hw4 k0_h2 k0_h3 => k0_hw4.2.2.2.2.2 k0_h2 k0_h3

def k0_off22 (v66 : BitVec 32) : Fin 4 → Nat :=
  let c1_i32_52 : BitVec 32 := 1#32
  let c0_i32_56 : BitVec 32 := 0#32
  let c0_i32_57 : BitVec 32 := 0#32
  ![1, v66.toNat, 0, 0]

def k0_chk5 (v4 : BitVec 32) (v38 : BitVec 32) (v66 : BitVec 32) : Prop :=
  (∀ (k0_h2 : k0_cond2 v4 = 1#1), ∀ (k0_h3 : k0_cond3 v38 = 1#1), ∀ a, (k0_off17 v66) a + S1x1x2048x512.size a ≤ S2x32x2048x512.size a) ∧
  (∀ (k0_h2 : k0_cond2 v4 = 1#1), ∀ (k0_h3 : k0_cond3 v38 = 1#1), ∀ a, (k0_off22 v66) a + S1x1x512x2048.size a ≤ S2x32x512x2048.size a)
theorem k0_off17_inb : ∀ (v4 : BitVec 32) (v38 : BitVec 32) (v66 : BitVec 32) (k0_hw5 : k0_chk5 v4 v38 v66), ∀ (k0_h2 : k0_cond2 v4 = 1#1), ∀ (k0_h3 : k0_cond3 v38 = 1#1), ∀ a, (k0_off17 v66) a + S1x1x2048x512.size a ≤ S2x32x2048x512.size a := fun v4 v38 v66 k0_hw5 k0_h2 k0_h3 => k0_hw5.1 k0_h2 k0_h3
theorem k0_off22_inb : ∀ (v4 : BitVec 32) (v38 : BitVec 32) (v66 : BitVec 32) (k0_hw5 : k0_chk5 v4 v38 v66), ∀ (k0_h2 : k0_cond2 v4 = 1#1), ∀ (k0_h3 : k0_cond3 v38 = 1#1), ∀ a, (k0_off22 v66) a + S1x1x512x2048.size a ≤ S2x32x512x2048.size a := fun v4 v38 v66 k0_hw5 k0_h2 k0_h3 => k0_hw5.2 k0_h2 k0_h3

def k0_off23 (v16 : BitVec 32) : Fin 3 → Nat :=
  let v42 : Index := Scalar.indexCast v16
  let c0_25 : Index := 0#32
  let c0_26 : Index := 0#32
  ![v42.toNat, 0, 0]
def k0_off24 (v16 : BitVec 32) : Fin 3 → Nat :=
  let v56 : Index := Scalar.indexCast v16
  let c0_33 : Index := 0#32
  let c0_34 : Index := 0#32
  ![v56.toNat, 0, 0]

def k0_chk2 (v4 : BitVec 32) (v16 : BitVec 32) : Prop :=
  (∀ (k0_h2 : k0_cond2 v4 = 1#1), ∀ a, (k0_off5 v16) a + S1x1.size a ≤ S2x3.size a) ∧
  (∀ (k0_h2 : k0_cond2 v4 = 1#1), ∀ a, (k0_off6 v16) a + S1x2048x512.size a ≤ S2x2048x512.size a) ∧
  (∀ (k0_h2 : k0_cond2 v4 = 1#1), ∀ a, (k0_off8 v16) a + S1x1.size a ≤ S2x3.size a) ∧
  (∀ (k0_h2 : k0_cond2 v4 = 1#1), ∀ a, (k0_off9 v16) a + S1x2048x512.size a ≤ S2x2048x512.size a) ∧
  (∀ (k0_h2 : k0_cond2 v4 = 1#1), ∀ a, (k0_off10 v16) a + S1x1.size a ≤ S2x3.size a) ∧
  (∀ (k0_h2 : k0_cond2 v4 = 1#1), ∀ a, (k0_off11 v16) a + S1x512x2048.size a ≤ S2x512x2048.size a) ∧
  (∀ (k0_h2 : k0_cond2 v4 = 1#1), ∀ a, (k0_off23 v16) a + S1x2048x512.size a ≤ S2x2048x512.size a) ∧
  (∀ (k0_h2 : k0_cond2 v4 = 1#1), ∀ a, (k0_off24 v16) a + S1x512x2048.size a ≤ S2x512x2048.size a)
theorem k0_off5_inb : ∀ (v4 : BitVec 32) (v16 : BitVec 32) (k0_hw2 : k0_chk2 v4 v16), ∀ (k0_h2 : k0_cond2 v4 = 1#1), ∀ a, (k0_off5 v16) a + S1x1.size a ≤ S2x3.size a := fun v4 v16 k0_hw2 k0_h2 => k0_hw2.1 k0_h2
theorem k0_off6_inb : ∀ (v4 : BitVec 32) (v16 : BitVec 32) (k0_hw2 : k0_chk2 v4 v16), ∀ (k0_h2 : k0_cond2 v4 = 1#1), ∀ a, (k0_off6 v16) a + S1x2048x512.size a ≤ S2x2048x512.size a := fun v4 v16 k0_hw2 k0_h2 => k0_hw2.2.1 k0_h2
theorem k0_off8_inb : ∀ (v4 : BitVec 32) (v16 : BitVec 32) (k0_hw2 : k0_chk2 v4 v16), ∀ (k0_h2 : k0_cond2 v4 = 1#1), ∀ a, (k0_off8 v16) a + S1x1.size a ≤ S2x3.size a := fun v4 v16 k0_hw2 k0_h2 => k0_hw2.2.2.1 k0_h2
theorem k0_off9_inb : ∀ (v4 : BitVec 32) (v16 : BitVec 32) (k0_hw2 : k0_chk2 v4 v16), ∀ (k0_h2 : k0_cond2 v4 = 1#1), ∀ a, (k0_off9 v16) a + S1x2048x512.size a ≤ S2x2048x512.size a := fun v4 v16 k0_hw2 k0_h2 => k0_hw2.2.2.2.1 k0_h2
theorem k0_off10_inb : ∀ (v4 : BitVec 32) (v16 : BitVec 32) (k0_hw2 : k0_chk2 v4 v16), ∀ (k0_h2 : k0_cond2 v4 = 1#1), ∀ a, (k0_off10 v16) a + S1x1.size a ≤ S2x3.size a := fun v4 v16 k0_hw2 k0_h2 => k0_hw2.2.2.2.2.1 k0_h2
theorem k0_off11_inb : ∀ (v4 : BitVec 32) (v16 : BitVec 32) (k0_hw2 : k0_chk2 v4 v16), ∀ (k0_h2 : k0_cond2 v4 = 1#1), ∀ a, (k0_off11 v16) a + S1x512x2048.size a ≤ S2x512x2048.size a := fun v4 v16 k0_hw2 k0_h2 => k0_hw2.2.2.2.2.2.1 k0_h2
theorem k0_off23_inb : ∀ (v4 : BitVec 32) (v16 : BitVec 32) (k0_hw2 : k0_chk2 v4 v16), ∀ (k0_h2 : k0_cond2 v4 = 1#1), ∀ a, (k0_off23 v16) a + S1x2048x512.size a ≤ S2x2048x512.size a := fun v4 v16 k0_hw2 k0_h2 => k0_hw2.2.2.2.2.2.2.1 k0_h2
theorem k0_off24_inb : ∀ (v4 : BitVec 32) (v16 : BitVec 32) (k0_hw2 : k0_chk2 v4 v16), ∀ (k0_h2 : k0_cond2 v4 = 1#1), ∀ a, (k0_off24 v16) a + S1x512x2048.size a ≤ S2x512x2048.size a := fun v4 v16 k0_hw2 k0_h2 => k0_hw2.2.2.2.2.2.2.2 k0_h2

def k0_cond4 (i : grid0.Coords) (v8 : BitVec 32) : BitVec 1 :=
  let arg0 : BitVec 32 := BitVec.ofNat 32 (i 0).val
  let v9 : BitVec 1 := Scalar.cmpi .slt arg0 v8
  let v10 : BitVec 32 := Scalar.extui v9
  let c0_i32_2 : BitVec 32 := 0#32
  let v11 : BitVec 1 := Scalar.cmpi .ne v10 c0_i32_2
  v11

def k0_cond5 (i : grid0.Coords) (v12 : BitVec 32) : BitVec 1 :=
  let arg0 : BitVec 32 := BitVec.ofNat 32 (i 0).val
  let v13 : BitVec 1 := Scalar.cmpi .sge arg0 v12
  let v14 : BitVec 32 := Scalar.extui v13
  let c0_i32_4 : BitVec 32 := 0#32
  let v15 : BitVec 1 := Scalar.cmpi .ne v14 c0_i32_4
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi c0_i32 v1
  let v3 : BitVec 32 := Scalar.minsi arg0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference6Ideal.lean ====
abbrev S164 : Shape := ⟨1, ![164]⟩
abbrev S1 : Shape := ⟨1, ![1]⟩
abbrev S41984x2048 : Shape := ⟨2, ![41984, 2048]⟩
abbrev S2x32x2048x512 : Shape := ⟨4, ![2, 32, 2048, 512]⟩
abbrev S2x32x512x2048 : Shape := ⟨4, ![2, 32, 512, 2048]⟩
abbrev S1x32x2048x512 : Shape := ⟨4, ![1, 32, 2048, 512]⟩
abbrev S32x2048x512 : Shape := ⟨3, ![32, 2048, 512]⟩
abbrev S41984x32x512 : Shape := ⟨3, ![41984, 32, 512]⟩
abbrev S_ : Shape := ⟨0, ![]⟩
abbrev S164x1 : Shape := ⟨2, ![164, 1]⟩
abbrev S32 : Shape := ⟨1, ![32]⟩
abbrev S1x32 : Shape := ⟨2, ![1, 32]⟩
abbrev S164x32 : Shape := ⟨2, ![164, 32]⟩
abbrev S164x256x32 : Shape := ⟨3, ![164, 256, 32]⟩
abbrev S41984x32 : Shape := ⟨2, ![41984, 32]⟩
abbrev S41984x32x1 : Shape := ⟨3, ![41984, 32, 1]⟩
abbrev S1x32x512x2048 : Shape := ⟨4, ![1, 32, 512, 2048]⟩
abbrev S32x512x2048 : Shape := ⟨3, ![32, 512, 2048]⟩

abbrev nBuf : Space → Nat
  | .hbm => 48
  | .vmem => 0
  | .smem => 0
  | _ => 0

abbrev bufTy : (tb : Table) → Fin (tcTables nBuf tb) → BufTy
  | .hbm, ⟨0, _⟩ => ⟨S164, .i32⟩
  | .hbm, ⟨1, _⟩ => ⟨S164, .i32⟩
  | .hbm, ⟨2, _⟩ => ⟨S164, .i32⟩
  | .hbm, ⟨3, _⟩ => ⟨S1, .i32⟩
  | .hbm, ⟨4, _⟩ => ⟨S41984x2048, .bf16⟩
  | .hbm, ⟨5, _⟩ => ⟨S2x32x2048x512, .f32⟩
  | .hbm, ⟨6, _⟩ => ⟨S2x32x2048x512, .f32⟩
  | .hbm, ⟨7, _⟩ => ⟨S2x32x512x2048, .f32⟩
  | .hbm, ⟨8, _⟩ => ⟨S41984x2048, .f32⟩
  | .hbm, ⟨9, _⟩ => ⟨S1x32x2048x512, .f32⟩
  | .hbm, ⟨10, _⟩ => ⟨S32x2048x512, .f32⟩
  | .hbm, ⟨11, _⟩ => ⟨S41984x32x512, .f32⟩
  | .hbm, ⟨12, _⟩ => ⟨S41984x32x512, .f32⟩
  | .hbm, ⟨13, _⟩ => ⟨S41984x32x512, .f32⟩
  | .hbm, ⟨14, _⟩ => ⟨S_, .f32⟩
  | .hbm, ⟨15, _⟩ => ⟨S41984x32x512, .f32⟩
  | .hbm, ⟨16, _⟩ => ⟨S41984x32x512, .f32⟩
  | .hbm, ⟨17, _⟩ => ⟨S_, .f32⟩
  | .hbm, ⟨18, _⟩ => ⟨S41984x32x512, .f32⟩
  | .hbm, ⟨19, _⟩ => ⟨S41984x32x512, .f32⟩
  | .hbm, ⟨20, _⟩ => ⟨S41984x32x512, .f32⟩
  | .hbm, ⟨21, _⟩ => ⟨S1x32x2048x512, .f32⟩
  | .hbm, ⟨22, _⟩ => ⟨S32x2048x512, .f32⟩
  | .hbm, ⟨23, _⟩ => ⟨S41984x32x512, .f32⟩
  | .hbm, ⟨24, _⟩ => ⟨S41984x32x512, .f32⟩
  | .hbm, ⟨25, _⟩ => ⟨S164, .i32⟩
  | .hbm, ⟨26, _⟩ => ⟨S_, .i32⟩
  | .hbm, ⟨27, _⟩ => ⟨S164, .i32⟩
  | .hbm, ⟨28, _⟩ => ⟨S164, .i1⟩
  | .hbm, ⟨29, _⟩ => ⟨S164x1, .i32⟩
  | .hbm, ⟨30, _⟩ => ⟨S32, .i32⟩
  | .hbm, ⟨31, _⟩ => ⟨S1x32, .i32⟩
  | .hbm, ⟨32, _⟩ => ⟨S164x32, .i32⟩
  | .hbm, ⟨33, _⟩ => ⟨S164x32, .i32⟩
  | .hbm, ⟨34, _⟩ => ⟨S164x32, .i1⟩
  | .hbm, ⟨35, _⟩ => ⟨S164x1, .i1⟩
  | .hbm, ⟨36, _⟩ => ⟨S164x32, .i1⟩
  | .hbm, ⟨37, _⟩ => ⟨S164x32, .i1⟩
  | .hbm, ⟨38, _⟩ => ⟨S164x32, .f32⟩
  | .hbm, ⟨39, _⟩ => ⟨S164x256x32, .f32⟩
  | .hbm, ⟨40, _⟩ => ⟨S41984x32, .f32⟩
  | .hbm, ⟨41, _⟩ => ⟨S41984x32x1, .f32⟩
  | .hbm, ⟨42, _⟩ => ⟨S41984x32x512, .f32⟩
  | .hbm, ⟨43, _⟩ => ⟨S41984x32x512, .f32⟩
  | .hbm, ⟨44, _⟩ => ⟨S1x32x512x2048, .f32⟩
  | .hbm, ⟨45, _⟩ => ⟨S32x512x2048, .f32⟩
  | .hbm, ⟨46, _⟩ => ⟨S41984x2048, .f32⟩
  | .hbm, ⟨47, _⟩ => ⟨S41984x2048, .bf16⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel7.lean ====
abbrev S164 : Shape := ⟨1, ![164]⟩
abbrev S1 : Shape := ⟨1, ![1]⟩
abbrev S41984x2048 : Shape := ⟨2, ![41984, 2048]⟩
abbrev S2x32x2048x512 : Shape := ⟨4, ![2, 32, 2048, 512]⟩
abbrev S2x32x512x2048 : Shape := ⟨4, ![2, 32, 512, 2048]⟩
abbrev S256x2048 : Shape := ⟨2, ![256, 2048]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2x3 : Shape := ⟨2, ![2, 3]⟩
abbrev S1x1 : Shape := ⟨2, ![1, 1]⟩
abbrev S_ : Shape := ⟨0, ![]⟩
abbrev S1x2048x512 : Shape := ⟨3, ![1, 2048, 512]⟩
abbrev S1x1x2048x512 : Shape := ⟨4, ![1, 1, 2048, 512]⟩
abbrev S1x512x2048 : Shape := ⟨3, ![1, 512, 2048]⟩
abbrev S1x1x512x2048 : Shape := ⟨4, ![1, 1, 512, 2048]⟩
abbrev S256x512 : Shape := ⟨2, ![256, 512]⟩

abbrev nBuf : Space → Nat
  | .hbm => 5
  | .vmem => 10
  | .smem => 5
  | _ => 0

abbrev bufTy : (tb : Table) → Fin (tcTables nBuf tb) → BufTy
  | .hbm, ⟨0, _⟩ => ⟨S41984x2048, .bf16⟩
  | .hbm, ⟨1, _⟩ => ⟨S2x32x2048x512, .f32⟩
  | .hbm, ⟨2, _⟩ => ⟨S2x32x2048x512, .f32⟩
  | .hbm, ⟨3, _⟩ => ⟨S2x32x512x2048, .f32⟩
  | .hbm, ⟨4, _⟩ => ⟨S41984x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S164, .i32⟩
  | .local _ .smem, ⟨1, _⟩ => ⟨S164, .i32⟩
  | .local _ .smem, ⟨2, _⟩ => ⟨S164, .i32⟩
  | .local _ .smem, ⟨3, _⟩ => ⟨S1, .i32⟩
  | .local _ .smem, ⟨4, _⟩ => ⟨S1, .i32⟩
  | _, _ => ⟨S41984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![164], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v17 : BitVec 32) : Fin 4 → Nat :=
  let c0_i32_8 : BitVec 32 := 0#32
  let c0_i32_14 : BitVec 32 := 0#32
  let c0_i32_15 : BitVec 32 := 0#32
  ![0, v17.toNat, 0, 0]

def k0_off2 (v17 : BitVec 32) : Fin 4 → Nat :=
  let c0_i32_24 : BitVec 32 := 0#32
  let c0_i32_29 : BitVec 32 := 0#32
  let c0_i32_30 : BitVec 32 := 0#32
  ![0, v17.toNat, 0, 0]

def k0_chk1 (i : grid0.Coords) (v17 : BitVec 32) : Prop :=
  (∀ (k0_h1 : k0_cond1 i = 1#1), ∀ a, (k0_off1 v17) a + S1x1x2048x512.size a ≤ S2x32x2048x512.size a) ∧
  (∀ (k0_h1 : k0_cond1 i = 1#1), ∀ a, (k0_off2 v17) a + S1x1x512x2048.size a ≤ S2x32x512x2048.size a)
theorem k0_off1_inb : ∀ (i : grid0.Coords) (v17 : BitVec 32) (k0_hw1 : k0_chk1 i v17), ∀ (k0_h1 : k0_cond1 i = 1#1), ∀ a, (k0_off1 v17) a + S1x1x2048x512.size a ≤ S2x32x2048x512.size a := fun i v17 k0_hw1 k0_h1 => k0_hw1.1 k0_h1
theorem k0_off2_inb : ∀ (i : grid0.Coords) (v17 : BitVec 32) (k0_hw1 : k0_chk1 i v17), ∀ (k0_h1 : k0_cond1 i = 1#1), ∀ a, (k0_off2 v17) a + S1x1x512x2048.size a ≤ S2x32x512x2048.size a := fun i v17 k0_hw1 k0_h1 => k0_hw1.2 k0_h1

def k0_off3 (i : grid0.Coords) : Fin 1 → Nat :=
  let arg0 : BitVec 32 := BitVec.ofNat 32 (i 0).val
  let v3 : Index := Scalar.indexCast arg0
  ![v3.toNat]
def k0_off4 (i : grid0.Coords) : Fin 1 → Nat :=
  let arg0 : BitVec 32 := BitVec.ofNat 32 (i 0).val
  let v17 : Index := Scalar.indexCast arg0
  ![v17.toNat]
def k0_off5 (v16 : BitVec 32) : Fin 2 → Nat :=
  let c0_i32_7 : BitVec 32 := 0#32
  ![v16.toNat, 0]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_off6 (v16 : BitVec 32) : Fin 3 → Nat :=
  let c0_i32_8 : BitVec 32 := 0#32
  let c0_i32_9 : BitVec 32 := 0#32
  ![v16.toNat, 0, 0]
def k0_off7 (v18 : BitVec 32) : Fin 4 → Nat :=
  let c0_i32_6 : BitVec 32 := 0#32
  let c0_i32_10 : BitVec 32 := 0#32
  let c0_i32_11 : BitVec 32 := 0#32
  ![0, v18.toNat, 0, 0]

def k0_off8 (v16 : BitVec 32) : Fin 2 → Nat :=
  let c1_i32_13 : BitVec 32 := 1#32
  ![v16.toNat, 1]
def k0_off9 (v16 : BitVec 32) : Fin 3 → Nat :=
  let c0_i32_14 : BitVec 32 := 0#32
  let c0_i32_15 : BitVec 32 := 0#32
  ![v16.toNat, 0, 0]
def k0_off10 (v16 : BitVec 32) : Fin 2 → Nat :=
  let c2_i32 : BitVec 32 := 2#32
  ![v16.toNat, 2]
def k0_off11 (v16 : BitVec 32) : Fin 3 → Nat :=
  let c0_i32_19 : BitVec 32 := 0#32
  let c0_i32_20 : BitVec 32 := 0#32
  ![v16.toNat, 0, 0]
def k0_off12 (v18 : BitVec 32) : Fin 4 → Nat :=
  let c0_i32_18 : BitVec 32 := 0#32
  let c0_i32_21 : BitVec 32 := 0#32
  let c0_i32_22 : BitVec 32 := 0#32
  ![0, v18.toNat, 0, 0]

def k0_chk3 (v4 : BitVec 32) (v18 : BitVec 32) : Prop :=
  (∀ (k0_h2 : k0_cond2 v4 = 1#1), ∀ a, (k0_off7 v18) a + S1x1x2048x512.size a ≤ S2x32x2048x512.size a) ∧
  (∀ (k0_h2 : k0_cond2 v4 = 1#1), ∀ a, (k0_off12 v18) a + S1x1x512x2048.size a ≤ S2x32x512x2048.size a)
theorem k0_off7_inb : ∀ (v4 : BitVec 32) (v18 : BitVec 32) (k0_hw3 : k0_chk3 v4 v18), ∀ (k0_h2 : k0_cond2 v4 = 1#1), ∀ a, (k0_off7 v18) a + S1x1x2048x512.size a ≤ S2x32x2048x512.size a := fun v4 v18 k0_hw3 k0_h2 => k0_hw3.1 k0_h2
theorem k0_off12_inb : ∀ (v4 : BitVec 32) (v18 : BitVec 32) (k0_hw3 : k0_chk3 v4 v18), ∀ (k0_h2 : k0_cond2 v4 = 1#1), ∀ a, (k0_off12 v18) a + S1x1x512x2048.size a ≤ S2x32x512x2048.size a := fun v4 v18 k0_hw3 k0_h2 => k0_hw3.2 k0_h2

def k0_off13 (i : grid0.Coords) : Fin 1 → Nat :=
  let arg0 : BitVec 32 := BitVec.ofNat 32 (i 0).val
  let v37 : Index := Scalar.indexCast arg0
  ![v37.toNat]
def k0_off14 (i : grid0.Coords) : Fin 1 → Nat :=
  let arg0 : BitVec 32 := BitVec.ofNat 32 (i 0).val
  let v65 : Index := Scalar.indexCast arg0
  ![v65.toNat]
def k0_off15 (v16 : BitVec 32) : Fin 2 → Nat :=
  let c1_i32_39 : BitVec 32 := 1#32
  let v67 : BitVec 32 := Scalar.subi c1_i32_39 v16
  let c0_i32_41 : BitVec 32 := 0#32
  ![v67.toNat, 0]
def k0_cond3 (v38 : BitVec 32) : BitVec 1 :=
  let c0_i32_23 : BitVec 32 := 0#32
  let v39 : BitVec 1 := Scalar.cmpi .sge v38 c0_i32_23
  let v40 : BitVec 32 := Scalar.extui v39
  let c0_i32_24 : BitVec 32 := 0#32
  let v41 : BitVec 1 := Scalar.cmpi .ne v40 c0_i32_24
  v41

def k0_off16 (v16 : BitVec 32) : Fin 3 → Nat :=
  let c1_i32_39 : BitVec 32 := 1#32
  let v67 : BitVec 32 := Scalar.subi c1_i32_39 v16
  let c0_i32_42 : BitVec 32 := 0#32
  let c0_i32_43 : BitVec 32 := 0#32
  ![v67.toNat, 0, 0]
def k0_off17 (v66 : BitVec 32) : Fin 4 → Nat :=
  let c0_i32_40 : BitVec 32 := 0#32
  let c0_i32_44 : BitVec 32 := 0#32
  let c0_i32_45 : BitVec 32 := 0#32
  ![0, v66.toNat, 0, 0]

def k0_off18 (v16 : BitVec 32) : Fin 2 → Nat :=
  let c1_i32_39 : BitVec 32 := 1#32
  let v67 : BitVec 32 := Scalar.subi c1_i32_39 v16
  let c1_i32_47 : BitVec 32 := 1#32
  ![v67.toNat, 1]
def k0_off19 (v16 : BitVec 32) : Fin 3 → Nat :=
  let c1_i32_39 : BitVec 32 := 1#32
  let v67 : BitVec 32 := Scalar.subi c1_i32_39 v16
  let c0_i32_48 : BitVec 32 := 0#32
  let c0_i32_49 : BitVec 32 := 0#32
  ![v67.toNat, 0, 0]
def k0_off20 (v16 : BitVec 32) : Fin 2 → Nat :=
  let c1_i32_39 : BitVec 32 := 1#32
  let v67 : BitVec 32 := Scalar.subi c1_i32_39 v16
  let c2_i32_53 : BitVec 32 := 2#32
  ![v67.toNat, 2]
def k0_off21 (v16 : BitVec 32) : Fin 3 → Nat :=
  let c1_i32_39 : BitVec 32 := 1#32
  let v67 : BitVec 32 := Scalar.subi c1_i32_39 v16
  let c0_i32_54 : BitVec 32 := 0#32
  let c0_i32_55 : BitVec 32 := 0#32
  ![v67.toNat, 0, 0]

def k0_chk4 (v4 : BitVec 32) (v16 : BitVec 32) (v38 : BitVec 32) : Prop :=
  (∀ (k0_h2 : k0_cond2 v4 = 1#1), ∀ (k0_h3 : k0_cond3 v38 = 1#1), ∀ a, (k0_off15 v16) a + S1x1.size a ≤ S2x3.size a) ∧
  (∀ (k0_h2 : k0_cond2 v4 = 1#1), ∀ (k0_h3 : k0_cond3 v38 = 1#1), ∀ a, (k0_off16 v16) a + S1x2048x512.size a ≤ S2x2048x512.size a) ∧
  (∀ (k0_h2 : k0_cond2 v4 = 1#1), ∀ (k0_h3 : k0_cond3 v38 = 1#1), ∀ a, (k0_off18 v16) a + S1x1.size a ≤ S2x3.size a) ∧
  (∀ (k0_h2 : k0_cond2 v4 = 1#1), ∀ (k0_h3 : k0_cond3 v38 = 1#1), ∀ a, (k0_off19 v16) a + S1x2048x512.size a ≤ S2x2048x512.size a) ∧
  (∀ (k0_h2 : k0_cond2 v4 = 1#1), ∀ (k0_h3 : k0_cond3 v38 = 1#1), ∀ a, (k0_off20 v16) a + S1x1.size a ≤ S2x3.size a) ∧
  (∀ (k0_h2 : k0_cond2 v4 = 1#1), ∀ (k0_h3 : k0_cond3 v38 = 1#1), ∀ a, (k0_off21 v16) a + S1x512x2048.size a ≤ S2x512x2048.size a)
theorem k0_off15_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off15 v16) a + S1x1.size a ≤ S2x3.size a := fun v4 v16 v38 k0_hw4 k0_h2 k0_h3 => k0_hw4.1 k0_h2 k0_h3
theorem k0_off16_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off16 v16) a + S1x2048x512.size a ≤ S2x2048x512.size a := fun v4 v16 v38 k0_hw4 k0_h2 k0_h3 => k0_hw4.2.1 k0_h2 k0_h3
theorem k0_off18_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off18 v16) a + S1x1.size a ≤ S2x3.size a := fun v4 v16 v38 k0_hw4 k0_h2 k0_h3 => k0_hw4.2.2.1 k0_h2 k0_h3
theorem k0_off19_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off19 v16) a + S1x2048x512.size a ≤ S2x2048x512.size a := fun v4 v16 v38 k0_hw4 k0_h2 k0_h3 => k0_hw4.2.2.2.1 k0_h2 k0_h3
theorem k0_off20_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off20 v16) a + S1x1.size a ≤ S2x3.size a := fun v4 v16 v38 k0_hw4 k0_h2 k0_h3 => k0_hw4.2.2.2.2.1 k0_h2 k0_h3
theorem k0_off21_inb : ∀ (v4 : BitVec 32) (v16 : BitVec 32) (v38 : BitVec 32) (k0_hw4 : k0_chk4 v4 v16 v38), ∀ (k0_h2 : k0_cond2 v4 = 1#1), ∀ (k0_h3 : k0_cond3 v38 = 1#1), ∀ a, (k0_off21 v16) a + S1x512x2048.size a ≤ S2x512x2048.size a := fun v4 v16 v38 k0_hw4 k0_h2 k0_h3 => k0_hw4.2.2.2.2.2 k0_h2 k0_h3

def k0_off22 (v66 : BitVec 32) : Fin 4 → Nat :=
  let c0_i32_52 : BitVec 32 := 0#32
  let c0_i32_56 : BitVec 32 := 0#32
  let c0_i32_57 : BitVec 32 := 0#32
  ![0, v66.toNat, 0, 0]

def k0_chk5 (v4 : BitVec 32) (v38 : BitVec 32) (v66 : BitVec 32) : Prop :=
  (∀ (k0_h2 : k0_cond2 v4 = 1#1), ∀ (k0_h3 : k0_cond3 v38 = 1#1), ∀ a, (k0_off17 v66) a + S1x1x2048x512.size a ≤ S2x32x2048x512.size a) ∧
  (∀ (k0_h2 : k0_cond2 v4 = 1#1), ∀ (k0_h3 : k0_cond3 v38 = 1#1), ∀ a, (k0_off22 v66) a + S1x1x512x2048.size a ≤ S2x32x512x2048.size a)
theorem k0_off17_inb : ∀ (v4 : BitVec 32) (v38 : BitVec 32) (v66 : BitVec 32) (k0_hw5 : k0_chk5 v4 v38 v66), ∀ (k0_h2 : k0_cond2 v4 = 1#1), ∀ (k0_h3 : k0_cond3 v38 = 1#1), ∀ a, (k0_off17 v66) a + S1x1x2048x512.size a ≤ S2x32x2048x512.size a := fun v4 v38 v66 k0_hw5 k0_h2 k0_h3 => k0_hw5.1 k0_h2 k0_h3
theorem k0_off22_inb : ∀ (v4 : BitVec 32) (v38 : BitVec 32) (v66 : BitVec 32) (k0_hw5 : k0_chk5 v4 v38 v66), ∀ (k0_h2 : k0_cond2 v4 = 1#1), ∀ (k0_h3 : k0_cond3 v38 = 1#1), ∀ a, (k0_off22 v66) a + S1x1x512x2048.size a ≤ S2x32x512x2048.size a := fun v4 v38 v66 k0_hw5 k0_h2 k0_h3 => k0_hw5.2 k0_h2 k0_h3

def k0_off23 (v16 : BitVec 32) : Fin 3 → Nat :=
  let v42 : Index := Scalar.indexCast v16
  let c0_25 : Index := 0#32
  let c0_26 : Index := 0#32
  ![v42.toNat, 0, 0]
def k0_off24 (v16 : BitVec 32) : Fin 3 → Nat :=
  let v56 : Index := Scalar.indexCast v16
  let c0_33 : Index := 0#32
  let c0_34 : Index := 0#32
  ![v56.toNat, 0, 0]

def k0_chk2 (v4 : BitVec 32) (v16 : BitVec 32) : Prop :=
  (∀ (k0_h2 : k0_cond2 v4 = 1#1), ∀ a, (k0_off5 v16) a + S1x1.size a ≤ S2x3.size a) ∧
  (∀ (k0_h2 : k0_cond2 v4 = 1#1), ∀ a, (k0_off6 v16) a + S1x2048x512.size a ≤ S2x2048x512.size a) ∧
  (∀ (k0_h2 : k0_cond2 v4 = 1#1), ∀ a, (k0_off8 v16) a + S1x1.size a ≤ S2x3.size a) ∧
  (∀ (k0_h2 : k0_cond2 v4 = 1#1), ∀ a, (k0_off9 v16) a + S1x2048x512.size a ≤ S2x2048x512.size a) ∧
  (∀ (k0_h2 : k0_cond2 v4 = 1#1), ∀ a, (k0_off10 v16) a + S1x1.size a ≤ S2x3.size a) ∧
  (∀ (k0_h2 : k0_cond2 v4 = 1#1), ∀ a, (k0_off11 v16) a + S1x512x2048.size a ≤ S2x512x2048.size a) ∧
  (∀ (k0_h2 : k0_cond2 v4 = 1#1), ∀ a, (k0_off23 v16) a + S1x2048x512.size a ≤ S2x2048x512.size a) ∧
  (∀ (k0_h2 : k0_cond2 v4 = 1#1), ∀ a, (k0_off24 v16) a + S1x512x2048.size a ≤ S2x512x2048.size a)
theorem k0_off5_inb : ∀ (v4 : BitVec 32) (v16 : BitVec 32) (k0_hw2 : k0_chk2 v4 v16), ∀ (k0_h2 : k0_cond2 v4 = 1#1), ∀ a, (k0_off5 v16) a + S1x1.size a ≤ S2x3.size a := fun v4 v16 k0_hw2 k0_h2 => k0_hw2.1 k0_h2
theorem k0_off6_inb : ∀ (v4 : BitVec 32) (v16 : BitVec 32) (k0_hw2 : k0_chk2 v4 v16), ∀ (k0_h2 : k0_cond2 v4 = 1#1), ∀ a, (k0_off6 v16) a + S1x2048x512.size a ≤ S2x2048x512.size a := fun v4 v16 k0_hw2 k0_h2 => k0_hw2.2.1 k0_h2
theorem k0_off8_inb : ∀ (v4 : BitVec 32) (v16 : BitVec 32) (k0_hw2 : k0_chk2 v4 v16), ∀ (k0_h2 : k0_cond2 v4 = 1#1), ∀ a, (k0_off8 v16) a + S1x1.size a ≤ S2x3.size a := fun v4 v16 k0_hw2 k0_h2 => k0_hw2.2.2.1 k0_h2
theorem k0_off9_inb : ∀ (v4 : BitVec 32) (v16 : BitVec 32) (k0_hw2 : k0_chk2 v4 v16), ∀ (k0_h2 : k0_cond2 v4 = 1#1), ∀ a, (k0_off9 v16) a + S1x2048x512.size a ≤ S2x2048x512.size a := fun v4 v16 k0_hw2 k0_h2 => k0_hw2.2.2.2.1 k0_h2
theorem k0_off10_inb : ∀ (v4 : BitVec 32) (v16 : BitVec 32) (k0_hw2 : k0_chk2 v4 v16), ∀ (k0_h2 : k0_cond2 v4 = 1#1), ∀ a, (k0_off10 v16) a + S1x1.size a ≤ S2x3.size a := fun v4 v16 k0_hw2 k0_h2 => k0_hw2.2.2.2.2.1 k0_h2
theorem k0_off11_inb : ∀ (v4 : BitVec 32) (v16 : BitVec 32) (k0_hw2 : k0_chk2 v4 v16), ∀ (k0_h2 : k0_cond2 v4 = 1#1), ∀ a, (k0_off11 v16) a + S1x512x2048.size a ≤ S2x512x2048.size a := fun v4 v16 k0_hw2 k0_h2 => k0_hw2.2.2.2.2.2.1 k0_h2
theorem k0_off23_inb : ∀ (v4 : BitVec 32) (v16 : BitVec 32) (k0_hw2 : k0_chk2 v4 v16), ∀ (k0_h2 : k0_cond2 v4 = 1#1), ∀ a, (k0_off23 v16) a + S1x2048x512.size a ≤ S2x2048x512.size a := fun v4 v16 k0_hw2 k0_h2 => k0_hw2.2.2.2.2.2.2.1 k0_h2
theorem k0_off24_inb : ∀ (v4 : BitVec 32) (v16 : BitVec 32) (k0_hw2 : k0_chk2 v4 v16), ∀ (k0_h2 : k0_cond2 v4 = 1#1), ∀ a, (k0_off24 v16) a + S1x512x2048.size a ≤ S2x512x2048.size a := fun v4 v16 k0_hw2 k0_h2 => k0_hw2.2.2.2.2.2.2.2 k0_h2

def k0_cond4 (i : grid0.Coords) (v8 : BitVec 32) : BitVec 1 :=
  let arg0 : BitVec 32 := BitVec.ofNat 32 (i 0).val
  let v9 : BitVec 1 := Scalar.cmpi .slt arg0 v8
  let v10 : BitVec 32 := Scalar.extui v9
  let c0_i32_2 : BitVec 32 := 0#32
  let v11 : BitVec 1 := Scalar.cmpi .ne v10 c0_i32_2
  v11

def k0_cond5 (i : grid0.Coords) (v12 : BitVec 32) : BitVec 1 :=
  let arg0 : BitVec 32 := BitVec.ofNat 32 (i 0).val
  let v13 : BitVec 1 := Scalar.cmpi .sge arg0 v12
  let v14 : BitVec 32 := Scalar.extui v13
  let c0_i32_4 : BitVec 32 := 0#32
  let v15 : BitVec 1 := Scalar.cmpi .ne v14 c0_i32_4
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi c0_i32 v1
  let v3 : BitVec 32 := Scalar.minsi arg0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S164 : Shape := ⟨1, ![164]⟩
abbrev S1 : Shape := ⟨1, ![1]⟩
abbrev S41984x2048 : Shape := ⟨2, ![41984, 2048]⟩
abbrev S2x32x2048x512 : Shape := ⟨4, ![2, 32, 2048, 512]⟩
abbrev S2x32x512x2048 : Shape := ⟨4, ![2, 32, 512, 2048]⟩
abbrev S1x32x2048x512 : Shape := ⟨4, ![1, 32, 2048, 512]⟩
abbrev S32x2048x512 : Shape := ⟨3, ![32, 2048, 512]⟩
abbrev S41984x32x512 : Shape := ⟨3, ![41984, 32, 512]⟩
abbrev S_ : Shape := ⟨0, ![]⟩
abbrev S164x1 : Shape := ⟨2, ![164, 1]⟩
abbrev S32 : Shape := ⟨1, ![32]⟩
abbrev S1x32 : Shape := ⟨2, ![1, 32]⟩
abbrev S164x32 : Shape := ⟨2, ![164, 32]⟩
abbrev S164x256x32 : Shape := ⟨3, ![164, 256, 32]⟩
abbrev S41984x32 : Shape := ⟨2, ![41984, 32]⟩
abbrev S41984x32x1 : Shape := ⟨3, ![41984, 32, 1]⟩
abbrev S1x32x512x2048 : Shape := ⟨4, ![1, 32, 512, 2048]⟩
abbrev S32x512x2048 : Shape := ⟨3, ![32, 512, 2048]⟩

abbrev nBuf : Space → Nat
  | .hbm => 48
  | .vmem => 0
  | .smem => 0
  | _ => 0

abbrev bufTy : (tb : Table) → Fin (tcTables nBuf tb) → BufTy
  | .hbm, ⟨0, _⟩ => ⟨S164, .i32⟩
  | .hbm, ⟨1, _⟩ => ⟨S164, .i32⟩
  | .hbm, ⟨2, _⟩ => ⟨S164, .i32⟩
  | .hbm, ⟨3, _⟩ => ⟨S1, .i32⟩
  | .hbm, ⟨4, _⟩ => ⟨S41984x2048, .bf16⟩
  | .hbm, ⟨5, _⟩ => ⟨S2x32x2048x512, .f32⟩
  | .hbm, ⟨6, _⟩ => ⟨S2x32x2048x512, .f32⟩
  | .hbm, ⟨7, _⟩ => ⟨S2x32x512x2048, .f32⟩
  | .hbm, ⟨8, _⟩ => ⟨S41984x2048, .f32⟩
  | .hbm, ⟨9, _⟩ => ⟨S1x32x2048x512, .f32⟩
  | .hbm, ⟨10, _⟩ => ⟨S32x2048x512, .f32⟩
  | .hbm, ⟨11, _⟩ => ⟨S41984x32x512, .f32⟩
  | .hbm, ⟨12, _⟩ => ⟨S41984x32x512, .f32⟩
  | .hbm, ⟨13, _⟩ => ⟨S41984x32x512, .f32⟩
  | .hbm, ⟨14, _⟩ => ⟨S_, .f32⟩
  | .hbm, ⟨15, _⟩ => ⟨S41984x32x512, .f32⟩
  | .hbm, ⟨16, _⟩ => ⟨S41984x32x512, .f32⟩
  | .hbm, ⟨17, _⟩ => ⟨S_, .f32⟩
  | .hbm, ⟨18, _⟩ => ⟨S41984x32x512, .f32⟩
  | .hbm, ⟨19, _⟩ => ⟨S41984x32x512, .f32⟩
  | .hbm, ⟨20, _⟩ => ⟨S41984x32x512, .f32⟩
  | .hbm, ⟨21, _⟩ => ⟨S1x32x2048x512, .f32⟩
  | .hbm, ⟨22, _⟩ => ⟨S32x2048x512, .f32⟩
  | .hbm, ⟨23, _⟩ => ⟨S41984x32x512, .f32⟩
  | .hbm, ⟨24, _⟩ => ⟨S41984x32x512, .f32⟩
  | .hbm, ⟨25, _⟩ => ⟨S164, .i32⟩
  | .hbm, ⟨26, _⟩ => ⟨S_, .i32⟩
  | .hbm, ⟨27, _⟩ => ⟨S164, .i32⟩
  | .hbm, ⟨28, _⟩ => ⟨S164, .i1⟩
  | .hbm, ⟨29, _⟩ => ⟨S164x1, .i32⟩
  | .hbm, ⟨30, _⟩ => ⟨S32, .i32⟩
  | .hbm, ⟨31, _⟩ => ⟨S1x32, .i32⟩
  | .hbm, ⟨32, _⟩ => ⟨S164x32, .i32⟩
  | .hbm, ⟨33, _⟩ => ⟨S164x32, .i32⟩
  | .hbm, ⟨34, _⟩ => ⟨S164x32, .i1⟩
  | .hbm, ⟨35, _⟩ => ⟨S164x1, .i1⟩
  | .hbm, ⟨36, _⟩ => ⟨S164x32, .i1⟩
  | .hbm, ⟨37, _⟩ => ⟨S164x32, .i1⟩
  | .hbm, ⟨38, _⟩ => ⟨S164x32, .f32⟩
  | .hbm, ⟨39, _⟩ => ⟨S164x256x32, .f32⟩
  | .hbm, ⟨40, _⟩ => ⟨S41984x32, .f32⟩
  | .hbm, ⟨41, _⟩ => ⟨S41984x32x1, .f32⟩
  | .hbm, ⟨42, _⟩ => ⟨S41984x32x512, .f32⟩
  | .hbm, ⟨43, _⟩ => ⟨S41984x32x512, .f32⟩
  | .hbm, ⟨44, _⟩ => ⟨S1x32x512x2048, .f32⟩
  | .hbm, ⟨45, _⟩ => ⟨S32x512x2048, .f32⟩
  | .hbm, ⟨46, _⟩ => ⟨S41984x2048, .f32⟩
  | .hbm, ⟨47, _⟩ => ⟨S41984x2048, .bf16⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.ExpertsRun.lean ====
/- One grid point of the experts' kernel (`Kernel6Ideal`), run on any whole buffers. -/
module

public import proofs.«01_k».proof.Proof.Gen.Kernel6Ideal.Launch
public import proofs.«01_k».proof.Proof.Gen.Kernel6Ideal.Skeleton
public import Idealize.ShloMosaic.Lib.Pipeline.Frame
public import Idealize.ShloMosaic.Lib.Pipeline.FrameBody
public import Idealize.ShloMosaic.Lib.Ring
public import Idealize.ShloMosaic.Lib.PageRing.WordAt
public import Idealize.ShloMosaic.Lib.Tactic
public import Idealize.ShloMosaic.Lib.WordCmp
public import Idealize.ShloMosaic.Lib.VecWindow

@[expose] public section

set_option maxRecDepth 16384

noncomputable section

namespace Cert.Kernel6Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen

variable {F : FTy → Type} [FloatOps F]

local notation "𝕄" => MT nD τ sig Unit (Elt F) ℕ (Pipeline.UD sig nD τ) ℕ

/-- A slot of a two-slot ring of gate or up projections. -/
abbrev slotW (M : Memref sig .tc .vmem S2x2048x512 .f32) (s : Nat)
    (h : ∀ a, (![s, 0, 0] : Fin 3 → Nat) a + S1x2048x512.size a ≤ S2x2048x512.size a) : Memref sig .tc .vmem S2048x512 .f32 :=
  (M.slice (Rect.unit (s := S2x2048x512) ![s, 0, 0] S1x2048x512.size h) (fun _ => rfl)).squeeze S2048x512 squeezes_S1x2048x512_S2048x512

/-- A slot of the two-slot ring of down projections. -/
abbrev slotD (M : Memref sig .tc .vmem S2x512x2048 .f32) (s : Nat)
    (h : ∀ a, (![s, 0, 0] : Fin 3 → Nat) a + S1x512x2048.size a ≤ S2x512x2048.size a) : Memref sig .tc .vmem S512x2048 .f32 :=
  (M.slice (Rect.unit (s := S2x512x2048) ![s, 0, 0] S1x512x2048.size h) (fun _ => rfl)).squeeze S512x2048 squeezes_S1x512x2048_S512x2048

/-- An expert's gate or up projection in the stacked weights. -/
abbrev srcW (M : Memref sig .tc .hbm S2x32x2048x512 .f32) (e : Nat)
    (h : ∀ a, (![1, e, 0, 0] : Fin 4 → Nat) a + S1x1x2048x512.size a ≤ S2x32x2048x512.size a) : Memref sig .tc .hbm S2048x512 .f32 :=
  (M.slice (Rect.unit (s := S2x32x2048x512) ![1, e, 0, 0] S1x1x2048x512.size h) (fun _ => rfl)).squeeze S2048x512 squeezes_S1x1x2048x512_S2048x512

/-- An expert's down projection in the stacked weights. -/
abbrev srcD (M : Memref sig .tc .hbm S2x32x512x2048 .f32) (e : Nat)
    (h : ∀ a, (![1, e, 0, 0] : Fin 4 → Nat) a + S1x1x512x2048.size a ≤ S2x32x512x2048.size a) : Memref sig .tc .hbm S512x2048 .f32 :=
  (M.slice (Rect.unit (s := S2x32x512x2048) ![1, e, 0, 0] S1x1x512x2048.size h) (fun _ => rfl)).squeeze S512x2048 squeezes_S1x1x512x2048_S512x2048

/-- A slot or a block held by its own elements. -/
abbrev own (c : Dev nD) {sp} {s : Shape} {e : EltTy} (M : Memref sig .tc sp s e) (f : Buf (Elt F) (M.view.loc (c : Thread nD τ))) : sProp 𝕄 :=
  iprop(M.view.loc (c : Thread nD τ) ↦[M.view.set]{fullShare} f)

/-- The cell of a slot's copy. -/
abbrev semOf (s k : Nat) (h : ∀ a, (![s, k] : Fin 2 → Nat) a + S1x1.size a ≤ S2x3.size a) : DmaSem sig :=
  ((cc0_scratch7.slice (Rect.unit (s := S2x3) ![s, k] S1x1.size h)).squeeze S_ squeezes_S1x1_S_).sem

/-- What a copy leaves in its slot. -/
abbrev landed (c : Dev nD) {sp sp'} {s : Shape} {e : EltTy} (src : Memref sig .tc sp s e) (dst : Memref sig .tc sp' s e)
    (f : Buf (Elt F) (src.view.loc (c : Thread nD τ))) (g : Buf (Elt F) (dst.view.loc (c : Thread nD τ))) : Buf (Elt F) (dst.view.loc (c : Thread nD τ)) :=
  dst.view.writes (Elt F) g [⟨Rect.whole s, ReadAs.same.apply (src.view.read (Elt F) f)⟩]

/-- A copy on its way into a slot. -/
abbrev flying (c : Dev nD) {sp sp'} {s : Shape} {e : EltTy} (sm : DmaSem sig) (src : Memref sig .tc sp s e) (dst : Memref sig .tc sp' s e)
    (f : Buf (Elt F) (src.view.loc (c : Thread nD τ))) (g : Buf (Elt F) (dst.view.loc (c : Thread nD τ))) : sProp 𝕄 :=
  Transfers.Flight (countersEmb (U := Pipeline.UD sig nD τ)) (c : Thread nD τ) (.dma sm) () (dst.view.amount (SemLoc.dma (sig := sig) sm))
    iprop(own c dst (landed c src dst f g) ∗ own c src f)

abbrev M10 : Memref sig .tc .vmem S2x2048x512 .f32 := Memref.whole cc0_scratch0
abbrev M11 : Memref sig .tc .vmem S2x2048x512 .f32 := Memref.whole cc0_scratch1
abbrev M12 : Memref sig .tc .vmem S2x512x2048 .f32 := Memref.whole cc0_scratch2
abbrev M5 : Memref sig .tc .hbm S2x32x2048x512 .f32 := Memref.whole main_arg5
abbrev M6 : Memref sig .tc .hbm S2x32x2048x512 .f32 := Memref.whole main_arg6
abbrev M7 : Memref sig .tc .hbm S2x32x512x2048 .f32 := Memref.whole main_arg7

theorem in_slotW {s : Nat} (h : s < 2) : ∀ a, (![s, 0, 0] : Fin 3 → Nat) a + S1x2048x512.size a ≤ S2x2048x512.size a := fun a => by
  match a with
  | ⟨0, _⟩ => exact h
  | ⟨1, _⟩ => exact Nat.le_of_eq (Nat.zero_add _)
  | ⟨2, _⟩ => exact Nat.le_of_eq (Nat.zero_add _)
theorem in_slotD {s : Nat} (h : s < 2) : ∀ a, (![s, 0, 0] : Fin 3 → Nat) a + S1x512x2048.size a ≤ S2x512x2048.size a := fun a => by
  match a with
  | ⟨0, _⟩ => exact h
  | ⟨1, _⟩ => exact Nat.le_of_eq (Nat.zero_add _)
  | ⟨2, _⟩ => exact Nat.le_of_eq (Nat.zero_add _)
theorem in_srcW {e : Nat} (h : e < 32) : ∀ a, (![1, e, 0, 0] : Fin 4 → Nat) a + S1x1x2048x512.size a ≤ S2x32x2048x512.size a := fun a => by
  match a with
  | ⟨0, _⟩ => exact Nat.le_refl 2
  | ⟨1, _⟩ => exact h
  | ⟨2, _⟩ => exact Nat.le_of_eq (Nat.zero_add _)
  | ⟨3, _⟩ => exact Nat.le_of_eq (Nat.zero_add _)
theorem in_srcD {e : Nat} (h : e < 32) : ∀ a, (![1, e, 0, 0] : Fin 4 → Nat) a + S1x1x512x2048.size a ≤ S2x32x512x2048.size a := fun a => by
  match a with
  | ⟨0, _⟩ => exact Nat.le_refl 2
  | ⟨1, _⟩ => exact h
  | ⟨2, _⟩ => exact Nat.le_of_eq (Nat.zero_add _)
  | ⟨3, _⟩ => exact Nat.le_of_eq (Nat.zero_add _)
theorem in_sem {s k : Nat} (h : s < 2) (h' : k < 3) : ∀ a, (![s, k] : Fin 2 → Nat) a + S1x1.size a ≤ S2x3.size a := fun a => by
  match a with
  | ⟨0, _⟩ => exact h
  | ⟨1, _⟩ => exact h'

/-- One expert's block out of a whole stack of gate or up projections. -/
theorem takeW (c : Dev nD) (M : Memref sig .tc .hbm S2x32x2048x512 .f32) {ℓ : Loc nD τ sig} (hl : ℓ = M.view.loc (c : Thread nD τ)) {e' : Nat} (h') (f : Buf (Elt F) ℓ) :
    (ℓ ↦[Finset.univ]{fullShare} f : sProp 𝕄)
      ⊢ iprop(own c (srcW M e' h') (hl ▸ f) ∗ (M.view.loc (c : Thread nD τ) ↦[Finset.univ \ (srcW M e' h').view.set]{fullShare} (hl ▸ f))) := by
  subst hl
  exact (pointsTo_split_subset (Finset.subset_univ (srcW M e' h').view.set)).1

/-- One expert's block out of a whole stack of down projections. -/
theorem takeD (c : Dev nD) (M : Memref sig .tc .hbm S2x32x512x2048 .f32) {ℓ : Loc nD τ sig} (hl : ℓ = M.view.loc (c : Thread nD τ)) {e' : Nat} (h') (f : Buf (Elt F) ℓ) :
    (ℓ ↦[Finset.univ]{fullShare} f : sProp 𝕄)
      ⊢ iprop(own c (srcD M e' h') (hl ▸ f) ∗ (M.view.loc (c : Thread nD τ) ↦[Finset.univ \ (srcD M e' h').view.set]{fullShare} (hl ▸ f))) := by
  subst hl
  exact (pointsTo_split_subset (Finset.subset_univ (srcD M e' h').view.set)).1

variable (c : Dev nD) (i : grid0.Coords) (q : PosShare TreeShare)
  (bx : Memref sig .tc .vmem S256x2048 .bf16) (hbx : bx.IsWhole) (bo : Memref sig .tc .vmem S256x2048 .bf16) (hbo : bo.IsWhole)
  (te : Buf (Elt F) ((c : Thread nD τ).loc main_arg0)) (tf : Buf (Elt F) ((c : Thread nD τ).loc main_arg1))
  (nx : Buf (Elt F) ((c : Thread nD τ).loc main_arg2)) (nu : Buf (Elt F) ((c : Thread nD τ).loc main_arg3))
  (x y : Vec F S256x2048 .bf16)
  (wg : Buf (Elt F) ((c : Thread nD τ).loc main_arg5)) (wu : Buf (Elt F) ((c : Thread nD τ).loc main_arg6)) (wd : Buf (Elt F) ((c : Thread nD τ).loc main_arg7))

/-- The four tables. -/
abbrev tabs : sProp 𝕄 :=
  iprop((((Memref.whole main_arg0).view.loc (c : Thread nD τ)) ↦[Finset.univ]{q} te) ∗ (((Memref.whole main_arg1).view.loc (c : Thread nD τ)) ↦[Finset.univ]{q} tf)
    ∗ (((Memref.whole main_arg2).view.loc (c : Thread nD τ)) ↦[Finset.univ]{q} nx) ∗ (((Memref.whole main_arg3).view.loc (c : Thread nD τ)) ↦[Finset.univ]{q} nu))

/-- The word naming the slot in use. -/
def slotWord (s : Nat) : sProp 𝕄 :=
  iprop(∃ f : Buf (Elt F) ((c : Thread nD τ).loc cc0_scratch6), ⌜PageRing.WordAt (Memref.whole cc0_scratch6) ![0] inb_S1_S1_0 f (BitVec.ofNat 32 s)⌝ ∗ own c (Memref.whole cc0_scratch6) f)

/-- Slot `s` awaits expert `e`'s three copies; the other slot `o` is at rest. -/
def waiting (s o : Nat) (hs : s < 2) (ho : o < 2) {e : Nat} (he : e < 32) : sProp 𝕄 :=
  iprop(∃ g0 g1 g2 h0 h1 h2,
    flying c (semOf s 0 (in_sem hs (by decide))) (srcW M5 e (in_srcW he)) (slotW M10 s (in_slotW hs)) wg g0
    ∗ flying c (semOf s 1 (in_sem hs (by decide))) (srcW M6 e (in_srcW he)) (slotW M11 s (in_slotW hs)) wu g1
    ∗ flying c (semOf s 2 (in_sem hs (by decide))) (srcD M7 e (in_srcD he)) (slotD M12 s (in_slotD hs)) wd g2
    ∗ own c (slotW M10 o (in_slotW ho)) h0 ∗ own c (slotW M11 o (in_slotW ho)) h1 ∗ own c (slotD M12 o (in_slotD ho)) h2
    ∗ semVal ((c : Thread nD τ), SemLoc.dma (semOf o 0 (in_sem ho (by decide)))) 0
    ∗ semVal ((c : Thread nD τ), SemLoc.dma (semOf o 1 (in_sem ho (by decide)))) 0
    ∗ semVal ((c : Thread nD τ), SemLoc.dma (semOf o 2 (in_sem ho (by decide)))) 0
    ∗ (M5.view.loc (c : Thread nD τ) ↦[Finset.univ \ (srcW M5 e (in_srcW he)).view.set]{fullShare} wg)
    ∗ (M6.view.loc (c : Thread nD τ) ↦[Finset.univ \ (srcW M6 e (in_srcW he)).view.set]{fullShare} wu)
    ∗ (M7.view.loc (c : Thread nD τ) ↦[Finset.univ \ (srcD M7 e (in_srcD he)).view.set]{fullShare} wd))

/-- No copy is on its way: both slots `s` and `o` at rest, every cell at zero, the weights whole. -/
def resting (s o : Nat) (hs : s < 2) (ho : o < 2) : sProp 𝕄 :=
  iprop(∃ g0 g1 g2 h0 h1 h2,
    own c (slotW M10 s (in_slotW hs)) g0 ∗ own c (slotW M11 s (in_slotW hs)) g1 ∗ own c (slotD M12 s (in_slotD hs)) g2
    ∗ semVal ((c : Thread nD τ), SemLoc.dma (semOf s 0 (in_sem hs (by decide)))) 0
    ∗ semVal ((c : Thread nD τ), SemLoc.dma (semOf s 1 (in_sem hs (by decide)))) 0
    ∗ semVal ((c : Thread nD τ), SemLoc.dma (semOf s 2 (in_sem hs (by decide)))) 0
    ∗ own c (slotW M10 o (in_slotW ho)) h0 ∗ own c (slotW M11 o (in_slotW ho)) h1 ∗ own c (slotD M12 o (in_slotD ho)) h2
    ∗ semVal ((c : Thread nD τ), SemLoc.dma (semOf o 0 (in_sem ho (by decide)))) 0
    ∗ semVal ((c : Thread nD τ), SemLoc.dma (semOf o 1 (in_sem ho (by decide)))) 0
    ∗ semVal ((c : Thread nD τ), SemLoc.dma (semOf o 2 (in_sem ho (by decide)))) 0
    ∗ (M5.view.loc (c : Thread nD τ) ↦[Finset.univ]{fullShare} wg)
    ∗ (M6.view.loc (c : Thread nD τ) ↦[Finset.univ]{fullShare} wu)
    ∗ (M7.view.loc (c : Thread nD τ) ↦[Finset.univ]{fullShare} wd))

/-- Expert `e`'s gate projection, rounded. -/
def gateOf {e : Nat} (he : e < 32) : Vec F S2048x512 .bf16 := k0_pay1 (truncf .bf16 (View.read (Elt F) (srcW M5 e (in_srcW he)).view wg) bitsLt_bf16_f32)
/-- Expert `e`'s up projection, rounded. -/
def upOf {e : Nat} (he : e < 32) : Vec F S2048x512 .bf16 := k0_pay1 (truncf .bf16 (View.read (Elt F) (srcW M6 e (in_srcW he)).view wu) bitsLt_bf16_f32)
/-- Expert `e`'s down projection, rounded. -/
def downOf {e : Nat} (he : e < 32) : Vec F S512x2048 .bf16 := shapeCast S512x2048 (truncf .bf16 (View.read (Elt F) (srcD M7 e (in_srcD he)).view wd) bitsLt_bf16_f32) shapeCasts_S512x2048_S512x2048

theorem gate_load {s : Nat} (hs : s < 2) {e : Nat} (he : e < 32) (g : Buf (Elt F) ((c : Thread nD τ).loc cc0_scratch0)) :
    k0_pay1 (k0_pay6 (View.readAt (Elt F) (Memref.whole cc0_scratch0).view (Rect.unit (s := S2x2048x512) ![s, 0, 0] S1x2048x512.size (in_slotW hs)).toLoadRect
      (landed c (srcW M5 e (in_srcW he)) (slotW M10 s (in_slotW hs)) wg g))) = gateOf c wg he :=
  congrArg (fun v => k0_pay1 (truncf .bf16 v bitsLt_bf16_f32))
    (View.read_writes_whole (slotW M10 s (in_slotW hs)).view g (ReadAs.same.apply (View.read (Elt F) (srcW M5 e (in_srcW he)).view wg)))

theorem up_load {s : Nat} (hs : s < 2) {e : Nat} (he : e < 32) (g : Buf (Elt F) ((c : Thread nD τ).loc cc0_scratch1)) :
    k0_pay2 (View.readAt (Elt F) (Memref.whole cc0_scratch1).view (Rect.unit (s := S2x2048x512) ![s, 0, 0] S1x2048x512.size (in_slotW hs)).toLoadRect
      (landed c (srcW M6 e (in_srcW he)) (slotW M11 s (in_slotW hs)) wu g)) = upOf c wu he :=
  congrArg (fun v => k0_pay1 (truncf .bf16 v bitsLt_bf16_f32))
    (View.read_writes_whole (slotW M11 s (in_slotW hs)).view g (ReadAs.same.apply (View.read (Elt F) (srcW M6 e (in_srcW he)).view wu)))

theorem down_load {s : Nat} (hs : s < 2) {e : Nat} (he : e < 32) (g : Buf (Elt F) ((c : Thread nD τ).loc cc0_scratch2)) :
    k0_pay3 (View.readAt (Elt F) (Memref.whole cc0_scratch2).view (Rect.unit (s := S2x512x2048) ![s, 0, 0] S1x512x2048.size (in_slotD hs)).toLoadRect
      (landed c (srcD M7 e (in_srcD he)) (slotD M12 s (in_slotD hs)) wd g)) = downOf c wd he :=
  congrArg (fun v => shapeCast S512x2048 (truncf .bf16 v bitsLt_bf16_f32) shapeCasts_S512x2048_S512x2048)
    (View.read_writes_whole (slotD M12 s (in_slotD hs)).view g (ReadAs.same.apply (View.read (Elt F) (srcD M7 e (in_srcD he)).view wd)))

/-- The three rounded projections at hand. -/
abbrev bufs (b3 : Vec F S2048x512 .bf16) (b4 : Vec F S2048x512 .bf16) (b5 : Vec F S512x2048 .bf16) : sProp 𝕄 :=
  iprop(owns (c : Thread nD τ) (Memref.whole cc0_scratch3) fullShare b3 ∗ owns (c : Thread nD τ) (Memref.whole cc0_scratch4) fullShare b4
    ∗ owns (c : Thread nD τ) (Memref.whole cc0_scratch5) fullShare b5)

/-- The kernel at one point, on the buffers given. -/
abbrev body (i : grid0.Coords) (bx : Memref sig .tc .vmem S256x2048 .bf16) (hbx : bx.IsWhole) (bo : Memref sig .tc .vmem S256x2048 .bf16) (hbo : bo.IsWhole) :
    Prog (TpuEff nD τ sig (Elt F) Λ₀ .tc) PUnit :=
  cc0_moe_experts i (Memref.whole main_arg0) (Memref.isWhole_whole _) (Memref.whole main_arg1) (Memref.isWhole_whole _) (Memref.whole main_arg2) (Memref.isWhole_whole _) (Memref.whole main_arg3) (Memref.isWhole_whole _) bx hbx (Memref.whole main_arg5) (Memref.isWhole_whole _) (Memref.whole main_arg6) (Memref.isWhole_whole _) (Memref.whole main_arg7) (Memref.isWhole_whole _) bo hbo (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7

set_option maxHeartbeats 16000000 in
/-- The first point: the first expert's projections are sent for and collected, and the next expert's are sent for. -/
theorem run_start_load (W : Waits sig Unit) (K : PUnit → sProp 𝕄) (h1 : k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (he' : PageRing.WordAt (Memref.whole main_arg0) ![0] inb_S164_S1_0 te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : k0_cond3 wn = 1#1) (h4 : k0_cond4 i wu_ = 1#1) (h5 : ¬ k0_cond5 i wu_ = 1#1)
    (c1 : k0_chk1 i we) (c2 : k0_chk2 wf 0#32) (c3 : k0_chk3 wf we) (c4 : k0_chk4 wf 0#32 wn) (c5 : k0_chk5 wf wn wn)
    (he32 : we.toNat < 32) (hn32 : wn.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ (∃ f, own c (Memref.whole cc0_scratch6) f) ∗ resting c wg wu wd 0 1 (by decide) (by decide) ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 1 ∗ waiting c wg wu wd 1 0 (by decide) (by decide) hn32 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord resting
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, HS⟩, ⟨%g0, %g1, %g2, %k0, %k1, %k2, HE0, HE1, HE2, HF0, HF1, HF2, HD0, HD1, HD2, HC0, HC1, HC2, HR0, HR1, HR2⟩, HW, Hk⟩
  obtain rfl := hbo.eq_unread hfy
  obtain rfl := hbx.eq_unread hfx
  ihave T0 := (takeW c M5 rfl (in_srcW he32) wg) $$ HR0
  icases T0 with ⟨HA0, HR0⟩
  ihave T1 := (takeW c M6 rfl (in_srcW he32) wu) $$ HR1
  icases T1 with ⟨HA1, HR1⟩
  ihave T2 := (takeD c M7 rfl (in_srcD he32) wd) $$ HR2
  icases T2 with ⟨HA2, HR2⟩
  sl_exec
  ihave S0 := (takeW c M5 rfl (in_srcW hn32) wg) $$ HR0
  icases S0 with ⟨HA0, HB0⟩
  ihave S1 := (takeW c M6 rfl (in_srcW hn32) wu) $$ HR1
  icases S1 with ⟨HA1, HB1⟩
  ihave S2 := (takeD c M7 rfl (in_srcD hn32) wd) $$ HR2
  icases S2 with ⟨HA2, HB2⟩
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · unfold waiting flying
    iexists _, _, _, _, _, _
    isplitl [HC0]; · iexact HC0
    isplitl [HC1]; · iexact HC1
    isplitl [HC2]; · iexact HC2
    isplitl [HE0]; · iexact HE0
    isplitl [HE1]; · iexact HE1
    isplitl [HE2]; · iexact HE2
    isplitl [HF0]; · iexact HF0
    isplitl [HF1]; · iexact HF1
    isplitl [HF2]; · iexact HF2
    isplitl [HB0]; · iexact HB0
    isplitl [HB1]; · iexact HB1
    iexact HB2
  iexists _; iexact HW

set_option maxHeartbeats 16000000 in
/-- The first point: the first expert's projections are sent for and collected; none follows. -/
theorem run_start_last (W : Waits sig Unit) (K : PUnit → sProp 𝕄) (h1 : k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (he' : PageRing.WordAt (Memref.whole main_arg0) ![0] inb_S164_S1_0 te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : ¬ k0_cond3 wn = 1#1) (h4 : k0_cond4 i wu_ = 1#1) (h5 : ¬ k0_cond5 i wu_ = 1#1)
    (c1 : k0_chk1 i we) (c2 : k0_chk2 wf 0#32) (c3 : k0_chk3 wf we) (c4 : k0_chk4 wf 0#32 wn) (c5 : k0_chk5 wf wn wn)
    (he32 : we.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ (∃ f, own c (Memref.whole cc0_scratch6) f) ∗ resting c wg wu wd 0 1 (by decide) (by decide) ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 1 ∗ resting c wg wu wd 1 0 (by decide) (by decide) ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord resting
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, HS⟩, ⟨%g0, %g1, %g2, %k0, %k1, %k2, HE0, HE1, HE2, HF0, HF1, HF2, HD0, HD1, HD2, HC0, HC1, HC2, HR0, HR1, HR2⟩, HW, Hk⟩
  obtain rfl := hbo.eq_unread hfy
  obtain rfl := hbx.eq_unread hfx
  ihave T0 := (takeW c M5 rfl (in_srcW he32) wg) $$ HR0
  icases T0 with ⟨HA0, HR0⟩
  ihave T1 := (takeW c M6 rfl (in_srcW he32) wu) $$ HR1
  icases T1 with ⟨HA1, HR1⟩
  ihave T2 := (takeD c M7 rfl (in_srcD he32) wd) $$ HR2
  icases T2 with ⟨HA2, HR2⟩
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · iexists _, _, _, _, _, _
    isplitl [HD0]; · iexact HD0
    isplitl [HD1]; · iexact HD1
    isplitl [HD2]; · iexact HD2
    isplitl [HC0]; · iexact HC0
    isplitl [HC1]; · iexact HC1
    isplitl [HC2]; · iexact HC2
    isplitl [HE0]; · iexact HE0
    isplitl [HE1]; · iexact HE1
    isplitl [HE2]; · iexact HE2
    isplitl [HF0]; · iexact HF0
    isplitl [HF1]; · iexact HF1
    isplitl [HF2]; · iexact HF2
    isplitl [HR0]; · iexact HR0
    isplitl [HR1]; · iexact HR1
    iexact HR2
  iexists _; iexact HW

set_option maxHeartbeats 16000000 in
/-- A point where a new expert's projections are collected from slot 0 and the next expert's are sent for. -/
theorem run_load_0 (W : Waits sig Unit) (K : PUnit → sProp 𝕄) (h1 : ¬ k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : k0_cond3 wn = 1#1) (h4 : k0_cond4 i wu_ = 1#1) (h5 : ¬ k0_cond5 i wu_ = 1#1)
    (c2 : k0_chk2 wf 0#32) (c3 : k0_chk3 wf we) (c4 : k0_chk4 wf 0#32 wn) (c5 : k0_chk5 wf wn wn)
    (he32 : we.toNat < 32) (hn32 : wn.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ slotWord c 0 ∗ waiting c wg wu wd 0 1 (by decide) (by decide) he32 ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 1 ∗ waiting c wg wu wd 1 0 (by decide) (by decide) hn32 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord waiting flying
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, %hs, HS⟩, ⟨%g0, %g1, %g2, %k0, %k1, %k2, HF0, HF1, HF2, HD0, HD1, HD2, HC0, HC1, HC2, HR0, HR1, HR2⟩, HW, Hk⟩
  obtain rfl := hbo.eq_unread hfy
  obtain rfl := hbx.eq_unread hfx
  replace hs : PageRing.WordAt (Memref.whole cc0_scratch6) ![0] inb_S1_S1_0 sl 0#32 := hs
  sl_exec
  ihave S0 := (takeW c M5 rfl (in_srcW hn32) wg) $$ HR0
  icases S0 with ⟨HA0, HB0⟩
  ihave S1 := (takeW c M6 rfl (in_srcW hn32) wu) $$ HR1
  icases S1 with ⟨HA1, HB1⟩
  ihave S2 := (takeD c M7 rfl (in_srcD hn32) wd) $$ HR2
  icases S2 with ⟨HA2, HB2⟩
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · iexists _, _, _, _, _, _
    isplitl [HC0]; · iexact HC0
    isplitl [HC1]; · iexact HC1
    isplitl [HC2]; · iexact HC2
    isplitl [HF0_dst]; · iexact HF0_dst
    isplitl [HF1_dst]; · iexact HF1_dst
    isplitl [HF2_dst]; · iexact HF2_dst
    isplitl [HF0]; · iexact HF0
    isplitl [HF1]; · iexact HF1
    isplitl [HF2]; · iexact HF2
    isplitl [HB0]; · iexact HB0
    isplitl [HB1]; · iexact HB1
    iexact HB2
  iexists _; iexact HW

set_option maxHeartbeats 16000000 in
/-- A point where a new expert's projections are collected from slot 1 and the next expert's are sent for. -/
theorem run_load_1 (W : Waits sig Unit) (K : PUnit → sProp 𝕄) (h1 : ¬ k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : k0_cond3 wn = 1#1) (h4 : k0_cond4 i wu_ = 1#1) (h5 : ¬ k0_cond5 i wu_ = 1#1)
    (c2 : k0_chk2 wf 1#32) (c3 : k0_chk3 wf we) (c4 : k0_chk4 wf 1#32 wn) (c5 : k0_chk5 wf wn wn)
    (he32 : we.toNat < 32) (hn32 : wn.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ slotWord c 1 ∗ waiting c wg wu wd 1 0 (by decide) (by decide) he32 ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 0 ∗ waiting c wg wu wd 0 1 (by decide) (by decide) hn32 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord waiting flying
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, %hs, HS⟩, ⟨%g0, %g1, %g2, %k0, %k1, %k2, HF0, HF1, HF2, HD0, HD1, HD2, HC0, HC1, HC2, HR0, HR1, HR2⟩, HW, Hk⟩
  obtain rfl := hbo.eq_unread hfy
  obtain rfl := hbx.eq_unread hfx
  replace hs : PageRing.WordAt (Memref.whole cc0_scratch6) ![0] inb_S1_S1_0 sl 1#32 := hs
  sl_exec
  ihave S0 := (takeW c M5 rfl (in_srcW hn32) wg) $$ HR0
  icases S0 with ⟨HA0, HB0⟩
  ihave S1 := (takeW c M6 rfl (in_srcW hn32) wu) $$ HR1
  icases S1 with ⟨HA1, HB1⟩
  ihave S2 := (takeD c M7 rfl (in_srcD hn32) wd) $$ HR2
  icases S2 with ⟨HA2, HB2⟩
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · iexists _, _, _, _, _, _
    isplitl [HC0]; · iexact HC0
    isplitl [HC1]; · iexact HC1
    isplitl [HC2]; · iexact HC2
    isplitl [HF0_dst]; · iexact HF0_dst
    isplitl [HF1_dst]; · iexact HF1_dst
    isplitl [HF2_dst]; · iexact HF2_dst
    isplitl [HF0]; · iexact HF0
    isplitl [HF1]; · iexact HF1
    isplitl [HF2]; · iexact HF2
    isplitl [HB0]; · iexact HB0
    isplitl [HB1]; · iexact HB1
    iexact HB2
  iexists _; iexact HW

set_option maxHeartbeats 16000000 in
/-- A point where a new expert's projections are collected from slot 0 and none follows. -/
theorem run_last_0 (W : Waits sig Unit) (K : PUnit → sProp 𝕄) (h1 : ¬ k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : ¬ k0_cond3 wn = 1#1) (h4 : k0_cond4 i wu_ = 1#1) (h5 : ¬ k0_cond5 i wu_ = 1#1)
    (c2 : k0_chk2 wf 0#32) (c3 : k0_chk3 wf we) (c4 : k0_chk4 wf 0#32 wn) (c5 : k0_chk5 wf wn wn)
    (he32 : we.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ slotWord c 0 ∗ waiting c wg wu wd 0 1 (by decide) (by decide) he32 ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 1 ∗ resting c wg wu wd 1 0 (by decide) (by decide) ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord waiting flying
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, %hs, HS⟩, ⟨%g0, %g1, %g2, %k0, %k1, %k2, HF0, HF1, HF2, HD0, HD1, HD2, HC0, HC1, HC2, HR0, HR1, HR2⟩, HW, Hk⟩
  obtain rfl := hbo.eq_unread hfy
  obtain rfl := hbx.eq_unread hfx
  replace hs : PageRing.WordAt (Memref.whole cc0_scratch6) ![0] inb_S1_S1_0 sl 0#32 := hs
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · unfold resting
    iexists _, _, _, _, _, _
    isplitl [HD0]; · iexact HD0
    isplitl [HD1]; · iexact HD1
    isplitl [HD2]; · iexact HD2
    isplitl [HC0]; · iexact HC0
    isplitl [HC1]; · iexact HC1
    isplitl [HC2]; · iexact HC2
    isplitl [HF0_dst]; · iexact HF0_dst
    isplitl [HF1_dst]; · iexact HF1_dst
    isplitl [HF2_dst]; · iexact HF2_dst
    isplitl [HF0]; · iexact HF0
    isplitl [HF1]; · iexact HF1
    isplitl [HF2]; · iexact HF2
    isplitl [HR0]; · iexact HR0
    isplitl [HR1]; · iexact HR1
    iexact HR2
  iexists _; iexact HW

set_option maxHeartbeats 16000000 in
/-- A point where a new expert's projections are collected from slot 1 and none follows. -/
theorem run_last_1 (W : Waits sig Unit) (K : PUnit → sProp 𝕄) (h1 : ¬ k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : ¬ k0_cond3 wn = 1#1) (h4 : k0_cond4 i wu_ = 1#1) (h5 : ¬ k0_cond5 i wu_ = 1#1)
    (c2 : k0_chk2 wf 1#32) (c3 : k0_chk3 wf we) (c4 : k0_chk4 wf 1#32 wn) (c5 : k0_chk5 wf wn wn)
    (he32 : we.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ slotWord c 1 ∗ waiting c wg wu wd 1 0 (by decide) (by decide) he32 ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 0 ∗ resting c wg wu wd 0 1 (by decide) (by decide) ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord waiting flying
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, %hs, HS⟩, ⟨%g0, %g1, %g2, %k0, %k1, %k2, HF0, HF1, HF2, HD0, HD1, HD2, HC0, HC1, HC2, HR0, HR1, HR2⟩, HW, Hk⟩
  obtain rfl := hbo.eq_unread hfy
  obtain rfl := hbx.eq_unread hfx
  replace hs : PageRing.WordAt (Memref.whole cc0_scratch6) ![0] inb_S1_S1_0 sl 1#32 := hs
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · unfold resting
    iexists _, _, _, _, _, _
    isplitl [HD0]; · iexact HD0
    isplitl [HD1]; · iexact HD1
    isplitl [HD2]; · iexact HD2
    isplitl [HC0]; · iexact HC0
    isplitl [HC1]; · iexact HC1
    isplitl [HC2]; · iexact HC2
    isplitl [HF0_dst]; · iexact HF0_dst
    isplitl [HF1_dst]; · iexact HF1_dst
    isplitl [HF2_dst]; · iexact HF2_dst
    isplitl [HF0]; · iexact HF0
    isplitl [HF1]; · iexact HF1
    isplitl [HF2]; · iexact HF2
    isplitl [HR0]; · iexact HR0
    isplitl [HR1]; · iexact HR1
    iexact HR2
  iexists _; iexact HW

set_option maxHeartbeats 16000000 in
/-- A point of the expert at hand. -/
theorem run_stay (W : Waits sig Unit) (K : PUnit → sProp 𝕄) (h1 : ¬ k0_cond1 i = 1#1) (wf wu_ : BitVec 32)
    (hf : PageRing.WordAt (Memref.whole main_arg1) (k0_off3 i) (k0_off3_inb i) tf wf)
    (hu : PageRing.WordAt (Memref.whole main_arg3) ![0] inb_S1_S1_0 nu wu_)
    (h2 : ¬ k0_cond2 wf = 1#1) (h4 : k0_cond4 i wu_ = 1#1) (h5 : ¬ k0_cond5 i wu_ = 1#1)
    (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5 ∗ owes (c : Thread nD τ) 0 W
        ∗ (iprop(tabs c q te tf nx nu ∗ owns (c : Thread nD τ) bx fullShare x
            ∗ owns (c : Thread nD τ) bo fullShare (k0_pay4 x b3 b4 b5)
            ∗ bufs c b3 b4 b5 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, HW, Hk⟩
  obtain rfl := hbo.eq_unread hfy
  obtain rfl := hbx.eq_unread hfx
  sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    ipureintro
    refine (View.read_writes_full _ _ _ _ _).trans ?_
    refine congr (congr (congr (congrArg k0_pay4 ?_) ?_) ?_) ?_
    · exact (View.readAt_full _ _ _).trans hfx
    · exact (View.readAt_full _ _ _).trans hf3
    · exact (View.readAt_full _ _ _).trans hf4
    · exact (View.readAt_full _ _ _).trans hf5
  isplitl [H3 H4 H5]
  · isplitl [H3]
    · iexists _; isplitr; · ipureintro; exact hf3
      iexact H3
    isplitl [H4]
    · iexists _; isplitr; · ipureintro; exact hf4
      iexact H4
    iexists _; isplitr; · ipureintro; exact hf5
    iexact H5
  iexists _; iexact HW

set_option maxHeartbeats 16000000 in
/-- A point past the tiles in use. -/
theorem run_idle (W : Waits sig Unit) (K : PUnit → sProp 𝕄) (h1 : ¬ k0_cond1 i = 1#1) (wf wu_ : BitVec 32)
    (hf : PageRing.WordAt (Memref.whole main_arg1) (k0_off3 i) (k0_off3_inb i) tf wf)
    (hu : PageRing.WordAt (Memref.whole main_arg3) ![0] inb_S1_S1_0 nu wu_)
    (h2 : ¬ k0_cond2 wf = 1#1) (h4 : ¬ k0_cond4 i wu_ = 1#1) (h5 : k0_cond5 i wu_ = 1#1)
    (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5 ∗ owes (c : Thread nD τ) 0 W
        ∗ (iprop(tabs c q te tf nx nu ∗ owns (c : Thread nD τ) bx fullShare x
            ∗ owns (c : Thread nD τ) bo fullShare (k0_pay5)
            ∗ bufs c b3 b4 b5 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, HW, Hk⟩
  obtain rfl := hbo.eq_unread hfy
  obtain rfl := hbx.eq_unread hfx
  sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    ipureintro
    exact View.read_writes_full _ _ _ _ _
  isplitl [H3 H4 H5]
  · isplitl [H3]
    · iexists _; isplitr; · ipureintro; exact hf3
      iexact H3
    isplitl [H4]
    · iexists _; isplitr; · ipureintro; exact hf4
      iexact H4
    iexists _; isplitr; · ipureintro; exact hf5
    iexact H5
  iexists _; iexact HW

end Cert.Kernel6Ideal.Experts

end
-- ==== Proof.ExpertsStep.lean ====
/- The experts' kernel (`Kernel6Ideal`): what its tables say of a point, and one point over what the points before it left. -/
module

public import proofs.«01_k».proof.Proof.ExpertsRun
public import Idealize.ShloMosaic.Lib.Pipeline.ValueKit
public import Idealize.ShloMosaic.Lib.Claim

@[expose] public section

set_option maxRecDepth 16384

noncomputable section

namespace Cert.Kernel6Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen

variable {F : FTy → Type} [FloatOps F]

local notation "𝕄" => MT nD τ sig Unit (Elt F) ℕ (Pipeline.UD sig nD τ) ℕ

/-! ## The conditions -/

theorem first_iff (i : grid0.Coords) : k0_cond1 i = 1#1 ↔ (i 0).val = 0 := by
  have h : (i 0).val < 164 := (i 0).isLt
  unfold k0_cond1
  generalize (i 0).val = n at h
  interval_cases n <;> decide

theorem turn_iff (w : BitVec 32) : k0_cond2 w = 1#1 ↔ w = 1#32 := by
  show Scalar.cmpi .ne (Scalar.extui (BitVec.ofBool (w == 1#32))) 0#32 = 1#1 ↔ _
  by_cases h : w = 1#32
  · subst h; decide
  · rw [show (w == 1#32) = false from beq_eq_false_iff_ne.mpr h]
    exact ⟨fun e => absurd e (by decide), fun e => absurd e h⟩

theorem more_iff (w : BitVec 32) : k0_cond3 w = 1#1 ↔ w.toNat < 2 ^ 31 := by
  show Scalar.cmpi .ne (Scalar.extui (BitVec.ofBool ((0#32).sle w))) 0#32 = 1#1 ↔ _
  have e : (0#32).sle w = decide (w.toNat < 2 ^ 31) := by
    rw [BitVec.sle_eq_decide]
    simp only [BitVec.toInt_eq_toNat_cond, BitVec.toNat_ofNat, Nat.reducePow, Nat.reduceMod]
    have := w.isLt
    refine decide_eq_decide.mpr ?_
    split <;> split <;> omega
  rw [e]
  by_cases h : w.toNat < 2 ^ 31
  · rw [decide_eq_true h]; exact ⟨fun _ => h, fun _ => by decide⟩
  · rw [decide_eq_false h]; exact ⟨fun e => absurd e (by decide), fun e => absurd e h⟩

theorem slt_small (a : Nat) (ha : a < 164) (w : BitVec 32) (hw : w.toNat ≤ 164) : (BitVec.ofNat 32 a).slt w = decide (a < w.toNat) := by
  rw [BitVec.slt_eq_decide]
  simp only [BitVec.toInt_eq_toNat_cond, BitVec.toNat_ofNat, Nat.reducePow]
  rw [Nat.mod_eq_of_lt (by omega)]
  refine decide_eq_decide.mpr ?_
  split <;> split <;> omega

theorem sle_small (a : Nat) (ha : a < 164) (w : BitVec 32) (hw : w.toNat ≤ 164) : w.sle (BitVec.ofNat 32 a) = decide (w.toNat ≤ a) := by
  rw [BitVec.sle_eq_decide]
  simp only [BitVec.toInt_eq_toNat_cond, BitVec.toNat_ofNat, Nat.reducePow]
  rw [Nat.mod_eq_of_lt (by omega)]
  refine decide_eq_decide.mpr ?_
  split <;> split <;> omega

theorem used_iff (i : grid0.Coords) (w : BitVec 32) (hw : w.toNat ≤ 164) : k0_cond4 i w = 1#1 ↔ (i 0).val < w.toNat := by
  show Scalar.cmpi .ne (Scalar.extui (BitVec.ofBool ((BitVec.ofNat 32 (i 0).val).slt w))) 0#32 = 1#1 ↔ _
  rw [slt_small _ (i 0).isLt w hw]
  by_cases h : (i 0).val < w.toNat
  · rw [decide_eq_true h]; exact ⟨fun _ => h, fun _ => by decide⟩
  · rw [decide_eq_false h]; exact ⟨fun e => absurd e (by decide), fun e => absurd e h⟩

theorem spare_iff (i : grid0.Coords) (w : BitVec 32) (hw : w.toNat ≤ 164) : k0_cond5 i w = 1#1 ↔ w.toNat ≤ (i 0).val := by
  show Scalar.cmpi .ne (Scalar.extui (BitVec.ofBool (w.sle (BitVec.ofNat 32 (i 0).val)))) 0#32 = 1#1 ↔ _
  rw [sle_small _ (i 0).isLt w hw]
  by_cases h : w.toNat ≤ (i 0).val
  · rw [decide_eq_true h]; exact ⟨fun _ => h, fun _ => by decide⟩
  · rw [decide_eq_false h]; exact ⟨fun e => absurd e (by decide), fun e => absurd e h⟩

/-! ## The assumed bounds -/

theorem chk1 (i : grid0.Coords) {w : BitVec 32} (h : w.toNat < 32) : k0_chk1 i w :=
  ⟨fun _ => in_srcW h, fun _ => in_srcD h⟩
theorem chk3 (v : BitVec 32) {w : BitVec 32} (h : w.toNat < 32) : k0_chk3 v w :=
  ⟨fun _ => in_srcW h, fun _ => in_srcD h⟩
theorem chk5 (v : BitVec 32) (w : BitVec 32) (h : k0_cond3 w = 1#1 → w.toNat < 32) : k0_chk5 v w w :=
  ⟨fun _ e => in_srcW (h e), fun _ e => in_srcD (h e)⟩
theorem chk2_0 (v : BitVec 32) : k0_chk2 v 0#32 := by
  unfold k0_chk2
  refine ⟨fun _ => ?_, fun _ => ?_, fun _ => ?_, fun _ => ?_, fun _ => ?_, fun _ => ?_, fun _ => ?_, fun _ => ?_⟩ <;> decide
theorem chk2_1 (v : BitVec 32) : k0_chk2 v 1#32 := by
  unfold k0_chk2
  refine ⟨fun _ => ?_, fun _ => ?_, fun _ => ?_, fun _ => ?_, fun _ => ?_, fun _ => ?_, fun _ => ?_, fun _ => ?_⟩ <;> decide
theorem chk4_0 (v w : BitVec 32) : k0_chk4 v 0#32 w := by
  unfold k0_chk4
  refine ⟨fun _ _ => ?_, fun _ _ => ?_, fun _ _ => ?_, fun _ _ => ?_, fun _ _ => ?_, fun _ _ => ?_⟩ <;> decide
theorem chk4_1 (v w : BitVec 32) : k0_chk4 v 1#32 w := by
  unfold k0_chk4
  refine ⟨fun _ _ => ?_, fun _ _ => ?_, fun _ _ => ?_, fun _ _ => ?_, fun _ _ => ?_, fun _ _ => ?_⟩ <;> decide

/-! ## The tables' words -/

/-- A table's word, zero past its end. -/
def word (f : S164.Idx → BitVec 32) (t : ℕ) : BitVec 32 := if h : t < 164 then f (ix1 ⟨t, h⟩) else 0#32

theorem off_val (i : grid0.Coords) : (BitVec.ofNat 32 (i 0).val).toNat = (i 0).val := by
  have h : (i 0).val < 164 := (i 0).isLt
  rw [BitVec.toNat_ofNat]; omega

section
variable (c : Dev nD) (i : grid0.Coords)

theorem at_te (f : Buf (Elt F) ((c : Thread nD τ).loc main_arg0)) :
    PageRing.WordAt (Memref.whole main_arg0) (k0_off4 i) (k0_off4_inb i) f (word f (i 0).val) := by
  have h : (i 0).val < 164 := (i 0).isLt
  funext y
  unfold word; rw [dif_pos h]
  refine congrArg f (funext fun a => Fin.ext ?_)
  match a with
  | ⟨0, _⟩ =>
    show (BitVec.ofNat 32 (i 0).val).toNat + 1 * (y 0).val = (i 0).val
    rw [off_val]; have := (y 0).isLt; change (y 0).val < 1 at this; omega

theorem at_te0 (hi : (i 0).val = 0) (f : Buf (Elt F) ((c : Thread nD τ).loc main_arg0)) :
    PageRing.WordAt (Memref.whole main_arg0) ![0] inb_S164_S1_0 f (word f (i 0).val) := by
  have h : (i 0).val < 164 := (i 0).isLt
  funext y
  unfold word; rw [dif_pos h]
  refine congrArg f (funext fun a => Fin.ext ?_)
  match a with
  | ⟨0, _⟩ =>
    show 0 + 1 * (y 0).val = (i 0).val
    have := (y 0).isLt; change (y 0).val < 1 at this; omega

theorem at_tf (f : Buf (Elt F) ((c : Thread nD τ).loc main_arg1)) :
    PageRing.WordAt (Memref.whole main_arg1) (k0_off3 i) (k0_off3_inb i) f (word f (i 0).val) := at_te (F := F) c i f

theorem at_nx (f : Buf (Elt F) ((c : Thread nD τ).loc main_arg2)) :
    PageRing.WordAt (Memref.whole main_arg2) (k0_off13 i) (k0_off13_inb i) f (word f (i 0).val) := at_te (F := F) c i f

theorem at_nx' (f : Buf (Elt F) ((c : Thread nD τ).loc main_arg2)) :
    PageRing.WordAt (Memref.whole main_arg2) (k0_off14 i) (k0_off14_inb i) f (word f (i 0).val) := at_te (F := F) c i f

theorem at_nu (f : Buf (Elt F) ((c : Thread nD τ).loc main_arg3)) :
    PageRing.WordAt (Memref.whole main_arg3) ![0] inb_S1_S1_0 f (f (ix1 0)) := by
  funext y
  refine congrArg f (funext fun a => Fin.ext ?_)
  match a with
  | ⟨0, _⟩ =>
    show 0 + 1 * (y 0).val = 0
    have := (y 0).isLt; change (y 0).val < 1 at this; omega

end

/-- What the tables say of the tiles: `nu` of them are in use, each with an expert; a tile opens its expert's run or
    continues the one before; a tile's next expert is the one the next run belongs to, and none at the last run. -/
structure Good (te tf nx : ℕ → BitVec 32) (nu : BitVec 32) : Prop where
  pos : 1 ≤ nu.toNat
  le : nu.toNat ≤ 164
  first : tf 0 = 1#32
  te_lt : ∀ t, t < nu.toNat → (te t).toNat < 32
  nx_lt : ∀ t, t < nu.toNat → (nx t).toNat < 2 ^ 31 → (nx t).toNat < 32
  stop : ¬ (nx (nu.toNat - 1)).toNat < 2 ^ 31
  past : ∀ t, nu.toNat ≤ t → t < 164 → tf t ≠ 1#32
  turn : ∀ t, t + 1 < nu.toNat → tf (t + 1) = 1#32 → nx t = te (t + 1)
  keep : ∀ t, t + 1 < nu.toNat → tf (t + 1) ≠ 1#32 → te (t + 1) = te t ∧ nx (t + 1) = nx t

/-! ## Between two points -/

section
variable (c : Dev nD) (i : grid0.Coords) (q : PosShare TreeShare)
  (bx : Memref sig .tc .vmem S256x2048 .bf16) (hbx : bx.IsWhole) (bo : Memref sig .tc .vmem S256x2048 .bf16) (hbo : bo.IsWhole)
  (te : Buf (Elt F) ((c : Thread nD τ).loc main_arg0)) (tf : Buf (Elt F) ((c : Thread nD τ).loc main_arg1))
  (nx : Buf (Elt F) ((c : Thread nD τ).loc main_arg2)) (nu : Buf (Elt F) ((c : Thread nD τ).loc main_arg3))
  (x y : Vec F S256x2048 .bf16)
  (wg : Buf (Elt F) ((c : Thread nD τ).loc main_arg5)) (wu : Buf (Elt F) ((c : Thread nD τ).loc main_arg6)) (wd : Buf (Elt F) ((c : Thread nD τ).loc main_arg7))

/-- The projections at hand are those of the expert a word names, if it names one. -/
def held (e : BitVec 32) : sProp 𝕄 :=
  if h : e.toNat < 32 then bufs c (gateOf c wg h) (upOf c wu h) (downOf c wd h) else iprop(∃ b3 b4 b5, bufs c b3 b4 b5)

/-- One of the two slots is in use and awaits the expert a word names, if it names one. -/
def ring (e : BitVec 32) : sProp 𝕄 :=
  if h : e.toNat < 32 then
    iprop((slotWord (F := F) c 0 ∗ waiting c wg wu wd 0 1 (by decide) (by decide) h) ∨ (slotWord (F := F) c 1 ∗ waiting c wg wu wd 1 0 (by decide) (by decide) h))
  else
    iprop((slotWord (F := F) c 0 ∗ resting c wg wu wd 0 1 (by decide) (by decide)) ∨ (slotWord (F := F) c 1 ∗ resting c wg wu wd 1 0 (by decide) (by decide)))

/-- The last tile in use before position `t + 1`. -/
def tileOf (n t : ℕ) : ℕ := min t (n - 1)

/-- What the body keeps between points: the projections at hand are those of the last tile's expert, and the slot in use
    awaits that tile's next expert. -/
def Inv (te nx : ℕ → BitVec 32) (n : ℕ) : ℕ → sProp 𝕄
  | 0 => iprop((∃ b3 b4 b5, bufs (F := F) c b3 b4 b5) ∗ (∃ f, own (F := F) c (Memref.whole cc0_scratch6) f) ∗ resting c wg wu wd 0 1 (by decide) (by decide))
  | t + 1 => iprop(held c wg wu wd (te (tileOf n t)) ∗ ring c wg wu wd (nx (tileOf n t)))

theorem Inv_succ (te nx : ℕ → BitVec 32) (n t : ℕ) :
    Inv c wg wu wd te nx n (t + 1) = iprop(held c wg wu wd (te (tileOf n t)) ∗ ring c wg wu wd (nx (tileOf n t))) := rfl

/-- What a tile's block becomes, of the expert a word names. -/
def tileOut (e : BitVec 32) : Vec F S256x2048 .bf16 :=
  if h : e.toNat < 32 then k0_pay4 x (gateOf c wg h) (upOf c wu h) (downOf c wd h) else k0_pay5

/-- What point `t` leaves in the result's block. -/
def outOf (te : ℕ → BitVec 32) (n t : ℕ) : Vec F S256x2048 .bf16 := if t < n then tileOut c x wg wu wd (te t) else k0_pay5

theorem tileOut_of {e : BitVec 32} (h : e.toNat < 32) :
    tileOut c x wg wu wd e = k0_pay4 x (gateOf c wg h) (upOf c wu h) (downOf c wd h) := dif_pos h
theorem held_of {e : BitVec 32} (h : e.toNat < 32) : held c wg wu wd e = bufs c (gateOf c wg h) (upOf c wu h) (downOf c wd h) := dif_pos h
theorem ring_of {e : BitVec 32} (h : e.toNat < 32) :
    ring c wg wu wd e = iprop((slotWord (F := F) c 0 ∗ waiting c wg wu wd 0 1 (by decide) (by decide) h) ∨ (slotWord (F := F) c 1 ∗ waiting c wg wu wd 1 0 (by decide) (by decide) h)) := dif_pos h
theorem ring_none {e : BitVec 32} (h : ¬ e.toNat < 32) :
    ring c wg wu wd e = iprop((slotWord (F := F) c 0 ∗ resting c wg wu wd 0 1 (by decide) (by decide)) ∨ (slotWord (F := F) c 1 ∗ resting c wg wu wd 1 0 (by decide) (by decide))) := dif_neg h

theorem tileOf_lt {n t : ℕ} (h : t < n) : tileOf n t = t := Nat.min_eq_left (by omega)
theorem tileOf_ge {n t : ℕ} (h : n ≤ t + 1) : tileOf n t = n - 1 := Nat.min_eq_right (by omega)

/-- One point. -/
abbrev Point (t : ℕ) : Prop :=
  ∀ (W : Waits sig Unit) (K : PUnit → sProp 𝕄),
    iprop(tabs c q te tf nx nu ∗ owns (c : Thread nD τ) bx fullShare x ∗ owns (c : Thread nD τ) bo fullShare y
        ∗ Inv c wg wu wd (word te) (word nx) (nu (ix1 0) : BitVec 32).toNat t ∗ owes (c : Thread nD τ) 0 W
        ∗ (iprop(tabs c q te tf nx nu ∗ owns (c : Thread nD τ) bx fullShare x
            ∗ owns (c : Thread nD τ) bo fullShare (outOf c x wg wu wd (word te) (nu (ix1 0) : BitVec 32).toNat t)
            ∗ Inv c wg wu wd (word te) (word nx) (nu (ix1 0) : BitVec 32).toNat (t + 1) ∗ ∃ W', owes (c : Thread nD τ) 0 W') -∗ K ⟨⟩))
      ⊢ wp frame (wpE (defs₀ (F := F)) Variants.none c none) Set.univ (body i bx hbx bo hbo) K

set_option maxHeartbeats 4000000 in
/-- The first point, another expert after the first. -/
theorem start_load (hi : (i 0).val = 0) (hu : (i 0).val < (nu (ix1 0) : BitVec 32).toNat) (hle : (nu (ix1 0) : BitVec 32).toNat ≤ 164)
    (hf : word tf (i 0).val = 1#32) (he : (word te (i 0).val).toNat < 32) (hn : (word nx (i 0).val).toNat < 32) :
    Point c i q bx hbx bo hbo te tf nx nu x y wg wu wd (i 0).val := by
  intro W K
  have e0 : Inv c wg wu wd (word te) (word nx) (nu (ix1 0) : BitVec 32).toNat (i 0).val
      = iprop((∃ b3 b4 b5, bufs (F := F) c b3 b4 b5) ∗ (∃ f, own (F := F) c (Memref.whole cc0_scratch6) f) ∗ resting c wg wu wd 0 1 (by decide) (by decide)) := by
    rw [hi]; rfl
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he]
  rw [ring_of c wg wu wd hn]
  unfold outOf; rw [if_pos hu, tileOut_of c x wg wu wd he]
  iintro ⟨HT, HX, HY, ⟨⟨%b3, %b4, %b5, HB⟩, HS, HR⟩, HW, Hk⟩
  iapply (run_start_load c i q bx hbx bo hbo te tf nx nu x y wg wu wd W K ((first_iff i).mpr hi) (word tf (i 0).val) (word te (i 0).val) (word nx (i 0).val) (nu (ix1 0))
    (at_tf c i tf) (at_te c i te) (at_te0 c i hi te) (at_nx c i nx) (at_nx' c i nx) (at_nu c nu)
    ((turn_iff _).mpr hf) ((more_iff _).mpr (by omega)) ((used_iff i _ hle).mpr hu) (fun e => absurd ((spare_iff i _ hle).mp e) (by omega))
    (chk1 i he) (chk2_0 _) (chk3 _ he) (chk4_0 _ _) (chk5 _ _ (fun _ => hn)) he hn b3 b4 b5)
  isplitl [HT]; · iexact HT
  isplitl [HX]; · iexact HX
  isplitl [HY]; · iexact HY
  isplitl [HB]; · iexact HB
  isplitl [HS]; · iexact HS
  isplitl [HR]; · iexact HR
  isplitl [HW]; · iexact HW
  iintro ⟨HT, HX, HY, HB, HS, HR, HW⟩
  iapply Hk
  isplitl [HT]; · iexact HT
  isplitl [HX]; · iexact HX
  isplitl [HY]; · iexact HY
  isplitl [HB HS HR]
  · isplitl [HB]; · iexact HB
    iright
    isplitl [HS]; · iexact HS
    iexact HR
  iexact HW

set_option maxHeartbeats 4000000 in
/-- The first point, no other expert after the first. -/
theorem start_last (hi : (i 0).val = 0) (hu : (i 0).val < (nu (ix1 0) : BitVec 32).toNat) (hle : (nu (ix1 0) : BitVec 32).toNat ≤ 164)
    (hf : word tf (i 0).val = 1#32) (he : (word te (i 0).val).toNat < 32) (hn : ¬ (word nx (i 0).val).toNat < 2 ^ 31) :
    Point c i q bx hbx bo hbo te tf nx nu x y wg wu wd (i 0).val := by
  intro W K
  have e0 : Inv c wg wu wd (word te) (word nx) (nu (ix1 0) : BitVec 32).toNat (i 0).val
      = iprop((∃ b3 b4 b5, bufs (F := F) c b3 b4 b5) ∗ (∃ f, own (F := F) c (Memref.whole cc0_scratch6) f) ∗ resting c wg wu wd 0 1 (by decide) (by decide)) := by
    rw [hi]; rfl
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he]
  rw [ring_none c wg wu wd (fun e => hn (by omega))]
  unfold outOf; rw [if_pos hu, tileOut_of c x wg wu wd he]
  iintro ⟨HT, HX, HY, ⟨⟨%b3, %b4, %b5, HB⟩, HS, HR⟩, HW, Hk⟩
  iapply (run_start_last c i q bx hbx bo hbo te tf nx nu x y wg wu wd W K ((first_iff i).mpr hi) (word tf (i 0).val) (word te (i 0).val) (word nx (i 0).val) (nu (ix1 0))
    (at_tf c i tf) (at_te c i te) (at_te0 c i hi te) (at_nx c i nx) (at_nx' c i nx) (at_nu c nu)
    ((turn_iff _).mpr hf) (fun e => hn ((more_iff _).mp e)) ((used_iff i _ hle).mpr hu) (fun e => absurd ((spare_iff i _ hle).mp e) (by omega))
    (chk1 i he) (chk2_0 _) (chk3 _ he) (chk4_0 _ _) (chk5 _ _ (fun e => absurd ((more_iff _).mp e) hn)) he b3 b4 b5)
  isplitl [HT]; · iexact HT
  isplitl [HX]; · iexact HX
  isplitl [HY]; · iexact HY
  isplitl [HB]; · iexact HB
  isplitl [HS]; · iexact HS
  isplitl [HR]; · iexact HR
  isplitl [HW]; · iexact HW
  iintro ⟨HT, HX, HY, HB, HS, HR, HW⟩
  iapply Hk
  isplitl [HT]; · iexact HT
  isplitl [HX]; · iexact HX
  isplitl [HY]; · iexact HY
  isplitl [HB HS HR]
  · isplitl [HB]; · iexact HB
    iright
    isplitl [HS]; · iexact HS
    iexact HR
  iexact HW

set_option maxHeartbeats 4000000 in
/-- A later expert's first tile, another expert after it. -/
theorem turn_load (t : ℕ) (hi : (i 0).val = t + 1) (hu : (i 0).val < (nu (ix1 0) : BitVec 32).toNat) (hle : (nu (ix1 0) : BitVec 32).toNat ≤ 164)
    (hf : word tf (i 0).val = 1#32) (he : (word te (i 0).val).toNat < 32) (hp : word nx t = word te (i 0).val) (hh : (word te t).toNat < 32) (hn : (word nx (i 0).val).toNat < 32) :
    Point c i q bx hbx bo hbo te tf nx nu x y wg wu wd (i 0).val := by
  intro W K
  have e0 : Inv c wg wu wd (word te) (word nx) (nu (ix1 0) : BitVec 32).toNat (i 0).val
      = iprop(held c wg wu wd (word te t) ∗ ring c wg wu wd (word te (i 0).val)) := by
    rw [hi]; rw [Inv_succ, tileOf_lt (by omega), hp, hi]
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he, held_of c wg wu wd hh, ring_of c wg wu wd he]
  rw [ring_of c wg wu wd hn]
  unfold outOf; rw [if_pos hu, tileOut_of c x wg wu wd he]
  generalize gateOf c wg hh = b3
  generalize upOf c wu hh = b4
  generalize downOf c wd hh = b5
  iintro ⟨HT, HX, HY, ⟨HB, (⟨HS, HR⟩ | ⟨HS, HR⟩)⟩, HW, Hk⟩
  · iapply (run_load_0 c i q bx hbx bo hbo te tf nx nu x y wg wu wd W K (fun e => by have := (first_iff i).mp e; omega) (word tf (i 0).val) (word te (i 0).val) (word nx (i 0).val) (nu (ix1 0))
      (at_tf c i tf) (at_te c i te) (at_nx c i nx) (at_nx' c i nx) (at_nu c nu)
      ((turn_iff _).mpr hf) ((more_iff _).mpr (by omega)) ((used_iff i _ hle).mpr hu) (fun e => absurd ((spare_iff i _ hle).mp e) (by omega))
      (chk2_0 _) (chk3 _ he) (chk4_0 _ _) (chk5 _ _ (fun _ => hn)) he hn b3 b4 b5)
    isplitl [HT]; · iexact HT
    isplitl [HX]; · iexact HX
    isplitl [HY]; · iexact HY
    isplitl [HB]; · iexact HB
    isplitl [HS]; · iexact HS
    isplitl [HR]; · iexact HR
    isplitl [HW]; · iexact HW
    iintro ⟨HT, HX, HY, HB, HS, HR, HW⟩
    iapply Hk
    isplitl [HT]; · iexact HT
    isplitl [HX]; · iexact HX
    isplitl [HY]; · iexact HY
    isplitl [HB HS HR]
    · isplitl [HB]; · iexact HB
      iright
      isplitl [HS]; · iexact HS
      iexact HR
    iexact HW
  · iapply (run_load_1 c i q bx hbx bo hbo te tf nx nu x y wg wu wd W K (fun e => by have := (first_iff i).mp e; omega) (word tf (i 0).val) (word te (i 0).val) (word nx (i 0).val) (nu (ix1 0))
      (at_tf c i tf) (at_te c i te) (at_nx c i nx) (at_nx' c i nx) (at_nu c nu)
      ((turn_iff _).mpr hf) ((more_iff _).mpr (by omega)) ((used_iff i _ hle).mpr hu) (fun e => absurd ((spare_iff i _ hle).mp e) (by omega))
      (chk2_1 _) (chk3 _ he) (chk4_1 _ _) (chk5 _ _ (fun _ => hn)) he hn b3 b4 b5)
    isplitl [HT]; · iexact HT
    isplitl [HX]; · iexact HX
    isplitl [HY]; · iexact HY
    isplitl [HB]; · iexact HB
    isplitl [HS]; · iexact HS
    isplitl [HR]; · iexact HR
    isplitl [HW]; · iexact HW
    iintro ⟨HT, HX, HY, HB, HS, HR, HW⟩
    iapply Hk
    isplitl [HT]; · iexact HT
    isplitl [HX]; · iexact HX
    isplitl [HY]; · iexact HY
    isplitl [HB HS HR]
    · isplitl [HB]; · iexact HB
      ileft
      isplitl [HS]; · iexact HS
      iexact HR
    iexact HW

set_option maxHeartbeats 4000000 in
/-- A later expert's first tile, no other expert after it. -/
theorem turn_last (t : ℕ) (hi : (i 0).val = t + 1) (hu : (i 0).val < (nu (ix1 0) : BitVec 32).toNat) (hle : (nu (ix1 0) : BitVec 32).toNat ≤ 164)
    (hf : word tf (i 0).val = 1#32) (he : (word te (i 0).val).toNat < 32) (hp : word nx t = word te (i 0).val) (hh : (word te t).toNat < 32) (hn : ¬ (word nx (i 0).val).toNat < 2 ^ 31) :
    Point c i q bx hbx bo hbo te tf nx nu x y wg wu wd (i 0).val := by
  intro W K
  have e0 : Inv c wg wu wd (word te) (word nx) (nu (ix1 0) : BitVec 32).toNat (i 0).val
      = iprop(held c wg wu wd (word te t) ∗ ring c wg wu wd (word te (i 0).val)) := by
    rw [hi]; rw [Inv_succ, tileOf_lt (by omega), hp, hi]
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he, held_of c wg wu wd hh, ring_of c wg wu wd he]
  rw [ring_none c wg wu wd (fun e => hn (by omega))]
  unfold outOf; rw [if_pos hu, tileOut_of c x wg wu wd he]
  generalize gateOf c wg hh = b3
  generalize upOf c wu hh = b4
  generalize downOf c wd hh = b5
  iintro ⟨HT, HX, HY, ⟨HB, (⟨HS, HR⟩ | ⟨HS, HR⟩)⟩, HW, Hk⟩
  · iapply (run_last_0 c i q bx hbx bo hbo te tf nx nu x y wg wu wd W K (fun e => by have := (first_iff i).mp e; omega) (word tf (i 0).val) (word te (i 0).val) (word nx (i 0).val) (nu (ix1 0))
      (at_tf c i tf) (at_te c i te) (at_nx c i nx) (at_nx' c i nx) (at_nu c nu)
      ((turn_iff _).mpr hf) (fun e => hn ((more_iff _).mp e)) ((used_iff i _ hle).mpr hu) (fun e => absurd ((spare_iff i _ hle).mp e) (by omega))
      (chk2_0 _) (chk3 _ he) (chk4_0 _ _) (chk5 _ _ (fun e => absurd ((more_iff _).mp e) hn)) he b3 b4 b5)
    isplitl [HT]; · iexact HT
    isplitl [HX]; · iexact HX
    isplitl [HY]; · iexact HY
    isplitl [HB]; · iexact HB
    isplitl [HS]; · iexact HS
    isplitl [HR]; · iexact HR
    isplitl [HW]; · iexact HW
    iintro ⟨HT, HX, HY, HB, HS, HR, HW⟩
    iapply Hk
    isplitl [HT]; · iexact HT
    isplitl [HX]; · iexact HX
    isplitl [HY]; · iexact HY
    isplitl [HB HS HR]
    · isplitl [HB]; · iexact HB
      iright
      isplitl [HS]; · iexact HS
      iexact HR
    iexact HW
  · iapply (run_last_1 c i q bx hbx bo hbo te tf nx nu x y wg wu wd W K (fun e => by have := (first_iff i).mp e; omega) (word tf (i 0).val) (word te (i 0).val) (word nx (i 0).val) (nu (ix1 0))
      (at_tf c i tf) (at_te c i te) (at_nx c i nx) (at_nx' c i nx) (at_nu c nu)
      ((turn_iff _).mpr hf) (fun e => hn ((more_iff _).mp e)) ((used_iff i _ hle).mpr hu) (fun e => absurd ((spare_iff i _ hle).mp e) (by omega))
      (chk2_1 _) (chk3 _ he) (chk4_1 _ _) (chk5 _ _ (fun e => absurd ((more_iff _).mp e) hn)) he b3 b4 b5)
    isplitl [HT]; · iexact HT
    isplitl [HX]; · iexact HX
    isplitl [HY]; · iexact HY
    isplitl [HB]; · iexact HB
    isplitl [HS]; · iexact HS
    isplitl [HR]; · iexact HR
    isplitl [HW]; · iexact HW
    iintro ⟨HT, HX, HY, HB, HS, HR, HW⟩
    iapply Hk
    isplitl [HT]; · iexact HT
    isplitl [HX]; · iexact HX
    isplitl [HY]; · iexact HY
    isplitl [HB HS HR]
    · isplitl [HB]; · iexact HB
      ileft
      isplitl [HS]; · iexact HS
      iexact HR
    iexact HW

set_option maxHeartbeats 4000000 in
/-- A further tile of the expert at hand. -/
theorem stay (t : ℕ) (hi : (i 0).val = t + 1) (hu : (i 0).val < (nu (ix1 0) : BitVec 32).toNat) (hle : (nu (ix1 0) : BitVec 32).toNat ≤ 164)
    (hf : word tf (i 0).val ≠ 1#32) (he : (word te (i 0).val).toNat < 32) (hp : word te (i 0).val = word te t) (hn : word nx (i 0).val = word nx t) :
    Point c i q bx hbx bo hbo te tf nx nu x y wg wu wd (i 0).val := by
  intro W K
  have e0 : Inv c wg wu wd (word te) (word nx) (nu (ix1 0) : BitVec 32).toNat (i 0).val
      = iprop(held c wg wu wd (word te (i 0).val) ∗ ring c wg wu wd (word nx (i 0).val)) := by
    rw [hp, hn, hi]; rw [Inv_succ, tileOf_lt (by omega)]
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he]
  unfold outOf; rw [if_pos hu, tileOut_of c x wg wu wd he]
  iintro ⟨HT, HX, HY, ⟨HB, HR⟩, HW, Hk⟩
  iapply (run_stay c i q bx hbx bo hbo te tf nx nu x y W K (fun e => by have := (first_iff i).mp e; omega) (word tf (i 0).val) (nu (ix1 0))
    (at_tf c i tf) (at_nu c nu)
    (fun e => hf ((turn_iff _).mp e)) ((used_iff i _ hle).mpr hu) (fun e => absurd ((spare_iff i _ hle).mp e) (by omega)) _ _ _)
  isplitl [HT]; · iexact HT
  isplitl [HX]; · iexact HX
  isplitl [HY]; · iexact HY
  isplitl [HB]; · iexact HB
  isplitl [HW]; · iexact HW
  iintro ⟨HT, HX, HY, HB, HW⟩
  iapply Hk
  isplitl [HT]; · iexact HT
  isplitl [HX]; · iexact HX
  isplitl [HY]; · iexact HY
  isplitl [HB HR]
  · isplitl [HB]; · iexact HB
    iexact HR
  iexact HW

set_option maxHeartbeats 4000000 in
/-- A tile past those in use. -/
theorem spare (t : ℕ) (hi : (i 0).val = t + 1) (hu : (nu (ix1 0) : BitVec 32).toNat ≤ (i 0).val) (hle : (nu (ix1 0) : BitVec 32).toNat ≤ 164)
    (hf : word tf (i 0).val ≠ 1#32) (he : (word te ((nu (ix1 0) : BitVec 32).toNat - 1)).toNat < 32) :
    Point c i q bx hbx bo hbo te tf nx nu x y wg wu wd (i 0).val := by
  intro W K
  have e0 : Inv c wg wu wd (word te) (word nx) (nu (ix1 0) : BitVec 32).toNat (i 0).val
      = iprop(held c wg wu wd (word te ((nu (ix1 0) : BitVec 32).toNat - 1)) ∗ ring c wg wu wd (word nx ((nu (ix1 0) : BitVec 32).toNat - 1))) := by
    rw [hi, Inv_succ, tileOf_ge (by omega)]
  have e1 : Inv c wg wu wd (word te) (word nx) (nu (ix1 0) : BitVec 32).toNat ((i 0).val + 1)
      = iprop(held c wg wu wd (word te ((nu (ix1 0) : BitVec 32).toNat - 1)) ∗ ring c wg wu wd (word nx ((nu (ix1 0) : BitVec 32).toNat - 1))) := by
    rw [Inv_succ, tileOf_ge (by omega)]
  rw [e0, e1, held_of c wg wu wd he]
  unfold outOf; rw [if_neg (by omega)]
  iintro ⟨HT, HX, HY, ⟨HB, HR⟩, HW, Hk⟩
  iapply (run_idle c i q bx hbx bo hbo te tf nx nu x y W K (fun e => by have := (first_iff i).mp e; omega) (word tf (i 0).val) (nu (ix1 0))
    (at_tf c i tf) (at_nu c nu)
    (fun e => hf ((turn_iff _).mp e)) (fun e => absurd ((used_iff i _ hle).mp e) (by omega)) ((spare_iff i _ hle).mpr hu) _ _ _)
  isplitl [HT]; · iexact HT
  isplitl [HX]; · iexact HX
  isplitl [HY]; · iexact HY
  isplitl [HB]; · iexact HB
  isplitl [HW]; · iexact HW
  iintro ⟨HT, HX, HY, HB, HW⟩
  iapply Hk
  isplitl [HT]; · iexact HT
  isplitl [HX]; · iexact HX
  isplitl [HY]; · iexact HY
  isplitl [HB HR]
  · isplitl [HB]; · iexact HB
    iexact HR
  iexact HW

/-- Any point. -/
theorem step (g : Good (word te) (word tf) (word nx) (nu (ix1 0))) : Point c i q bx hbx bo hbo te tf nx nu x y wg wu wd (i 0).val := by
  have hlt : (i 0).val < 164 := (i 0).isLt
  by_cases hu : (i 0).val < (nu (ix1 0) : BitVec 32).toNat
  · have he := g.te_lt _ hu
    rcases Nat.eq_zero_or_eq_succ_pred (i 0).val with hi | hi
    · have hf : word tf (i 0).val = 1#32 := by rw [hi]; exact g.first
      by_cases hn : (word nx (i 0).val).toNat < 2 ^ 31
      · exact start_load c i q bx hbx bo hbo te tf nx nu x y wg wu wd hi hu g.le hf he (g.nx_lt _ hu hn)
      · exact start_last c i q bx hbx bo hbo te tf nx nu x y wg wu wd hi hu g.le hf he hn
    · generalize (i 0).val.pred = t at hi
      have hi : (i 0).val = t + 1 := hi
      by_cases hf : word tf (i 0).val = 1#32
      · have hp := g.turn t (hi ▸ hu) (hi ▸ hf)
        rw [← hi] at hp
        by_cases hn : (word nx (i 0).val).toNat < 2 ^ 31
        · exact turn_load c i q bx hbx bo hbo te tf nx nu x y wg wu wd t hi hu g.le hf he hp (g.te_lt t (by omega)) (g.nx_lt _ hu hn)
        · exact turn_last c i q bx hbx bo hbo te tf nx nu x y wg wu wd t hi hu g.le hf he hp (g.te_lt t (by omega)) hn
      · have hp := g.keep t (hi ▸ hu) (hi ▸ hf)
        rw [← hi] at hp
        exact stay c i q bx hbx bo hbo te tf nx nu x y wg wu wd t hi hu g.le hf he hp.1 hp.2
  · have h := g.pos
    exact spare c i q bx hbx bo hbo te tf nx nu x y wg wu wd ((i 0).val - 1) (by omega) (by omega) g.le (g.past _ (by omega) hlt) (g.te_lt _ (by omega))

end

end Cert.Kernel6Ideal.Experts

end
-- ==== Proof.ExpertsFrame.lean ====
/- The experts' kernel (`Kernel6Ideal`) over its grid: the tables as its pipeline reads them, what every point leaves, the
   run of the whole program with its arrays named, and its frame. -/
module

public import proofs.«01_k».proof.Proof.ExpertsStep

@[expose] public section

set_option maxRecDepth 16384

noncomputable section

namespace Cert.Kernel6Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (Pipeline.UD sig nD τ) ℕ

/-! ## The tables -/

/-- A position clamped to the tiles in use is a tile. -/
theorem clamp_lt (a : ℕ) (ha : a < 164) (x : BitVec 32) :
    (Scalar.minsi (BitVec.ofNat 32 a) (Scalar.maxsi 0#32 x)).toNat < 164 := by
  have h0 : (0#32 : BitVec 32).toInt = 0 := by decide
  have h1 : (BitVec.ofNat 32 a).toNat = a := by rw [BitVec.toNat_ofNat]; exact Nat.mod_eq_of_lt (by omega)
  unfold Scalar.minsi Scalar.maxsi IntOp.minsi IntOp.maxsi
  split_ifs with g1 g2 g2 <;> rw [BitVec.slt_iff_toInt_lt] at * <;> simp only [BitVec.toInt_eq_toNat_cond, h1, BitVec.toNat_ofNat] at * <;> omega

/-- A position in use is not moved. -/
theorem clamp_eq (a n : ℕ) (h : a < n) (hn : n ≤ 164) (x : BitVec 32) (hx : x.toNat = n) :
    (Scalar.minsi (BitVec.ofNat 32 a) (Scalar.maxsi 0#32 (Scalar.subi x 1#32))).toNat = a := by
  obtain rfl : x = BitVec.ofNat 32 n := BitVec.eq_of_toNat_eq (by rw [hx, BitVec.toNat_ofNat]; exact (Nat.mod_eq_of_lt (by omega)).symm)
  have e : (Scalar.subi (BitVec.ofNat 32 n) 1#32) = BitVec.ofNat 32 (n - 1) := by
    apply BitVec.eq_of_toNat_eq
    show (BitVec.ofNat 32 n - 1#32).toNat = _
    rw [BitVec.toNat_sub]; simp only [BitVec.toNat_ofNat]; omega
  rw [e]
  have h1 : (BitVec.ofNat 32 a).toNat = a := by rw [BitVec.toNat_ofNat]; exact Nat.mod_eq_of_lt (by omega)
  have h2 : (BitVec.ofNat 32 (n - 1)).toNat = n - 1 := by rw [BitVec.toNat_ofNat]; exact Nat.mod_eq_of_lt (by omega)
  unfold Scalar.minsi Scalar.maxsi IntOp.minsi IntOp.maxsi
  split_ifs with g1 g2 g2 <;> rw [BitVec.slt_iff_toInt_lt] at * <;> simp only [BitVec.toInt_eq_toNat_cond, h1, h2, BitVec.toNat_ofNat] at * <;> omega

/-- Whatever the tables hold, every block of rows lies in its array. -/
theorem ok_any (pf : pre0.Contents (Elt F)) : ok0 pf := fun i => by
  have hb := clamp_lt (i 0).val (i 0).isLt (Scalar.subi (pf.at 3 (Rect.unit (s := S1) ![0] S1.size inb_S1_S1_0) numel1_S1) 1#32)
  refine ⟨fun a => ?_, .inr (Affine.block_words_dvd (of_decide_eq_true rfl) (by decide))⟩
  match a with
  | ⟨0, _⟩ =>
    show ((Scalar.minsi (BitVec.ofNat 32 (i 0).val) (Scalar.maxsi 0#32 (Scalar.subi (pf.at 3 (Rect.unit (s := S1) ![0] S1.size inb_S1_S1_0) numel1_S1) 1#32))).toNat + 1) * 256 ≤ 41984
    omega
  | ⟨1, _⟩ => exact Nat.le_refl 2048

variable (m : (ℓ : Loc nD τ sig) → Buf (Elt F) ℓ) (ρ : Dev nD → PrngReg)

/-- A buffer as the program finds it. -/
abbrev V (c : Dev nD) (b : Ref sig .tc) : Buf (Elt F) ((c : Thread nD τ).loc b) := m ((c : Thread nD τ).loc b)

/-- The tables as the pipeline reads them. -/
def tbl : pre0.Contents (Elt F) := fun k => m (((0 : Dev nD) : Thread nD τ).loc (pre0.ref k))

/-- They are admissible. -/
def adm : (pcfg0 (F := F)).Adm := ⟨tbl m, ok_any _⟩

/-- The words of the first table, the experts of the tiles; -/
abbrev teW (c : Dev nD) : ℕ → BitVec 32 := word (V m c main_arg0)
/-- of the third, the experts after them; -/
abbrev nxW (c : Dev nD) : ℕ → BitVec 32 := word (V m c main_arg2)
/-- and the number of tiles in use. -/
abbrev nuN (c : Dev nD) : ℕ := (V m c main_arg3 (ix1 0) : BitVec 32).toNat

/-- The tables are well formed. -/
abbrev GoodAt (c : Dev nD) : Prop := Good (word (V m c main_arg0)) (word (V m c main_arg1)) (word (V m c main_arg2)) (V m c main_arg3 (ix1 0))

/-- The launched pipelines at their tables. -/
abbrev pinned : Fin 1 → Cfg sig Λ₀ := Pipeline.pin (pcfgs (F := F)) (fun _ => adm m)

/-! ## The proof data -/

/-- The block of rows of a point. -/
def rowsAt (c : Dev nD) (t : Fin (cfg0 (adm m)).N) : Vec F S256x2048 .bf16 :=
  (((cfg0 (adm m)).win 0).blk t).view.read (Elt F) (V m c main_arg4)

/-- What a point leaves in the result's block. -/
def tileAt (c : Dev nD) (t : Fin (cfg0 (adm m)).N) : Vec F S256x2048 .bf16 :=
  outOf c (rowsAt m c t) (V m c main_arg5) (V m c main_arg6) (V m c main_arg7) (teW m c) (nuN m c) t.val

/-- The invariant before position `n`. -/
def Inv0 (c : Dev nD) (n : ℕ) : sProp 𝕄 :=
  iprop((∃ r, prngReg c r) ∗ tabs c fullShare.right (V m c main_arg0) (V m c main_arg1) (V m c main_arg2) (V m c main_arg3)
    ∗ Inv c (V m c main_arg5) (V m c main_arg6) (V m c main_arg7) (teW m c) (nxW m c) (nuN m c) n)

def dats (_ : Fin 1) (c : Dev nD) : Dat τ (Elt F) Unit ℕ (Pipeline.UD sig nD τ) ℕ (cfg0 (adm m)) c where
  A w := V m c (Pipeline.arrRef spec0 w)
  after w t := match w with
    | ⟨0, _⟩ => rowsAt m c t
    | ⟨1, _⟩ => tileAt m c t
  Φ t := Inv0 m c t.val
  q _ := fullShare
  owed _ := 0

theorem after_0 (c : Dev nD) (t : Fin (cfg0 (adm m)).N) : (dats m 0 c).after 0 t = rowsAt m c t := rfl
theorem after_1 (c : Dev nD) (t : Fin (cfg0 (adm m)).N) : (dats m 0 c).after 1 t = tileAt m c t := rfl

theorem before_0 (c : Dev nD) (t : Fin (cfg0 (adm m)).N) (d) : (dats m 0 c).before 0 t d = rowsAt m c t :=
  Pipeline.Dat.before_in_eq_fetched (dats m 0 c) 0 rfl (fun _ => rfl) (fun _ _ _ => rfl) (fun _ => rfl) t d

theorem pos_val (t : Fin (cfg0 (adm m)).N) : (grid0.coords t 0).val = t.val := by
  have e : (grid0.coords t 0).val = t.val / 1 % 164 := Pipeline.Grid.coords_val (G := grid0) t 0 (by decide) rfl
  have h : t.val < 164 := lt_of_lt_of_eq t.isLt (show (cfg0 (adm m)).N = 164 from N_0)
  rw [e, Nat.div_one]; exact Nat.mod_eq_of_lt h

/-- The result's block is stored at every point. -/
theorem busy (c : Dev nD) (g : GoodAt m c) (t : Fin (cfg0 (adm m)).N) : (cfg0 (adm m)).idle 1 (grid0.coords t) = false := by
  obtain rfl : c = 0 := Subsingleton.elim _ _
  have key : ∀ w : BitVec 32, w = V m 0 main_arg3 (ix1 0) → (!(k0_cond4 (grid0.coords t) w == 1#1) && !(k0_cond5 (grid0.coords t) w == 1#1)) = false := by
    intro w hw
    by_cases h : (grid0.coords t 0).val < nuN m 0
    · rw [(used_iff (grid0.coords t) w (hw ▸ g.le)).mpr (hw ▸ h)]; rfl
    · rw [(spare_iff (grid0.coords t) w (hw ▸ g.le)).mpr (hw ▸ Nat.le_of_not_lt h)]; exact Bool.and_false _
  refine key _ (congrArg (V m 0 main_arg3) ?_)
  funext a; match a with | ⟨0, _⟩ => rfl

/-! ## The slots of the rings -/

/-- A slot's elements in a ring of gate or up projections. -/
def cutW (s : Fin 2) : Finset S2x2048x512.Idx := (Rect.unit (s := S2x2048x512) ![s.val, 0, 0] S1x2048x512.size (in_slotW s.isLt)).set
/-- A slot's elements in the ring of down projections. -/
def cutD (s : Fin 2) : Finset S2x512x2048.Idx := (Rect.unit (s := S2x512x2048) ![s.val, 0, 0] S1x512x2048.size (in_slotD s.isLt)).set

theorem mem_cutW (s : Fin 2) (i : S2x2048x512.Idx) : i ∈ cutW s ↔ (i 0).val = s.val := by
  unfold cutW
  refine (Rect.mem_set_unit (s := S2x2048x512) (inb := in_slotW s.isLt)).trans ⟨fun h => ?_, fun h a => ?_⟩
  · have h0 : s.val ≤ (i 0).val ∧ (i 0).val < s.val + 1 := h 0
    omega
  · match a with
    | ⟨0, _⟩ => exact (show s.val ≤ (i 0).val ∧ (i 0).val < s.val + 1 by omega)
    | ⟨1, _⟩ => exact ⟨Nat.zero_le _, by have := (i 1).isLt; exact (Nat.zero_add _).symm ▸ this⟩
    | ⟨2, _⟩ => exact ⟨Nat.zero_le _, by have := (i 2).isLt; exact (Nat.zero_add _).symm ▸ this⟩
theorem mem_cutD (s : Fin 2) (i : S2x512x2048.Idx) : i ∈ cutD s ↔ (i 0).val = s.val := by
  unfold cutD
  refine (Rect.mem_set_unit (s := S2x512x2048) (inb := in_slotD s.isLt)).trans ⟨fun h => ?_, fun h a => ?_⟩
  · have h0 : s.val ≤ (i 0).val ∧ (i 0).val < s.val + 1 := h 0
    omega
  · match a with
    | ⟨0, _⟩ => exact (show s.val ≤ (i 0).val ∧ (i 0).val < s.val + 1 by omega)
    | ⟨1, _⟩ => exact ⟨Nat.zero_le _, by have := (i 1).isLt; exact (Nat.zero_add _).symm ▸ this⟩
    | ⟨2, _⟩ => exact ⟨Nat.zero_le _, by have := (i 2).isLt; exact (Nat.zero_add _).symm ▸ this⟩

theorem cutW_apart (s s' : Fin 2) (h : s ≠ s') : Disjoint (cutW s) (cutW s') := by
  rw [Finset.disjoint_left]; intro i h1 h2
  rw [mem_cutW] at h1 h2; exact h (Fin.ext (h1.symm.trans h2))
theorem cutD_apart (s s' : Fin 2) (h : s ≠ s') : Disjoint (cutD s) (cutD s') := by
  rw [Finset.disjoint_left]; intro i h1 h2
  rw [mem_cutD] at h1 h2; exact h (Fin.ext (h1.symm.trans h2))
theorem cutW_all : Finset.univ.biUnion cutW = Finset.univ :=
  Finset.eq_univ_of_forall fun i => Finset.mem_biUnion.mpr ⟨⟨(i 0).val, (i 0).isLt⟩, Finset.mem_univ _, (mem_cutW _ i).mpr rfl⟩
theorem cutD_all : Finset.univ.biUnion cutD = Finset.univ :=
  Finset.eq_univ_of_forall fun i => Finset.mem_biUnion.mpr ⟨⟨(i 0).val, (i 0).isLt⟩, Finset.mem_univ _, (mem_cutD _ i).mpr rfl⟩

theorem slotW_set0 (s : Nat) (h : s < 2) : (slotW M10 s (in_slotW h)).view.set = cutW ⟨s, h⟩ :=
  (View.set_reshape _ _).trans (View.set_slice_whole _ _)
theorem slotW_set1 (s : Nat) (h : s < 2) : (slotW M11 s (in_slotW h)).view.set = cutW ⟨s, h⟩ :=
  (View.set_reshape _ _).trans (View.set_slice_whole _ _)
theorem slotD_set (s : Nat) (h : s < 2) : (slotD M12 s (in_slotD h)).view.set = cutD ⟨s, h⟩ :=
  (View.set_reshape _ _).trans (View.set_slice_whole _ _)

theorem split0 (c : Dev nD) : iprop(∃ f : Buf (Elt F) ((c : Thread nD τ).loc cc0_scratch0), ((c : Thread nD τ).loc cc0_scratch0) ↦{fullShare} f)
    ⊢ (iprop((∃ g, own c (slotW M10 0 (in_slotW (by decide))) g) ∗ ∃ g, own c (slotW M10 1 (in_slotW (by decide))) g) : sProp 𝕄) :=
  Ring.slots2_split cutW cutW_apart cutW_all _ _ (fun f => congrArg (fun S => (_ ↦[S]{fullShare} f : sProp 𝕄)) (slotW_set0 0 (by decide))) (fun f => congrArg (fun S => (_ ↦[S]{fullShare} f : sProp 𝕄)) (slotW_set0 1 (by decide)))
theorem split1 (c : Dev nD) : iprop(∃ f : Buf (Elt F) ((c : Thread nD τ).loc cc0_scratch1), ((c : Thread nD τ).loc cc0_scratch1) ↦{fullShare} f)
    ⊢ (iprop((∃ g, own c (slotW M11 0 (in_slotW (by decide))) g) ∗ ∃ g, own c (slotW M11 1 (in_slotW (by decide))) g) : sProp 𝕄) :=
  Ring.slots2_split cutW cutW_apart cutW_all _ _ (fun f => congrArg (fun S => (_ ↦[S]{fullShare} f : sProp 𝕄)) (slotW_set1 0 (by decide))) (fun f => congrArg (fun S => (_ ↦[S]{fullShare} f : sProp 𝕄)) (slotW_set1 1 (by decide)))
theorem split2 (c : Dev nD) : iprop(∃ f : Buf (Elt F) ((c : Thread nD τ).loc cc0_scratch2), ((c : Thread nD τ).loc cc0_scratch2) ↦{fullShare} f)
    ⊢ (iprop((∃ g, own c (slotD M12 0 (in_slotD (by decide))) g) ∗ ∃ g, own c (slotD M12 1 (in_slotD (by decide))) g) : sProp 𝕄) :=
  Ring.slots2_split cutD cutD_apart cutD_all _ _ (fun f => congrArg (fun S => (_ ↦[S]{fullShare} f : sProp 𝕄)) (slotD_set 0 (by decide))) (fun f => congrArg (fun S => (_ ↦[S]{fullShare} f : sProp 𝕄)) (slotD_set 1 (by decide)))
theorem join0 (c : Dev nD) : (iprop((∃ g, own c (slotW M10 0 (in_slotW (by decide))) g) ∗ ∃ g, own c (slotW M10 1 (in_slotW (by decide))) g) : sProp 𝕄)
    ⊢ iprop(∃ f : Buf (Elt F) ((c : Thread nD τ).loc cc0_scratch0), ((c : Thread nD τ).loc cc0_scratch0) ↦{fullShare} f) :=
  Ring.slots2_join cutW cutW_apart cutW_all _ _ (fun f => congrArg (fun S => (_ ↦[S]{fullShare} f : sProp 𝕄)) (slotW_set0 0 (by decide))) (fun f => congrArg (fun S => (_ ↦[S]{fullShare} f : sProp 𝕄)) (slotW_set0 1 (by decide)))
theorem join1 (c : Dev nD) : (iprop((∃ g, own c (slotW M11 0 (in_slotW (by decide))) g) ∗ ∃ g, own c (slotW M11 1 (in_slotW (by decide))) g) : sProp 𝕄)
    ⊢ iprop(∃ f : Buf (Elt F) ((c : Thread nD τ).loc cc0_scratch1), ((c : Thread nD τ).loc cc0_scratch1) ↦{fullShare} f) :=
  Ring.slots2_join cutW cutW_apart cutW_all _ _ (fun f => congrArg (fun S => (_ ↦[S]{fullShare} f : sProp 𝕄)) (slotW_set1 0 (by decide))) (fun f => congrArg (fun S => (_ ↦[S]{fullShare} f : sProp 𝕄)) (slotW_set1 1 (by decide)))
theorem join2 (c : Dev nD) : (iprop((∃ g, own c (slotD M12 0 (in_slotD (by decide))) g) ∗ ∃ g, own c (slotD M12 1 (in_slotD (by decide))) g) : sProp 𝕄)
    ⊢ iprop(∃ f : Buf (Elt F) ((c : Thread nD τ).loc cc0_scratch2), ((c : Thread nD τ).loc cc0_scratch2) ↦{fullShare} f) :=
  Ring.slots2_join cutD cutD_apart cutD_all _ _ (fun f => congrArg (fun S => (_ ↦[S]{fullShare} f : sProp 𝕄)) (slotD_set 0 (by decide))) (fun f => congrArg (fun S => (_ ↦[S]{fullShare} f : sProp 𝕄)) (slotD_set 1 (by decide)))

/-! ## Entering and leaving the grid -/

/-- The kernel's own cells. -/
abbrev osem0 : Fin 6 → SemLoc sig := fun j => (![.dma (semOf 0 0 (in_sem (by decide) (by decide))), .dma (semOf 0 1 (in_sem (by decide) (by decide))),
  .dma (semOf 0 2 (in_sem (by decide) (by decide))), .dma (semOf 1 0 (in_sem (by decide) (by decide))), .dma (semOf 1 1 (in_sem (by decide) (by decide))),
  .dma (semOf 1 2 (in_sem (by decide) (by decide)))] : Fin 6 → SemLoc sig) j

theorem ownSemFacts0 : Pipeline.OwnSemFacts spec0 osem0 := by decide

/-- The buffers no window serves: the three stacks of weights. -/
abbrev H0 : Finset (Ref sig .tc) := ((Finset.univ.filter fun b : Ref sig .tc => ¬ b.isScoped) \ Finset.univ.image (Pipeline.arrRef spec0)) \ Finset.univ.image pre0.ref

theorem H0_sub : H0 ⊆ Pipeline.restRefsP sig pre0 spec0 := by decide

theorem cells_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (semOf 0 0 (in_sem (by decide) (by decide)))) 0
    ∗ semVal ((c : Thread nD τ), SemLoc.dma (semOf 0 1 (in_sem (by decide) (by decide)))) 0
    ∗ semVal ((c : Thread nD τ), SemLoc.dma (semOf 0 2 (in_sem (by decide) (by decide)))) 0
    ∗ semVal ((c : Thread nD τ), SemLoc.dma (semOf 1 0 (in_sem (by decide) (by decide)))) 0
    ∗ semVal ((c : Thread nD τ), SemLoc.dma (semOf 1 1 (in_sem (by decide) (by decide)))) 0
    ∗ semVal ((c : Thread nD τ), SemLoc.dma (semOf 1 2 (in_sem (by decide) (by decide)))) 0) :=
  Pipeline.ownSems0_eq_of_list c osem0 [0, 1, 2, 3, 4, 5] (by decide) (by decide)

theorem tables_eq (c : Dev nD) : (Pipeline.ΦT pre0 (tbl m) c : sProp 𝕄)
    = tabs c fullShare.right (V m c main_arg0) (V m c main_arg1) (V m c main_arg2) (V m c main_arg3) := by
  obtain rfl : c = 0 := Subsingleton.elim _ _
  exact bigSep_univ_eq_bigSepL [(0 : Fin 4), (1 : Fin 4), (2 : Fin 4), (3 : Fin 4)] (by decide) (by decide) _

theorem own_whole6 (c : Dev nD) (f : Buf (Elt F) ((c : Thread nD τ).loc cc0_scratch6)) :
    own (F := F) c (Memref.whole cc0_scratch6) f = (((c : Thread nD τ).loc cc0_scratch6) ↦{fullShare} f : sProp 𝕄) :=
  congrArg (fun S => (((c : Thread nD τ).loc cc0_scratch6) ↦[S]{fullShare} f : sProp 𝕄)) (View.set_whole _)

theorem held_any (c : Dev nD) (wg wu wd) (e : BitVec 32) : held (F := F) c wg wu wd e ⊢ iprop(∃ b3 b4 b5, bufs (F := F) c b3 b4 b5) := by
  unfold held
  split
  · iintro H; iexists _; iexists _; iexists _; iexact H
  · exact .rfl

theorem resting_swap (c : Dev nD) (wg wu wd) : resting (F := F) c wg wu wd 1 0 (by decide) (by decide) ⊢ resting (F := F) c wg wu wd 0 1 (by decide) (by decide) := by
  unfold resting
  iintro ⟨%g0, %g1, %g2, %h0, %h1, %h2, A0, A1, A2, S0, S1, S2, B0, B1, B2, T0, T1, T2, W0, W1, W2⟩
  iexists h0; iexists h1; iexists h2; iexists g0; iexists g1; iexists g2
  isplitl [B0]; · iexact B0
  isplitl [B1]; · iexact B1
  isplitl [B2]; · iexact B2
  isplitl [T0]; · iexact T0
  isplitl [T1]; · iexact T1
  isplitl [T2]; · iexact T2
  isplitl [A0]; · iexact A0
  isplitl [A1]; · iexact A1
  isplitl [A2]; · iexact A2
  isplitl [S0]; · iexact S0
  isplitl [S1]; · iexact S1
  isplitl [S2]; · iexact S2
  isplitl [W0]; · iexact W0
  isplitl [W1]; · iexact W1
  iexact W2

/-- With no expert named the ring is at rest. -/
theorem ring_rest (c : Dev nD) (wg wu wd) {e : BitVec 32} (h : ¬ e.toNat < 32) :
    ring (F := F) c wg wu wd e ⊢ iprop((∃ f, own (F := F) c (Memref.whole cc0_scratch6) f) ∗ resting c wg wu wd 0 1 (by decide) (by decide)) := by
  rw [ring_none c wg wu wd h]
  unfold slotWord
  iintro (⟨⟨%f, -, HS⟩, HR⟩ | ⟨⟨%f, -, HS⟩, HR⟩)
  · isplitl [HS]; · iexists f; iexact HS
    iexact HR
  · isplitl [HS]; · iexists f; iexact HS
    iapply (resting_swap c wg wu wd); iexact HR

/-- The scratch buffers, the cells and the weights as the launch hands them over are the state before the first point. -/
theorem rest_eq (c : Dev nD) : (Pipeline.ΦD osem0 spec0 H0 (V m) c : sProp 𝕄) = iprop(Pipeline.scopedRest spec0 c ∗ (∃ r, prngReg c r)
    ∗ Pipeline.ownSems0 osem0 c ∗ Pipeline.unscopedRestP pre0 spec0 c (V m c)) := rfl

theorem enter (c : Dev nD) : iprop(Pipeline.ΦD osem0 spec0 H0 (V m) c ∗ Pipeline.ΦT pre0 (tbl m) c) ⊢ Inv0 m c 0 := by
  rw [rest_eq, tables_eq, scopedRest0_eq, cells_eq, unscopedRestP0_eq]
  unfold Inv0 Inv resting bufs
  simp only [owns_whole]
  iintro ⟨⟨⟨H0, H1, H2, ⟨%f3, H3⟩, ⟨%f4, H4⟩, ⟨%f5, H5⟩, ⟨%f6, H6⟩⟩, Hg, ⟨S0, S1, S2, T0, T1, T2⟩, W0, W1, W2⟩, HT⟩
  ihave H0 := (split0 c) $$ H0
  ihave H1 := (split1 c) $$ H1
  ihave H2 := (split2 c) $$ H2
  icases H0 with ⟨⟨%g0, A0⟩, ⟨%h0, B0⟩⟩
  icases H1 with ⟨⟨%g1, A1⟩, ⟨%h1, B1⟩⟩
  icases H2 with ⟨⟨%g2, A2⟩, ⟨%h2, B2⟩⟩
  isplitl [Hg]; · iexact Hg
  isplitl [HT]; · iexact HT
  isplitl [H3 H4 H5]
  · iexists f3; iexists f4; iexists f5
    isplitl [H3]; · iexact H3
    isplitl [H4]; · iexact H4
    iexact H5
  isplitl [H6]
  · iexists f6; iapply (Entails.of_eq (own_whole6 c f6).symm); iexact H6
  iexists g0; iexists g1; iexists g2; iexists h0; iexists h1; iexists h2
  isplitl [A0]; · iexact A0
  isplitl [A1]; · iexact A1
  isplitl [A2]; · iexact A2
  isplitl [S0]; · iexact S0
  isplitl [S1]; · iexact S1
  isplitl [S2]; · iexact S2
  isplitl [B0]; · iexact B0
  isplitl [B1]; · iexact B1
  isplitl [B2]; · iexact B2
  isplitl [T0]; · iexact T0
  isplitl [T1]; · iexact T1
  isplitl [T2]; · iexact T2
  isplitl [W0]; · iexact W0
  isplitl [W1]; · iexact W1
  iexact W2

/-- What the last point leaves is what the launch takes back. -/
theorem leave (c : Dev nD) (g : GoodAt m c) : Inv0 m c 164 ⊢ Pipeline.ΦD osem0 spec0 H0 (V m) c := by
  rw [rest_eq, scopedRest0_eq, cells_eq, unscopedRestP0_eq]
  unfold Inv0
  rw [Inv_succ, tileOf_ge (t := 163) g.le]
  iintro ⟨Hg, -, HB, HR⟩
  ihave HB := (held_any c _ _ _ _) $$ HB
  ihave HR := (ring_rest c _ _ _ (fun e => g.stop (Nat.lt_of_lt_of_le e (by decide)))) $$ HR
  unfold resting bufs
  simp only [owns_whole]
  icases HB with ⟨%b3, %b4, %b5, H3, H4, H5⟩
  icases HR with ⟨⟨%f6, H6⟩, %g0, %g1, %g2, %h0, %h1, %h2, A0, A1, A2, S0, S1, S2, B0, B1, B2, T0, T1, T2, W0, W1, W2⟩
  isplitl [A0 A1 A2 B0 B1 B2 H3 H4 H5 H6]
  · isplitl [A0 B0]
    · iapply (join0 c)
      isplitl [A0]; · iexists _; iexact A0
      iexists _; iexact B0
    isplitl [A1 B1]
    · iapply (join1 c)
      isplitl [A1]; · iexists _; iexact A1
      iexists _; iexact B1
    isplitl [A2 B2]
    · iapply (join2 c)
      isplitl [A2]; · iexists _; iexact A2
      iexists _; iexact B2
    isplitl [H3]; · iexists b3; iexact H3
    isplitl [H4]; · iexists b4; iexact H4
    isplitl [H5]; · iexists b5; iexact H5
    iexists f6; iapply (Entails.of_eq (own_whole6 c f6)); iexact H6
  isplitl [Hg]; · iexact Hg
  isplitl [S0 S1 S2 T0 T1 T2]
  · isplitl [S0]; · iexact S0
    isplitl [S1]; · iexact S1
    isplitl [S2]; · iexact S2
    isplitl [T0]; · iexact T0
    isplitl [T1]; · iexact T1
    iexact T2
  isplitl [W0]; · iexact W0
  isplitl [W1]; · iexact W1
  iexact W2

/-! ## The body at a point -/

/-- The point's staging buffers. -/
abbrev stX (t : Fin (cfg0 (adm m)).N) : Memref sig .tc .vmem S256x2048 .bf16 := spec0_0.stage ((cfg0 (adm m)).slots t 0)
abbrev stY (t : Fin (cfg0 (adm m)).N) : Memref sig .tc .vmem S256x2048 .bf16 := spec0_1.stage ((cfg0 (adm m)).slots t 1)

/-- The body at a point. -/
abbrev bodyAt (t : Fin (cfg0 (adm m)).N) : Prog (TpuEff nD τ sig (Elt F) Λ₀ .tc) PUnit :=
  body (grid0.coords t) (stX m t) (hstage0_0 (((cfg0 (adm m)).slots t 0).cast nbuf0_0)) (stY m t) (hstage0_1 (((cfg0 (adm m)).slots t 1).cast nbuf0_1))

theorem defs_row (t : Fin (cfg0 (adm m)).N) :
    defs₀ (F := F) .tc (cfg0 (adm m)).body ((cfg0 (adm m)).bodyArgs t ((cfg0 (adm m)).slots t)) = bodyAt m t := by
  unfold defs₀; rw [Defs.onTc_tc]

/-- What the body finds at a point, -/
def pre (c : Dev nD) (t : Fin (cfg0 (adm m)).N) : sProp 𝕄 :=
  iprop((dats m 0 c).Φ t.castSucc ∗ (dats m 0 c).owesAt () t.castSucc
    ∗ (∃ d, owns (c : Thread nD τ) (stX m t) fullShare ((dats m 0 c).before 0 t d))
    ∗ (∃ d, owns (c : Thread nD τ) (stY m t) fullShare ((dats m 0 c).before 1 t d)))

/-- and what it leaves. -/
def post (c : Dev nD) (t : Fin (cfg0 (adm m)).N) : sProp 𝕄 :=
  iprop((dats m 0 c).Φ t.succ ∗ (dats m 0 c).owesAt () t.succ
    ∗ owns (c : Thread nD τ) (stX m t) fullShare ((dats m 0 c).after 0 t)
    ∗ owns (c : Thread nD τ) (stY m t) fullShare ((dats m 0 c).after 1 t))

theorem sound (c : Dev nD) (g : GoodAt m c) (t : Fin (cfg0 (adm m)).N) :
    pre m c t ⊢ wp frame (wpE (defs₀ (F := F)) Variants.none c none) Set.univ (bodyAt m t) (fun _ => post m c t) := by
  unfold pre post
  simp only [before_0]
  rw [after_0, after_1, show (dats m 0 c).Φ t.castSucc = Inv0 m c (grid0.coords t 0).val from congrArg (Inv0 m c) (pos_val m t).symm,
    show (dats m 0 c).Φ t.succ = Inv0 m c ((grid0.coords t 0).val + 1) from congrArg (fun n => Inv0 m c (n + 1)) (pos_val m t).symm]
  rw [show tileAt m c t = outOf c (rowsAt m c t) (V m c main_arg5) (V m c main_arg6) (V m c main_arg7) (teW m c) (nuN m c) (grid0.coords t 0).val
    from congrArg (outOf c (rowsAt m c t) (V m c main_arg5) (V m c main_arg6) (V m c main_arg7) (teW m c) (nuN m c)) (pos_val m t).symm]
  unfold Inv0
  iintro ⟨⟨Hg, HT, HI⟩, Ho, ⟨%d0, H0⟩, ⟨%d1, H1⟩⟩
  unfold Pipeline.Dat.owesAt
  icases Ho with ⟨%W, -, Ho⟩
  iapply (step c (grid0.coords t) fullShare.right (stX m t) _ (stY m t) _ (V m c main_arg0) (V m c main_arg1) (V m c main_arg2) (V m c main_arg3)
    (rowsAt m c t) ((dats m 0 c).before 1 t d1) (V m c main_arg5) (V m c main_arg6) (V m c main_arg7) g W _)
  isplitl [HT]; · iexact HT
  isplitl [H0]; · iexact H0
  isplitl [H1]; · iexact H1
  isplitl [HI]; · iexact HI
  isplitl [Ho]; · iexact Ho
  iintro ⟨HT, H0, H1, HI, ⟨%W', Ho⟩⟩
  isplitl [Hg HT HI]
  · isplitl [Hg]; · iexact Hg
    isplitl [HT]; · iexact HT
    iexact HI
  isplitl [Ho]
  · iexists W'; isplitr; · ipureintro; exact fun x _ => Or.inl (Set.mem_univ x)
    iexact Ho
  isplitl [H0]; · iexact H0
  iexact H1

/-- A window stored at a point is left at what the body leaves. -/
theorem stored {b f : Bool} (h : b = false) (P Q R : sProp 𝕄) :
    R ⊢ (match (generalizing := false) b with | true => (match (generalizing := false) f with | false => P | true => Q) | false => R) := by
  subst h; exact .rfl

theorem obligation (c : Dev nD) (g : GoodAt m c) : BodyObligation (dats (F := F) m 0 c) (defs₀ (F := F)) Variants.none () Set.univ := fun t => by
  rw [bigSep_W0, bigSep_W0, defs_row]
  refine triple_restated (sound m c g t) rfl .rfl fun _ => ?_
  unfold post
  refine sep_mono .rfl (sep_mono .rfl (sep_mono .rfl ?_))
  exact stored (f := ((cfg0 (adm m)).win 1).flush t) (busy m c g t) (iprop(∃ d, owns (c : Thread nD τ) (stY m t) fullShare ((dats m 0 c).before 1 t d)))
    (owns (c : Thread nD τ) (stY m t) fullShare ((dats m 0 c).after 1 t)) (owns (c : Thread nD τ) (stY m t) fullShare ((dats m 0 c).after 1 t))

/-! ## The run and the frame -/

set_option backward.isDefEq.respectTransparency.types false in
/-- Every weakly fair execution ends with the arrays at what the proof data name, every other buffer unchanged, and every
    semaphore at zero. -/
theorem run (g : ∀ c, GoodAt m c) : θ_run defs (onTc (τ := τ) (main (F := F))) ⟨m, fun _ => 0, ρ⟩ fun r =>
    Pipeline.FramePost (pinned m) (dats m) 0 (V m) r ∧ r.2.sem = fun _ => 0 :=
  Pipeline.θ_run_frameP_dma (Q' := _) pcfgs (fun _ => adm m) (dats m) (0 : Fin 1) (launch0 (F := F)) osem0 defs₀ Variants.none
    ownSemFacts0 H0 H0_sub m ρ main
    (hbody := fun c => (obligation m c (g c)).loose)
    (hshare := fun c => (dats m 0 c).share_full fun _ => rfl)
    (howed := fun _ _ => rfl) (V := V m)
    (hmain := Pipeline.hmainP_region pcfgs 0 defs₀ Variants.none m main (fun c => rfl))
    (hA := fun _ _ => rfl)
    (hpf := fun c k => by obtain rfl : c = 0 := Subsingleton.elim _ _; rfl)
    (hin := fun c => enter m c) (hout := fun c => leave m c (g c))

theorem arr_in (c : Dev nD) : (dats m 0 c).arrAt 0 (cfg0 (adm m)).N = V m c main_arg4 := (dats m 0 c).arrAt_in 0 rfl _

/-- The frame: the argument arrays end unchanged and every semaphore at zero. -/
theorem frame (g : ∀ c, GoodAt m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h.1 c).2 main_arg0 (show main_arg0 ∈ Pipeline.restRefs sig spec0 by decide), (h.1 c).2 main_arg1 (show main_arg1 ∈ Pipeline.restRefs sig spec0 by decide), (h.1 c).2 main_arg2 (show main_arg2 ∈ Pipeline.restRefs sig spec0 by decide),
    (h.1 c).2 main_arg3 (show main_arg3 ∈ Pipeline.restRefs sig spec0 by decide), ((h.1 c).1 0).trans (arr_in m c), (h.1 c).2 main_arg5 (show main_arg5 ∈ Pipeline.restRefs sig spec0 by decide), (h.1 c).2 main_arg6 (show main_arg6 ∈ Pipeline.restRefs sig spec0 by decide),
    (h.1 c).2 main_arg7 (show main_arg7 ∈ Pipeline.restRefs sig spec0 by decide)⟩, h.2⟩) (run m ρ g)

end Cert.Kernel6Ideal.Experts

end
-- ==== Proof.ExpertsPre.lean ====
/- What the precondition on the experts' tables says, read as facts about the tables' words. -/
module

public import proofs.«01_k».proof.Defs
public import proofs.«01_k».proof.Proof.Gen.Pre_tables
public import proofs.«01_k».proof.Proof.ExpertsFrame

@[expose] public section

set_option maxRecDepth 16384

noncomputable section

namespace Cert.Kernel6Ideal.Experts

open Idealize.ShloMosaic Idealize.ShloMosaic.TcCoe Idealize.SL.Sem

variable {F : FTy → Type} [FloatOps F]

/-! The bits of the precondition, as propositions. -/

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem not_one (a : BitVec 1) : (~~~ a) = 1#1 ↔ ¬ a = 1#1 := by revert a; decide
theorem ofBool_one (p : Bool) : BitVec.ofBool p = 1#1 ↔ p = true := by cases p <;> decide

theorem eq_one (a b : BitVec 32) : IntOp.cmpi .eq a b = 1#1 ↔ a = b := by
  simp only [IntOp.cmpi, ofBool_one, beq_iff_eq]
theorem ne_one (a b : BitVec 32) : IntOp.cmpi .ne a b = 1#1 ↔ ¬ a = b := by
  simp only [IntOp.cmpi, ofBool_one, bne_iff_ne, ne_eq]
theorem slt_one (a b : BitVec 32) : IntOp.cmpi .slt a b = 1#1 ↔ a.toInt < b.toInt := by
  simp only [IntOp.cmpi, ofBool_one, BitVec.slt_eq_decide, decide_eq_true_eq]
theorem sle_one (a b : BitVec 32) : IntOp.cmpi .sle a b = 1#1 ↔ a.toInt ≤ b.toInt := by
  simp only [IntOp.cmpi, ofBool_one, BitVec.sle_eq_decide, decide_eq_true_eq]
theorem sge_one (a b : BitVec 32) : IntOp.cmpi .sge a b = 1#1 ↔ b.toInt ≤ a.toInt := by
  simp only [IntOp.cmpi, ofBool_one, BitVec.sle_eq_decide, decide_eq_true_eq]

theorem sel_one (c a b : BitVec 1) : Scalar.select c a b = 1#1 ↔ (c = 1#1 ∧ a = 1#1) ∨ (¬ c = 1#1 ∧ b = 1#1) := by
  revert c a b; decide

theorem one_index (x : S1.Idx) : x = ix1 0 := by
  funext a; have : a = 0 := Subsingleton.elim _ _; subst this; exact Subsingleton.elim (α := Fin 1) _ _

theorem squeeze_word (f : S1.Idx → BitVec 32) (h) (x : Cert.Pre_tables.S_.Idx) : shapeCast Cert.Pre_tables.S_ f h x = f (ix1 0) :=
  congrArg f (one_index _)

theorem word_of (f : S164.Idx → BitVec 32) (t : Fin 164) : f (ix1 t) = word f t.val := by
  simp only [word, t.isLt, dif_pos, Fin.eta]

theorem slice_word (f : S164.Idx → BitVec 32) (o : ℕ) (h) (t : Fin 163) (ho : o + t.val < 164) :
    extractStridedSlice Cert.Pre_tables.S163 ![o] f h (ix1 t) = f (ix1 ⟨o + t.val, ho⟩) :=
  congrArg f (funext fun a => by have : a = 0 := Subsingleton.elim _ _; subst this; rfl)

theorem slice_bit (f : S164.Idx → BitVec 1) (o : ℕ) (h) (t : Fin 163) (ho : o + t.val < 164) :
    extractStridedSlice Cert.Pre_tables.S163 ![o] f h (ix1 t) = f (ix1 ⟨o + t.val, ho⟩) :=
  congrArg f (funext fun a => by have : a = 0 := Subsingleton.elim _ _; subst this; rfl)

variable (te tf nx : S164.Idx → BitVec 32) (nu : S1.Idx → BitVec 32)
  (x : FVec F S41984x2048 .bf16) (wg wu : FVec F S2x32x2048x512 .f32) (wd : FVec F S2x32x512x2048 .f32)

/-- The number of tiles used, and the first tile's mark. -/
theorem head_facts (h : (Cert.Pre_tables.fn (F := F) te tf nx nu x wg wu wd).1 = fun _ => 1#1) :
    (1 ≤ (nu (ix1 0)).toInt ∧ (nu (ix1 0)).toInt ≤ 164) ∧ word tf 0 = 1#32 := by
  have e := congrFun h (fun a => a.elim0)
  simp only [Cert.Pre_tables.fn, Cert.Pre_tables.fn_part1, Cert.Pre_tables.fn_part2, andi, cmpi, and_one, sge_one, sle_one, eq_one, squeeze_word, constantI] at e
  refine ⟨⟨by simpa using e.1.1, by simpa using e.1.2⟩, ?_⟩
  rw [← e.2]
  exact (word_of tf 0).symm.trans (congrArg tf (funext fun a => by have : a = 0 := Subsingleton.elim _ _; subst this; rfl))

/-- Each tile's word: inside the used ones the expert is one of 32 and so is the next, past them no run begins. -/
theorem tile_facts (h : (Cert.Pre_tables.fn (F := F) te tf nx nu x wg wu wd).2.1 = fun _ => 1#1) (t : Fin 164) :
    ((BitVec.ofNat 32 t.val).toInt < (nu (ix1 0)).toInt ∧ ((0 ≤ (word te t.val).toInt ∧ (word te t.val).toInt < 32) ∧ (word nx t.val).toInt < 32))
      ∨ (¬ (BitVec.ofNat 32 t.val).toInt < (nu (ix1 0)).toInt ∧ ¬ word tf t.val = 1#32) := by
  have e := congrFun h (ix1 t)
  simp only [Cert.Pre_tables.fn, Cert.Pre_tables.fn_part1, Cert.Pre_tables.fn_part2, Cert.Pre_tables.fn_where, andi, cmpi, select, sel_one, and_one, sge_one,
    slt_one, ne_one, broadcastInDim, squeeze_word, constantI, iotaInDim, word_of] at e
  simpa using e

/-- The last tile used has no next expert. -/
theorem stop_facts (h : (Cert.Pre_tables.fn (F := F) te tf nx nu x wg wu wd).2.2.1 = fun _ => 1#1) (t : Fin 164) :
    ¬ BitVec.ofNat 32 t.val = nu (ix1 0) - 1#32 ∨ (word nx t.val).toInt < 0 := by
  have e := congrFun h (ix1 t)
  simp only [Cert.Pre_tables.fn, Cert.Pre_tables.fn_part1, Cert.Pre_tables.fn_part2, ori, cmpi, or_one, slt_one, ne_one, broadcastInDim, subi, IntOp.subi,
    squeeze_word, constantI, iotaInDim, word_of] at e
  simpa using e

/-- Where a run begins the tile before names its expert as the next; inside a run nothing changes. -/
theorem turn_facts (h : (Cert.Pre_tables.fn (F := F) te tf nx nu x wg wu wd).2.2.2 = fun _ => 1#1) (t : Fin 163) :
    ((word tf (t.val + 1) = 1#32 ∧ word nx t.val = word te (t.val + 1))
      ∨ (¬ word tf (t.val + 1) = 1#32 ∧ word te (t.val + 1) = word te t.val ∧ word nx (t.val + 1) = word nx t.val))
      ∨ ¬ (BitVec.ofNat 32 (t.val + 1)).toInt < (nu (ix1 0)).toInt := by
  have e := congrFun h (ix1 t)
  have l0 : 0 + t.val < 164 := by omega
  have l1 : 1 + t.val < 164 := by omega
  simp only [Cert.Pre_tables.fn, Cert.Pre_tables.fn_part1, Cert.Pre_tables.fn_part2, Cert.Pre_tables.fn_where_0, andi, ori, noti, cmpi, select, sel_one,
    and_one, or_one, not_one, slt_one, eq_one, slice_word _ _ _ _ l0, slice_word _ _ _ _ l1, slice_bit _ _ _ _ l1, broadcastInDim, squeeze_word, constantI,
    iotaInDim, word_of] at e
  simpa [Nat.add_comm 1] using e

/-- The precondition makes the tables good. -/
theorem good_of (h : (Cert.Pre_tables.fn (F := F) te tf nx nu x wg wu wd).1 = (fun _ => 1#1)
      ∧ (Cert.Pre_tables.fn (F := F) te tf nx nu x wg wu wd).2.1 = (fun _ => 1#1)
      ∧ (Cert.Pre_tables.fn (F := F) te tf nx nu x wg wu wd).2.2.1 = (fun _ => 1#1)
      ∧ (Cert.Pre_tables.fn (F := F) te tf nx nu x wg wu wd).2.2.2 = fun _ => 1#1) :
    Good (word te) (word tf) (word nx) (nu (ix1 0)) := by
  obtain ⟨h1, h2, h3, h4⟩ := h
  obtain ⟨⟨hp, hl⟩, hf⟩ := head_facts te tf nx nu x wg wu wd h1
  have T := tile_facts te tf nx nu x wg wu wd h2
  have S := stop_facts te tf nx nu x wg wu wd h3
  have U := turn_facts te tf nx nu x wg wu wd h4
  clear h1 h2 h3 h4
  generalize nu (ix1 0) = n at *
  have small : ∀ k : ℕ, k < 164 → (BitVec.ofNat 32 k).toInt = (k : ℤ) := fun k hk => by
    rw [BitVec.toInt_eq_toNat_cond, BitVec.toNat_ofNat]; simp only [Nat.reducePow]; split_ifs <;> omega
  have hn : n.toInt = (n.toNat : ℤ) := by
    rw [BitVec.toInt_eq_toNat_cond] at hp hl ⊢; have := n.isLt; split_ifs at * <;> omega
  have word_int : ∀ w : BitVec 32, 0 ≤ w.toInt → w.toInt < 32 → w.toNat < 32 := fun w a b => by
    rw [BitVec.toInt_eq_toNat_cond] at a b; have := w.isLt; split_ifs at * <;> omega
  have pos_int : ∀ w : BitVec 32, w.toNat < 2 ^ 31 → 0 ≤ w.toInt := fun w a => by
    rw [BitVec.toInt_eq_toNat_cond]; split_ifs <;> omega
  rw [hn] at hp hl T U
  refine ⟨by omega, by omega, hf, fun t ht => ?_, fun t ht hx => ?_, ?_, fun t ht h164 => ?_, fun t ht hx => ?_, fun t ht hx => ?_⟩
  · rcases T ⟨t, by omega⟩ with a | a
    · exact word_int _ a.2.1.1 a.2.1.2
    · exact absurd (by rw [small t (by omega)]; omega) a.1
  · rcases T ⟨t, by omega⟩ with a | a
    · exact word_int _ (pos_int _ hx) a.2.2
    · exact absurd (by rw [small t (by omega)]; omega) a.1
  · intro hx
    rcases S ⟨n.toNat - 1, by omega⟩ with a | a
    · refine a (BitVec.eq_of_toNat_eq ?_)
      rw [BitVec.toNat_ofNat, BitVec.toNat_sub, BitVec.toNat_ofNat]; have := n.isLt; simp only [Nat.reducePow, Nat.reduceMod] at *; omega
    · exact absurd (pos_int _ hx) (by simpa using a)
  · rcases T ⟨t, h164⟩ with a | a
    · have := a.1; rw [small t h164] at this; omega
    · exact a.2
  · rcases U ⟨t, by omega⟩ with (a | a) | a
    · exact a.2
    · exact absurd hx a.1
    · exact absurd (by rw [small (t + 1) (by omega)]; omega) a
  · rcases U ⟨t, by omega⟩ with (a | a) | a
    · exact absurd a.1 hx
    · exact a.2
    · exact absurd (by rw [small (t + 1) (by omega)]; omega) a

theorem goodAt_of (m : (ℓ : Loc nD τ sig) → Buf (Elt Ideal) ℓ) (h : Cert.Pre_Kernel6Ideal m) (c : Dev nD) : GoodAt m c :=
  good_of (F := Ideal) _ _ _ _ _ _ _ _ (h c)

end Cert.Kernel6Ideal.Experts

end
-- ==== Proof.ExpertsRef.lean ====
/- The reference's term of the experts' value, in pieces and at an index. -/
module

public import proofs.«01_k».proof.Proof.ExpertsPre
public import proofs.«01_k».proof.Proof.Gen.Reference6Ideal.Run
public import Idealize.ShloMosaic.Lib.Pipeline.ValueKit
public import Idealize.ShloMosaic.Lib.Pipeline.ReadBack

@[expose] public section

set_option maxRecDepth 16384

noncomputable section

namespace Cert.Kernel6Ideal.Experts

open Idealize.ShloMosaic Idealize.ShloMosaic.TcCoe Idealize.SL.Sem
open Cert.Kernel6Ideal Cert.Kernel6Ideal.Gen

variable (x : FVec Ideal S41984x2048 .bf16) (wg wu : FVec Ideal S2x32x2048x512 .f32) (wd : FVec Ideal S2x32x512x2048 .f32)
  (te : IVec S164 32) (nu : IVec S1 32)

/-- Every row's product with every expert's projection. -/
def INTO (w : FVec Ideal S2x32x2048x512 .f32) : FVec Ideal Cert.Reference6Ideal.S41984x32x512 .f32 :=
  Host.dotGeneral Cert.Reference6Ideal.dot_S41984x2048_S32x2048x512_S41984x32x512_1_1_0_02_n_n none (extf .f32 x Cert.Reference6Ideal.Gen.bitsLt_bf16_f32) (shapeCast _ (extractStridedSlice Cert.Reference6Ideal.S1x32x2048x512 ![1, 0, 0, 0] w Cert.Reference6Ideal.Gen.slices_S2x32x2048x512_S1x32x2048x512_1_0_0_0) Cert.Reference6Ideal.Gen.shapeCasts_S1x32x2048x512_S32x2048x512)

/-- One where the row's tile is used and is the expert's, zero elsewhere. -/
def ROUTE : FVec Ideal Cert.Reference6Ideal.S41984x32 .f32 :=
  shapeCast _ (broadcastInDim Cert.Reference6Ideal.S164x256x32 ![0, 2] Cert.Reference6Ideal.Gen.bcast_S164x32_S164x256x32_0_2 (uitofp .f32 (andi (cmpi .eq (broadcastInDim Cert.Reference6Ideal.S164x32 ![0, 1] Cert.Reference6Ideal.Gen.bcast_S164x1_S164x32_0_1 (broadcastInDim Cert.Reference6Ideal.S164x1 ![0] Cert.Reference6Ideal.Gen.bcast_S164_S164x1_0 te)) (broadcastInDim Cert.Reference6Ideal.S164x32 ![0, 1] Cert.Reference6Ideal.Gen.bcast_S1x32_S164x32_0_1 (broadcastInDim Cert.Reference6Ideal.S1x32 ![1] Cert.Reference6Ideal.Gen.bcast_S32_S1x32_1 (iotaInDim Cert.Reference6Ideal.S32 32 0)))) (broadcastInDim Cert.Reference6Ideal.S164x32 ![0, 1] Cert.Reference6Ideal.Gen.bcast_S164x1_S164x32_0_1 (broadcastInDim Cert.Reference6Ideal.S164x1 ![0] Cert.Reference6Ideal.Gen.bcast_S164_S164x1_0 (cmpi .slt (iotaInDim Cert.Reference6Ideal.S164 32 0) (broadcastInDim Cert.Reference6Ideal.S164 ![] Cert.Reference6Ideal.Gen.bcast_S_S164 (shapeCast _ nu Cert.Reference6Ideal.Gen.shapeCasts_S1_S_)))))))) Cert.Reference6Ideal.Gen.shapeCasts_S164x256x32_S41984x32

/-- The gated rows of every expert, routed. -/
def MIX : FVec Ideal Cert.Reference6Ideal.S41984x32x512 .f32 :=
  mulf (mulf (mulf (INTO x wg) (Host.divf (broadcastInDim Cert.Reference6Ideal.S41984x32x512 ![] Cert.Reference6Ideal.Gen.bcast_S_S41984x32x512 (constant Cert.Reference6Ideal.S_ .f32 0x3F800000#32)) (addf (broadcastInDim Cert.Reference6Ideal.S41984x32x512 ![] Cert.Reference6Ideal.Gen.bcast_S_S41984x32x512 (constant Cert.Reference6Ideal.S_ .f32 0x3F800000#32)) (Host.exp (Host.negf (INTO x wg)))))) (INTO x wu)) (broadcastInDim Cert.Reference6Ideal.S41984x32x512 ![0, 1, 2] Cert.Reference6Ideal.Gen.bcast_S41984x32x1_S41984x32x512_0_1_2 (broadcastInDim Cert.Reference6Ideal.S41984x32x1 ![0, 1] Cert.Reference6Ideal.Gen.bcast_S41984x32_S41984x32x1_0_1 (ROUTE te nu)))

/-- The reference's term over the argument arrays. -/
def REF : FVec Ideal S41984x2048 .bf16 :=
  truncf .bf16 (Host.dotGeneral Cert.Reference6Ideal.dot_S41984x32x512_S32x512x2048_S41984x2048_12_01_0_2_n_n none (MIX x wg wu te nu) (shapeCast _ (extractStridedSlice Cert.Reference6Ideal.S1x32x512x2048 ![1, 0, 0, 0] wd Cert.Reference6Ideal.Gen.slices_S2x32x512x2048_S1x32x512x2048_1_0_0_0) Cert.Reference6Ideal.Gen.shapeCasts_S1x32x512x2048_S32x512x2048)) Cert.Reference6Ideal.Gen.bitsLt_bf16_f32

theorem INTO_at (w : FVec Ideal S2x32x2048x512 .f32) (r : Fin 41984) (e : Fin 32) (f : Fin 512) :
    INTO x w (ix3 r e f) = ∑ k : Fin 2048, x (ix2 r k) * w (ix4 1 e k f) := by
  unfold INTO
  pointwise

theorem bit_zero {b : BitVec 1} (h : ¬ b = 1#1) : b = 0#1 := by revert b; decide

theorem ROUTE_at (r : Fin 41984) (e : Fin 32) (t : Fin 164) (a : Fin 256) (h : r.val = t.val * 256 + a.val) :
    ROUTE te nu (ix2 r e) = if te (ix1 t) = BitVec.ofNat 32 e.val ∧ (BitVec.ofNat 32 t.val).toInt < (nu (ix1 0)).toInt then (1 : EReal) else 0 := by
  have eb : (t.val * 256 + a.val) / 256 = t.val := by omega
  have hR : r = ⟨t.val * 256 + a.val, by clear h; omega⟩ := Fin.ext h
  subst hR
  unfold ROUTE
  pointwise [eb]
  have e0 : (FloatOps.uitofp FTy.f32 0#1 : Ideal .f32) = (0 : EReal) := by
    show ((((0#1).toNat : ℕ) : ℝ) : EReal) = 0
    simp
  have e1 : (FloatOps.uitofp FTy.f32 1#1 : Ideal .f32) = (1 : EReal) := by
    show ((((1#1).toNat : ℕ) : ℝ) : EReal) = 1
    simp
  split_ifs with q
  · rw [(and_one _ _).mpr ⟨(eq_one _ _).mpr q.1, (slt_one _ _).mpr q.2⟩, e1]
  · rw [bit_zero (fun z => q ⟨(eq_one _ _).mp ((and_one _ _).mp z).1, (slt_one _ _).mp ((and_one _ _).mp z).2⟩), e0]

/-- A gate's value and its partner's, joined. -/
def GATED (g u : EReal) : EReal := g * Ideal.div 1 (1 + Ideal.exp (-g)) * u

theorem MIX_at (r : Fin 41984) (e : Fin 32) (f : Fin 512) :
    MIX x wg wu te nu (ix3 r e f) = GATED (INTO x wg (ix3 r e f)) (INTO x wu (ix3 r e f)) * ROUTE te nu (ix2 r e) := by
  unfold MIX
  generalize INTO x wg = g
  generalize INTO x wu = u
  generalize ROUTE te nu = p
  pointwise [GATED]

theorem REF_at (r : Fin 41984) (j : Fin 2048) :
    REF x wg wu wd te nu (ix2 r j) = ∑ e : Fin 32, ∑ f : Fin 512, MIX x wg wu te nu (ix3 r e f) * wd (ix4 1 e f j) := by
  unfold REF
  generalize MIX x wg wu te nu = p
  pointwise

/-- Where the row's tile is used the reference's term is its expert's alone, -/
theorem REF_used (r : Fin 41984) (j : Fin 2048) (t : Fin 164) (a : Fin 256) (h : r.val = t.val * 256 + a.val) (e : Fin 32)
    (he : te (ix1 t) = BitVec.ofNat 32 e.val) (hn : (BitVec.ofNat 32 t.val).toInt < (nu (ix1 0)).toInt) :
    REF x wg wu wd te nu (ix2 r j)
      = ∑ f : Fin 512, GATED (∑ k : Fin 2048, x (ix2 r k) * wg (ix4 1 e k f)) (∑ k : Fin 2048, x (ix2 r k) * wu (ix4 1 e k f)) * wd (ix4 1 e f j) := by
  rw [REF_at, Finset.sum_eq_single e]
  · refine Finset.sum_congr rfl fun f _ => ?_
    rw [MIX_at, ROUTE_at te nu r e t a h, if_pos ⟨he, hn⟩, mul_one, INTO_at, INTO_at]
  · intro e' _ ne
    refine Finset.sum_eq_zero fun f _ => ?_
    rw [MIX_at, ROUTE_at te nu r e' t a h, if_neg, mul_zero, zero_mul]
    rintro ⟨q, -⟩
    refine ne (Fin.ext ?_)
    have := congrArg BitVec.toNat (q.symm.trans he)
    have h1 := e.isLt
    have h2 := e'.isLt
    simp only [BitVec.toNat_ofNat] at this
    omega
  · exact fun q => absurd (Finset.mem_univ e) q

/-- and past the used tiles it is zero. -/
theorem REF_spare (r : Fin 41984) (j : Fin 2048) (t : Fin 164) (a : Fin 256) (h : r.val = t.val * 256 + a.val)
    (hn : ¬ (BitVec.ofNat 32 t.val).toInt < (nu (ix1 0)).toInt) : REF x wg wu wd te nu (ix2 r j) = 0 := by
  rw [REF_at]
  refine Finset.sum_eq_zero fun e _ => Finset.sum_eq_zero fun f _ => ?_
  rw [MIX_at, ROUTE_at te nu r e t a h, if_neg fun q => hn q.2, mul_zero, zero_mul]

/-! ## The kernel's blocks at an index -/

theorem pay4_at (xb : Vec Ideal S256x2048 .bf16) (g u : Vec Ideal S2048x512 .bf16) (d : Vec Ideal S512x2048 .bf16) (a : Fin 256) (j : Fin 2048) :
    k0_pay4 xb g u d (ix2 a j)
      = ∑ f : Fin 512, GATED (∑ k : Fin 2048, xb (ix2 a k) * g (ix2 k f)) (∑ k : Fin 2048, xb (ix2 a k) * u (ix2 k f)) * d (ix2 f j) := by
  pointwise [k0_pay4, GATED]
  simp only [zero_sub]

theorem pay5_at (a : Fin 256) (j : Fin 2048) : k0_pay5 (F := Ideal) (ix2 a j) = (0 : EReal) := by
  pointwise [k0_pay5]

variable (c : Dev nD)

/-- A projection squeezed and rounded, at an index. -/
theorem casts_at (y : FVec Ideal S1x1x2048x512 .f32) (h : S1x1x2048x512.ShapeCasts S2048x512) (k : Fin 2048) (f : Fin 512) :
    (k0_pay1 (truncf .bf16 (shapeCast S2048x512 y h) bitsLt_bf16_f32) (ix2 k f) : EReal) = y (ix4 0 0 k f) := by
  pointwise [k0_pay1]

theorem castsD_at (y : FVec Ideal S1x1x512x2048 .f32) (h : S1x1x512x2048.ShapeCasts S512x2048) (f : Fin 512) (j : Fin 2048) :
    (shapeCast S512x2048 (truncf .bf16 (shapeCast S512x2048 y h) bitsLt_bf16_f32) shapeCasts_S512x2048_S512x2048 (ix2 f j) : EReal) = y (ix4 0 0 f j) := by
  pointwise

variable (w : FVec Ideal S2x32x2048x512 .f32)

/-- An expert's gate projection at an index. -/
theorem gate_at {e : ℕ} (he : e < 32) (k : Fin 2048) (f : Fin 512) :
    (gateOf (F := Ideal) c w he (ix2 k f) : EReal) = w (ix4 1 ⟨e, he⟩ k f) := by
  unfold gateOf
  rw [Memref.read_squeeze_slice M5 _ _ _ (by decide : S1x1x2048x512.ShapeCasts S2048x512)]
  have key : View.readAt (Elt Ideal) M5.view (Rect.unit (s := S2x32x2048x512) ![1, e, 0, 0] S1x1x2048x512.size (in_srcW he)).toLoadRect w
      (ix4 0 0 k f) = w (ix4 1 ⟨e, he⟩ k f) :=
    congrArg w (funext fun q => Fin.ext (match q with
      | ⟨0, _⟩ => rfl | ⟨1, _⟩ => rfl
      | ⟨2, _⟩ => (by show 0 + 1 * k.val = k.val; omega) | ⟨3, _⟩ => (by show 0 + 1 * f.val = f.val; omega)))
  rw [← key]
  exact casts_at _ _ _ _

/-- An expert's up projection at an index. -/
theorem up_at {e : ℕ} (he : e < 32) (k : Fin 2048) (f : Fin 512) :
    (upOf (F := Ideal) c w he (ix2 k f) : EReal) = w (ix4 1 ⟨e, he⟩ k f) := by
  unfold upOf
  rw [Memref.read_squeeze_slice M6 _ _ _ (by decide : S1x1x2048x512.ShapeCasts S2048x512)]
  have key : View.readAt (Elt Ideal) M6.view (Rect.unit (s := S2x32x2048x512) ![1, e, 0, 0] S1x1x2048x512.size (in_srcW he)).toLoadRect w
      (ix4 0 0 k f) = w (ix4 1 ⟨e, he⟩ k f) :=
    congrArg w (funext fun q => Fin.ext (match q with
      | ⟨0, _⟩ => rfl | ⟨1, _⟩ => rfl
      | ⟨2, _⟩ => (by show 0 + 1 * k.val = k.val; omega) | ⟨3, _⟩ => (by show 0 + 1 * f.val = f.val; omega)))
  rw [← key]
  exact casts_at _ _ _ _

/-- An expert's down projection at an index. -/
theorem down_at {e : ℕ} (he : e < 32) (f : Fin 512) (j : Fin 2048) :
    (downOf (F := Ideal) c wd he (ix2 f j) : EReal) = wd (ix4 1 ⟨e, he⟩ f j) := by
  unfold downOf
  rw [Memref.read_squeeze_slice M7 _ _ _ (by decide : S1x1x512x2048.ShapeCasts S512x2048)]
  have key : View.readAt (Elt Ideal) M7.view (Rect.unit (s := S2x32x512x2048) ![1, e, 0, 0] S1x1x512x2048.size (in_srcD he)).toLoadRect wd
      (ix4 0 0 f j) = wd (ix4 1 ⟨e, he⟩ f j) :=
    congrArg wd (funext fun q => Fin.ext (match q with
      | ⟨0, _⟩ => rfl | ⟨1, _⟩ => rfl
      | ⟨2, _⟩ => (by show 0 + 1 * f.val = f.val; omega) | ⟨3, _⟩ => (by show 0 + 1 * j.val = j.val; omega)))
  rw [← key]
  exact castsD_at _ _ _ _

end Cert.Kernel6Ideal.Experts

end
-- ==== Proof.ExpertsVal.lean ====
/- The value of the experts' kernel (`Kernel6Ideal`): its array is the reference's term. -/
module

public import proofs.«01_k».proof.Proof.ExpertsRef
public import Idealize.ShloMosaic.Lib.Pipeline.Covers

@[expose] public section

set_option maxRecDepth 16384

noncomputable section

namespace Cert.Kernel6Ideal.Experts

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The result's block of a point is the tile of its number. -/
theorem out_index (t : Fin (cfg0 (adm m)).N) : ((cfg0 (adm m)).win 1).index t = ![t.val, 0] := by
  have hN : t.val < 164 := lt_of_lt_of_eq t.isLt (show (cfg0 (adm m)).N = 164 from N_0)
  have hp := pos_val m t
  funext a
  match a with
  | ⟨0, _⟩ =>
    show (BitVec.ofNat 32 (grid0.coords t 0).val).toNat = t.val
    rw [off_val, hp]
  | ⟨1, _⟩ => rfl

/-- The rows' block of a tile in use is the tile's. -/
theorem rows_index (t : Fin (cfg0 (adm m)).N) (g : GoodAt m 0) (h : t.val < nuN m 0) : ((cfg0 (adm m)).win 0).index t = ![t.val, 0] := by
  have hp := pos_val m t
  funext a
  match a with
  | ⟨0, _⟩ =>
    show (Scalar.minsi (BitVec.ofNat 32 (grid0.coords t 0).val) (Scalar.maxsi 0#32 (Scalar.subi ((tbl m).at 3 (Rect.unit (s := S1) ![0] S1.size inb_S1_S1_0) numel1_S1) 1#32))).toNat = t.val
    rw [hp]
    have key : ∀ w : BitVec 32, w = V m 0 main_arg3 (ix1 0) → (Scalar.minsi (BitVec.ofNat 32 t.val) (Scalar.maxsi 0#32 (Scalar.subi w 1#32))).toNat = t.val :=
      fun w hw => clamp_eq t.val (nuN m 0) h g.le w (congrArg BitVec.toNat hw)
    refine key _ (congrArg (V m 0 main_arg3) ?_)
    funext a; match a with | ⟨0, _⟩ => rfl
  | ⟨1, _⟩ => rfl

/-- The result's block at an index. -/
theorem oread (t : Fin (cfg0 (adm m)).N) (r : Fin 256) (j : Fin 2048) (hr : t.val * 256 + r.val < 41984) :
    (((cfg0 (adm m)).win 1).blk t).view.emb (ix2 r j) = (ix2 ⟨t.val * 256 + r.val, hr⟩ j : S41984x2048.Idx) := by
  blk_ext [out_index m t]

/-- The rows' block at an index. -/
theorem rread (t : Fin (cfg0 (adm m)).N) (g : GoodAt m 0) (h : t.val < nuN m 0) (r : Fin 256) (k : Fin 2048) (hr : t.val * 256 + r.val < 41984) :
    (rowsAt m 0 t : FVec Ideal S256x2048 .bf16) (ix2 r k) = (m (((0 : Dev nD) : Thread nD τ).loc main_arg4) : FVec Ideal S41984x2048 .bf16) (ix2 ⟨t.val * 256 + r.val, hr⟩ k) := by
  blk_ext [rowsAt, rows_index m t g h]

/-- Every block index of the result is a point's. -/
theorem out_surj (β : (a : Fin 2) → Fin ((S41984x2048.size a + S256x2048.size a - 1) / S256x2048.size a)) :
    ∃ t : Fin grid0.N, ∀ a : Fin 2, cc0_transform_4 (grid0.coords t) a = (β a).val := by
  have h0 : (β 0).val < 164 := (β 0).isLt
  have h1 : (β 1).val < 1 := (β 1).isLt
  have hN : grid0.N = 164 := N_0
  refine ⟨⟨(β 0).val, by omega⟩, fun a => ?_⟩
  match a with
  | ⟨0, _⟩ =>
    show (BitVec.ofNat 32 (grid0.coords ⟨(β 0).val, _⟩ 0).val).toNat = (β 0).val
    have e : (grid0.coords ⟨(β 0).val, by omega⟩ 0).val = (β 0).val / 1 % 164 := Pipeline.Grid.coords_val (G := grid0) _ 0 (by decide) rfl
    rw [off_val, e]; omega
  | ⟨1, _⟩ => exact (Nat.lt_one_iff.mp h1).symm

/-- The result's blocks cover its array. -/
theorem covers : ((cfg0 (adm m)).win 1).Covers :=
  Pipeline.Window.covers_of_index_surj _ rfl (show ∀ a : Fin 2, 0 < S256x2048.size a by decide) fun β => out_surj β

/-- A block's index by its coordinates. -/
theorem coords_of (y : S256x2048.Idx) : ∃ (r : Fin 256) (j : Fin 2048), y = ix2 r j :=
  ⟨y 0, y 1, by funext a; fin_cases a <;> rfl⟩

/-- The reference's term over the argument arrays. -/
abbrev REFm : FVec Ideal S41984x2048 .bf16 :=
  REF (m (((0 : Dev nD) : Thread nD τ).loc main_arg4)) (m (((0 : Dev nD) : Thread nD τ).loc main_arg5)) (m (((0 : Dev nD) : Thread nD τ).loc main_arg6))
    (m (((0 : Dev nD) : Thread nD τ).loc main_arg7)) (m (((0 : Dev nD) : Thread nD τ).loc main_arg0)) (m (((0 : Dev nD) : Thread nD τ).loc main_arg3))

/-- What a point stores, at a block index, is the reference's term there. -/
theorem point (t : Fin (cfg0 (adm m)).N) (g : GoodAt m 0) (r : Fin 256) (j : Fin 2048) (hr : t.val * 256 + r.val < 41984) :
    (tileAt m 0 t (ix2 r j) : EReal) = REFm m (ix2 ⟨t.val * 256 + r.val, hr⟩ j) := by
  have hN : t.val < 164 := lt_of_lt_of_eq t.isLt (show (cfg0 (adm m)).N = 164 from N_0)
  have hle : nuN m 0 ≤ 164 := g.le
  have ht : (BitVec.ofNat 32 t.val).toInt = (t.val : ℤ) := by
    rw [BitVec.toInt_eq_toNat_cond, BitVec.toNat_ofNat]; simp only [Nat.reducePow]; split_ifs <;> omega
  have hn : (V m 0 main_arg3 (ix1 0) : BitVec 32).toInt = (nuN m 0 : ℤ) := by
    have small : ∀ w : BitVec 32, w.toNat ≤ 164 → w.toInt = (w.toNat : ℤ) := fun w hw => by
      rw [BitVec.toInt_eq_toNat_cond]; split_ifs <;> omega
    exact small _ hle
  unfold tileAt outOf
  by_cases h : t.val < nuN m 0
  · have he : (teW m 0 t.val).toNat < 32 := g.te_lt t.val h
    rw [if_pos h, tileOut_of _ _ _ _ _ he, pay4_at]
    refine Eq.trans ?_ (REF_used _ _ _ _ _ _ ⟨t.val * 256 + r.val, hr⟩ j ⟨t.val, hN⟩ r rfl ⟨(teW m 0 t.val).toNat, he⟩
        ((word_of _ ⟨t.val, hN⟩).trans (BitVec.eq_of_toNat_eq (by
          rw [BitVec.toNat_ofNat]; exact (Nat.mod_eq_of_lt (lt_trans he (by decide))).symm))) (by
          show (BitVec.ofNat 32 t.val).toInt < (V m 0 main_arg3 (ix1 0) : BitVec 32).toInt
          rw [ht, hn]; omega)).symm
    refine Finset.sum_congr rfl fun f _ => ?_
    rw [down_at]
    congr 2
    · exact Finset.sum_congr rfl fun k _ => by rw [gate_at, rread m t g h r k hr]
    · exact Finset.sum_congr rfl fun k _ => by rw [up_at, rread m t g h r k hr]
  · rw [if_neg h, pay5_at]
    exact (REF_spare _ _ _ _ _ _ ⟨t.val * 256 + r.val, hr⟩ j ⟨t.val, hN⟩ r rfl (by
      show ¬ (BitVec.ofNat 32 t.val).toInt < (V m 0 main_arg3 (ix1 0) : BitVec 32).toInt
      rw [ht, hn]; omega)).symm

/-- The result array after the run is the reference's term. -/
theorem final (g : GoodAt m 0) : (dats m 0 0).arrAt 1 (cfg0 (adm m)).N = REFm m := by
  refine (dats m 0 0).arrAt_eq_of_covers 1 _ (covers m) fun t _ y => ?_
  blk_simp
  rw [after_1]
  have hN : t.val < 164 := lt_of_lt_of_eq t.isLt (show (cfg0 (adm m)).N = 164 from N_0)
  obtain ⟨r, j, rfl⟩ := coords_of y
  have hr : t.val * 256 + r.val < 41984 := by omega
  rw [oread m t r j hr]
  exact point m t g r j hr

end Cert.Kernel6Ideal.Experts

end
-- ==== Proof.ExpertsClaims.lean ====
/- The claims of the experts' kernel: its frames, its reference's, and its value. -/
module

public import proofs.«01_k».proof.Proof.ExpertsVal
public import proofs.«01_k».proof.Proof.Gen.Kernel6
public import proofs.«01_k».proof.Proof.Gen.Reference6Ideal.Run

@[expose] public section

set_option maxRecDepth 16384

noncomputable section

namespace Cert.Proof

open Idealize.ShloMosaic Idealize.ShloMosaic.TcCoe Idealize.SL.Sem

/-- The two body tables of the experts' programs are one. -/
theorem defs_six (hK : Cert.Kernel6.Facts := Cert.Kernel6.Gen.facts) (hI : Cert.Kernel6Ideal.Facts := Cert.Kernel6Ideal.Gen.facts) :
    @Cert.Kernel6.defs Bits _ hK = @Cert.Kernel6Ideal.defs Bits _ hI := by sl_kernel_rfl

/-- The frame of `Kernel6`. -/
theorem quiescent_k6 : Cert.quiescent_Kernel6 (hKernel6 := Cert.Kernel6.Gen.facts) (hPre_tables := Cert.Pre_tables.Gen.facts) := by
  intro m ρ h
  rw [defs_six]
  exact (θ_run Cert.Kernel6Ideal.defs _ _).mono (fun _ h => ⟨fun c => h.1 c, h.2⟩)
    (Cert.Kernel6Ideal.Experts.frame (F := Bits) m ρ fun c => Cert.Kernel6Ideal.Experts.good_of (F := Bits) _ _ _ _ _ _ _ _ (h c))

/-- The frame of `Kernel6Ideal`. -/
theorem quiescent_k6i : Cert.quiescent_Kernel6Ideal (hKernel6Ideal := Cert.Kernel6Ideal.Gen.facts) (hPre_tables := Cert.Pre_tables.Gen.facts) := fun m ρ h =>
  Cert.Kernel6Ideal.Experts.frame m ρ fun c => Cert.Kernel6Ideal.Experts.goodAt_of m h c

/-- The frame of `Reference6Ideal`. -/
theorem quiescent_r6 : Cert.quiescent_Reference6Ideal (hReference6Ideal := Cert.Reference6Ideal.Gen.facts) := fun m g _ =>
  (θ_run Cert.Reference6Ideal.defs _ _).mono (fun _ h => ⟨fun c => (h c).2, funext fun s => nomatch s.2⟩)
    (Cert.Reference6Ideal.Value.run m g)

/-- The same under the precondition. -/
theorem quiescent_r6_pre : Cert.quiescent_Reference6Ideal_pre_tables (hReference6Ideal := Cert.Reference6Ideal.Gen.facts) (hPre_tables := Cert.Pre_tables.Gen.facts) :=
  fun m g _ =>
  (θ_run Cert.Reference6Ideal.defs _ _).mono (fun _ h => ⟨fun c => (h c).2, funext fun s => nomatch s.2⟩)
    (Cert.Reference6Ideal.Value.run m g)

/-- The run of `Kernel6Ideal` with its result named. -/
theorem run_six (m : (ℓ : Loc Cert.Kernel6Ideal.nD Cert.Kernel6Ideal.τ Cert.Kernel6Ideal.sig) → Buf (Elt Ideal) ℓ) (ρ : Dev Cert.Kernel6Ideal.nD → PrngReg)
    (g : ∀ c, Cert.Kernel6Ideal.Experts.GoodAt m c) :
    θ_run (Cert.Kernel6Ideal.defs (F := Ideal)) (onTc (τ := Cert.Kernel6Ideal.τ) (Cert.Kernel6Ideal.main (F := Ideal))) ⟨m, fun _ => 0, ρ⟩ (fun r => ∀ c : Dev Cert.Kernel6Ideal.nD,
      r.2.mem ((c.tc : Thread Cert.Kernel6Ideal.nD Cert.Kernel6Ideal.τ).loc Cert.Kernel6Ideal.main_v0) = Cert.Kernel6Ideal.Experts.REFm m) :=
  (θ_run Cert.Kernel6Ideal.defs _ _).mono (fun r h c => by
    obtain rfl : c = 0 := Subsingleton.elim _ _
    exact ((h.1 0).1 1).trans (Cert.Kernel6Ideal.Experts.final m (g 0))) (Cert.Kernel6Ideal.Experts.run m ρ g)

/-- The value of `Kernel6Ideal` is `Reference6Ideal`'s. -/
theorem algebraic_6 : Cert.algebraic_Kernel6Ideal_Reference6Ideal
    (hKernel6Ideal := Cert.Kernel6Ideal.Gen.facts) (hReference6Ideal := Cert.Reference6Ideal.Gen.facts) (hPre_tables := Cert.Pre_tables.Gen.facts) :=
  fun m g m' g' hp hag => ⟨fun c => Cert.Kernel6Ideal.Experts.REFm m,
    (θ_run Cert.Kernel6Ideal.defs _ _).mono (fun _ h c => ⟨h.1 c, h.2.1 c⟩)
      (θ_run_and (run_six m g fun c => Cert.Kernel6Ideal.Experts.goodAt_of m hp c)
        (Cert.Kernel6Ideal.Experts.frame m g fun c => Cert.Kernel6Ideal.Experts.goodAt_of m hp c)),
    (θ_run Cert.Reference6Ideal.defs _ _).mono (fun _ h c => by
      obtain rfl : c = 0 := Subsingleton.elim _ _
      obtain ⟨e0, e1, e2, e3, e4, e5, e6, e7⟩ := hag 0
      refine ⟨(h 0).1.trans ?_, (h 0).2⟩
      rw [e0, e3, e4, e5, e6, e7]
      rfl)
      (Cert.Reference6Ideal.Value.run m' g')⟩

end Cert.Proof

end
-- ==== Proof.FirstRun.lean ====
/- One grid point of the first layer's experts' kernel (`Kernel7Ideal`), run on any whole buffers. -/
module

public import proofs.«01_k».proof.Proof.Gen.Kernel7Ideal.Launch
public import proofs.«01_k».proof.Proof.Gen.Kernel7Ideal.Skeleton
public import Idealize.ShloMosaic.Lib.Pipeline.Frame
public import Idealize.ShloMosaic.Lib.Pipeline.FrameBody
public import Idealize.ShloMosaic.Lib.Ring
public import Idealize.ShloMosaic.Lib.PageRing.WordAt
public import Idealize.ShloMosaic.Lib.Tactic
public import Idealize.ShloMosaic.Lib.WordCmp
public import Idealize.ShloMosaic.Lib.VecWindow

@[expose] public section

set_option maxRecDepth 16384

noncomputable section

namespace Cert.Kernel7Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen

variable {F : FTy → Type} [FloatOps F]

local notation "𝕄" => MT nD τ sig Unit (Elt F) ℕ (Pipeline.UD sig nD τ) ℕ

/-- A slot of a two-slot ring of gate or up projections. -/
abbrev slotW (M : Memref sig .tc .vmem S2x2048x512 .f32) (s : Nat)
    (h : ∀ a, (![s, 0, 0] : Fin 3 → Nat) a + S1x2048x512.size a ≤ S2x2048x512.size a) : Memref sig .tc .vmem S2048x512 .f32 :=
  (M.slice (Rect.unit (s := S2x2048x512) ![s, 0, 0] S1x2048x512.size h) (fun _ => rfl)).squeeze S2048x512 squeezes_S1x2048x512_S2048x512

/-- A slot of the two-slot ring of down projections. -/
abbrev slotD (M : Memref sig .tc .vmem S2x512x2048 .f32) (s : Nat)
    (h : ∀ a, (![s, 0, 0] : Fin 3 → Nat) a + S1x512x2048.size a ≤ S2x512x2048.size a) : Memref sig .tc .vmem S512x2048 .f32 :=
  (M.slice (Rect.unit (s := S2x512x2048) ![s, 0, 0] S1x512x2048.size h) (fun _ => rfl)).squeeze S512x2048 squeezes_S1x512x2048_S512x2048

/-- An expert's gate or up projection in the stacked weights. -/
abbrev srcW (M : Memref sig .tc .hbm S2x32x2048x512 .f32) (e : Nat)
    (h : ∀ a, (![0, e, 0, 0] : Fin 4 → Nat) a + S1x1x2048x512.size a ≤ S2x32x2048x512.size a) : Memref sig .tc .hbm S2048x512 .f32 :=
  (M.slice (Rect.unit (s := S2x32x2048x512) ![0, e, 0, 0] S1x1x2048x512.size h) (fun _ => rfl)).squeeze S2048x512 squeezes_S1x1x2048x512_S2048x512

/-- An expert's down projection in the stacked weights. -/
abbrev srcD (M : Memref sig .tc .hbm S2x32x512x2048 .f32) (e : Nat)
    (h : ∀ a, (![0, e, 0, 0] : Fin 4 → Nat) a + S1x1x512x2048.size a ≤ S2x32x512x2048.size a) : Memref sig .tc .hbm S512x2048 .f32 :=
  (M.slice (Rect.unit (s := S2x32x512x2048) ![0, e, 0, 0] S1x1x512x2048.size h) (fun _ => rfl)).squeeze S512x2048 squeezes_S1x1x512x2048_S512x2048

/-- A slot or a block held by its own elements. -/
abbrev own (c : Dev nD) {sp} {s : Shape} {e : EltTy} (M : Memref sig .tc sp s e) (f : Buf (Elt F) (M.view.loc (c : Thread nD τ))) : sProp 𝕄 :=
  iprop(M.view.loc (c : Thread nD τ) ↦[M.view.set]{fullShare} f)

/-- The cell of a slot's copy. -/
abbrev semOf (s k : Nat) (h : ∀ a, (![s, k] : Fin 2 → Nat) a + S1x1.size a ≤ S2x3.size a) : DmaSem sig :=
  ((cc0_scratch7.slice (Rect.unit (s := S2x3) ![s, k] S1x1.size h)).squeeze S_ squeezes_S1x1_S_).sem

/-- What a copy leaves in its slot. -/
abbrev landed (c : Dev nD) {sp sp'} {s : Shape} {e : EltTy} (src : Memref sig .tc sp s e) (dst : Memref sig .tc sp' s e)
    (f : Buf (Elt F) (src.view.loc (c : Thread nD τ))) (g : Buf (Elt F) (dst.view.loc (c : Thread nD τ))) : Buf (Elt F) (dst.view.loc (c : Thread nD τ)) :=
  dst.view.writes (Elt F) g [⟨Rect.whole s, ReadAs.same.apply (src.view.read (Elt F) f)⟩]

/-- A copy on its way into a slot. -/
abbrev flying (c : Dev nD) {sp sp'} {s : Shape} {e : EltTy} (sm : DmaSem sig) (src : Memref sig .tc sp s e) (dst : Memref sig .tc sp' s e)
    (f : Buf (Elt F) (src.view.loc (c : Thread nD τ))) (g : Buf (Elt F) (dst.view.loc (c : Thread nD τ))) : sProp 𝕄 :=
  Transfers.Flight (countersEmb (U := Pipeline.UD sig nD τ)) (c : Thread nD τ) (.dma sm) () (dst.view.amount (SemLoc.dma (sig := sig) sm))
    iprop(own c dst (landed c src dst f g) ∗ own c src f)

abbrev M10 : Memref sig .tc .vmem S2x2048x512 .f32 := Memref.whole cc0_scratch0
abbrev M11 : Memref sig .tc .vmem S2x2048x512 .f32 := Memref.whole cc0_scratch1
abbrev M12 : Memref sig .tc .vmem S2x512x2048 .f32 := Memref.whole cc0_scratch2
abbrev M5 : Memref sig .tc .hbm S2x32x2048x512 .f32 := Memref.whole main_arg5
abbrev M6 : Memref sig .tc .hbm S2x32x2048x512 .f32 := Memref.whole main_arg6
abbrev M7 : Memref sig .tc .hbm S2x32x512x2048 .f32 := Memref.whole main_arg7

theorem in_slotW {s : Nat} (h : s < 2) : ∀ a, (![s, 0, 0] : Fin 3 → Nat) a + S1x2048x512.size a ≤ S2x2048x512.size a := fun a => by
  match a with
  | ⟨0, _⟩ => exact h
  | ⟨1, _⟩ => exact Nat.le_of_eq (Nat.zero_add _)
  | ⟨2, _⟩ => exact Nat.le_of_eq (Nat.zero_add _)
theorem in_slotD {s : Nat} (h : s < 2) : ∀ a, (![s, 0, 0] : Fin 3 → Nat) a + S1x512x2048.size a ≤ S2x512x2048.size a := fun a => by
  match a with
  | ⟨0, _⟩ => exact h
  | ⟨1, _⟩ => exact Nat.le_of_eq (Nat.zero_add _)
  | ⟨2, _⟩ => exact Nat.le_of_eq (Nat.zero_add _)
theorem in_srcW {e : Nat} (h : e < 32) : ∀ a, (![0, e, 0, 0] : Fin 4 → Nat) a + S1x1x2048x512.size a ≤ S2x32x2048x512.size a := fun a => by
  match a with
  | ⟨0, _⟩ => exact (by decide : 0 + 1 ≤ 2)
  | ⟨1, _⟩ => exact h
  | ⟨2, _⟩ => exact Nat.le_of_eq (Nat.zero_add _)
  | ⟨3, _⟩ => exact Nat.le_of_eq (Nat.zero_add _)
theorem in_srcD {e : Nat} (h : e < 32) : ∀ a, (![0, e, 0, 0] : Fin 4 → Nat) a + S1x1x512x2048.size a ≤ S2x32x512x2048.size a := fun a => by
  match a with
  | ⟨0, _⟩ => exact (by decide : 0 + 1 ≤ 2)
  | ⟨1, _⟩ => exact h
  | ⟨2, _⟩ => exact Nat.le_of_eq (Nat.zero_add _)
  | ⟨3, _⟩ => exact Nat.le_of_eq (Nat.zero_add _)
theorem in_sem {s k : Nat} (h : s < 2) (h' : k < 3) : ∀ a, (![s, k] : Fin 2 → Nat) a + S1x1.size a ≤ S2x3.size a := fun a => by
  match a with
  | ⟨0, _⟩ => exact h
  | ⟨1, _⟩ => exact h'

/-- One expert's block out of a whole stack of gate or up projections. -/
theorem takeW (c : Dev nD) (M : Memref sig .tc .hbm S2x32x2048x512 .f32) {ℓ : Loc nD τ sig} (hl : ℓ = M.view.loc (c : Thread nD τ)) {e' : Nat} (h') (f : Buf (Elt F) ℓ) :
    (ℓ ↦[Finset.univ]{fullShare} f : sProp 𝕄)
      ⊢ iprop(own c (srcW M e' h') (hl ▸ f) ∗ (M.view.loc (c : Thread nD τ) ↦[Finset.univ \ (srcW M e' h').view.set]{fullShare} (hl ▸ f))) := by
  subst hl
  exact (pointsTo_split_subset (Finset.subset_univ (srcW M e' h').view.set)).1

/-- One expert's block out of a whole stack of down projections. -/
theorem takeD (c : Dev nD) (M : Memref sig .tc .hbm S2x32x512x2048 .f32) {ℓ : Loc nD τ sig} (hl : ℓ = M.view.loc (c : Thread nD τ)) {e' : Nat} (h') (f : Buf (Elt F) ℓ) :
    (ℓ ↦[Finset.univ]{fullShare} f : sProp 𝕄)
      ⊢ iprop(own c (srcD M e' h') (hl ▸ f) ∗ (M.view.loc (c : Thread nD τ) ↦[Finset.univ \ (srcD M e' h').view.set]{fullShare} (hl ▸ f))) := by
  subst hl
  exact (pointsTo_split_subset (Finset.subset_univ (srcD M e' h').view.set)).1

variable (c : Dev nD) (i : grid0.Coords) (q : PosShare TreeShare)
  (bx : Memref sig .tc .vmem S256x2048 .bf16) (hbx : bx.IsWhole) (bo : Memref sig .tc .vmem S256x2048 .bf16) (hbo : bo.IsWhole)
  (te : Buf (Elt F) ((c : Thread nD τ).loc main_arg0)) (tf : Buf (Elt F) ((c : Thread nD τ).loc main_arg1))
  (nx : Buf (Elt F) ((c : Thread nD τ).loc main_arg2)) (nu : Buf (Elt F) ((c : Thread nD τ).loc main_arg3))
  (x y : Vec F S256x2048 .bf16)
  (wg : Buf (Elt F) ((c : Thread nD τ).loc main_arg5)) (wu : Buf (Elt F) ((c : Thread nD τ).loc main_arg6)) (wd : Buf (Elt F) ((c : Thread nD τ).loc main_arg7))

/-- The four tables. -/
abbrev tabs : sProp 𝕄 :=
  iprop((((Memref.whole main_arg0).view.loc (c : Thread nD τ)) ↦[Finset.univ]{q} te) ∗ (((Memref.whole main_arg1).view.loc (c : Thread nD τ)) ↦[Finset.univ]{q} tf)
    ∗ (((Memref.whole main_arg2).view.loc (c : Thread nD τ)) ↦[Finset.univ]{q} nx) ∗ (((Memref.whole main_arg3).view.loc (c : Thread nD τ)) ↦[Finset.univ]{q} nu))

/-- The word naming the slot in use. -/
def slotWord (s : Nat) : sProp 𝕄 :=
  iprop(∃ f : Buf (Elt F) ((c : Thread nD τ).loc cc0_scratch6), ⌜PageRing.WordAt (Memref.whole cc0_scratch6) ![0] inb_S1_S1_0 f (BitVec.ofNat 32 s)⌝ ∗ own c (Memref.whole cc0_scratch6) f)

/-- Slot `s` awaits expert `e`'s three copies; the other slot `o` is at rest. -/
def waiting (s o : Nat) (hs : s < 2) (ho : o < 2) {e : Nat} (he : e < 32) : sProp 𝕄 :=
  iprop(∃ g0 g1 g2 h0 h1 h2,
    flying c (semOf s 0 (in_sem hs (by decide))) (srcW M5 e (in_srcW he)) (slotW M10 s (in_slotW hs)) wg g0
    ∗ flying c (semOf s 1 (in_sem hs (by decide))) (srcW M6 e (in_srcW he)) (slotW M11 s (in_slotW hs)) wu g1
    ∗ flying c (semOf s 2 (in_sem hs (by decide))) (srcD M7 e (in_srcD he)) (slotD M12 s (in_slotD hs)) wd g2
    ∗ own c (slotW M10 o (in_slotW ho)) h0 ∗ own c (slotW M11 o (in_slotW ho)) h1 ∗ own c (slotD M12 o (in_slotD ho)) h2
    ∗ semVal ((c : Thread nD τ), SemLoc.dma (semOf o 0 (in_sem ho (by decide)))) 0
    ∗ semVal ((c : Thread nD τ), SemLoc.dma (semOf o 1 (in_sem ho (by decide)))) 0
    ∗ semVal ((c : Thread nD τ), SemLoc.dma (semOf o 2 (in_sem ho (by decide)))) 0
    ∗ (M5.view.loc (c : Thread nD τ) ↦[Finset.univ \ (srcW M5 e (in_srcW he)).view.set]{fullShare} wg)
    ∗ (M6.view.loc (c : Thread nD τ) ↦[Finset.univ \ (srcW M6 e (in_srcW he)).view.set]{fullShare} wu)
    ∗ (M7.view.loc (c : Thread nD τ) ↦[Finset.univ \ (srcD M7 e (in_srcD he)).view.set]{fullShare} wd))

/-- No copy is on its way: both slots `s` and `o` at rest, every cell at zero, the weights whole. -/
def resting (s o : Nat) (hs : s < 2) (ho : o < 2) : sProp 𝕄 :=
  iprop(∃ g0 g1 g2 h0 h1 h2,
    own c (slotW M10 s (in_slotW hs)) g0 ∗ own c (slotW M11 s (in_slotW hs)) g1 ∗ own c (slotD M12 s (in_slotD hs)) g2
    ∗ semVal ((c : Thread nD τ), SemLoc.dma (semOf s 0 (in_sem hs (by decide)))) 0
    ∗ semVal ((c : Thread nD τ), SemLoc.dma (semOf s 1 (in_sem hs (by decide)))) 0
    ∗ semVal ((c : Thread nD τ), SemLoc.dma (semOf s 2 (in_sem hs (by decide)))) 0
    ∗ own c (slotW M10 o (in_slotW ho)) h0 ∗ own c (slotW M11 o (in_slotW ho)) h1 ∗ own c (slotD M12 o (in_slotD ho)) h2
    ∗ semVal ((c : Thread nD τ), SemLoc.dma (semOf o 0 (in_sem ho (by decide)))) 0
    ∗ semVal ((c : Thread nD τ), SemLoc.dma (semOf o 1 (in_sem ho (by decide)))) 0
    ∗ semVal ((c : Thread nD τ), SemLoc.dma (semOf o 2 (in_sem ho (by decide)))) 0
    ∗ (M5.view.loc (c : Thread nD τ) ↦[Finset.univ]{fullShare} wg)
    ∗ (M6.view.loc (c : Thread nD τ) ↦[Finset.univ]{fullShare} wu)
    ∗ (M7.view.loc (c : Thread nD τ) ↦[Finset.univ]{fullShare} wd))

/-- Expert `e`'s gate projection, rounded. -/
def gateOf {e : Nat} (he : e < 32) : Vec F S2048x512 .bf16 := k0_pay1 (truncf .bf16 (View.read (Elt F) (srcW M5 e (in_srcW he)).view wg) bitsLt_bf16_f32)
/-- Expert `e`'s up projection, rounded. -/
def upOf {e : Nat} (he : e < 32) : Vec F S2048x512 .bf16 := k0_pay1 (truncf .bf16 (View.read (Elt F) (srcW M6 e (in_srcW he)).view wu) bitsLt_bf16_f32)
/-- Expert `e`'s down projection, rounded. -/
def downOf {e : Nat} (he : e < 32) : Vec F S512x2048 .bf16 := shapeCast S512x2048 (truncf .bf16 (View.read (Elt F) (srcD M7 e (in_srcD he)).view wd) bitsLt_bf16_f32) shapeCasts_S512x2048_S512x2048

theorem gate_load {s : Nat} (hs : s < 2) {e : Nat} (he : e < 32) (g : Buf (Elt F) ((c : Thread nD τ).loc cc0_scratch0)) :
    k0_pay1 (k0_pay6 (View.readAt (Elt F) (Memref.whole cc0_scratch0).view (Rect.unit (s := S2x2048x512) ![s, 0, 0] S1x2048x512.size (in_slotW hs)).toLoadRect
      (landed c (srcW M5 e (in_srcW he)) (slotW M10 s (in_slotW hs)) wg g))) = gateOf c wg he :=
  congrArg (fun v => k0_pay1 (truncf .bf16 v bitsLt_bf16_f32))
    (View.read_writes_whole (slotW M10 s (in_slotW hs)).view g (ReadAs.same.apply (View.read (Elt F) (srcW M5 e (in_srcW he)).view wg)))

theorem up_load {s : Nat} (hs : s < 2) {e : Nat} (he : e < 32) (g : Buf (Elt F) ((c : Thread nD τ).loc cc0_scratch1)) :
    k0_pay2 (View.readAt (Elt F) (Memref.whole cc0_scratch1).view (Rect.unit (s := S2x2048x512) ![s, 0, 0] S1x2048x512.size (in_slotW hs)).toLoadRect
      (landed c (srcW M6 e (in_srcW he)) (slotW M11 s (in_slotW hs)) wu g)) = upOf c wu he :=
  congrArg (fun v => k0_pay1 (truncf .bf16 v bitsLt_bf16_f32))
    (View.read_writes_whole (slotW M11 s (in_slotW hs)).view g (ReadAs.same.apply (View.read (Elt F) (srcW M6 e (in_srcW he)).view wu)))

theorem down_load {s : Nat} (hs : s < 2) {e : Nat} (he : e < 32) (g : Buf (Elt F) ((c : Thread nD τ).loc cc0_scratch2)) :
    k0_pay3 (View.readAt (Elt F) (Memref.whole cc0_scratch2).view (Rect.unit (s := S2x512x2048) ![s, 0, 0] S1x512x2048.size (in_slotD hs)).toLoadRect
      (landed c (srcD M7 e (in_srcD he)) (slotD M12 s (in_slotD hs)) wd g)) = downOf c wd he :=
  congrArg (fun v => shapeCast S512x2048 (truncf .bf16 v bitsLt_bf16_f32) shapeCasts_S512x2048_S512x2048)
    (View.read_writes_whole (slotD M12 s (in_slotD hs)).view g (ReadAs.same.apply (View.read (Elt F) (srcD M7 e (in_srcD he)).view wd)))

/-- The three rounded projections at hand. -/
abbrev bufs (b3 : Vec F S2048x512 .bf16) (b4 : Vec F S2048x512 .bf16) (b5 : Vec F S512x2048 .bf16) : sProp 𝕄 :=
  iprop(owns (c : Thread nD τ) (Memref.whole cc0_scratch3) fullShare b3 ∗ owns (c : Thread nD τ) (Memref.whole cc0_scratch4) fullShare b4
    ∗ owns (c : Thread nD τ) (Memref.whole cc0_scratch5) fullShare b5)

/-- The kernel at one point, on the buffers given. -/
abbrev body (i : grid0.Coords) (bx : Memref sig .tc .vmem S256x2048 .bf16) (hbx : bx.IsWhole) (bo : Memref sig .tc .vmem S256x2048 .bf16) (hbo : bo.IsWhole) :
    Prog (TpuEff nD τ sig (Elt F) Λ₀ .tc) PUnit :=
  cc0_moe_experts i (Memref.whole main_arg0) (Memref.isWhole_whole _) (Memref.whole main_arg1) (Memref.isWhole_whole _) (Memref.whole main_arg2) (Memref.isWhole_whole _) (Memref.whole main_arg3) (Memref.isWhole_whole _) bx hbx (Memref.whole main_arg5) (Memref.isWhole_whole _) (Memref.whole main_arg6) (Memref.isWhole_whole _) (Memref.whole main_arg7) (Memref.isWhole_whole _) bo hbo (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7

set_option maxHeartbeats 16000000 in
/-- The first point: the first expert's projections are sent for and collected, and the next expert's are sent for. -/
theorem run_start_load (W : Waits sig Unit) (K : PUnit → sProp 𝕄) (h1 : k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (he' : PageRing.WordAt (Memref.whole main_arg0) ![0] inb_S164_S1_0 te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : k0_cond3 wn = 1#1) (h4 : k0_cond4 i wu_ = 1#1) (h5 : ¬ k0_cond5 i wu_ = 1#1)
    (c1 : k0_chk1 i we) (c2 : k0_chk2 wf 0#32) (c3 : k0_chk3 wf we) (c4 : k0_chk4 wf 0#32 wn) (c5 : k0_chk5 wf wn wn)
    (he32 : we.toNat < 32) (hn32 : wn.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ (∃ f, own c (Memref.whole cc0_scratch6) f) ∗ resting c wg wu wd 0 1 (by decide) (by decide) ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 1 ∗ waiting c wg wu wd 1 0 (by decide) (by decide) hn32 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord resting
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, HS⟩, ⟨%g0, %g1, %g2, %k0, %k1, %k2, HE0, HE1, HE2, HF0, HF1, HF2, HD0, HD1, HD2, HC0, HC1, HC2, HR0, HR1, HR2⟩, HW, Hk⟩
  obtain rfl := hbo.eq_unread hfy
  obtain rfl := hbx.eq_unread hfx
  ihave T0 := (takeW c M5 rfl (in_srcW he32) wg) $$ HR0
  icases T0 with ⟨HA0, HR0⟩
  ihave T1 := (takeW c M6 rfl (in_srcW he32) wu) $$ HR1
  icases T1 with ⟨HA1, HR1⟩
  ihave T2 := (takeD c M7 rfl (in_srcD he32) wd) $$ HR2
  icases T2 with ⟨HA2, HR2⟩
  sl_exec
  ihave S0 := (takeW c M5 rfl (in_srcW hn32) wg) $$ HR0
  icases S0 with ⟨HA0, HB0⟩
  ihave S1 := (takeW c M6 rfl (in_srcW hn32) wu) $$ HR1
  icases S1 with ⟨HA1, HB1⟩
  ihave S2 := (takeD c M7 rfl (in_srcD hn32) wd) $$ HR2
  icases S2 with ⟨HA2, HB2⟩
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · unfold waiting flying
    iexists _, _, _, _, _, _
    isplitl [HC0]; · iexact HC0
    isplitl [HC1]; · iexact HC1
    isplitl [HC2]; · iexact HC2
    isplitl [HE0]; · iexact HE0
    isplitl [HE1]; · iexact HE1
    isplitl [HE2]; · iexact HE2
    isplitl [HF0]; · iexact HF0
    isplitl [HF1]; · iexact HF1
    isplitl [HF2]; · iexact HF2
    isplitl [HB0]; · iexact HB0
    isplitl [HB1]; · iexact HB1
    iexact HB2
  iexists _; iexact HW

set_option maxHeartbeats 16000000 in
/-- The first point: the first expert's projections are sent for and collected; none follows. -/
theorem run_start_last (W : Waits sig Unit) (K : PUnit → sProp 𝕄) (h1 : k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (he' : PageRing.WordAt (Memref.whole main_arg0) ![0] inb_S164_S1_0 te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : ¬ k0_cond3 wn = 1#1) (h4 : k0_cond4 i wu_ = 1#1) (h5 : ¬ k0_cond5 i wu_ = 1#1)
    (c1 : k0_chk1 i we) (c2 : k0_chk2 wf 0#32) (c3 : k0_chk3 wf we) (c4 : k0_chk4 wf 0#32 wn) (c5 : k0_chk5 wf wn wn)
    (he32 : we.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ (∃ f, own c (Memref.whole cc0_scratch6) f) ∗ resting c wg wu wd 0 1 (by decide) (by decide) ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 1 ∗ resting c wg wu wd 1 0 (by decide) (by decide) ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord resting
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, HS⟩, ⟨%g0, %g1, %g2, %k0, %k1, %k2, HE0, HE1, HE2, HF0, HF1, HF2, HD0, HD1, HD2, HC0, HC1, HC2, HR0, HR1, HR2⟩, HW, Hk⟩
  obtain rfl := hbo.eq_unread hfy
  obtain rfl := hbx.eq_unread hfx
  ihave T0 := (takeW c M5 rfl (in_srcW he32) wg) $$ HR0
  icases T0 with ⟨HA0, HR0⟩
  ihave T1 := (takeW c M6 rfl (in_srcW he32) wu) $$ HR1
  icases T1 with ⟨HA1, HR1⟩
  ihave T2 := (takeD c M7 rfl (in_srcD he32) wd) $$ HR2
  icases T2 with ⟨HA2, HR2⟩
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · iexists _, _, _, _, _, _
    isplitl [HD0]; · iexact HD0
    isplitl [HD1]; · iexact HD1
    isplitl [HD2]; · iexact HD2
    isplitl [HC0]; · iexact HC0
    isplitl [HC1]; · iexact HC1
    isplitl [HC2]; · iexact HC2
    isplitl [HE0]; · iexact HE0
    isplitl [HE1]; · iexact HE1
    isplitl [HE2]; · iexact HE2
    isplitl [HF0]; · iexact HF0
    isplitl [HF1]; · iexact HF1
    isplitl [HF2]; · iexact HF2
    isplitl [HR0]; · iexact HR0
    isplitl [HR1]; · iexact HR1
    iexact HR2
  iexists _; iexact HW

set_option maxHeartbeats 16000000 in
/-- A point where a new expert's projections are collected from slot 0 and the next expert's are sent for. -/
theorem run_load_0 (W : Waits sig Unit) (K : PUnit → sProp 𝕄) (h1 : ¬ k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : k0_cond3 wn = 1#1) (h4 : k0_cond4 i wu_ = 1#1) (h5 : ¬ k0_cond5 i wu_ = 1#1)
    (c2 : k0_chk2 wf 0#32) (c3 : k0_chk3 wf we) (c4 : k0_chk4 wf 0#32 wn) (c5 : k0_chk5 wf wn wn)
    (he32 : we.toNat < 32) (hn32 : wn.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ slotWord c 0 ∗ waiting c wg wu wd 0 1 (by decide) (by decide) he32 ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 1 ∗ waiting c wg wu wd 1 0 (by decide) (by decide) hn32 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord waiting flying
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, %hs, HS⟩, ⟨%g0, %g1, %g2, %k0, %k1, %k2, HF0, HF1, HF2, HD0, HD1, HD2, HC0, HC1, HC2, HR0, HR1, HR2⟩, HW, Hk⟩
  obtain rfl := hbo.eq_unread hfy
  obtain rfl := hbx.eq_unread hfx
  replace hs : PageRing.WordAt (Memref.whole cc0_scratch6) ![0] inb_S1_S1_0 sl 0#32 := hs
  sl_exec
  ihave S0 := (takeW c M5 rfl (in_srcW hn32) wg) $$ HR0
  icases S0 with ⟨HA0, HB0⟩
  ihave S1 := (takeW c M6 rfl (in_srcW hn32) wu) $$ HR1
  icases S1 with ⟨HA1, HB1⟩
  ihave S2 := (takeD c M7 rfl (in_srcD hn32) wd) $$ HR2
  icases S2 with ⟨HA2, HB2⟩
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · iexists _, _, _, _, _, _
    isplitl [HC0]; · iexact HC0
    isplitl [HC1]; · iexact HC1
    isplitl [HC2]; · iexact HC2
    isplitl [HF0_dst]; · iexact HF0_dst
    isplitl [HF1_dst]; · iexact HF1_dst
    isplitl [HF2_dst]; · iexact HF2_dst
    isplitl [HF0]; · iexact HF0
    isplitl [HF1]; · iexact HF1
    isplitl [HF2]; · iexact HF2
    isplitl [HB0]; · iexact HB0
    isplitl [HB1]; · iexact HB1
    iexact HB2
  iexists _; iexact HW

set_option maxHeartbeats 16000000 in
/-- A point where a new expert's projections are collected from slot 1 and the next expert's are sent for. -/
theorem run_load_1 (W : Waits sig Unit) (K : PUnit → sProp 𝕄) (h1 : ¬ k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : k0_cond3 wn = 1#1) (h4 : k0_cond4 i wu_ = 1#1) (h5 : ¬ k0_cond5 i wu_ = 1#1)
    (c2 : k0_chk2 wf 1#32) (c3 : k0_chk3 wf we) (c4 : k0_chk4 wf 1#32 wn) (c5 : k0_chk5 wf wn wn)
    (he32 : we.toNat < 32) (hn32 : wn.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ slotWord c 1 ∗ waiting c wg wu wd 1 0 (by decide) (by decide) he32 ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 0 ∗ waiting c wg wu wd 0 1 (by decide) (by decide) hn32 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord waiting flying
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, %hs, HS⟩, ⟨%g0, %g1, %g2, %k0, %k1, %k2, HF0, HF1, HF2, HD0, HD1, HD2, HC0, HC1, HC2, HR0, HR1, HR2⟩, HW, Hk⟩
  obtain rfl := hbo.eq_unread hfy
  obtain rfl := hbx.eq_unread hfx
  replace hs : PageRing.WordAt (Memref.whole cc0_scratch6) ![0] inb_S1_S1_0 sl 1#32 := hs
  sl_exec
  ihave S0 := (takeW c M5 rfl (in_srcW hn32) wg) $$ HR0
  icases S0 with ⟨HA0, HB0⟩
  ihave S1 := (takeW c M6 rfl (in_srcW hn32) wu) $$ HR1
  icases S1 with ⟨HA1, HB1⟩
  ihave S2 := (takeD c M7 rfl (in_srcD hn32) wd) $$ HR2
  icases S2 with ⟨HA2, HB2⟩
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · iexists _, _, _, _, _, _
    isplitl [HC0]; · iexact HC0
    isplitl [HC1]; · iexact HC1
    isplitl [HC2]; · iexact HC2
    isplitl [HF0_dst]; · iexact HF0_dst
    isplitl [HF1_dst]; · iexact HF1_dst
    isplitl [HF2_dst]; · iexact HF2_dst
    isplitl [HF0]; · iexact HF0
    isplitl [HF1]; · iexact HF1
    isplitl [HF2]; · iexact HF2
    isplitl [HB0]; · iexact HB0
    isplitl [HB1]; · iexact HB1
    iexact HB2
  iexists _; iexact HW

set_option maxHeartbeats 16000000 in
/-- A point where a new expert's projections are collected from slot 0 and none follows. -/
theorem run_last_0 (W : Waits sig Unit) (K : PUnit → sProp 𝕄) (h1 : ¬ k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : ¬ k0_cond3 wn = 1#1) (h4 : k0_cond4 i wu_ = 1#1) (h5 : ¬ k0_cond5 i wu_ = 1#1)
    (c2 : k0_chk2 wf 0#32) (c3 : k0_chk3 wf we) (c4 : k0_chk4 wf 0#32 wn) (c5 : k0_chk5 wf wn wn)
    (he32 : we.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ slotWord c 0 ∗ waiting c wg wu wd 0 1 (by decide) (by decide) he32 ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 1 ∗ resting c wg wu wd 1 0 (by decide) (by decide) ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord waiting flying
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, %hs, HS⟩, ⟨%g0, %g1, %g2, %k0, %k1, %k2, HF0, HF1, HF2, HD0, HD1, HD2, HC0, HC1, HC2, HR0, HR1, HR2⟩, HW, Hk⟩
  obtain rfl := hbo.eq_unread hfy
  obtain rfl := hbx.eq_unread hfx
  replace hs : PageRing.WordAt (Memref.whole cc0_scratch6) ![0] inb_S1_S1_0 sl 0#32 := hs
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · unfold resting
    iexists _, _, _, _, _, _
    isplitl [HD0]; · iexact HD0
    isplitl [HD1]; · iexact HD1
    isplitl [HD2]; · iexact HD2
    isplitl [HC0]; · iexact HC0
    isplitl [HC1]; · iexact HC1
    isplitl [HC2]; · iexact HC2
    isplitl [HF0_dst]; · iexact HF0_dst
    isplitl [HF1_dst]; · iexact HF1_dst
    isplitl [HF2_dst]; · iexact HF2_dst
    isplitl [HF0]; · iexact HF0
    isplitl [HF1]; · iexact HF1
    isplitl [HF2]; · iexact HF2
    isplitl [HR0]; · iexact HR0
    isplitl [HR1]; · iexact HR1
    iexact HR2
  iexists _; iexact HW

set_option maxHeartbeats 16000000 in
/-- A point where a new expert's projections are collected from slot 1 and none follows. -/
theorem run_last_1 (W : Waits sig Unit) (K : PUnit → sProp 𝕄) (h1 : ¬ k0_cond1 i = 1#1) (wf we wn wu_ : BitVec 32)
    (hf : PageRing.WordAt (Memref.whole main_arg1) (k0_off3 i) (k0_off3_inb i) tf wf)
    (he : PageRing.WordAt (Memref.whole main_arg0) (k0_off4 i) (k0_off4_inb i) te we)
    (hn : PageRing.WordAt (Memref.whole main_arg2) (k0_off13 i) (k0_off13_inb i) nx wn)
    (hn' : PageRing.WordAt (Memref.whole main_arg2) (k0_off14 i) (k0_off14_inb i) nx wn)
    (hu : PageRing.WordAt (Memref.whole main_arg3) ![0] inb_S1_S1_0 nu wu_)
    (h2 : k0_cond2 wf = 1#1) (h3 : ¬ k0_cond3 wn = 1#1) (h4 : k0_cond4 i wu_ = 1#1) (h5 : ¬ k0_cond5 i wu_ = 1#1)
    (c2 : k0_chk2 wf 1#32) (c3 : k0_chk3 wf we) (c4 : k0_chk4 wf 1#32 wn) (c5 : k0_chk5 wf wn wn)
    (he32 : we.toNat < 32) (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5
        ∗ slotWord c 1 ∗ waiting c wg wu wd 1 0 (by decide) (by decide) he32 ∗ owes (c : Thread nD τ) 0 W
        ∗ (iprop(tabs c q te tf nx nu ∗ owns (c : Thread nD τ) bx fullShare x
            ∗ owns (c : Thread nD τ) bo fullShare (k0_pay4 x (gateOf c wg he32) (upOf c wu he32) (downOf c wd he32))
            ∗ bufs c (gateOf c wg he32) (upOf c wu he32) (downOf c wd he32)
            ∗ slotWord c 0 ∗ resting c wg wu wd 0 1 (by decide) (by decide) ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns slotWord waiting flying
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, ⟨%sl, %hs, HS⟩, ⟨%g0, %g1, %g2, %k0, %k1, %k2, HF0, HF1, HF2, HD0, HD1, HD2, HC0, HC1, HC2, HR0, HR1, HR2⟩, HW, Hk⟩
  obtain rfl := hbo.eq_unread hfy
  obtain rfl := hbx.eq_unread hfx
  replace hs : PageRing.WordAt (Memref.whole cc0_scratch6) ![0] inb_S1_S1_0 sl 1#32 := hs
  set_option sl_exec.respelt true in sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    · ipureintro
      refine (View.read_writes_full _ _ _ _ _).trans ?_
      refine congr (congr (congr (congrArg k0_pay4 ?_) ?_) ?_) ?_
      · exact (View.readAt_full _ _ _).trans hfx
      · exact (View.readCov_full _ _ _ _ _).trans (gate_load c wg (by decide) he32 _)
      · exact (View.readCov_full _ _ _ _ _).trans (up_load c wu (by decide) he32 _)
      · exact (View.readCov_full _ _ _ _ _).trans (down_load c wd (by decide) he32 _)
  isplitl [H3 H4 H5]
  · isplitl [H3]
    · iexists _; isplitr; on_goal 2 => iexact H3
      ipureintro; exact (View.read_writes_full _ _ _ _ _).trans (gate_load c wg (by decide) he32 _)
    isplitl [H4]
    · iexists _; isplitr; on_goal 2 => iexact H4
      ipureintro; exact (View.read_writes_full _ _ _ _ _).trans (up_load c wu (by decide) he32 _)
    iexists _; isplitr; on_goal 2 => iexact H5
    ipureintro; exact (View.read_writes_full _ _ _ _ _).trans (down_load c wd (by decide) he32 _)
  isplitl [HS]
  · iexists _; isplitr; on_goal 2 => iexact HS
    ipureintro; exact View.readAt_writes_full _ _ _ _ _ _
  isplitr [HW]
  · unfold resting
    iexists _, _, _, _, _, _
    isplitl [HD0]; · iexact HD0
    isplitl [HD1]; · iexact HD1
    isplitl [HD2]; · iexact HD2
    isplitl [HC0]; · iexact HC0
    isplitl [HC1]; · iexact HC1
    isplitl [HC2]; · iexact HC2
    isplitl [HF0_dst]; · iexact HF0_dst
    isplitl [HF1_dst]; · iexact HF1_dst
    isplitl [HF2_dst]; · iexact HF2_dst
    isplitl [HF0]; · iexact HF0
    isplitl [HF1]; · iexact HF1
    isplitl [HF2]; · iexact HF2
    isplitl [HR0]; · iexact HR0
    isplitl [HR1]; · iexact HR1
    iexact HR2
  iexists _; iexact HW

set_option maxHeartbeats 16000000 in
/-- A point of the expert at hand. -/
theorem run_stay (W : Waits sig Unit) (K : PUnit → sProp 𝕄) (h1 : ¬ k0_cond1 i = 1#1) (wf wu_ : BitVec 32)
    (hf : PageRing.WordAt (Memref.whole main_arg1) (k0_off3 i) (k0_off3_inb i) tf wf)
    (hu : PageRing.WordAt (Memref.whole main_arg3) ![0] inb_S1_S1_0 nu wu_)
    (h2 : ¬ k0_cond2 wf = 1#1) (h4 : k0_cond4 i wu_ = 1#1) (h5 : ¬ k0_cond5 i wu_ = 1#1)
    (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5 ∗ owes (c : Thread nD τ) 0 W
        ∗ (iprop(tabs c q te tf nx nu ∗ owns (c : Thread nD τ) bx fullShare x
            ∗ owns (c : Thread nD τ) bo fullShare (k0_pay4 x b3 b4 b5)
            ∗ bufs c b3 b4 b5 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, HW, Hk⟩
  obtain rfl := hbo.eq_unread hfy
  obtain rfl := hbx.eq_unread hfx
  sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    ipureintro
    refine (View.read_writes_full _ _ _ _ _).trans ?_
    refine congr (congr (congr (congrArg k0_pay4 ?_) ?_) ?_) ?_
    · exact (View.readAt_full _ _ _).trans hfx
    · exact (View.readAt_full _ _ _).trans hf3
    · exact (View.readAt_full _ _ _).trans hf4
    · exact (View.readAt_full _ _ _).trans hf5
  isplitl [H3 H4 H5]
  · isplitl [H3]
    · iexists _; isplitr; · ipureintro; exact hf3
      iexact H3
    isplitl [H4]
    · iexists _; isplitr; · ipureintro; exact hf4
      iexact H4
    iexists _; isplitr; · ipureintro; exact hf5
    iexact H5
  iexists _; iexact HW

set_option maxHeartbeats 16000000 in
/-- A point past the tiles in use. -/
theorem run_idle (W : Waits sig Unit) (K : PUnit → sProp 𝕄) (h1 : ¬ k0_cond1 i = 1#1) (wf wu_ : BitVec 32)
    (hf : PageRing.WordAt (Memref.whole main_arg1) (k0_off3 i) (k0_off3_inb i) tf wf)
    (hu : PageRing.WordAt (Memref.whole main_arg3) ![0] inb_S1_S1_0 nu wu_)
    (h2 : ¬ k0_cond2 wf = 1#1) (h4 : ¬ k0_cond4 i wu_ = 1#1) (h5 : k0_cond5 i wu_ = 1#1)
    (b3 : Vec F S2048x512 .bf16) (b4 : Vec F S2048x512 .bf16) (b5 : Vec F S512x2048 .bf16) :
    iprop(tabs c q te tf nx nu ∗ owns (c : Thread nD τ) bx fullShare x ∗ owns (c : Thread nD τ) bo fullShare y ∗ bufs c b3 b4 b5 ∗ owes (c : Thread nD τ) 0 W
        ∗ (iprop(tabs c q te tf nx nu ∗ owns (c : Thread nD τ) bx fullShare x
            ∗ owns (c : Thread nD τ) bo fullShare (k0_pay5)
            ∗ bufs c b3 b4 b5 ∗ ∃ W', owes (c : Thread nD τ) 0 W') -∗ K ⟨⟩))
      ⊢ wp frame (wpE (defs₀ (F := F)) Variants.none c none) Set.univ (body i bx hbx bo hbo) K := by
  unfold body
  simp only [cc0_moe_experts_eq_skeleton]; unfold cc0_moe_experts_skel
  simp only [k0_part1_eq_skeleton]
  unfold tabs bufs owns
  iintro ⟨⟨HT0, HT1, HT2, HT3⟩, ⟨%fx, %hfx, HX⟩, ⟨%fy, %hfy, HO⟩, ⟨⟨%f3, %hf3, H3⟩, ⟨%f4, %hf4, H4⟩, ⟨%f5, %hf5, H5⟩⟩, HW, Hk⟩
  obtain rfl := hbo.eq_unread hfy
  obtain rfl := hbx.eq_unread hfx
  sl_exec
  sl_step
  iapply Hk
  isplitl [HT0 HT1 HT2 HT3]
  · isplitl [HT0]; · iexact HT0
    isplitl [HT1]; · iexact HT1
    isplitl [HT2]; · iexact HT2
    iexact HT3
  isplitl [HX]
  · iexists _; isplitr; · ipureintro; exact hfx
    iexact HX
  isplitl [HO]
  · iexists _; isplitr; on_goal 2 => iexact HO
    ipureintro
    exact View.read_writes_full _ _ _ _ _
  isplitl [H3 H4 H5]
  · isplitl [H3]
    · iexists _; isplitr; · ipureintro; exact hf3
      iexact H3
    isplitl [H4]
    · iexists _; isplitr; · ipureintro; exact hf4
      iexact H4
    iexists _; isplitr; · ipureintro; exact hf5
    iexact H5
  iexists _; iexact HW

end Cert.Kernel7Ideal.Experts

end
-- ==== Proof.FirstStep.lean ====
/- The first layer's experts' kernel (`Kernel7Ideal`): what its tables say of a point, and one point over what the points before it left. -/
module

public import proofs.«01_k».proof.Proof.FirstRun
public import Idealize.ShloMosaic.Lib.Pipeline.ValueKit
public import Idealize.ShloMosaic.Lib.Claim

@[expose] public section

set_option maxRecDepth 16384

noncomputable section

namespace Cert.Kernel7Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen

variable {F : FTy → Type} [FloatOps F]

local notation "𝕄" => MT nD τ sig Unit (Elt F) ℕ (Pipeline.UD sig nD τ) ℕ

/-! ## The conditions -/

theorem first_iff (i : grid0.Coords) : k0_cond1 i = 1#1 ↔ (i 0).val = 0 := by
  have h : (i 0).val < 164 := (i 0).isLt
  unfold k0_cond1
  generalize (i 0).val = n at h
  interval_cases n <;> decide

theorem turn_iff (w : BitVec 32) : k0_cond2 w = 1#1 ↔ w = 1#32 := by
  show Scalar.cmpi .ne (Scalar.extui (BitVec.ofBool (w == 1#32))) 0#32 = 1#1 ↔ _
  by_cases h : w = 1#32
  · subst h; decide
  · rw [show (w == 1#32) = false from beq_eq_false_iff_ne.mpr h]
    exact ⟨fun e => absurd e (by decide), fun e => absurd e h⟩

theorem more_iff (w : BitVec 32) : k0_cond3 w = 1#1 ↔ w.toNat < 2 ^ 31 := by
  show Scalar.cmpi .ne (Scalar.extui (BitVec.ofBool ((0#32).sle w))) 0#32 = 1#1 ↔ _
  have e : (0#32).sle w = decide (w.toNat < 2 ^ 31) := by
    rw [BitVec.sle_eq_decide]
    simp only [BitVec.toInt_eq_toNat_cond, BitVec.toNat_ofNat, Nat.reducePow, Nat.reduceMod]
    have := w.isLt
    refine decide_eq_decide.mpr ?_
    split <;> split <;> omega
  rw [e]
  by_cases h : w.toNat < 2 ^ 31
  · rw [decide_eq_true h]; exact ⟨fun _ => h, fun _ => by decide⟩
  · rw [decide_eq_false h]; exact ⟨fun e => absurd e (by decide), fun e => absurd e h⟩

theorem slt_small (a : Nat) (ha : a < 164) (w : BitVec 32) (hw : w.toNat ≤ 164) : (BitVec.ofNat 32 a).slt w = decide (a < w.toNat) := by
  rw [BitVec.slt_eq_decide]
  simp only [BitVec.toInt_eq_toNat_cond, BitVec.toNat_ofNat, Nat.reducePow]
  rw [Nat.mod_eq_of_lt (by omega)]
  refine decide_eq_decide.mpr ?_
  split <;> split <;> omega

theorem sle_small (a : Nat) (ha : a < 164) (w : BitVec 32) (hw : w.toNat ≤ 164) : w.sle (BitVec.ofNat 32 a) = decide (w.toNat ≤ a) := by
  rw [BitVec.sle_eq_decide]
  simp only [BitVec.toInt_eq_toNat_cond, BitVec.toNat_ofNat, Nat.reducePow]
  rw [Nat.mod_eq_of_lt (by omega)]
  refine decide_eq_decide.mpr ?_
  split <;> split <;> omega

theorem used_iff (i : grid0.Coords) (w : BitVec 32) (hw : w.toNat ≤ 164) : k0_cond4 i w = 1#1 ↔ (i 0).val < w.toNat := by
  show Scalar.cmpi .ne (Scalar.extui (BitVec.ofBool ((BitVec.ofNat 32 (i 0).val).slt w))) 0#32 = 1#1 ↔ _
  rw [slt_small _ (i 0).isLt w hw]
  by_cases h : (i 0).val < w.toNat
  · rw [decide_eq_true h]; exact ⟨fun _ => h, fun _ => by decide⟩
  · rw [decide_eq_false h]; exact ⟨fun e => absurd e (by decide), fun e => absurd e h⟩

theorem spare_iff (i : grid0.Coords) (w : BitVec 32) (hw : w.toNat ≤ 164) : k0_cond5 i w = 1#1 ↔ w.toNat ≤ (i 0).val := by
  show Scalar.cmpi .ne (Scalar.extui (BitVec.ofBool (w.sle (BitVec.ofNat 32 (i 0).val)))) 0#32 = 1#1 ↔ _
  rw [sle_small _ (i 0).isLt w hw]
  by_cases h : w.toNat ≤ (i 0).val
  · rw [decide_eq_true h]; exact ⟨fun _ => h, fun _ => by decide⟩
  · rw [decide_eq_false h]; exact ⟨fun e => absurd e (by decide), fun e => absurd e h⟩

/-! ## The assumed bounds -/

theorem chk1 (i : grid0.Coords) {w : BitVec 32} (h : w.toNat < 32) : k0_chk1 i w :=
  ⟨fun _ => in_srcW h, fun _ => in_srcD h⟩
theorem chk3 (v : BitVec 32) {w : BitVec 32} (h : w.toNat < 32) : k0_chk3 v w :=
  ⟨fun _ => in_srcW h, fun _ => in_srcD h⟩
theorem chk5 (v : BitVec 32) (w : BitVec 32) (h : k0_cond3 w = 1#1 → w.toNat < 32) : k0_chk5 v w w :=
  ⟨fun _ e => in_srcW (h e), fun _ e => in_srcD (h e)⟩
theorem chk2_0 (v : BitVec 32) : k0_chk2 v 0#32 := by
  unfold k0_chk2
  refine ⟨fun _ => ?_, fun _ => ?_, fun _ => ?_, fun _ => ?_, fun _ => ?_, fun _ => ?_, fun _ => ?_, fun _ => ?_⟩ <;> decide
theorem chk2_1 (v : BitVec 32) : k0_chk2 v 1#32 := by
  unfold k0_chk2
  refine ⟨fun _ => ?_, fun _ => ?_, fun _ => ?_, fun _ => ?_, fun _ => ?_, fun _ => ?_, fun _ => ?_, fun _ => ?_⟩ <;> decide
theorem chk4_0 (v w : BitVec 32) : k0_chk4 v 0#32 w := by
  unfold k0_chk4
  refine ⟨fun _ _ => ?_, fun _ _ => ?_, fun _ _ => ?_, fun _ _ => ?_, fun _ _ => ?_, fun _ _ => ?_⟩ <;> decide
theorem chk4_1 (v w : BitVec 32) : k0_chk4 v 1#32 w := by
  unfold k0_chk4
  refine ⟨fun _ _ => ?_, fun _ _ => ?_, fun _ _ => ?_, fun _ _ => ?_, fun _ _ => ?_, fun _ _ => ?_⟩ <;> decide

/-! ## The tables' words -/

/-- A table's word, zero past its end. -/
def word (f : S164.Idx → BitVec 32) (t : ℕ) : BitVec 32 := if h : t < 164 then f (ix1 ⟨t, h⟩) else 0#32

theorem off_val (i : grid0.Coords) : (BitVec.ofNat 32 (i 0).val).toNat = (i 0).val := by
  have h : (i 0).val < 164 := (i 0).isLt
  rw [BitVec.toNat_ofNat]; omega

section
variable (c : Dev nD) (i : grid0.Coords)

theorem at_te (f : Buf (Elt F) ((c : Thread nD τ).loc main_arg0)) :
    PageRing.WordAt (Memref.whole main_arg0) (k0_off4 i) (k0_off4_inb i) f (word f (i 0).val) := by
  have h : (i 0).val < 164 := (i 0).isLt
  funext y
  unfold word; rw [dif_pos h]
  refine congrArg f (funext fun a => Fin.ext ?_)
  match a with
  | ⟨0, _⟩ =>
    show (BitVec.ofNat 32 (i 0).val).toNat + 1 * (y 0).val = (i 0).val
    rw [off_val]; have := (y 0).isLt; change (y 0).val < 1 at this; omega

theorem at_te0 (hi : (i 0).val = 0) (f : Buf (Elt F) ((c : Thread nD τ).loc main_arg0)) :
    PageRing.WordAt (Memref.whole main_arg0) ![0] inb_S164_S1_0 f (word f (i 0).val) := by
  have h : (i 0).val < 164 := (i 0).isLt
  funext y
  unfold word; rw [dif_pos h]
  refine congrArg f (funext fun a => Fin.ext ?_)
  match a with
  | ⟨0, _⟩ =>
    show 0 + 1 * (y 0).val = (i 0).val
    have := (y 0).isLt; change (y 0).val < 1 at this; omega

theorem at_tf (f : Buf (Elt F) ((c : Thread nD τ).loc main_arg1)) :
    PageRing.WordAt (Memref.whole main_arg1) (k0_off3 i) (k0_off3_inb i) f (word f (i 0).val) := at_te (F := F) c i f

theorem at_nx (f : Buf (Elt F) ((c : Thread nD τ).loc main_arg2)) :
    PageRing.WordAt (Memref.whole main_arg2) (k0_off13 i) (k0_off13_inb i) f (word f (i 0).val) := at_te (F := F) c i f

theorem at_nx' (f : Buf (Elt F) ((c : Thread nD τ).loc main_arg2)) :
    PageRing.WordAt (Memref.whole main_arg2) (k0_off14 i) (k0_off14_inb i) f (word f (i 0).val) := at_te (F := F) c i f

theorem at_nu (f : Buf (Elt F) ((c : Thread nD τ).loc main_arg3)) :
    PageRing.WordAt (Memref.whole main_arg3) ![0] inb_S1_S1_0 f (f (ix1 0)) := by
  funext y
  refine congrArg f (funext fun a => Fin.ext ?_)
  match a with
  | ⟨0, _⟩ =>
    show 0 + 1 * (y 0).val = 0
    have := (y 0).isLt; change (y 0).val < 1 at this; omega

end

/-- What the tables say of the tiles: `nu` of them are in use, each with an expert; a tile opens its expert's run or
    continues the one before; a tile's next expert is the one the next run belongs to, and none at the last run. -/
structure Good (te tf nx : ℕ → BitVec 32) (nu : BitVec 32) : Prop where
  pos : 1 ≤ nu.toNat
  le : nu.toNat ≤ 164
  first : tf 0 = 1#32
  te_lt : ∀ t, t < nu.toNat → (te t).toNat < 32
  nx_lt : ∀ t, t < nu.toNat → (nx t).toNat < 2 ^ 31 → (nx t).toNat < 32
  stop : ¬ (nx (nu.toNat - 1)).toNat < 2 ^ 31
  past : ∀ t, nu.toNat ≤ t → t < 164 → tf t ≠ 1#32
  turn : ∀ t, t + 1 < nu.toNat → tf (t + 1) = 1#32 → nx t = te (t + 1)
  keep : ∀ t, t + 1 < nu.toNat → tf (t + 1) ≠ 1#32 → te (t + 1) = te t ∧ nx (t + 1) = nx t

/-! ## Between two points -/

section
variable (c : Dev nD) (i : grid0.Coords) (q : PosShare TreeShare)
  (bx : Memref sig .tc .vmem S256x2048 .bf16) (hbx : bx.IsWhole) (bo : Memref sig .tc .vmem S256x2048 .bf16) (hbo : bo.IsWhole)
  (te : Buf (Elt F) ((c : Thread nD τ).loc main_arg0)) (tf : Buf (Elt F) ((c : Thread nD τ).loc main_arg1))
  (nx : Buf (Elt F) ((c : Thread nD τ).loc main_arg2)) (nu : Buf (Elt F) ((c : Thread nD τ).loc main_arg3))
  (x y : Vec F S256x2048 .bf16)
  (wg : Buf (Elt F) ((c : Thread nD τ).loc main_arg5)) (wu : Buf (Elt F) ((c : Thread nD τ).loc main_arg6)) (wd : Buf (Elt F) ((c : Thread nD τ).loc main_arg7))

/-- The projections at hand are those of the expert a word names, if it names one. -/
def held (e : BitVec 32) : sProp 𝕄 :=
  if h : e.toNat < 32 then bufs c (gateOf c wg h) (upOf c wu h) (downOf c wd h) else iprop(∃ b3 b4 b5, bufs c b3 b4 b5)

/-- One of the two slots is in use and awaits the expert a word names, if it names one. -/
def ring (e : BitVec 32) : sProp 𝕄 :=
  if h : e.toNat < 32 then
    iprop((slotWord (F := F) c 0 ∗ waiting c wg wu wd 0 1 (by decide) (by decide) h) ∨ (slotWord (F := F) c 1 ∗ waiting c wg wu wd 1 0 (by decide) (by decide) h))
  else
    iprop((slotWord (F := F) c 0 ∗ resting c wg wu wd 0 1 (by decide) (by decide)) ∨ (slotWord (F := F) c 1 ∗ resting c wg wu wd 1 0 (by decide) (by decide)))

/-- The last tile in use before position `t + 1`. -/
def tileOf (n t : ℕ) : ℕ := min t (n - 1)

/-- What the body keeps between points: the projections at hand are those of the last tile's expert, and the slot in use
    awaits that tile's next expert. -/
def Inv (te nx : ℕ → BitVec 32) (n : ℕ) : ℕ → sProp 𝕄
  | 0 => iprop((∃ b3 b4 b5, bufs (F := F) c b3 b4 b5) ∗ (∃ f, own (F := F) c (Memref.whole cc0_scratch6) f) ∗ resting c wg wu wd 0 1 (by decide) (by decide))
  | t + 1 => iprop(held c wg wu wd (te (tileOf n t)) ∗ ring c wg wu wd (nx (tileOf n t)))

theorem Inv_succ (te nx : ℕ → BitVec 32) (n t : ℕ) :
    Inv c wg wu wd te nx n (t + 1) = iprop(held c wg wu wd (te (tileOf n t)) ∗ ring c wg wu wd (nx (tileOf n t))) := rfl

/-- What a tile's block becomes, of the expert a word names. -/
def tileOut (e : BitVec 32) : Vec F S256x2048 .bf16 :=
  if h : e.toNat < 32 then k0_pay4 x (gateOf c wg h) (upOf c wu h) (downOf c wd h) else k0_pay5

/-- What point `t` leaves in the result's block. -/
def outOf (te : ℕ → BitVec 32) (n t : ℕ) : Vec F S256x2048 .bf16 := if t < n then tileOut c x wg wu wd (te t) else k0_pay5

theorem tileOut_of {e : BitVec 32} (h : e.toNat < 32) :
    tileOut c x wg wu wd e = k0_pay4 x (gateOf c wg h) (upOf c wu h) (downOf c wd h) := dif_pos h
theorem held_of {e : BitVec 32} (h : e.toNat < 32) : held c wg wu wd e = bufs c (gateOf c wg h) (upOf c wu h) (downOf c wd h) := dif_pos h
theorem ring_of {e : BitVec 32} (h : e.toNat < 32) :
    ring c wg wu wd e = iprop((slotWord (F := F) c 0 ∗ waiting c wg wu wd 0 1 (by decide) (by decide) h) ∨ (slotWord (F := F) c 1 ∗ waiting c wg wu wd 1 0 (by decide) (by decide) h)) := dif_pos h
theorem ring_none {e : BitVec 32} (h : ¬ e.toNat < 32) :
    ring c wg wu wd e = iprop((slotWord (F := F) c 0 ∗ resting c wg wu wd 0 1 (by decide) (by decide)) ∨ (slotWord (F := F) c 1 ∗ resting c wg wu wd 1 0 (by decide) (by decide))) := dif_neg h

theorem tileOf_lt {n t : ℕ} (h : t < n) : tileOf n t = t := Nat.min_eq_left (by omega)
theorem tileOf_ge {n t : ℕ} (h : n ≤ t + 1) : tileOf n t = n - 1 := Nat.min_eq_right (by omega)

/-- One point. -/
abbrev Point (t : ℕ) : Prop :=
  ∀ (W : Waits sig Unit) (K : PUnit → sProp 𝕄),
    iprop(tabs c q te tf nx nu ∗ owns (c : Thread nD τ) bx fullShare x ∗ owns (c : Thread nD τ) bo fullShare y
        ∗ Inv c wg wu wd (word te) (word nx) (nu (ix1 0) : BitVec 32).toNat t ∗ owes (c : Thread nD τ) 0 W
        ∗ (iprop(tabs c q te tf nx nu ∗ owns (c : Thread nD τ) bx fullShare x
            ∗ owns (c : Thread nD τ) bo fullShare (outOf c x wg wu wd (word te) (nu (ix1 0) : BitVec 32).toNat t)
            ∗ Inv c wg wu wd (word te) (word nx) (nu (ix1 0) : BitVec 32).toNat (t + 1) ∗ ∃ W', owes (c : Thread nD τ) 0 W') -∗ K ⟨⟩))
      ⊢ wp frame (wpE (defs₀ (F := F)) Variants.none c none) Set.univ (body i bx hbx bo hbo) K

set_option maxHeartbeats 4000000 in
/-- The first point, another expert after the first. -/
theorem start_load (hi : (i 0).val = 0) (hu : (i 0).val < (nu (ix1 0) : BitVec 32).toNat) (hle : (nu (ix1 0) : BitVec 32).toNat ≤ 164)
    (hf : word tf (i 0).val = 1#32) (he : (word te (i 0).val).toNat < 32) (hn : (word nx (i 0).val).toNat < 32) :
    Point c i q bx hbx bo hbo te tf nx nu x y wg wu wd (i 0).val := by
  intro W K
  have e0 : Inv c wg wu wd (word te) (word nx) (nu (ix1 0) : BitVec 32).toNat (i 0).val
      = iprop((∃ b3 b4 b5, bufs (F := F) c b3 b4 b5) ∗ (∃ f, own (F := F) c (Memref.whole cc0_scratch6) f) ∗ resting c wg wu wd 0 1 (by decide) (by decide)) := by
    rw [hi]; rfl
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he]
  rw [ring_of c wg wu wd hn]
  unfold outOf; rw [if_pos hu, tileOut_of c x wg wu wd he]
  iintro ⟨HT, HX, HY, ⟨⟨%b3, %b4, %b5, HB⟩, HS, HR⟩, HW, Hk⟩
  iapply (run_start_load c i q bx hbx bo hbo te tf nx nu x y wg wu wd W K ((first_iff i).mpr hi) (word tf (i 0).val) (word te (i 0).val) (word nx (i 0).val) (nu (ix1 0))
    (at_tf c i tf) (at_te c i te) (at_te0 c i hi te) (at_nx c i nx) (at_nx' c i nx) (at_nu c nu)
    ((turn_iff _).mpr hf) ((more_iff _).mpr (by omega)) ((used_iff i _ hle).mpr hu) (fun e => absurd ((spare_iff i _ hle).mp e) (by omega))
    (chk1 i he) (chk2_0 _) (chk3 _ he) (chk4_0 _ _) (chk5 _ _ (fun _ => hn)) he hn b3 b4 b5)
  isplitl [HT]; · iexact HT
  isplitl [HX]; · iexact HX
  isplitl [HY]; · iexact HY
  isplitl [HB]; · iexact HB
  isplitl [HS]; · iexact HS
  isplitl [HR]; · iexact HR
  isplitl [HW]; · iexact HW
  iintro ⟨HT, HX, HY, HB, HS, HR, HW⟩
  iapply Hk
  isplitl [HT]; · iexact HT
  isplitl [HX]; · iexact HX
  isplitl [HY]; · iexact HY
  isplitl [HB HS HR]
  · isplitl [HB]; · iexact HB
    iright
    isplitl [HS]; · iexact HS
    iexact HR
  iexact HW

set_option maxHeartbeats 4000000 in
/-- The first point, no other expert after the first. -/
theorem start_last (hi : (i 0).val = 0) (hu : (i 0).val < (nu (ix1 0) : BitVec 32).toNat) (hle : (nu (ix1 0) : BitVec 32).toNat ≤ 164)
    (hf : word tf (i 0).val = 1#32) (he : (word te (i 0).val).toNat < 32) (hn : ¬ (word nx (i 0).val).toNat < 2 ^ 31) :
    Point c i q bx hbx bo hbo te tf nx nu x y wg wu wd (i 0).val := by
  intro W K
  have e0 : Inv c wg wu wd (word te) (word nx) (nu (ix1 0) : BitVec 32).toNat (i 0).val
      = iprop((∃ b3 b4 b5, bufs (F := F) c b3 b4 b5) ∗ (∃ f, own (F := F) c (Memref.whole cc0_scratch6) f) ∗ resting c wg wu wd 0 1 (by decide) (by decide)) := by
    rw [hi]; rfl
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he]
  rw [ring_none c wg wu wd (fun e => hn (by omega))]
  unfold outOf; rw [if_pos hu, tileOut_of c x wg wu wd he]
  iintro ⟨HT, HX, HY, ⟨⟨%b3, %b4, %b5, HB⟩, HS, HR⟩, HW, Hk⟩
  iapply (run_start_last c i q bx hbx bo hbo te tf nx nu x y wg wu wd W K ((first_iff i).mpr hi) (word tf (i 0).val) (word te (i 0).val) (word nx (i 0).val) (nu (ix1 0))
    (at_tf c i tf) (at_te c i te) (at_te0 c i hi te) (at_nx c i nx) (at_nx' c i nx) (at_nu c nu)
    ((turn_iff _).mpr hf) (fun e => hn ((more_iff _).mp e)) ((used_iff i _ hle).mpr hu) (fun e => absurd ((spare_iff i _ hle).mp e) (by omega))
    (chk1 i he) (chk2_0 _) (chk3 _ he) (chk4_0 _ _) (chk5 _ _ (fun e => absurd ((more_iff _).mp e) hn)) he b3 b4 b5)
  isplitl [HT]; · iexact HT
  isplitl [HX]; · iexact HX
  isplitl [HY]; · iexact HY
  isplitl [HB]; · iexact HB
  isplitl [HS]; · iexact HS
  isplitl [HR]; · iexact HR
  isplitl [HW]; · iexact HW
  iintro ⟨HT, HX, HY, HB, HS, HR, HW⟩
  iapply Hk
  isplitl [HT]; · iexact HT
  isplitl [HX]; · iexact HX
  isplitl [HY]; · iexact HY
  isplitl [HB HS HR]
  · isplitl [HB]; · iexact HB
    iright
    isplitl [HS]; · iexact HS
    iexact HR
  iexact HW

set_option maxHeartbeats 4000000 in
/-- A later expert's first tile, another expert after it. -/
theorem turn_load (t : ℕ) (hi : (i 0).val = t + 1) (hu : (i 0).val < (nu (ix1 0) : BitVec 32).toNat) (hle : (nu (ix1 0) : BitVec 32).toNat ≤ 164)
    (hf : word tf (i 0).val = 1#32) (he : (word te (i 0).val).toNat < 32) (hp : word nx t = word te (i 0).val) (hh : (word te t).toNat < 32) (hn : (word nx (i 0).val).toNat < 32) :
    Point c i q bx hbx bo hbo te tf nx nu x y wg wu wd (i 0).val := by
  intro W K
  have e0 : Inv c wg wu wd (word te) (word nx) (nu (ix1 0) : BitVec 32).toNat (i 0).val
      = iprop(held c wg wu wd (word te t) ∗ ring c wg wu wd (word te (i 0).val)) := by
    rw [hi]; rw [Inv_succ, tileOf_lt (by omega), hp, hi]
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he, held_of c wg wu wd hh, ring_of c wg wu wd he]
  rw [ring_of c wg wu wd hn]
  unfold outOf; rw [if_pos hu, tileOut_of c x wg wu wd he]
  generalize gateOf c wg hh = b3
  generalize upOf c wu hh = b4
  generalize downOf c wd hh = b5
  iintro ⟨HT, HX, HY, ⟨HB, (⟨HS, HR⟩ | ⟨HS, HR⟩)⟩, HW, Hk⟩
  · iapply (run_load_0 c i q bx hbx bo hbo te tf nx nu x y wg wu wd W K (fun e => by have := (first_iff i).mp e; omega) (word tf (i 0).val) (word te (i 0).val) (word nx (i 0).val) (nu (ix1 0))
      (at_tf c i tf) (at_te c i te) (at_nx c i nx) (at_nx' c i nx) (at_nu c nu)
      ((turn_iff _).mpr hf) ((more_iff _).mpr (by omega)) ((used_iff i _ hle).mpr hu) (fun e => absurd ((spare_iff i _ hle).mp e) (by omega))
      (chk2_0 _) (chk3 _ he) (chk4_0 _ _) (chk5 _ _ (fun _ => hn)) he hn b3 b4 b5)
    isplitl [HT]; · iexact HT
    isplitl [HX]; · iexact HX
    isplitl [HY]; · iexact HY
    isplitl [HB]; · iexact HB
    isplitl [HS]; · iexact HS
    isplitl [HR]; · iexact HR
    isplitl [HW]; · iexact HW
    iintro ⟨HT, HX, HY, HB, HS, HR, HW⟩
    iapply Hk
    isplitl [HT]; · iexact HT
    isplitl [HX]; · iexact HX
    isplitl [HY]; · iexact HY
    isplitl [HB HS HR]
    · isplitl [HB]; · iexact HB
      iright
      isplitl [HS]; · iexact HS
      iexact HR
    iexact HW
  · iapply (run_load_1 c i q bx hbx bo hbo te tf nx nu x y wg wu wd W K (fun e => by have := (first_iff i).mp e; omega) (word tf (i 0).val) (word te (i 0).val) (word nx (i 0).val) (nu (ix1 0))
      (at_tf c i tf) (at_te c i te) (at_nx c i nx) (at_nx' c i nx) (at_nu c nu)
      ((turn_iff _).mpr hf) ((more_iff _).mpr (by omega)) ((used_iff i _ hle).mpr hu) (fun e => absurd ((spare_iff i _ hle).mp e) (by omega))
      (chk2_1 _) (chk3 _ he) (chk4_1 _ _) (chk5 _ _ (fun _ => hn)) he hn b3 b4 b5)
    isplitl [HT]; · iexact HT
    isplitl [HX]; · iexact HX
    isplitl [HY]; · iexact HY
    isplitl [HB]; · iexact HB
    isplitl [HS]; · iexact HS
    isplitl [HR]; · iexact HR
    isplitl [HW]; · iexact HW
    iintro ⟨HT, HX, HY, HB, HS, HR, HW⟩
    iapply Hk
    isplitl [HT]; · iexact HT
    isplitl [HX]; · iexact HX
    isplitl [HY]; · iexact HY
    isplitl [HB HS HR]
    · isplitl [HB]; · iexact HB
      ileft
      isplitl [HS]; · iexact HS
      iexact HR
    iexact HW

set_option maxHeartbeats 4000000 in
/-- A later expert's first tile, no other expert after it. -/
theorem turn_last (t : ℕ) (hi : (i 0).val = t + 1) (hu : (i 0).val < (nu (ix1 0) : BitVec 32).toNat) (hle : (nu (ix1 0) : BitVec 32).toNat ≤ 164)
    (hf : word tf (i 0).val = 1#32) (he : (word te (i 0).val).toNat < 32) (hp : word nx t = word te (i 0).val) (hh : (word te t).toNat < 32) (hn : ¬ (word nx (i 0).val).toNat < 2 ^ 31) :
    Point c i q bx hbx bo hbo te tf nx nu x y wg wu wd (i 0).val := by
  intro W K
  have e0 : Inv c wg wu wd (word te) (word nx) (nu (ix1 0) : BitVec 32).toNat (i 0).val
      = iprop(held c wg wu wd (word te t) ∗ ring c wg wu wd (word te (i 0).val)) := by
    rw [hi]; rw [Inv_succ, tileOf_lt (by omega), hp, hi]
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he, held_of c wg wu wd hh, ring_of c wg wu wd he]
  rw [ring_none c wg wu wd (fun e => hn (by omega))]
  unfold outOf; rw [if_pos hu, tileOut_of c x wg wu wd he]
  generalize gateOf c wg hh = b3
  generalize upOf c wu hh = b4
  generalize downOf c wd hh = b5
  iintro ⟨HT, HX, HY, ⟨HB, (⟨HS, HR⟩ | ⟨HS, HR⟩)⟩, HW, Hk⟩
  · iapply (run_last_0 c i q bx hbx bo hbo te tf nx nu x y wg wu wd W K (fun e => by have := (first_iff i).mp e; omega) (word tf (i 0).val) (word te (i 0).val) (word nx (i 0).val) (nu (ix1 0))
      (at_tf c i tf) (at_te c i te) (at_nx c i nx) (at_nx' c i nx) (at_nu c nu)
      ((turn_iff _).mpr hf) (fun e => hn ((more_iff _).mp e)) ((used_iff i _ hle).mpr hu) (fun e => absurd ((spare_iff i _ hle).mp e) (by omega))
      (chk2_0 _) (chk3 _ he) (chk4_0 _ _) (chk5 _ _ (fun e => absurd ((more_iff _).mp e) hn)) he b3 b4 b5)
    isplitl [HT]; · iexact HT
    isplitl [HX]; · iexact HX
    isplitl [HY]; · iexact HY
    isplitl [HB]; · iexact HB
    isplitl [HS]; · iexact HS
    isplitl [HR]; · iexact HR
    isplitl [HW]; · iexact HW
    iintro ⟨HT, HX, HY, HB, HS, HR, HW⟩
    iapply Hk
    isplitl [HT]; · iexact HT
    isplitl [HX]; · iexact HX
    isplitl [HY]; · iexact HY
    isplitl [HB HS HR]
    · isplitl [HB]; · iexact HB
      iright
      isplitl [HS]; · iexact HS
      iexact HR
    iexact HW
  · iapply (run_last_1 c i q bx hbx bo hbo te tf nx nu x y wg wu wd W K (fun e => by have := (first_iff i).mp e; omega) (word tf (i 0).val) (word te (i 0).val) (word nx (i 0).val) (nu (ix1 0))
      (at_tf c i tf) (at_te c i te) (at_nx c i nx) (at_nx' c i nx) (at_nu c nu)
      ((turn_iff _).mpr hf) (fun e => hn ((more_iff _).mp e)) ((used_iff i _ hle).mpr hu) (fun e => absurd ((spare_iff i _ hle).mp e) (by omega))
      (chk2_1 _) (chk3 _ he) (chk4_1 _ _) (chk5 _ _ (fun e => absurd ((more_iff _).mp e) hn)) he b3 b4 b5)
    isplitl [HT]; · iexact HT
    isplitl [HX]; · iexact HX
    isplitl [HY]; · iexact HY
    isplitl [HB]; · iexact HB
    isplitl [HS]; · iexact HS
    isplitl [HR]; · iexact HR
    isplitl [HW]; · iexact HW
    iintro ⟨HT, HX, HY, HB, HS, HR, HW⟩
    iapply Hk
    isplitl [HT]; · iexact HT
    isplitl [HX]; · iexact HX
    isplitl [HY]; · iexact HY
    isplitl [HB HS HR]
    · isplitl [HB]; · iexact HB
      ileft
      isplitl [HS]; · iexact HS
      iexact HR
    iexact HW

set_option maxHeartbeats 4000000 in
/-- A further tile of the expert at hand. -/
theorem stay (t : ℕ) (hi : (i 0).val = t + 1) (hu : (i 0).val < (nu (ix1 0) : BitVec 32).toNat) (hle : (nu (ix1 0) : BitVec 32).toNat ≤ 164)
    (hf : word tf (i 0).val ≠ 1#32) (he : (word te (i 0).val).toNat < 32) (hp : word te (i 0).val = word te t) (hn : word nx (i 0).val = word nx t) :
    Point c i q bx hbx bo hbo te tf nx nu x y wg wu wd (i 0).val := by
  intro W K
  have e0 : Inv c wg wu wd (word te) (word nx) (nu (ix1 0) : BitVec 32).toNat (i 0).val
      = iprop(held c wg wu wd (word te (i 0).val) ∗ ring c wg wu wd (word nx (i 0).val)) := by
    rw [hp, hn, hi]; rw [Inv_succ, tileOf_lt (by omega)]
  have e1 : Inv c wg wu wd (word te) (word nx) (nu (ix1 0) : BitVec 32).toNat ((i 0).val + 1)
      = iprop(held c wg wu wd (word te (i 0).val) ∗ ring c wg wu wd (word nx (i 0).val)) := by
    rw [Inv_succ, tileOf_lt hu]
  rw [e0, e1, held_of c wg wu wd he]
  unfold outOf; rw [if_pos hu, tileOut_of c x wg wu wd he]
  iintro ⟨HT, HX, HY, ⟨HB, HR⟩, HW, Hk⟩
  iapply (run_stay c i q bx hbx bo hbo te tf nx nu x y W K (fun e => by have := (first_iff i).mp e; omega) (word tf (i 0).val) (nu (ix1 0))
    (at_tf c i tf) (at_nu c nu)
    (fun e => hf ((turn_iff _).mp e)) ((used_iff i _ hle).mpr hu) (fun e => absurd ((spare_iff i _ hle).mp e) (by omega)) _ _ _)
  isplitl [HT]; · iexact HT
  isplitl [HX]; · iexact HX
  isplitl [HY]; · iexact HY
  isplitl [HB]; · iexact HB
  isplitl [HW]; · iexact HW
  iintro ⟨HT, HX, HY, HB, HW⟩
  iapply Hk
  isplitl [HT]; · iexact HT
  isplitl [HX]; · iexact HX
  isplitl [HY]; · iexact HY
  isplitl [HB HR]
  · isplitl [HB]; · iexact HB
    iexact HR
  iexact HW

set_option maxHeartbeats 4000000 in
/-- A tile past those in use. -/
theorem spare (t : ℕ) (hi : (i 0).val = t + 1) (hu : (nu (ix1 0) : BitVec 32).toNat ≤ (i 0).val) (hle : (nu (ix1 0) : BitVec 32).toNat ≤ 164)
    (hf : word tf (i 0).val ≠ 1#32) (he : (word te ((nu (ix1 0) : BitVec 32).toNat - 1)).toNat < 32) :
    Point c i q bx hbx bo hbo te tf nx nu x y wg wu wd (i 0).val := by
  intro W K
  have e0 : Inv c wg wu wd (word te) (word nx) (nu (ix1 0) : BitVec 32).toNat (i 0).val
      = iprop(held c wg wu wd (word te ((nu (ix1 0) : BitVec 32).toNat - 1)) ∗ ring c wg wu wd (word nx ((nu (ix1 0) : BitVec 32).toNat - 1))) := by
    rw [hi, Inv_succ, tileOf_ge (by omega)]
  have e1 : Inv c wg wu wd (word te) (word nx) (nu (ix1 0) : BitVec 32).toNat ((i 0).val + 1)
      = iprop(held c wg wu wd (word te ((nu (ix1 0) : BitVec 32).toNat - 1)) ∗ ring c wg wu wd (word nx ((nu (ix1 0) : BitVec 32).toNat - 1))) := by
    rw [Inv_succ, tileOf_ge (by omega)]
  rw [e0, e1, held_of c wg wu wd he]
  unfold outOf; rw [if_neg (by omega)]
  iintro ⟨HT, HX, HY, ⟨HB, HR⟩, HW, Hk⟩
  iapply (run_idle c i q bx hbx bo hbo te tf nx nu x y W K (fun e => by have := (first_iff i).mp e; omega) (word tf (i 0).val) (nu (ix1 0))
    (at_tf c i tf) (at_nu c nu)
    (fun e => hf ((turn_iff _).mp e)) (fun e => absurd ((used_iff i _ hle).mp e) (by omega)) ((spare_iff i _ hle).mpr hu) _ _ _)
  isplitl [HT]; · iexact HT
  isplitl [HX]; · iexact HX
  isplitl [HY]; · iexact HY
  isplitl [HB]; · iexact HB
  isplitl [HW]; · iexact HW
  iintro ⟨HT, HX, HY, HB, HW⟩
  iapply Hk
  isplitl [HT]; · iexact HT
  isplitl [HX]; · iexact HX
  isplitl [HY]; · iexact HY
  isplitl [HB HR]
  · isplitl [HB]; · iexact HB
    iexact HR
  iexact HW

/-- Any point. -/
theorem step (g : Good (word te) (word tf) (word nx) (nu (ix1 0))) : Point c i q bx hbx bo hbo te tf nx nu x y wg wu wd (i 0).val := by
  have hlt : (i 0).val < 164 := (i 0).isLt
  by_cases hu : (i 0).val < (nu (ix1 0) : BitVec 32).toNat
  · have he := g.te_lt _ hu
    rcases Nat.eq_zero_or_eq_succ_pred (i 0).val with hi | hi
    · have hf : word tf (i 0).val = 1#32 := by rw [hi]; exact g.first
      by_cases hn : (word nx (i 0).val).toNat < 2 ^ 31
      · exact start_load c i q bx hbx bo hbo te tf nx nu x y wg wu wd hi hu g.le hf he (g.nx_lt _ hu hn)
      · exact start_last c i q bx hbx bo hbo te tf nx nu x y wg wu wd hi hu g.le hf he hn
    · generalize (i 0).val.pred = t at hi
      have hi : (i 0).val = t + 1 := hi
      by_cases hf : word tf (i 0).val = 1#32
      · have hp := g.turn t (hi ▸ hu) (hi ▸ hf)
        rw [← hi] at hp
        by_cases hn : (word nx (i 0).val).toNat < 2 ^ 31
        · exact turn_load c i q bx hbx bo hbo te tf nx nu x y wg wu wd t hi hu g.le hf he hp (g.te_lt t (by omega)) (g.nx_lt _ hu hn)
        · exact turn_last c i q bx hbx bo hbo te tf nx nu x y wg wu wd t hi hu g.le hf he hp (g.te_lt t (by omega)) hn
      · have hp := g.keep t (hi ▸ hu) (hi ▸ hf)
        rw [← hi] at hp
        exact stay c i q bx hbx bo hbo te tf nx nu x y wg wu wd t hi hu g.le hf he hp.1 hp.2
  · have h := g.pos
    exact spare c i q bx hbx bo hbo te tf nx nu x y wg wu wd ((i 0).val - 1) (by omega) (by omega) g.le (g.past _ (by omega) hlt) (g.te_lt _ (by omega))

end

end Cert.Kernel7Ideal.Experts

end
-- ==== Proof.FirstFrame.lean ====
/- The first layer's experts' kernel (`Kernel7Ideal`) over its grid: the tables as its pipeline reads them, what every point leaves, the
   run of the whole program with its arrays named, and its frame. -/
module

public import proofs.«01_k».proof.Proof.FirstStep

@[expose] public section

set_option maxRecDepth 16384

noncomputable section

namespace Cert.Kernel7Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (Pipeline.UD sig nD τ) ℕ

/-! ## The tables -/

/-- A position clamped to the tiles in use is a tile. -/
theorem clamp_lt (a : ℕ) (ha : a < 164) (x : BitVec 32) :
    (Scalar.minsi (BitVec.ofNat 32 a) (Scalar.maxsi 0#32 x)).toNat < 164 := by
  have h0 : (0#32 : BitVec 32).toInt = 0 := by decide
  have h1 : (BitVec.ofNat 32 a).toNat = a := by rw [BitVec.toNat_ofNat]; exact Nat.mod_eq_of_lt (by omega)
  unfold Scalar.minsi Scalar.maxsi IntOp.minsi IntOp.maxsi
  split_ifs with g1 g2 g2 <;> rw [BitVec.slt_iff_toInt_lt] at * <;> simp only [BitVec.toInt_eq_toNat_cond, h1, BitVec.toNat_ofNat] at * <;> omega

/-- A position in use is not moved. -/
theorem clamp_eq (a n : ℕ) (h : a < n) (hn : n ≤ 164) (x : BitVec 32) (hx : x.toNat = n) :
    (Scalar.minsi (BitVec.ofNat 32 a) (Scalar.maxsi 0#32 (Scalar.subi x 1#32))).toNat = a := by
  obtain rfl : x = BitVec.ofNat 32 n := BitVec.eq_of_toNat_eq (by rw [hx, BitVec.toNat_ofNat]; exact (Nat.mod_eq_of_lt (by omega)).symm)
  have e : (Scalar.subi (BitVec.ofNat 32 n) 1#32) = BitVec.ofNat 32 (n - 1) := by
    apply BitVec.eq_of_toNat_eq
    show (BitVec.ofNat 32 n - 1#32).toNat = _
    rw [BitVec.toNat_sub]; simp only [BitVec.toNat_ofNat]; omega
  rw [e]
  have h1 : (BitVec.ofNat 32 a).toNat = a := by rw [BitVec.toNat_ofNat]; exact Nat.mod_eq_of_lt (by omega)
  have h2 : (BitVec.ofNat 32 (n - 1)).toNat = n - 1 := by rw [BitVec.toNat_ofNat]; exact Nat.mod_eq_of_lt (by omega)
  unfold Scalar.minsi Scalar.maxsi IntOp.minsi IntOp.maxsi
  split_ifs with g1 g2 g2 <;> rw [BitVec.slt_iff_toInt_lt] at * <;> simp only [BitVec.toInt_eq_toNat_cond, h1, h2, BitVec.toNat_ofNat] at * <;> omega

/-- Whatever the tables hold, every block of rows lies in its array. -/
theorem ok_any (pf : pre0.Contents (Elt F)) : ok0 pf := fun i => by
  have hb := clamp_lt (i 0).val (i 0).isLt (Scalar.subi (pf.at 3 (Rect.unit (s := S1) ![0] S1.size inb_S1_S1_0) numel1_S1) 1#32)
  refine ⟨fun a => ?_, .inr (Affine.block_words_dvd (of_decide_eq_true rfl) (by decide))⟩
  match a with
  | ⟨0, _⟩ =>
    show ((Scalar.minsi (BitVec.ofNat 32 (i 0).val) (Scalar.maxsi 0#32 (Scalar.subi (pf.at 3 (Rect.unit (s := S1) ![0] S1.size inb_S1_S1_0) numel1_S1) 1#32))).toNat + 1) * 256 ≤ 41984
    omega
  | ⟨1, _⟩ => exact Nat.le_refl 2048

variable (m : (ℓ : Loc nD τ sig) → Buf (Elt F) ℓ) (ρ : Dev nD → PrngReg)

/-- A buffer as the program finds it. -/
abbrev V (c : Dev nD) (b : Ref sig .tc) : Buf (Elt F) ((c : Thread nD τ).loc b) := m ((c : Thread nD τ).loc b)

/-- The tables as the pipeline reads them. -/
def tbl : pre0.Contents (Elt F) := fun k => m (((0 : Dev nD) : Thread nD τ).loc (pre0.ref k))

/-- They are admissible. -/
def adm : (pcfg0 (F := F)).Adm := ⟨tbl m, ok_any _⟩

/-- The words of the first table, the experts of the tiles; -/
abbrev teW (c : Dev nD) : ℕ → BitVec 32 := word (V m c main_arg0)
/-- of the third, the experts after them; -/
abbrev nxW (c : Dev nD) : ℕ → BitVec 32 := word (V m c main_arg2)
/-- and the number of tiles in use. -/
abbrev nuN (c : Dev nD) : ℕ := (V m c main_arg3 (ix1 0) : BitVec 32).toNat

/-- The tables are well formed. -/
abbrev GoodAt (c : Dev nD) : Prop := Good (word (V m c main_arg0)) (word (V m c main_arg1)) (word (V m c main_arg2)) (V m c main_arg3 (ix1 0))

/-- The launched pipelines at their tables. -/
abbrev pinned : Fin 1 → Cfg sig Λ₀ := Pipeline.pin (pcfgs (F := F)) (fun _ => adm m)

/-! ## The proof data -/

/-- The block of rows of a point. -/
def rowsAt (c : Dev nD) (t : Fin (cfg0 (adm m)).N) : Vec F S256x2048 .bf16 :=
  (((cfg0 (adm m)).win 0).blk t).view.read (Elt F) (V m c main_arg4)

/-- What a point leaves in the result's block. -/
def tileAt (c : Dev nD) (t : Fin (cfg0 (adm m)).N) : Vec F S256x2048 .bf16 :=
  outOf c (rowsAt m c t) (V m c main_arg5) (V m c main_arg6) (V m c main_arg7) (teW m c) (nuN m c) t.val

/-- The invariant before position `n`. -/
def Inv0 (c : Dev nD) (n : ℕ) : sProp 𝕄 :=
  iprop((∃ r, prngReg c r) ∗ tabs c fullShare.right (V m c main_arg0) (V m c main_arg1) (V m c main_arg2) (V m c main_arg3)
    ∗ Inv c (V m c main_arg5) (V m c main_arg6) (V m c main_arg7) (teW m c) (nxW m c) (nuN m c) n)

def dats (_ : Fin 1) (c : Dev nD) : Dat τ (Elt F) Unit ℕ (Pipeline.UD sig nD τ) ℕ (cfg0 (adm m)) c where
  A w := V m c (Pipeline.arrRef spec0 w)
  after w t := match w with
    | ⟨0, _⟩ => rowsAt m c t
    | ⟨1, _⟩ => tileAt m c t
  Φ t := Inv0 m c t.val
  q _ := fullShare
  owed _ := 0

theorem after_0 (c : Dev nD) (t : Fin (cfg0 (adm m)).N) : (dats m 0 c).after 0 t = rowsAt m c t := rfl
theorem after_1 (c : Dev nD) (t : Fin (cfg0 (adm m)).N) : (dats m 0 c).after 1 t = tileAt m c t := rfl

theorem before_0 (c : Dev nD) (t : Fin (cfg0 (adm m)).N) (d) : (dats m 0 c).before 0 t d = rowsAt m c t :=
  Pipeline.Dat.before_in_eq_fetched (dats m 0 c) 0 rfl (fun _ => rfl) (fun _ _ _ => rfl) (fun _ => rfl) t d

theorem pos_val (t : Fin (cfg0 (adm m)).N) : (grid0.coords t 0).val = t.val := by
  have e : (grid0.coords t 0).val = t.val / 1 % 164 := Pipeline.Grid.coords_val (G := grid0) t 0 (by decide) rfl
  have h : t.val < 164 := lt_of_lt_of_eq t.isLt (show (cfg0 (adm m)).N = 164 from N_0)
  rw [e, Nat.div_one]; exact Nat.mod_eq_of_lt h

/-- The result's block is stored at every point. -/
theorem busy (c : Dev nD) (g : GoodAt m c) (t : Fin (cfg0 (adm m)).N) : (cfg0 (adm m)).idle 1 (grid0.coords t) = false := by
  obtain rfl : c = 0 := Subsingleton.elim _ _
  have key : ∀ w : BitVec 32, w = V m 0 main_arg3 (ix1 0) → (!(k0_cond4 (grid0.coords t) w == 1#1) && !(k0_cond5 (grid0.coords t) w == 1#1)) = false := by
    intro w hw
    by_cases h : (grid0.coords t 0).val < nuN m 0
    · rw [(used_iff (grid0.coords t) w (hw ▸ g.le)).mpr (hw ▸ h)]; rfl
    · rw [(spare_iff (grid0.coords t) w (hw ▸ g.le)).mpr (hw ▸ Nat.le_of_not_lt h)]; exact Bool.and_false _
  refine key _ (congrArg (V m 0 main_arg3) ?_)
  funext a; match a with | ⟨0, _⟩ => rfl

/-! ## The slots of the rings -/

/-- A slot's elements in a ring of gate or up projections. -/
def cutW (s : Fin 2) : Finset S2x2048x512.Idx := (Rect.unit (s := S2x2048x512) ![s.val, 0, 0] S1x2048x512.size (in_slotW s.isLt)).set
/-- A slot's elements in the ring of down projections. -/
def cutD (s : Fin 2) : Finset S2x512x2048.Idx := (Rect.unit (s := S2x512x2048) ![s.val, 0, 0] S1x512x2048.size (in_slotD s.isLt)).set

theorem mem_cutW (s : Fin 2) (i : S2x2048x512.Idx) : i ∈ cutW s ↔ (i 0).val = s.val := by
  unfold cutW
  refine (Rect.mem_set_unit (s := S2x2048x512) (inb := in_slotW s.isLt)).trans ⟨fun h => ?_, fun h a => ?_⟩
  · have h0 : s.val ≤ (i 0).val ∧ (i 0).val < s.val + 1 := h 0
    omega
  · match a with
    | ⟨0, _⟩ => exact (show s.val ≤ (i 0).val ∧ (i 0).val < s.val + 1 by omega)
    | ⟨1, _⟩ => exact ⟨Nat.zero_le _, by have := (i 1).isLt; exact (Nat.zero_add _).symm ▸ this⟩
    | ⟨2, _⟩ => exact ⟨Nat.zero_le _, by have := (i 2).isLt; exact (Nat.zero_add _).symm ▸ this⟩
theorem mem_cutD (s : Fin 2) (i : S2x512x2048.Idx) : i ∈ cutD s ↔ (i 0).val = s.val := by
  unfold cutD
  refine (Rect.mem_set_unit (s := S2x512x2048) (inb := in_slotD s.isLt)).trans ⟨fun h => ?_, fun h a => ?_⟩
  · have h0 : s.val ≤ (i 0).val ∧ (i 0).val < s.val + 1 := h 0
    omega
  · match a with
    | ⟨0, _⟩ => exact (show s.val ≤ (i 0).val ∧ (i 0).val < s.val + 1 by omega)
    | ⟨1, _⟩ => exact ⟨Nat.zero_le _, by have := (i 1).isLt; exact (Nat.zero_add _).symm ▸ this⟩
    | ⟨2, _⟩ => exact ⟨Nat.zero_le _, by have := (i 2).isLt; exact (Nat.zero_add _).symm ▸ this⟩

theorem cutW_apart (s s' : Fin 2) (h : s ≠ s') : Disjoint (cutW s) (cutW s') := by
  rw [Finset.disjoint_left]; intro i h1 h2
  rw [mem_cutW] at h1 h2; exact h (Fin.ext (h1.symm.trans h2))
theorem cutD_apart (s s' : Fin 2) (h : s ≠ s') : Disjoint (cutD s) (cutD s') := by
  rw [Finset.disjoint_left]; intro i h1 h2
  rw [mem_cutD] at h1 h2; exact h (Fin.ext (h1.symm.trans h2))
theorem cutW_all : Finset.univ.biUnion cutW = Finset.univ :=
  Finset.eq_univ_of_forall fun i => Finset.mem_biUnion.mpr ⟨⟨(i 0).val, (i 0).isLt⟩, Finset.mem_univ _, (mem_cutW _ i).mpr rfl⟩
theorem cutD_all : Finset.univ.biUnion cutD = Finset.univ :=
  Finset.eq_univ_of_forall fun i => Finset.mem_biUnion.mpr ⟨⟨(i 0).val, (i 0).isLt⟩, Finset.mem_univ _, (mem_cutD _ i).mpr rfl⟩

theorem slotW_set0 (s : Nat) (h : s < 2) : (slotW M10 s (in_slotW h)).view.set = cutW ⟨s, h⟩ :=
  (View.set_reshape _ _).trans (View.set_slice_whole _ _)
theorem slotW_set1 (s : Nat) (h : s < 2) : (slotW M11 s (in_slotW h)).view.set = cutW ⟨s, h⟩ :=
  (View.set_reshape _ _).trans (View.set_slice_whole _ _)
theorem slotD_set (s : Nat) (h : s < 2) : (slotD M12 s (in_slotD h)).view.set = cutD ⟨s, h⟩ :=
  (View.set_reshape _ _).trans (View.set_slice_whole _ _)

theorem split0 (c : Dev nD) : iprop(∃ f : Buf (Elt F) ((c : Thread nD τ).loc cc0_scratch0), ((c : Thread nD τ).loc cc0_scratch0) ↦{fullShare} f)
    ⊢ (iprop((∃ g, own c (slotW M10 0 (in_slotW (by decide))) g) ∗ ∃ g, own c (slotW M10 1 (in_slotW (by decide))) g) : sProp 𝕄) :=
  Ring.slots2_split cutW cutW_apart cutW_all _ _ (fun f => congrArg (fun S => (_ ↦[S]{fullShare} f : sProp 𝕄)) (slotW_set0 0 (by decide))) (fun f => congrArg (fun S => (_ ↦[S]{fullShare} f : sProp 𝕄)) (slotW_set0 1 (by decide)))
theorem split1 (c : Dev nD) : iprop(∃ f : Buf (Elt F) ((c : Thread nD τ).loc cc0_scratch1), ((c : Thread nD τ).loc cc0_scratch1) ↦{fullShare} f)
    ⊢ (iprop((∃ g, own c (slotW M11 0 (in_slotW (by decide))) g) ∗ ∃ g, own c (slotW M11 1 (in_slotW (by decide))) g) : sProp 𝕄) :=
  Ring.slots2_split cutW cutW_apart cutW_all _ _ (fun f => congrArg (fun S => (_ ↦[S]{fullShare} f : sProp 𝕄)) (slotW_set1 0 (by decide))) (fun f => congrArg (fun S => (_ ↦[S]{fullShare} f : sProp 𝕄)) (slotW_set1 1 (by decide)))
theorem split2 (c : Dev nD) : iprop(∃ f : Buf (Elt F) ((c : Thread nD τ).loc cc0_scratch2), ((c : Thread nD τ).loc cc0_scratch2) ↦{fullShare} f)
    ⊢ (iprop((∃ g, own c (slotD M12 0 (in_slotD (by decide))) g) ∗ ∃ g, own c (slotD M12 1 (in_slotD (by decide))) g) : sProp 𝕄) :=
  Ring.slots2_split cutD cutD_apart cutD_all _ _ (fun f => congrArg (fun S => (_ ↦[S]{fullShare} f : sProp 𝕄)) (slotD_set 0 (by decide))) (fun f => congrArg (fun S => (_ ↦[S]{fullShare} f : sProp 𝕄)) (slotD_set 1 (by decide)))
theorem join0 (c : Dev nD) : (iprop((∃ g, own c (slotW M10 0 (in_slotW (by decide))) g) ∗ ∃ g, own c (slotW M10 1 (in_slotW (by decide))) g) : sProp 𝕄)
    ⊢ iprop(∃ f : Buf (Elt F) ((c : Thread nD τ).loc cc0_scratch0), ((c : Thread nD τ).loc cc0_scratch0) ↦{fullShare} f) :=
  Ring.slots2_join cutW cutW_apart cutW_all _ _ (fun f => congrArg (fun S => (_ ↦[S]{fullShare} f : sProp 𝕄)) (slotW_set0 0 (by decide))) (fun f => congrArg (fun S => (_ ↦[S]{fullShare} f : sProp 𝕄)) (slotW_set0 1 (by decide)))
theorem join1 (c : Dev nD) : (iprop((∃ g, own c (slotW M11 0 (in_slotW (by decide))) g) ∗ ∃ g, own c (slotW M11 1 (in_slotW (by decide))) g) : sProp 𝕄)
    ⊢ iprop(∃ f : Buf (Elt F) ((c : Thread nD τ).loc cc0_scratch1), ((c : Thread nD τ).loc cc0_scratch1) ↦{fullShare} f) :=
  Ring.slots2_join cutW cutW_apart cutW_all _ _ (fun f => congrArg (fun S => (_ ↦[S]{fullShare} f : sProp 𝕄)) (slotW_set1 0 (by decide))) (fun f => congrArg (fun S => (_ ↦[S]{fullShare} f : sProp 𝕄)) (slotW_set1 1 (by decide)))
theorem join2 (c : Dev nD) : (iprop((∃ g, own c (slotD M12 0 (in_slotD (by decide))) g) ∗ ∃ g, own c (slotD M12 1 (in_slotD (by decide))) g) : sProp 𝕄)
    ⊢ iprop(∃ f : Buf (Elt F) ((c : Thread nD τ).loc cc0_scratch2), ((c : Thread nD τ).loc cc0_scratch2) ↦{fullShare} f) :=
  Ring.slots2_join cutD cutD_apart cutD_all _ _ (fun f => congrArg (fun S => (_ ↦[S]{fullShare} f : sProp 𝕄)) (slotD_set 0 (by decide))) (fun f => congrArg (fun S => (_ ↦[S]{fullShare} f : sProp 𝕄)) (slotD_set 1 (by decide)))

/-! ## Entering and leaving the grid -/

/-- The kernel's own cells. -/
abbrev osem0 : Fin 6 → SemLoc sig := fun j => (![.dma (semOf 0 0 (in_sem (by decide) (by decide))), .dma (semOf 0 1 (in_sem (by decide) (by decide))),
  .dma (semOf 0 2 (in_sem (by decide) (by decide))), .dma (semOf 1 0 (in_sem (by decide) (by decide))), .dma (semOf 1 1 (in_sem (by decide) (by decide))),
  .dma (semOf 1 2 (in_sem (by decide) (by decide)))] : Fin 6 → SemLoc sig) j

theorem ownSemFacts0 : Pipeline.OwnSemFacts spec0 osem0 := by decide

/-- The buffers no window serves: the three stacks of weights. -/
abbrev H0 : Finset (Ref sig .tc) := ((Finset.univ.filter fun b : Ref sig .tc => ¬ b.isScoped) \ Finset.univ.image (Pipeline.arrRef spec0)) \ Finset.univ.image pre0.ref

theorem H0_sub : H0 ⊆ Pipeline.restRefsP sig pre0 spec0 := by decide

theorem cells_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (semOf 0 0 (in_sem (by decide) (by decide)))) 0
    ∗ semVal ((c : Thread nD τ), SemLoc.dma (semOf 0 1 (in_sem (by decide) (by decide)))) 0
    ∗ semVal ((c : Thread nD τ), SemLoc.dma (semOf 0 2 (in_sem (by decide) (by decide)))) 0
    ∗ semVal ((c : Thread nD τ), SemLoc.dma (semOf 1 0 (in_sem (by decide) (by decide)))) 0
    ∗ semVal ((c : Thread nD τ), SemLoc.dma (semOf 1 1 (in_sem (by decide) (by decide)))) 0
    ∗ semVal ((c : Thread nD τ), SemLoc.dma (semOf 1 2 (in_sem (by decide) (by decide)))) 0) :=
  Pipeline.ownSems0_eq_of_list c osem0 [0, 1, 2, 3, 4, 5] (by decide) (by decide)

theorem tables_eq (c : Dev nD) : (Pipeline.ΦT pre0 (tbl m) c : sProp 𝕄)
    = tabs c fullShare.right (V m c main_arg0) (V m c main_arg1) (V m c main_arg2) (V m c main_arg3) := by
  obtain rfl : c = 0 := Subsingleton.elim _ _
  exact bigSep_univ_eq_bigSepL [(0 : Fin 4), (1 : Fin 4), (2 : Fin 4), (3 : Fin 4)] (by decide) (by decide) _

theorem own_whole6 (c : Dev nD) (f : Buf (Elt F) ((c : Thread nD τ).loc cc0_scratch6)) :
    own (F := F) c (Memref.whole cc0_scratch6) f = (((c : Thread nD τ).loc cc0_scratch6) ↦{fullShare} f : sProp 𝕄) :=
  congrArg (fun S => (((c : Thread nD τ).loc cc0_scratch6) ↦[S]{fullShare} f : sProp 𝕄)) (View.set_whole _)

theorem held_any (c : Dev nD) (wg wu wd) (e : BitVec 32) : held (F := F) c wg wu wd e ⊢ iprop(∃ b3 b4 b5, bufs (F := F) c b3 b4 b5) := by
  unfold held
  split
  · iintro H; iexists _; iexists _; iexists _; iexact H
  · exact .rfl

theorem resting_swap (c : Dev nD) (wg wu wd) : resting (F := F) c wg wu wd 1 0 (by decide) (by decide) ⊢ resting (F := F) c wg wu wd 0 1 (by decide) (by decide) := by
  unfold resting
  iintro ⟨%g0, %g1, %g2, %h0, %h1, %h2, A0, A1, A2, S0, S1, S2, B0, B1, B2, T0, T1, T2, W0, W1, W2⟩
  iexists h0; iexists h1; iexists h2; iexists g0; iexists g1; iexists g2
  isplitl [B0]; · iexact B0
  isplitl [B1]; · iexact B1
  isplitl [B2]; · iexact B2
  isplitl [T0]; · iexact T0
  isplitl [T1]; · iexact T1
  isplitl [T2]; · iexact T2
  isplitl [A0]; · iexact A0
  isplitl [A1]; · iexact A1
  isplitl [A2]; · iexact A2
  isplitl [S0]; · iexact S0
  isplitl [S1]; · iexact S1
  isplitl [S2]; · iexact S2
  isplitl [W0]; · iexact W0
  isplitl [W1]; · iexact W1
  iexact W2

/-- With no expert named the ring is at rest. -/
theorem ring_rest (c : Dev nD) (wg wu wd) {e : BitVec 32} (h : ¬ e.toNat < 32) :
    ring (F := F) c wg wu wd e ⊢ iprop((∃ f, own (F := F) c (Memref.whole cc0_scratch6) f) ∗ resting c wg wu wd 0 1 (by decide) (by decide)) := by
  rw [ring_none c wg wu wd h]
  unfold slotWord
  iintro (⟨⟨%f, -, HS⟩, HR⟩ | ⟨⟨%f, -, HS⟩, HR⟩)
  · isplitl [HS]; · iexists f; iexact HS
    iexact HR
  · isplitl [HS]; · iexists f; iexact HS
    iapply (resting_swap c wg wu wd); iexact HR

/-- The scratch buffers, the cells and the weights as the launch hands them over are the state before the first point. -/
theorem rest_eq (c : Dev nD) : (Pipeline.ΦD osem0 spec0 H0 (V m) c : sProp 𝕄) = iprop(Pipeline.scopedRest spec0 c ∗ (∃ r, prngReg c r)
    ∗ Pipeline.ownSems0 osem0 c ∗ Pipeline.unscopedRestP pre0 spec0 c (V m c)) := rfl

theorem enter (c : Dev nD) : iprop(Pipeline.ΦD osem0 spec0 H0 (V m) c ∗ Pipeline.ΦT pre0 (tbl m) c) ⊢ Inv0 m c 0 := by
  rw [rest_eq, tables_eq, scopedRest0_eq, cells_eq, unscopedRestP0_eq]
  unfold Inv0 Inv resting bufs
  simp only [owns_whole]
  iintro ⟨⟨⟨H0, H1, H2, ⟨%f3, H3⟩, ⟨%f4, H4⟩, ⟨%f5, H5⟩, ⟨%f6, H6⟩⟩, Hg, ⟨S0, S1, S2, T0, T1, T2⟩, W0, W1, W2⟩, HT⟩
  ihave H0 := (split0 c) $$ H0
  ihave H1 := (split1 c) $$ H1
  ihave H2 := (split2 c) $$ H2
  icases H0 with ⟨⟨%g0, A0⟩, ⟨%h0, B0⟩⟩
  icases H1 with ⟨⟨%g1, A1⟩, ⟨%h1, B1⟩⟩
  icases H2 with ⟨⟨%g2, A2⟩, ⟨%h2, B2⟩⟩
  isplitl [Hg]; · iexact Hg
  isplitl [HT]; · iexact HT
  isplitl [H3 H4 H5]
  · iexists f3; iexists f4; iexists f5
    isplitl [H3]; · iexact H3
    isplitl [H4]; · iexact H4
    iexact H5
  isplitl [H6]
  · iexists f6; iapply (Entails.of_eq (own_whole6 c f6).symm); iexact H6
  iexists g0; iexists g1; iexists g2; iexists h0; iexists h1; iexists h2
  isplitl [A0]; · iexact A0
  isplitl [A1]; · iexact A1
  isplitl [A2]; · iexact A2
  isplitl [S0]; · iexact S0
  isplitl [S1]; · iexact S1
  isplitl [S2]; · iexact S2
  isplitl [B0]; · iexact B0
  isplitl [B1]; · iexact B1
  isplitl [B2]; · iexact B2
  isplitl [T0]; · iexact T0
  isplitl [T1]; · iexact T1
  isplitl [T2]; · iexact T2
  isplitl [W0]; · iexact W0
  isplitl [W1]; · iexact W1
  iexact W2

/-- What the last point leaves is what the launch takes back. -/
theorem leave (c : Dev nD) (g : GoodAt m c) : Inv0 m c 164 ⊢ Pipeline.ΦD osem0 spec0 H0 (V m) c := by
  rw [rest_eq, scopedRest0_eq, cells_eq, unscopedRestP0_eq]
  unfold Inv0
  rw [Inv_succ, tileOf_ge (t := 163) g.le]
  iintro ⟨Hg, -, HB, HR⟩
  ihave HB := (held_any c _ _ _ _) $$ HB
  ihave HR := (ring_rest c _ _ _ (fun e => g.stop (Nat.lt_of_lt_of_le e (by decide)))) $$ HR
  unfold resting bufs
  simp only [owns_whole]
  icases HB with ⟨%b3, %b4, %b5, H3, H4, H5⟩
  icases HR with ⟨⟨%f6, H6⟩, %g0, %g1, %g2, %h0, %h1, %h2, A0, A1, A2, S0, S1, S2, B0, B1, B2, T0, T1, T2, W0, W1, W2⟩
  isplitl [A0 A1 A2 B0 B1 B2 H3 H4 H5 H6]
  · isplitl [A0 B0]
    · iapply (join0 c)
      isplitl [A0]; · iexists _; iexact A0
      iexists _; iexact B0
    isplitl [A1 B1]
    · iapply (join1 c)
      isplitl [A1]; · iexists _; iexact A1
      iexists _; iexact B1
    isplitl [A2 B2]
    · iapply (join2 c)
      isplitl [A2]; · iexists _; iexact A2
      iexists _; iexact B2
    isplitl [H3]; · iexists b3; iexact H3
    isplitl [H4]; · iexists b4; iexact H4
    isplitl [H5]; · iexists b5; iexact H5
    iexists f6; iapply (Entails.of_eq (own_whole6 c f6)); iexact H6
  isplitl [Hg]; · iexact Hg
  isplitl [S0 S1 S2 T0 T1 T2]
  · isplitl [S0]; · iexact S0
    isplitl [S1]; · iexact S1
    isplitl [S2]; · iexact S2
    isplitl [T0]; · iexact T0
    isplitl [T1]; · iexact T1
    iexact T2
  isplitl [W0]; · iexact W0
  isplitl [W1]; · iexact W1
  iexact W2

/-! ## The body at a point -/

/-- The point's staging buffers. -/
abbrev stX (t : Fin (cfg0 (adm m)).N) : Memref sig .tc .vmem S256x2048 .bf16 := spec0_0.stage ((cfg0 (adm m)).slots t 0)
abbrev stY (t : Fin (cfg0 (adm m)).N) : Memref sig .tc .vmem S256x2048 .bf16 := spec0_1.stage ((cfg0 (adm m)).slots t 1)

/-- The body at a point. -/
abbrev bodyAt (t : Fin (cfg0 (adm m)).N) : Prog (TpuEff nD τ sig (Elt F) Λ₀ .tc) PUnit :=
  body (grid0.coords t) (stX m t) (hstage0_0 (((cfg0 (adm m)).slots t 0).cast nbuf0_0)) (stY m t) (hstage0_1 (((cfg0 (adm m)).slots t 1).cast nbuf0_1))

theorem defs_row (t : Fin (cfg0 (adm m)).N) :
    defs₀ (F := F) .tc (cfg0 (adm m)).body ((cfg0 (adm m)).bodyArgs t ((cfg0 (adm m)).slots t)) = bodyAt m t := by
  unfold defs₀; rw [Defs.onTc_tc]

/-- What the body finds at a point, -/
def pre (c : Dev nD) (t : Fin (cfg0 (adm m)).N) : sProp 𝕄 :=
  iprop((dats m 0 c).Φ t.castSucc ∗ (dats m 0 c).owesAt () t.castSucc
    ∗ (∃ d, owns (c : Thread nD τ) (stX m t) fullShare ((dats m 0 c).before 0 t d))
    ∗ (∃ d, owns (c : Thread nD τ) (stY m t) fullShare ((dats m 0 c).before 1 t d)))

/-- and what it leaves. -/
def post (c : Dev nD) (t : Fin (cfg0 (adm m)).N) : sProp 𝕄 :=
  iprop((dats m 0 c).Φ t.succ ∗ (dats m 0 c).owesAt () t.succ
    ∗ owns (c : Thread nD τ) (stX m t) fullShare ((dats m 0 c).after 0 t)
    ∗ owns (c : Thread nD τ) (stY m t) fullShare ((dats m 0 c).after 1 t))

theorem sound (c : Dev nD) (g : GoodAt m c) (t : Fin (cfg0 (adm m)).N) :
    pre m c t ⊢ wp frame (wpE (defs₀ (F := F)) Variants.none c none) Set.univ (bodyAt m t) (fun _ => post m c t) := by
  unfold pre post
  simp only [before_0]
  rw [after_0, after_1, show (dats m 0 c).Φ t.castSucc = Inv0 m c (grid0.coords t 0).val from congrArg (Inv0 m c) (pos_val m t).symm,
    show (dats m 0 c).Φ t.succ = Inv0 m c ((grid0.coords t 0).val + 1) from congrArg (fun n => Inv0 m c (n + 1)) (pos_val m t).symm]
  rw [show tileAt m c t = outOf c (rowsAt m c t) (V m c main_arg5) (V m c main_arg6) (V m c main_arg7) (teW m c) (nuN m c) (grid0.coords t 0).val
    from congrArg (outOf c (rowsAt m c t) (V m c main_arg5) (V m c main_arg6) (V m c main_arg7) (teW m c) (nuN m c)) (pos_val m t).symm]
  unfold Inv0
  iintro ⟨⟨Hg, HT, HI⟩, Ho, ⟨%d0, H0⟩, ⟨%d1, H1⟩⟩
  unfold Pipeline.Dat.owesAt
  icases Ho with ⟨%W, -, Ho⟩
  iapply (step c (grid0.coords t) fullShare.right (stX m t) _ (stY m t) _ (V m c main_arg0) (V m c main_arg1) (V m c main_arg2) (V m c main_arg3)
    (rowsAt m c t) ((dats m 0 c).before 1 t d1) (V m c main_arg5) (V m c main_arg6) (V m c main_arg7) g W _)
  isplitl [HT]; · iexact HT
  isplitl [H0]; · iexact H0
  isplitl [H1]; · iexact H1
  isplitl [HI]; · iexact HI
  isplitl [Ho]; · iexact Ho
  iintro ⟨HT, H0, H1, HI, ⟨%W', Ho⟩⟩
  isplitl [Hg HT HI]
  · isplitl [Hg]; · iexact Hg
    isplitl [HT]; · iexact HT
    iexact HI
  isplitl [Ho]
  · iexists W'; isplitr; · ipureintro; exact fun x _ => Or.inl (Set.mem_univ x)
    iexact Ho
  isplitl [H0]; · iexact H0
  iexact H1

/-- A window stored at a point is left at what the body leaves. -/
theorem stored {b f : Bool} (h : b = false) (P Q R : sProp 𝕄) :
    R ⊢ (match (generalizing := false) b with | true => (match (generalizing := false) f with | false => P | true => Q) | false => R) := by
  subst h; exact .rfl

theorem obligation (c : Dev nD) (g : GoodAt m c) : BodyObligation (dats (F := F) m 0 c) (defs₀ (F := F)) Variants.none () Set.univ := fun t => by
  rw [bigSep_W0, bigSep_W0, defs_row]
  refine triple_restated (sound m c g t) rfl .rfl fun _ => ?_
  unfold post
  refine sep_mono .rfl (sep_mono .rfl (sep_mono .rfl ?_))
  exact stored (f := ((cfg0 (adm m)).win 1).flush t) (busy m c g t) (iprop(∃ d, owns (c : Thread nD τ) (stY m t) fullShare ((dats m 0 c).before 1 t d)))
    (owns (c : Thread nD τ) (stY m t) fullShare ((dats m 0 c).after 1 t)) (owns (c : Thread nD τ) (stY m t) fullShare ((dats m 0 c).after 1 t))

/-! ## The run and the frame -/

set_option backward.isDefEq.respectTransparency.types false in
/-- Every weakly fair execution ends with the arrays at what the proof data name, every other buffer unchanged, and every
    semaphore at zero. -/
theorem run (g : ∀ c, GoodAt m c) : θ_run defs (onTc (τ := τ) (main (F := F))) ⟨m, fun _ => 0, ρ⟩ fun r =>
    Pipeline.FramePost (pinned m) (dats m) 0 (V m) r ∧ r.2.sem = fun _ => 0 :=
  Pipeline.θ_run_frameP_dma (Q' := _) pcfgs (fun _ => adm m) (dats m) (0 : Fin 1) (launch0 (F := F)) osem0 defs₀ Variants.none
    ownSemFacts0 H0 H0_sub m ρ main
    (hbody := fun c => (obligation m c (g c)).loose)
    (hshare := fun c => (dats m 0 c).share_full fun _ => rfl)
    (howed := fun _ _ => rfl) (V := V m)
    (hmain := Pipeline.hmainP_region pcfgs 0 defs₀ Variants.none m main (fun c => rfl))
    (hA := fun _ _ => rfl)
    (hpf := fun c k => by obtain rfl : c = 0 := Subsingleton.elim _ _; rfl)
    (hin := fun c => enter m c) (hout := fun c => leave m c (g c))

theorem arr_in (c : Dev nD) : (dats m 0 c).arrAt 0 (cfg0 (adm m)).N = V m c main_arg4 := (dats m 0 c).arrAt_in 0 rfl _

/-- The frame: the argument arrays end unchanged and every semaphore at zero. -/
theorem frame (g : ∀ c, GoodAt m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h.1 c).2 main_arg0 (show main_arg0 ∈ Pipeline.restRefs sig spec0 by decide), (h.1 c).2 main_arg1 (show main_arg1 ∈ Pipeline.restRefs sig spec0 by decide), (h.1 c).2 main_arg2 (show main_arg2 ∈ Pipeline.restRefs sig spec0 by decide),
    (h.1 c).2 main_arg3 (show main_arg3 ∈ Pipeline.restRefs sig spec0 by decide), ((h.1 c).1 0).trans (arr_in m c), (h.1 c).2 main_arg5 (show main_arg5 ∈ Pipeline.restRefs sig spec0 by decide), (h.1 c).2 main_arg6 (show main_arg6 ∈ Pipeline.restRefs sig spec0 by decide),
    (h.1 c).2 main_arg7 (show main_arg7 ∈ Pipeline.restRefs sig spec0 by decide)⟩, h.2⟩) (run m ρ g)

end Cert.Kernel7Ideal.Experts

end
-- ==== Proof.FirstPre.lean ====
/- What the precondition on the experts' tables says, read as facts about the tables' words. -/
module

public import proofs.«01_k».proof.Defs
public import proofs.«01_k».proof.Proof.Gen.Pre_tables
public import proofs.«01_k».proof.Proof.FirstFrame

@[expose] public section

set_option maxRecDepth 16384

noncomputable section

namespace Cert.Kernel7Ideal.Experts

open Idealize.ShloMosaic Idealize.ShloMosaic.TcCoe Idealize.SL.Sem

variable {F : FTy → Type} [FloatOps F]

/-! The bits of the precondition, as propositions. -/

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem not_one (a : BitVec 1) : (~~~ a) = 1#1 ↔ ¬ a = 1#1 := by revert a; decide
theorem ofBool_one (p : Bool) : BitVec.ofBool p = 1#1 ↔ p = true := by cases p <;> decide

theorem eq_one (a b : BitVec 32) : IntOp.cmpi .eq a b = 1#1 ↔ a = b := by
  simp only [IntOp.cmpi, ofBool_one, beq_iff_eq]
theorem ne_one (a b : BitVec 32) : IntOp.cmpi .ne a b = 1#1 ↔ ¬ a = b := by
  simp only [IntOp.cmpi, ofBool_one, bne_iff_ne, ne_eq]
theorem slt_one (a b : BitVec 32) : IntOp.cmpi .slt a b = 1#1 ↔ a.toInt < b.toInt := by
  simp only [IntOp.cmpi, ofBool_one, BitVec.slt_eq_decide, decide_eq_true_eq]
theorem sle_one (a b : BitVec 32) : IntOp.cmpi .sle a b = 1#1 ↔ a.toInt ≤ b.toInt := by
  simp only [IntOp.cmpi, ofBool_one, BitVec.sle_eq_decide, decide_eq_true_eq]
theorem sge_one (a b : BitVec 32) : IntOp.cmpi .sge a b = 1#1 ↔ b.toInt ≤ a.toInt := by
  simp only [IntOp.cmpi, ofBool_one, BitVec.sle_eq_decide, decide_eq_true_eq]

theorem sel_one (c a b : BitVec 1) : Scalar.select c a b = 1#1 ↔ (c = 1#1 ∧ a = 1#1) ∨ (¬ c = 1#1 ∧ b = 1#1) := by
  revert c a b; decide

theorem one_index (x : S1.Idx) : x = ix1 0 := by
  funext a; have : a = 0 := Subsingleton.elim _ _; subst this; exact Subsingleton.elim (α := Fin 1) _ _

theorem squeeze_word (f : S1.Idx → BitVec 32) (h) (x : Cert.Pre_tables.S_.Idx) : shapeCast Cert.Pre_tables.S_ f h x = f (ix1 0) :=
  congrArg f (one_index _)

theorem word_of (f : S164.Idx → BitVec 32) (t : Fin 164) : f (ix1 t) = word f t.val := by
  simp only [word, t.isLt, dif_pos, Fin.eta]

theorem slice_word (f : S164.Idx → BitVec 32) (o : ℕ) (h) (t : Fin 163) (ho : o + t.val < 164) :
    extractStridedSlice Cert.Pre_tables.S163 ![o] f h (ix1 t) = f (ix1 ⟨o + t.val, ho⟩) :=
  congrArg f (funext fun a => by have : a = 0 := Subsingleton.elim _ _; subst this; rfl)

theorem slice_bit (f : S164.Idx → BitVec 1) (o : ℕ) (h) (t : Fin 163) (ho : o + t.val < 164) :
    extractStridedSlice Cert.Pre_tables.S163 ![o] f h (ix1 t) = f (ix1 ⟨o + t.val, ho⟩) :=
  congrArg f (funext fun a => by have : a = 0 := Subsingleton.elim _ _; subst this; rfl)

variable (te tf nx : S164.Idx → BitVec 32) (nu : S1.Idx → BitVec 32)
  (x : FVec F S41984x2048 .bf16) (wg wu : FVec F S2x32x2048x512 .f32) (wd : FVec F S2x32x512x2048 .f32)

/-- The number of tiles used, and the first tile's mark. -/
theorem head_facts (h : (Cert.Pre_tables.fn (F := F) te tf nx nu x wg wu wd).1 = fun _ => 1#1) :
    (1 ≤ (nu (ix1 0)).toInt ∧ (nu (ix1 0)).toInt ≤ 164) ∧ word tf 0 = 1#32 := by
  have e := congrFun h (fun a => a.elim0)
  simp only [Cert.Pre_tables.fn, Cert.Pre_tables.fn_part1, Cert.Pre_tables.fn_part2, andi, cmpi, and_one, sge_one, sle_one, eq_one, squeeze_word, constantI] at e
  refine ⟨⟨by simpa using e.1.1, by simpa using e.1.2⟩, ?_⟩
  rw [← e.2]
  exact (word_of tf 0).symm.trans (congrArg tf (funext fun a => by have : a = 0 := Subsingleton.elim _ _; subst this; rfl))

/-- Each tile's word: inside the used ones the expert is one of 32 and so is the next, past them no run begins. -/
theorem tile_facts (h : (Cert.Pre_tables.fn (F := F) te tf nx nu x wg wu wd).2.1 = fun _ => 1#1) (t : Fin 164) :
    ((BitVec.ofNat 32 t.val).toInt < (nu (ix1 0)).toInt ∧ ((0 ≤ (word te t.val).toInt ∧ (word te t.val).toInt < 32) ∧ (word nx t.val).toInt < 32))
      ∨ (¬ (BitVec.ofNat 32 t.val).toInt < (nu (ix1 0)).toInt ∧ ¬ word tf t.val = 1#32) := by
  have e := congrFun h (ix1 t)
  simp only [Cert.Pre_tables.fn, Cert.Pre_tables.fn_part1, Cert.Pre_tables.fn_part2, Cert.Pre_tables.fn_where, andi, cmpi, select, sel_one, and_one, sge_one,
    slt_one, ne_one, broadcastInDim, squeeze_word, constantI, iotaInDim, word_of] at e
  simpa using e

/-- The last tile used has no next expert. -/
theorem stop_facts (h : (Cert.Pre_tables.fn (F := F) te tf nx nu x wg wu wd).2.2.1 = fun _ => 1#1) (t : Fin 164) :
    ¬ BitVec.ofNat 32 t.val = nu (ix1 0) - 1#32 ∨ (word nx t.val).toInt < 0 := by
  have e := congrFun h (ix1 t)
  simp only [Cert.Pre_tables.fn, Cert.Pre_tables.fn_part1, Cert.Pre_tables.fn_part2, ori, cmpi, or_one, slt_one, ne_one, broadcastInDim, subi, IntOp.subi,
    squeeze_word, constantI, iotaInDim, word_of] at e
  simpa using e

/-- Where a run begins the tile before names its expert as the next; inside a run nothing changes. -/
theorem turn_facts (h : (Cert.Pre_tables.fn (F := F) te tf nx nu x wg wu wd).2.2.2 = fun _ => 1#1) (t : Fin 163) :
    ((word tf (t.val + 1) = 1#32 ∧ word nx t.val = word te (t.val + 1))
      ∨ (¬ word tf (t.val + 1) = 1#32 ∧ word te (t.val + 1) = word te t.val ∧ word nx (t.val + 1) = word nx t.val))
      ∨ ¬ (BitVec.ofNat 32 (t.val + 1)).toInt < (nu (ix1 0)).toInt := by
  have e := congrFun h (ix1 t)
  have l0 : 0 + t.val < 164 := by omega
  have l1 : 1 + t.val < 164 := by omega
  simp only [Cert.Pre_tables.fn, Cert.Pre_tables.fn_part1, Cert.Pre_tables.fn_part2, Cert.Pre_tables.fn_where_0, andi, ori, noti, cmpi, select, sel_one,
    and_one, or_one, not_one, slt_one, eq_one, slice_word _ _ _ _ l0, slice_word _ _ _ _ l1, slice_bit _ _ _ _ l1, broadcastInDim, squeeze_word, constantI,
    iotaInDim, word_of] at e
  simpa [Nat.add_comm 1] using e

/-- The precondition makes the tables good. -/
theorem good_of (h : (Cert.Pre_tables.fn (F := F) te tf nx nu x wg wu wd).1 = (fun _ => 1#1)
      ∧ (Cert.Pre_tables.fn (F := F) te tf nx nu x wg wu wd).2.1 = (fun _ => 1#1)
      ∧ (Cert.Pre_tables.fn (F := F) te tf nx nu x wg wu wd).2.2.1 = (fun _ => 1#1)
      ∧ (Cert.Pre_tables.fn (F := F) te tf nx nu x wg wu wd).2.2.2 = fun _ => 1#1) :
    Good (word te) (word tf) (word nx) (nu (ix1 0)) := by
  obtain ⟨h1, h2, h3, h4⟩ := h
  obtain ⟨⟨hp, hl⟩, hf⟩ := head_facts te tf nx nu x wg wu wd h1
  have T := tile_facts te tf nx nu x wg wu wd h2
  have S := stop_facts te tf nx nu x wg wu wd h3
  have U := turn_facts te tf nx nu x wg wu wd h4
  clear h1 h2 h3 h4
  generalize nu (ix1 0) = n at *
  have small : ∀ k : ℕ, k < 164 → (BitVec.ofNat 32 k).toInt = (k : ℤ) := fun k hk => by
    rw [BitVec.toInt_eq_toNat_cond, BitVec.toNat_ofNat]; simp only [Nat.reducePow]; split_ifs <;> omega
  have hn : n.toInt = (n.toNat : ℤ) := by
    rw [BitVec.toInt_eq_toNat_cond] at hp hl ⊢; have := n.isLt; split_ifs at * <;> omega
  have word_int : ∀ w : BitVec 32, 0 ≤ w.toInt → w.toInt < 32 → w.toNat < 32 := fun w a b => by
    rw [BitVec.toInt_eq_toNat_cond] at a b; have := w.isLt; split_ifs at * <;> omega
  have pos_int : ∀ w : BitVec 32, w.toNat < 2 ^ 31 → 0 ≤ w.toInt := fun w a => by
    rw [BitVec.toInt_eq_toNat_cond]; split_ifs <;> omega
  rw [hn] at hp hl T U
  refine ⟨by omega, by omega, hf, fun t ht => ?_, fun t ht hx => ?_, ?_, fun t ht h164 => ?_, fun t ht hx => ?_, fun t ht hx => ?_⟩
  · rcases T ⟨t, by omega⟩ with a | a
    · exact word_int _ a.2.1.1 a.2.1.2
    · exact absurd (by rw [small t (by omega)]; omega) a.1
  · rcases T ⟨t, by omega⟩ with a | a
    · exact word_int _ (pos_int _ hx) a.2.2
    · exact absurd (by rw [small t (by omega)]; omega) a.1
  · intro hx
    rcases S ⟨n.toNat - 1, by omega⟩ with a | a
    · refine a (BitVec.eq_of_toNat_eq ?_)
      rw [BitVec.toNat_ofNat, BitVec.toNat_sub, BitVec.toNat_ofNat]; have := n.isLt; simp only [Nat.reducePow, Nat.reduceMod] at *; omega
    · exact absurd (pos_int _ hx) (by simpa using a)
  · rcases T ⟨t, h164⟩ with a | a
    · have := a.1; rw [small t h164] at this; omega
    · exact a.2
  · rcases U ⟨t, by omega⟩ with (a | a) | a
    · exact a.2
    · exact absurd hx a.1
    · exact absurd (by rw [small (t + 1) (by omega)]; omega) a
  · rcases U ⟨t, by omega⟩ with (a | a) | a
    · exact absurd a.1 hx
    · exact a.2
    · exact absurd (by rw [small (t + 1) (by omega)]; omega) a

theorem goodAt_of (m : (ℓ : Loc nD τ sig) → Buf (Elt Ideal) ℓ) (h : Cert.Pre_Kernel7Ideal m) (c : Dev nD) : GoodAt m c :=
  good_of (F := Ideal) _ _ _ _ _ _ _ _ (h c)

end Cert.Kernel7Ideal.Experts

end
-- ==== Proof.FirstRef.lean ====
/- The reference's term of the experts' value, in pieces and at an index. -/
module

public import proofs.«01_k».proof.Proof.FirstPre
public import proofs.«01_k».proof.Proof.Gen.Reference7Ideal.Run
public import Idealize.ShloMosaic.Lib.Pipeline.ValueKit
public import Idealize.ShloMosaic.Lib.Pipeline.ReadBack

@[expose] public section

set_option maxRecDepth 16384

noncomputable section

namespace Cert.Kernel7Ideal.Experts

open Idealize.ShloMosaic Idealize.ShloMosaic.TcCoe Idealize.SL.Sem
open Cert.Kernel7Ideal Cert.Kernel7Ideal.Gen

variable (x : FVec Ideal S41984x2048 .bf16) (wg wu : FVec Ideal S2x32x2048x512 .f32) (wd : FVec Ideal S2x32x512x2048 .f32)
  (te : IVec S164 32) (nu : IVec S1 32)

/-- Every row's product with every expert's projection. -/
def INTO (w : FVec Ideal S2x32x2048x512 .f32) : FVec Ideal Cert.Reference7Ideal.S41984x32x512 .f32 :=
  Host.dotGeneral Cert.Reference7Ideal.dot_S41984x2048_S32x2048x512_S41984x32x512_1_1_0_02_n_n none (extf .f32 x Cert.Reference7Ideal.Gen.bitsLt_bf16_f32) (shapeCast _ (extractStridedSlice Cert.Reference7Ideal.S1x32x2048x512 ![0, 0, 0, 0] w Cert.Reference7Ideal.Gen.slices_S2x32x2048x512_S1x32x2048x512_0_0_0_0) Cert.Reference7Ideal.Gen.shapeCasts_S1x32x2048x512_S32x2048x512)

/-- One where the row's tile is used and is the expert's, zero elsewhere. -/
def ROUTE : FVec Ideal Cert.Reference7Ideal.S41984x32 .f32 :=
  shapeCast _ (broadcastInDim Cert.Reference7Ideal.S164x256x32 ![0, 2] Cert.Reference7Ideal.Gen.bcast_S164x32_S164x256x32_0_2 (uitofp .f32 (andi (cmpi .eq (broadcastInDim Cert.Reference7Ideal.S164x32 ![0, 1] Cert.Reference7Ideal.Gen.bcast_S164x1_S164x32_0_1 (broadcastInDim Cert.Reference7Ideal.S164x1 ![0] Cert.Reference7Ideal.Gen.bcast_S164_S164x1_0 te)) (broadcastInDim Cert.Reference7Ideal.S164x32 ![0, 1] Cert.Reference7Ideal.Gen.bcast_S1x32_S164x32_0_1 (broadcastInDim Cert.Reference7Ideal.S1x32 ![1] Cert.Reference7Ideal.Gen.bcast_S32_S1x32_1 (iotaInDim Cert.Reference7Ideal.S32 32 0)))) (broadcastInDim Cert.Reference7Ideal.S164x32 ![0, 1] Cert.Reference7Ideal.Gen.bcast_S164x1_S164x32_0_1 (broadcastInDim Cert.Reference7Ideal.S164x1 ![0] Cert.Reference7Ideal.Gen.bcast_S164_S164x1_0 (cmpi .slt (iotaInDim Cert.Reference7Ideal.S164 32 0) (broadcastInDim Cert.Reference7Ideal.S164 ![] Cert.Reference7Ideal.Gen.bcast_S_S164 (shapeCast _ nu Cert.Reference7Ideal.Gen.shapeCasts_S1_S_)))))))) Cert.Reference7Ideal.Gen.shapeCasts_S164x256x32_S41984x32

/-- The gated rows of every expert, routed. -/
def MIX : FVec Ideal Cert.Reference7Ideal.S41984x32x512 .f32 :=
  mulf (mulf (mulf (INTO x wg) (Host.divf (broadcastInDim Cert.Reference7Ideal.S41984x32x512 ![] Cert.Reference7Ideal.Gen.bcast_S_S41984x32x512 (constant Cert.Reference7Ideal.S_ .f32 0x3F800000#32)) (addf (broadcastInDim Cert.Reference7Ideal.S41984x32x512 ![] Cert.Reference7Ideal.Gen.bcast_S_S41984x32x512 (constant Cert.Reference7Ideal.S_ .f32 0x3F800000#32)) (Host.exp (Host.negf (INTO x wg)))))) (INTO x wu)) (broadcastInDim Cert.Reference7Ideal.S41984x32x512 ![0, 1, 2] Cert.Reference7Ideal.Gen.bcast_S41984x32x1_S41984x32x512_0_1_2 (broadcastInDim Cert.Reference7Ideal.S41984x32x1 ![0, 1] Cert.Reference7Ideal.Gen.bcast_S41984x32_S41984x32x1_0_1 (ROUTE te nu)))

/-- The reference's term over the argument arrays. -/
def REF : FVec Ideal S41984x2048 .bf16 :=
  truncf .bf16 (Host.dotGeneral Cert.Reference7Ideal.dot_S41984x32x512_S32x512x2048_S41984x2048_12_01_0_2_n_n none (MIX x wg wu te nu) (shapeCast _ (extractStridedSlice Cert.Reference7Ideal.S1x32x512x2048 ![0, 0, 0, 0] wd Cert.Reference7Ideal.Gen.slices_S2x32x512x2048_S1x32x512x2048_0_0_0_0) Cert.Reference7Ideal.Gen.shapeCasts_S1x32x512x2048_S32x512x2048)) Cert.Reference7Ideal.Gen.bitsLt_bf16_f32

theorem INTO_at (w : FVec Ideal S2x32x2048x512 .f32) (r : Fin 41984) (e : Fin 32) (f : Fin 512) :
    INTO x w (ix3 r e f) = ∑ k : Fin 2048, x (ix2 r k) * w (ix4 0 e k f) := by
  unfold INTO
  pointwise

theorem bit_zero {b : BitVec 1} (h : ¬ b = 1#1) : b = 0#1 := by revert b; decide

theorem ROUTE_at (r : Fin 41984) (e : Fin 32) (t : Fin 164) (a : Fin 256) (h : r.val = t.val * 256 + a.val) :
    ROUTE te nu (ix2 r e) = if te (ix1 t) = BitVec.ofNat 32 e.val ∧ (BitVec.ofNat 32 t.val).toInt < (nu (ix1 0)).toInt then (1 : EReal) else 0 := by
  have eb : (t.val * 256 + a.val) / 256 = t.val := by omega
  have hR : r = ⟨t.val * 256 + a.val, by clear h; omega⟩ := Fin.ext h
  subst hR
  unfold ROUTE
  pointwise [eb]
  have e0 : (FloatOps.uitofp FTy.f32 0#1 : Ideal .f32) = (0 : EReal) := by
    show ((((0#1).toNat : ℕ) : ℝ) : EReal) = 0
    simp
  have e1 : (FloatOps.uitofp FTy.f32 1#1 : Ideal .f32) = (1 : EReal) := by
    show ((((1#1).toNat : ℕ) : ℝ) : EReal) = 1
    simp
  split_ifs with q
  · rw [(and_one _ _).mpr ⟨(eq_one _ _).mpr q.1, (slt_one _ _).mpr q.2⟩, e1]
  · rw [bit_zero (fun z => q ⟨(eq_one _ _).mp ((and_one _ _).mp z).1, (slt_one _ _).mp ((and_one _ _).mp z).2⟩), e0]

/-- A gate's value and its partner's, joined. -/
def GATED (g u : EReal) : EReal := g * Ideal.div 1 (1 + Ideal.exp (-g)) * u

theorem MIX_at (r : Fin 41984) (e : Fin 32) (f : Fin 512) :
    MIX x wg wu te nu (ix3 r e f) = GATED (INTO x wg (ix3 r e f)) (INTO x wu (ix3 r e f)) * ROUTE te nu (ix2 r e) := by
  unfold MIX
  generalize INTO x wg = g
  generalize INTO x wu = u
  generalize ROUTE te nu = p
  pointwise [GATED]

theorem REF_at (r : Fin 41984) (j : Fin 2048) :
    REF x wg wu wd te nu (ix2 r j) = ∑ e : Fin 32, ∑ f : Fin 512, MIX x wg wu te nu (ix3 r e f) * wd (ix4 0 e f j) := by
  unfold REF
  generalize MIX x wg wu te nu = p
  pointwise

/-- Where the row's tile is used the reference's term is its expert's alone, -/
theorem REF_used (r : Fin 41984) (j : Fin 2048) (t : Fin 164) (a : Fin 256) (h : r.val = t.val * 256 + a.val) (e : Fin 32)
    (he : te (ix1 t) = BitVec.ofNat 32 e.val) (hn : (BitVec.ofNat 32 t.val).toInt < (nu (ix1 0)).toInt) :
    REF x wg wu wd te nu (ix2 r j)
      = ∑ f : Fin 512, GATED (∑ k : Fin 2048, x (ix2 r k) * wg (ix4 0 e k f)) (∑ k : Fin 2048, x (ix2 r k) * wu (ix4 0 e k f)) * wd (ix4 0 e f j) := by
  rw [REF_at, Finset.sum_eq_single e]
  · refine Finset.sum_congr rfl fun f _ => ?_
    rw [MIX_at, ROUTE_at te nu r e t a h, if_pos ⟨he, hn⟩, mul_one, INTO_at, INTO_at]
  · intro e' _ ne
    refine Finset.sum_eq_zero fun f _ => ?_
    rw [MIX_at, ROUTE_at te nu r e' t a h, if_neg, mul_zero, zero_mul]
    rintro ⟨q, -⟩
    refine ne (Fin.ext ?_)
    have := congrArg BitVec.toNat (q.symm.trans he)
    have h1 := e.isLt
    have h2 := e'.isLt
    simp only [BitVec.toNat_ofNat] at this
    omega
  · exact fun q => absurd (Finset.mem_univ e) q

/-- and past the used tiles it is zero. -/
theorem REF_spare (r : Fin 41984) (j : Fin 2048) (t : Fin 164) (a : Fin 256) (h : r.val = t.val * 256 + a.val)
    (hn : ¬ (BitVec.ofNat 32 t.val).toInt < (nu (ix1 0)).toInt) : REF x wg wu wd te nu (ix2 r j) = 0 := by
  rw [REF_at]
  refine Finset.sum_eq_zero fun e _ => Finset.sum_eq_zero fun f _ => ?_
  rw [MIX_at, ROUTE_at te nu r e t a h, if_neg fun q => hn q.2, mul_zero, zero_mul]

/-! ## The kernel's blocks at an index -/

theorem pay4_at (xb : Vec Ideal S256x2048 .bf16) (g u : Vec Ideal S2048x512 .bf16) (d : Vec Ideal S512x2048 .bf16) (a : Fin 256) (j : Fin 2048) :
    k0_pay4 xb g u d (ix2 a j)
      = ∑ f : Fin 512, GATED (∑ k : Fin 2048, xb (ix2 a k) * g (ix2 k f)) (∑ k : Fin 2048, xb (ix2 a k) * u (ix2 k f)) * d (ix2 f j) := by
  pointwise [k0_pay4, GATED]
  simp only [zero_sub]

theorem pay5_at (a : Fin 256) (j : Fin 2048) : k0_pay5 (F := Ideal) (ix2 a j) = (0 : EReal) := by
  pointwise [k0_pay5]

variable (c : Dev nD)

/-- A projection squeezed and rounded, at an index. -/
theorem casts_at (y : FVec Ideal S1x1x2048x512 .f32) (h : S1x1x2048x512.ShapeCasts S2048x512) (k : Fin 2048) (f : Fin 512) :
    (k0_pay1 (truncf .bf16 (shapeCast S2048x512 y h) bitsLt_bf16_f32) (ix2 k f) : EReal) = y (ix4 0 0 k f) := by
  pointwise [k0_pay1]

theorem castsD_at (y : FVec Ideal S1x1x512x2048 .f32) (h : S1x1x512x2048.ShapeCasts S512x2048) (f : Fin 512) (j : Fin 2048) :
    (shapeCast S512x2048 (truncf .bf16 (shapeCast S512x2048 y h) bitsLt_bf16_f32) shapeCasts_S512x2048_S512x2048 (ix2 f j) : EReal) = y (ix4 0 0 f j) := by
  pointwise

variable (w : FVec Ideal S2x32x2048x512 .f32)

/-- An expert's gate projection at an index. -/
theorem gate_at {e : ℕ} (he : e < 32) (k : Fin 2048) (f : Fin 512) :
    (gateOf (F := Ideal) c w he (ix2 k f) : EReal) = w (ix4 0 ⟨e, he⟩ k f) := by
  unfold gateOf
  rw [Memref.read_squeeze_slice M5 _ _ _ (by decide : S1x1x2048x512.ShapeCasts S2048x512)]
  have key : View.readAt (Elt Ideal) M5.view (Rect.unit (s := S2x32x2048x512) ![0, e, 0, 0] S1x1x2048x512.size (in_srcW he)).toLoadRect w
      (ix4 0 0 k f) = w (ix4 0 ⟨e, he⟩ k f) :=
    congrArg w (funext fun q => Fin.ext (match q with
      | ⟨0, _⟩ => rfl | ⟨1, _⟩ => rfl
      | ⟨2, _⟩ => (by show 0 + 1 * k.val = k.val; omega) | ⟨3, _⟩ => (by show 0 + 1 * f.val = f.val; omega)))
  rw [← key]
  exact casts_at _ _ _ _

/-- An expert's up projection at an index. -/
theorem up_at {e : ℕ} (he : e < 32) (k : Fin 2048) (f : Fin 512) :
    (upOf (F := Ideal) c w he (ix2 k f) : EReal) = w (ix4 0 ⟨e, he⟩ k f) := by
  unfold upOf
  rw [Memref.read_squeeze_slice M6 _ _ _ (by decide : S1x1x2048x512.ShapeCasts S2048x512)]
  have key : View.readAt (Elt Ideal) M6.view (Rect.unit (s := S2x32x2048x512) ![0, e, 0, 0] S1x1x2048x512.size (in_srcW he)).toLoadRect w
      (ix4 0 0 k f) = w (ix4 0 ⟨e, he⟩ k f) :=
    congrArg w (funext fun q => Fin.ext (match q with
      | ⟨0, _⟩ => rfl | ⟨1, _⟩ => rfl
      | ⟨2, _⟩ => (by show 0 + 1 * k.val = k.val; omega) | ⟨3, _⟩ => (by show 0 + 1 * f.val = f.val; omega)))
  rw [← key]
  exact casts_at _ _ _ _

/-- An expert's down projection at an index. -/
theorem down_at {e : ℕ} (he : e < 32) (f : Fin 512) (j : Fin 2048) :
    (downOf (F := Ideal) c wd he (ix2 f j) : EReal) = wd (ix4 0 ⟨e, he⟩ f j) := by
  unfold downOf
  rw [Memref.read_squeeze_slice M7 _ _ _ (by decide : S1x1x512x2048.ShapeCasts S512x2048)]
  have key : View.readAt (Elt Ideal) M7.view (Rect.unit (s := S2x32x512x2048) ![0, e, 0, 0] S1x1x512x2048.size (in_srcD he)).toLoadRect wd
      (ix4 0 0 f j) = wd (ix4 0 ⟨e, he⟩ f j) :=
    congrArg wd (funext fun q => Fin.ext (match q with
      | ⟨0, _⟩ => rfl | ⟨1, _⟩ => rfl
      | ⟨2, _⟩ => (by show 0 + 1 * f.val = f.val; omega) | ⟨3, _⟩ => (by show 0 + 1 * j.val = j.val; omega)))
  rw [← key]
  exact castsD_at _ _ _ _

end Cert.Kernel7Ideal.Experts

end
-- ==== Proof.FirstVal.lean ====
/- The value of the first layer's experts' kernel (`Kernel7Ideal`): its array is the reference's term. -/
module

public import proofs.«01_k».proof.Proof.FirstRef
public import Idealize.ShloMosaic.Lib.Pipeline.Covers

@[expose] public section

set_option maxRecDepth 16384

noncomputable section

namespace Cert.Kernel7Ideal.Experts

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The result's block of a point is the tile of its number. -/
theorem out_index (t : Fin (cfg0 (adm m)).N) : ((cfg0 (adm m)).win 1).index t = ![t.val, 0] := by
  have hN : t.val < 164 := lt_of_lt_of_eq t.isLt (show (cfg0 (adm m)).N = 164 from N_0)
  have hp := pos_val m t
  funext a
  match a with
  | ⟨0, _⟩ =>
    show (BitVec.ofNat 32 (grid0.coords t 0).val).toNat = t.val
    rw [off_val, hp]
  | ⟨1, _⟩ => rfl

/-- The rows' block of a tile in use is the tile's. -/
theorem rows_index (t : Fin (cfg0 (adm m)).N) (g : GoodAt m 0) (h : t.val < nuN m 0) : ((cfg0 (adm m)).win 0).index t = ![t.val, 0] := by
  have hp := pos_val m t
  funext a
  match a with
  | ⟨0, _⟩ =>
    show (Scalar.minsi (BitVec.ofNat 32 (grid0.coords t 0).val) (Scalar.maxsi 0#32 (Scalar.subi ((tbl m).at 3 (Rect.unit (s := S1) ![0] S1.size inb_S1_S1_0) numel1_S1) 1#32))).toNat = t.val
    rw [hp]
    have key : ∀ w : BitVec 32, w = V m 0 main_arg3 (ix1 0) → (Scalar.minsi (BitVec.ofNat 32 t.val) (Scalar.maxsi 0#32 (Scalar.subi w 1#32))).toNat = t.val :=
      fun w hw => clamp_eq t.val (nuN m 0) h g.le w (congrArg BitVec.toNat hw)
    refine key _ (congrArg (V m 0 main_arg3) ?_)
    funext a; match a with | ⟨0, _⟩ => rfl
  | ⟨1, _⟩ => rfl

/-- The result's block at an index. -/
theorem oread (t : Fin (cfg0 (adm m)).N) (r : Fin 256) (j : Fin 2048) (hr : t.val * 256 + r.val < 41984) :
    (((cfg0 (adm m)).win 1).blk t).view.emb (ix2 r j) = (ix2 ⟨t.val * 256 + r.val, hr⟩ j : S41984x2048.Idx) := by
  blk_ext [out_index m t]

/-- The rows' block at an index. -/
theorem rread (t : Fin (cfg0 (adm m)).N) (g : GoodAt m 0) (h : t.val < nuN m 0) (r : Fin 256) (k : Fin 2048) (hr : t.val * 256 + r.val < 41984) :
    (rowsAt m 0 t : FVec Ideal S256x2048 .bf16) (ix2 r k) = (m (((0 : Dev nD) : Thread nD τ).loc main_arg4) : FVec Ideal S41984x2048 .bf16) (ix2 ⟨t.val * 256 + r.val, hr⟩ k) := by
  blk_ext [rowsAt, rows_index m t g h]

/-- Every block index of the result is a point's. -/
theorem out_surj (β : (a : Fin 2) → Fin ((S41984x2048.size a + S256x2048.size a - 1) / S256x2048.size a)) :
    ∃ t : Fin grid0.N, ∀ a : Fin 2, cc0_transform_4 (grid0.coords t) a = (β a).val := by
  have h0 : (β 0).val < 164 := (β 0).isLt
  have h1 : (β 1).val < 1 := (β 1).isLt
  have hN : grid0.N = 164 := N_0
  refine ⟨⟨(β 0).val, by omega⟩, fun a => ?_⟩
  match a with
  | ⟨0, _⟩ =>
    show (BitVec.ofNat 32 (grid0.coords ⟨(β 0).val, _⟩ 0).val).toNat = (β 0).val
    have e : (grid0.coords ⟨(β 0).val, by omega⟩ 0).val = (β 0).val / 1 % 164 := Pipeline.Grid.coords_val (G := grid0) _ 0 (by decide) rfl
    rw [off_val, e]; omega
  | ⟨1, _⟩ => exact (Nat.lt_one_iff.mp h1).symm

/-- The result's blocks cover its array. -/
theorem covers : ((cfg0 (adm m)).win 1).Covers :=
  Pipeline.Window.covers_of_index_surj _ rfl (show ∀ a : Fin 2, 0 < S256x2048.size a by decide) fun β => out_surj β

/-- A block's index by its coordinates. -/
theorem coords_of (y : S256x2048.Idx) : ∃ (r : Fin 256) (j : Fin 2048), y = ix2 r j :=
  ⟨y 0, y 1, by funext a; fin_cases a <;> rfl⟩

/-- The reference's term over the argument arrays. -/
abbrev REFm : FVec Ideal S41984x2048 .bf16 :=
  REF (m (((0 : Dev nD) : Thread nD τ).loc main_arg4)) (m (((0 : Dev nD) : Thread nD τ).loc main_arg5)) (m (((0 : Dev nD) : Thread nD τ).loc main_arg6))
    (m (((0 : Dev nD) : Thread nD τ).loc main_arg7)) (m (((0 : Dev nD) : Thread nD τ).loc main_arg0)) (m (((0 : Dev nD) : Thread nD τ).loc main_arg3))

/-- What a point stores, at a block index, is the reference's term there. -/
theorem point (t : Fin (cfg0 (adm m)).N) (g : GoodAt m 0) (r : Fin 256) (j : Fin 2048) (hr : t.val * 256 + r.val < 41984) :
    (tileAt m 0 t (ix2 r j) : EReal) = REFm m (ix2 ⟨t.val * 256 + r.val, hr⟩ j) := by
  have hN : t.val < 164 := lt_of_lt_of_eq t.isLt (show (cfg0 (adm m)).N = 164 from N_0)
  have hle : nuN m 0 ≤ 164 := g.le
  have ht : (BitVec.ofNat 32 t.val).toInt = (t.val : ℤ) := by
    rw [BitVec.toInt_eq_toNat_cond, BitVec.toNat_ofNat]; simp only [Nat.reducePow]; split_ifs <;> omega
  have hn : (V m 0 main_arg3 (ix1 0) : BitVec 32).toInt = (nuN m 0 : ℤ) := by
    have small : ∀ w : BitVec 32, w.toNat ≤ 164 → w.toInt = (w.toNat : ℤ) := fun w hw => by
      rw [BitVec.toInt_eq_toNat_cond]; split_ifs <;> omega
    exact small _ hle
  unfold tileAt outOf
  by_cases h : t.val < nuN m 0
  · have he : (teW m 0 t.val).toNat < 32 := g.te_lt t.val h
    rw [if_pos h, tileOut_of _ _ _ _ _ he, pay4_at]
    refine Eq.trans ?_ (REF_used _ _ _ _ _ _ ⟨t.val * 256 + r.val, hr⟩ j ⟨t.val, hN⟩ r rfl ⟨(teW m 0 t.val).toNat, he⟩
        ((word_of _ ⟨t.val, hN⟩).trans (BitVec.eq_of_toNat_eq (by
          rw [BitVec.toNat_ofNat]; exact (Nat.mod_eq_of_lt (lt_trans he (by decide))).symm))) (by
          show (BitVec.ofNat 32 t.val).toInt < (V m 0 main_arg3 (ix1 0) : BitVec 32).toInt
          rw [ht, hn]; omega)).symm
    refine Finset.sum_congr rfl fun f _ => ?_
    rw [down_at]
    congr 2
    · exact Finset.sum_congr rfl fun k _ => by rw [gate_at, rread m t g h r k hr]
    · exact Finset.sum_congr rfl fun k _ => by rw [up_at, rread m t g h r k hr]
  · rw [if_neg h, pay5_at]
    exact (REF_spare _ _ _ _ _ _ ⟨t.val * 256 + r.val, hr⟩ j ⟨t.val, hN⟩ r rfl (by
      show ¬ (BitVec.ofNat 32 t.val).toInt < (V m 0 main_arg3 (ix1 0) : BitVec 32).toInt
      rw [ht, hn]; omega)).symm

/-- The result array after the run is the reference's term. -/
theorem final (g : GoodAt m 0) : (dats m 0 0).arrAt 1 (cfg0 (adm m)).N = REFm m := by
  refine (dats m 0 0).arrAt_eq_of_covers 1 _ (covers m) fun t _ y => ?_
  blk_simp
  rw [after_1]
  have hN : t.val < 164 := lt_of_lt_of_eq t.isLt (show (cfg0 (adm m)).N = 164 from N_0)
  obtain ⟨r, j, rfl⟩ := coords_of y
  have hr : t.val * 256 + r.val < 41984 := by omega
  rw [oread m t r j hr]
  exact point m t g r j hr

end Cert.Kernel7Ideal.Experts

end
-- ==== Proof.FirstClaims.lean ====
/- The claims of the first layer's experts' kernel: its frames, its reference's, and its value. -/
module

public import proofs.«01_k».proof.Proof.FirstVal
public import proofs.«01_k».proof.Proof.Gen.Kernel7
public import proofs.«01_k».proof.Proof.Gen.Reference7Ideal.Run

@[expose] public section

set_option maxRecDepth 16384

noncomputable section

namespace Cert.Proof

open Idealize.ShloMosaic Idealize.ShloMosaic.TcCoe Idealize.SL.Sem

/-- The two body tables of the experts' programs are one. -/
theorem defs_seven (hK : Cert.Kernel7.Facts := Cert.Kernel7.Gen.facts) (hI : Cert.Kernel7Ideal.Facts := Cert.Kernel7Ideal.Gen.facts) :
    @Cert.Kernel7.defs Bits _ hK = @Cert.Kernel7Ideal.defs Bits _ hI := by sl_kernel_rfl

/-- The frame of `Kernel7`. -/
theorem quiescent_k7 : Cert.quiescent_Kernel7 (hKernel7 := Cert.Kernel7.Gen.facts) (hPre_tables := Cert.Pre_tables.Gen.facts) := by
  intro m ρ h
  rw [defs_seven]
  exact (θ_run Cert.Kernel7Ideal.defs _ _).mono (fun _ h => ⟨fun c => h.1 c, h.2⟩)
    (Cert.Kernel7Ideal.Experts.frame (F := Bits) m ρ fun c => Cert.Kernel7Ideal.Experts.good_of (F := Bits) _ _ _ _ _ _ _ _ (h c))

/-- The frame of `Kernel7Ideal`. -/
theorem quiescent_k7i : Cert.quiescent_Kernel7Ideal (hKernel7Ideal := Cert.Kernel7Ideal.Gen.facts) (hPre_tables := Cert.Pre_tables.Gen.facts) := fun m ρ h =>
  Cert.Kernel7Ideal.Experts.frame m ρ fun c => Cert.Kernel7Ideal.Experts.goodAt_of m h c

/-- The frame of `Reference7Ideal`. -/
theorem quiescent_r7 : Cert.quiescent_Reference7Ideal (hReference7Ideal := Cert.Reference7Ideal.Gen.facts) := fun m g _ =>
  (θ_run Cert.Reference7Ideal.defs _ _).mono (fun _ h => ⟨fun c => (h c).2, funext fun s => nomatch s.2⟩)
    (Cert.Reference7Ideal.Value.run m g)

/-- The same under the precondition. -/
theorem quiescent_r7_pre : Cert.quiescent_Reference7Ideal_pre_tables (hReference7Ideal := Cert.Reference7Ideal.Gen.facts) (hPre_tables := Cert.Pre_tables.Gen.facts) :=
  fun m g _ =>
  (θ_run Cert.Reference7Ideal.defs _ _).mono (fun _ h => ⟨fun c => (h c).2, funext fun s => nomatch s.2⟩)
    (Cert.Reference7Ideal.Value.run m g)

/-- The run of `Kernel7Ideal` with its result named. -/
theorem run_seven (m : (ℓ : Loc Cert.Kernel7Ideal.nD Cert.Kernel7Ideal.τ Cert.Kernel7Ideal.sig) → Buf (Elt Ideal) ℓ) (ρ : Dev Cert.Kernel7Ideal.nD → PrngReg)
    (g : ∀ c, Cert.Kernel7Ideal.Experts.GoodAt m c) :
    θ_run (Cert.Kernel7Ideal.defs (F := Ideal)) (onTc (τ := Cert.Kernel7Ideal.τ) (Cert.Kernel7Ideal.main (F := Ideal))) ⟨m, fun _ => 0, ρ⟩ (fun r => ∀ c : Dev Cert.Kernel7Ideal.nD,
      r.2.mem ((c.tc : Thread Cert.Kernel7Ideal.nD Cert.Kernel7Ideal.τ).loc Cert.Kernel7Ideal.main_v0) = Cert.Kernel7Ideal.Experts.REFm m) :=
  (θ_run Cert.Kernel7Ideal.defs _ _).mono (fun r h c => by
    obtain rfl : c = 0 := Subsingleton.elim _ _
    exact ((h.1 0).1 1).trans (Cert.Kernel7Ideal.Experts.final m (g 0))) (Cert.Kernel7Ideal.Experts.run m ρ g)

/-- The value of `Kernel7Ideal` is `Reference7Ideal`'s. -/
theorem algebraic_7 : Cert.algebraic_Kernel7Ideal_Reference7Ideal
    (hKernel7Ideal := Cert.Kernel7Ideal.Gen.facts) (hReference7Ideal := Cert.Reference7Ideal.Gen.facts) (hPre_tables := Cert.Pre_tables.Gen.facts) :=
  fun m g m' g' hp hag => ⟨fun c => Cert.Kernel7Ideal.Experts.REFm m,
    (θ_run Cert.Kernel7Ideal.defs _ _).mono (fun _ h c => ⟨h.1 c, h.2.1 c⟩)
      (θ_run_and (run_seven m g fun c => Cert.Kernel7Ideal.Experts.goodAt_of m hp c)
        (Cert.Kernel7Ideal.Experts.frame m g fun c => Cert.Kernel7Ideal.Experts.goodAt_of m hp c)),
    (θ_run Cert.Reference7Ideal.defs _ _).mono (fun _ h c => by
      obtain rfl : c = 0 := Subsingleton.elim _ _
      obtain ⟨e0, e1, e2, e3, e4, e5, e6, e7⟩ := hag 0
      refine ⟨(h 0).1.trans ?_, (h 0).2⟩
      rw [e0, e3, e4, e5, e6, e7]
      rfl)
      (Cert.Reference7Ideal.Value.run m' g')⟩

end Cert.Proof

end
-- ==== Proof.ConvInRun.lean ====
/- One point of the short convolution's input half (`KernelIdeal`): the body run on any whole buffers, the carried last
   rows named. The first run is a point of the first column tile (the normed rows are written), the second any other. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.ConvIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The point is in the first column tile. -/
abbrev First (i : grid0.Coords) : Prop :=
  (Scalar.cmpi .ne (Scalar.extui (Scalar.cmpi .eq (BitVec.ofNat 32 (i 1).val) 0#32)) 0#32) = 1#1

variable (c : Dev nD) (i : grid0.Coords)
  (bx : Memref sig .tc .vmem S1024x2048 .f32) (hbx : bx.IsWhole) (bg : Memref sig .tc .vmem S1x2048 .f32) (hbg : bg.IsWhole)
  (bb : Memref sig .tc .vmem S2048x512 .bf16) (hbb : bb.IsWhole) (bc : Memref sig .tc .vmem S2048x512 .bf16) (hbc : bc.IsWhole)
  (bh : Memref sig .tc .vmem S2048x512 .bf16) (hbh : bh.IsWhole) (bw : Memref sig .tc .vmem S3x512 .f32) (hbw : bw.IsWhole)
  (bl : Memref sig .tc .vmem S8x512 .f32) (hbl : bl.IsWhole) (bo : Memref sig .tc .vmem S1024x512 .bf16) (hbo : bo.IsWhole)
  (bm : Memref sig .tc .vmem S8x512 .f32) (hbm : bm.IsWhole) (bn : Memref sig .tc .vmem S1024x2048 .bf16) (hbn : bn.IsWhole)
  (bk : Memref sig .tc .vmem S4x8x512 .f32) (hbk : bk.IsWhole)
  (x : Vec F S1024x2048 .f32) (g : Vec F S1x2048 .f32) (wb wc wh : Vec F S2048x512 .bf16) (cw : Vec F S3x512 .f32)
  (ld : Vec F S8x512 .f32) (xn : Vec F S1024x2048 .bf16) (kr : Vec F S4x8x512 .f32)

/-- The seven input buffers at their contents. -/
abbrev ins : sProp 𝕄 :=
  iprop(owns (c : Thread nD τ) bx fullShare x ∗ owns (c : Thread nD τ) bg fullShare g ∗ owns (c : Thread nD τ) bb fullShare wb
    ∗ owns (c : Thread nD τ) bc fullShare wc ∗ owns (c : Thread nD τ) bh fullShare wh ∗ owns (c : Thread nD τ) bw fullShare cw
    ∗ owns (c : Thread nD τ) bl fullShare ld)

set_option maxHeartbeats 1600000 in
/-- The body at a point of the first column tile: the pieces its stores leave in the outputs, in the normed rows and in the
    carried rows, with the run that leaves them. -/
def runA (hc : First i) :
    Σ' (LO : List (View.Piece (Elt F) S1024x512 .bf16)) (LM : List (View.Piece (Elt F) S8x512 .f32)) (LN : List (View.Piece (Elt F) S1024x2048 .bf16)),
      { LK : List (View.Piece (Elt F) S4x8x512 .f32) //
      ∀ (E : Set ℕ) (K : PUnit → sProp 𝕄),
        iprop(ins c bx bg bb bc bh bw bl x g wb wc wh cw ld
            ∗ (∃ d, owns (c : Thread nD τ) bo fullShare d) ∗ (∃ d, owns (c : Thread nD τ) bm fullShare d)
            ∗ (∃ d, owns (c : Thread nD τ) bn fullShare d) ∗ owns (c : Thread nD τ) bk fullShare kr
            ∗ (iprop(ins c bx bg bb bc bh bw bl x g wb wc wh cw ld
              ∗ (∃ f, bo.view.loc (c : Thread nD τ) ↦[bo.view.set]{fullShare} bo.view.writes (Elt F) f LO)
              ∗ (∃ f, bm.view.loc (c : Thread nD τ) ↦[bm.view.set]{fullShare} bm.view.writes (Elt F) f LM)
              ∗ (∃ f, bn.view.loc (c : Thread nD τ) ↦[bn.view.set]{fullShare} bn.view.writes (Elt F) f LN)
              ∗ bk.view.loc (c : Thread nD τ) ↦[bk.view.set]{fullShare} bk.view.writes (Elt F) (hbk.unread kr) LK) -∗ K ⟨⟩))
          ⊢ wp frame (wpE (defs₀ (F := F)) Variants.none c none) E
              (cc0_conv_in i bx hbx bg hbg bb hbb bc hbc bh hbh bw hbw bl hbl bo hbo bm hbm bn hbn bk hbk) K } := by
  refine ⟨?_, ?_, ?_, ?_, fun E K => ?run⟩
  case run =>
    simp only [cc0_conv_in_eq_skeleton]; unfold cc0_conv_in_skel
    simp only [k0_part1_eq_skeleton, k0_part2_eq_skeleton, k0_part3_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%do_, %fo, -, HO⟩, ⟨%dm, %fm, -, HM⟩, ⟨%dn, %fn, -, HN⟩, ⟨%fk, %hfk, HK⟩, Hk⟩
    obtain rfl := hbx.eq_unread hf0; obtain rfl := hbg.eq_unread hf1; obtain rfl := hbb.eq_unread hf2
    obtain rfl := hbc.eq_unread hf3; obtain rfl := hbh.eq_unread hf4; obtain rfl := hbw.eq_unread hf5
    obtain rfl := hbl.eq_unread hf6; obtain rfl := hbk.eq_unread hfk
    sl_exec (disch := first | sl_exact hc)
    sl_step
    iapply Hk
    isplitl [H0 H1 H2 H3 H4 H5 H6]
    · isplitl [H0]
      · iexists _; isplitr; · ipureintro; exact hbx.read_unread _
        iexact H0
      isplitl [H1]
      · iexists _; isplitr; · ipureintro; exact hbg.read_unread _
        iexact H1
      isplitl [H2]
      · iexists _; isplitr; · ipureintro; exact hbb.read_unread _
        iexact H2
      isplitl [H3]
      · iexists _; isplitr; · ipureintro; exact hbc.read_unread _
        iexact H3
      isplitl [H4]
      · iexists _; isplitr; · ipureintro; exact hbh.read_unread _
        iexact H4
      isplitl [H5]
      · iexists _; isplitr; · ipureintro; exact hbw.read_unread _
        iexact H5
      iexists _; isplitr; · ipureintro; exact hbl.read_unread _
      iexact H6
    isplitl [HO]; · iexists _; iexact HO
    isplitl [HM]; · iexists _; iexact HM
    isplitl [HN]; · iexists _; iexact HN
    iexact HK

set_option maxHeartbeats 1600000 in
/-- The body at a point of another column tile, the normed rows carried from the point before. -/
def runB (hc : ¬First i) :
    Σ' (LO : List (View.Piece (Elt F) S1024x512 .bf16)) (LM : List (View.Piece (Elt F) S8x512 .f32)),
      { LK : List (View.Piece (Elt F) S4x8x512 .f32) //
      ∀ (E : Set ℕ) (K : PUnit → sProp 𝕄),
        iprop(ins c bx bg bb bc bh bw bl x g wb wc wh cw ld
            ∗ (∃ d, owns (c : Thread nD τ) bo fullShare d) ∗ (∃ d, owns (c : Thread nD τ) bm fullShare d)
            ∗ owns (c : Thread nD τ) bn fullShare xn ∗ owns (c : Thread nD τ) bk fullShare kr
            ∗ (iprop(ins c bx bg bb bc bh bw bl x g wb wc wh cw ld
              ∗ (∃ f, bo.view.loc (c : Thread nD τ) ↦[bo.view.set]{fullShare} bo.view.writes (Elt F) f LO)
              ∗ (∃ f, bm.view.loc (c : Thread nD τ) ↦[bm.view.set]{fullShare} bm.view.writes (Elt F) f LM)
              ∗ owns (c : Thread nD τ) bn fullShare xn
              ∗ bk.view.loc (c : Thread nD τ) ↦[bk.view.set]{fullShare} bk.view.writes (Elt F) (hbk.unread kr) LK) -∗ K ⟨⟩))
          ⊢ wp frame (wpE (defs₀ (F := F)) Variants.none c none) E
              (cc0_conv_in i bx hbx bg hbg bb hbb bc hbc bh hbh bw hbw bl hbl bo hbo bm hbm bn hbn bk hbk) K } := by
  refine ⟨?_, ?_, ?_, fun E K => ?run⟩
  case run =>
    simp only [cc0_conv_in_eq_skeleton]; unfold cc0_conv_in_skel
    simp only [k0_part1_eq_skeleton, k0_part2_eq_skeleton, k0_part3_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%do_, %fo, -, HO⟩, ⟨%dm, %fm, -, HM⟩, ⟨%fn, %hfn, HN⟩, ⟨%fk, %hfk, HK⟩, Hk⟩
    obtain rfl := hbx.eq_unread hf0; obtain rfl := hbg.eq_unread hf1; obtain rfl := hbb.eq_unread hf2
    obtain rfl := hbc.eq_unread hf3; obtain rfl := hbh.eq_unread hf4; obtain rfl := hbw.eq_unread hf5
    obtain rfl := hbl.eq_unread hf6; obtain rfl := hbk.eq_unread hfk; obtain rfl := hbn.eq_unread hfn
    sl_exec (disch := first | sl_exact hc)
    sl_step
    iapply Hk
    isplitl [H0 H1 H2 H3 H4 H5 H6]
    · isplitl [H0]
      · iexists _; isplitr; · ipureintro; exact hbx.read_unread _
        iexact H0
      isplitl [H1]
      · iexists _; isplitr; · ipureintro; exact hbg.read_unread _
        iexact H1
      isplitl [H2]
      · iexists _; isplitr; · ipureintro; exact hbb.read_unread _
        iexact H2
      isplitl [H3]
      · iexists _; isplitr; · ipureintro; exact hbc.read_unread _
        iexact H3
      isplitl [H4]
      · iexists _; isplitr; · ipureintro; exact hbh.read_unread _
        iexact H4
      isplitl [H5]
      · iexists _; isplitr; · ipureintro; exact hbw.read_unread _
        iexact H5
      iexists _; isplitr; · ipureintro; exact hbl.read_unread _
      iexact H6
    isplitl [HO]; · iexists _; iexact HO
    isplitl [HM]; · iexists _; iexact HM
    isplitl [HN]
    · iexists _; isplitr; · ipureintro; exact hbn.read_unread _
      iexact HN
    iexact HK

end Cert.KernelIdeal.ConvIn

end
-- ==== Proof.ConvInVal.lean ====
/- The short convolution's input half (`KernelIdeal`) run over its grid: what every point leaves in the outputs, in the normed
   rows and in the carried last rows, and the run of the whole program with its two output arrays named. -/
module

public import proofs.«01_k».proof.Proof.ConvInRun
public import Idealize.ShloMosaic.Lib.Pipeline.ValueKit
public import Idealize.ShloMosaic.Lib.Writes

@[expose] public section

set_option maxRecDepth 16384

noncomputable section

namespace Cert.KernelIdeal.ConvIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What a point stores -/

section Values

variable (i : grid0.Coords) (x : Vec F S1024x2048 .f32) (g : Vec F S1x2048 .f32) (wb wc wh : Vec F S2048x512 .bf16)
  (cw : Vec F S3x512 .f32) (lead : Vec F S8x512 .f32) (xn : Vec F S1024x2048 .bf16) (kr : Vec F S4x8x512 .f32)

/-- The left half of a weights' block. -/
abbrev wL (w : Vec F S2048x512 .bf16) : Vec F S2048x256 .bf16 :=
  View.ld w (Rect.unit (s := S2048x512) ![0, 0] S2048x256.size inb_S2048x512_S2048x256_0_0)
/-- Its right half. -/
abbrev wR (w : Vec F S2048x512 .bf16) : Vec F S2048x256 .bf16 :=
  View.ld w (Rect.unit (s := S2048x512) ![0, 256] S2048x256.size inb_S2048x512_S2048x256_0_256)

/-- The product of the two gates' halves, left columns. -/
def vL : FVec F S1024x256 .f32 := k0_pay9 xn (wL wc) (wL wh)
/-- The same, right columns. -/
def vR : FVec F S1024x256 .f32 := k0_pay13 (k0_pay7 xn (wR wc)) (k0_pay8 xn (wR wh))

/-- Whether the row tile opens a sequence. -/
def opens : BitVec 1 := Scalar.cmpi .eq (Scalar.remsi (BitVec.ofNat 32 (i 0).val) 4#32) 0#32
/-- The row of every element of a tile. -/
def rows : IVec S1024x256 32 := iota .tc S1024x256 32 [0] iota_S1024x256_d0_w32

/-- The gated convolution's left columns. -/
def gL : FVec F S1024x256 .bf16 :=
  k0_pay10 (opens i) rows (k0_pay5 xn (wL wb)) (vL wc wh xn)
    (View.ld lead (Rect.unit (s := S8x512) ![0, 0] S8x256.size inb_S8x512_S8x256_0_0))
    (View.ld kr (Rect.unit (s := S4x8x512) (k0_off1 i) S1x8x256.size (k0_off1_inb i)))
    (View.ld cw (Rect.unit (s := S3x512) ![0, 0] S1x256.size inb_S3x512_S1x256_0_0))
    (View.ld cw (Rect.unit (s := S3x512) ![1, 0] S1x256.size inb_S3x512_S1x256_1_0))
    (View.ld cw (Rect.unit (s := S3x512) ![2, 0] S1x256.size inb_S3x512_S1x256_2_0))
/-- Its right columns. -/
def gR : FVec F S1024x256 .bf16 :=
  k0_pay1 (k0_pay14 (opens i) rows (k0_pay6 xn (wR wb)) (k0_pay7 xn (wR wc)) (k0_pay8 xn (wR wh))
    (View.ld lead (Rect.unit (s := S8x512) ![0, 256] S8x256.size inb_S8x512_S8x256_0_256))
    (View.ld kr (Rect.unit (s := S4x8x512) (k0_off2 i) S1x8x256.size (k0_off2_inb i)))
    (View.ld cw (Rect.unit (s := S3x512) ![0, 256] S1x256.size inb_S3x512_S1x256_0_256))
    (View.ld cw (Rect.unit (s := S3x512) ![1, 256] S1x256.size inb_S3x512_S1x256_1_256))
    (View.ld cw (Rect.unit (s := S3x512) ![2, 256] S1x256.size inb_S3x512_S1x256_2_256)))

/-- The first output's block. -/
def outO : Vec F S1024x512 .bf16 :=
  View.canon [⟨Rect.unit (s := S1024x512) ![0, 256] S1024x256.size inb_S1024x512_S1024x256_0_256, gR i wb wc wh cw lead xn kr⟩,
    ⟨Rect.unit (s := S1024x512) ![0, 0] S1024x256.size inb_S1024x512_S1024x256_0_0, gL i wb wc wh cw lead xn kr⟩]
/-- The second output's block. -/
def outM : Vec F S8x512 .f32 :=
  View.canon [⟨Rect.unit (s := S8x512) ![0, 256] S8x256.size inb_S8x512_S8x256_0_256, k0_pay3 (vR wc wh xn)⟩,
    ⟨Rect.unit (s := S8x512) ![0, 0] S8x256.size inb_S8x512_S8x256_0_0, k0_pay12 (vL wc wh xn)⟩]
/-- What is stored into the carried rows. -/
def putK : List (View.Piece (Elt F) S4x8x512 .f32) :=
  [⟨Rect.unit (s := S4x8x512) (k0_off2 i) S1x8x256.size (k0_off2_inb i), k0_pay2 (vR wc wh xn)⟩,
    ⟨Rect.unit (s := S4x8x512) (k0_off1 i) S1x8x256.size (k0_off1_inb i), k0_pay11 (vL wc wh xn)⟩]
/-- The tile's last rows, carried to the next row tile. -/
def last : Vec F S8x512 .f32 := fun y =>
  if h : (y 1).val < 256 then k0_pay11 (vL wc wh xn) (ix3 0 (y 0) ⟨(y 1).val, h⟩)
  else k0_pay2 (vR wc wh xn) (ix3 0 (y 0) ⟨(y 1).val - 256, by have h1 : (y 1).val < 512 := (y 1).isLt; omega⟩)

/-- The point's column tile. -/
def col (i : grid0.Coords) : Fin 4 := ⟨(i 1).val, (i 1).isLt⟩

theorem ld_left (kr : Vec F S4x8x512 .f32) :
    (View.ld kr (Rect.unit (s := S4x8x512) (k0_off1 i) S1x8x256.size (k0_off1_inb i)) : Vec F S1x8x256 .f32)
      = fun y : S1x8x256.Idx => kr (ix3 (col i) (y 1) ⟨(y 2).val, Nat.lt_of_lt_of_le (y 2).isLt (by decide)⟩) := by
  funext y
  rw [View.ld_apply]
  refine congrArg kr (funext fun a => Fin.ext ?_)
  have h0 : (y 0).val = 0 := Nat.lt_one_iff.mp (y 0).isLt
  have e0 : k0_off1 i 0 = (i 1).val := congrFun (k0_off1_eq i) 0
  have e1 : k0_off1 i 1 = 0 := congrFun (k0_off1_eq i) 1
  have e2 : k0_off1 i 2 = 0 := congrFun (k0_off1_eq i) 2
  refine (Rect.idx_unit_val _ _ _ _ _).trans ?_
  fin_cases a
  · show k0_off1 i 0 + (y 0).val = (i 1).val; omega
  · show k0_off1 i 1 + (y 1).val = (y 1).val; omega
  · show k0_off1 i 2 + (y 2).val = (y 2).val; omega

theorem ld_right (kr : Vec F S4x8x512 .f32) :
    (View.ld kr (Rect.unit (s := S4x8x512) (k0_off2 i) S1x8x256.size (k0_off2_inb i)) : Vec F S1x8x256 .f32)
      = fun y : S1x8x256.Idx => kr (ix3 (col i) (y 1) ⟨256 + (y 2).val, Nat.add_lt_add_left (y 2).isLt 256⟩) := by
  funext y
  rw [View.ld_apply]
  refine congrArg kr (funext fun a => Fin.ext ?_)
  have h0 : (y 0).val = 0 := Nat.lt_one_iff.mp (y 0).isLt
  have e0 : k0_off2 i 0 = (i 1).val := congrFun (k0_off2_eq i) 0
  have e1 : k0_off2 i 1 = 0 := congrFun (k0_off2_eq i) 1
  have e2 : k0_off2 i 2 = 256 := congrFun (k0_off2_eq i) 2
  refine (Rect.idx_unit_val _ _ _ _ _).trans ?_
  fin_cases a
  · show k0_off2 i 0 + (y 0).val = (i 1).val; omega
  · show k0_off2 i 1 + (y 1).val = (y 1).val; omega
  · show k0_off2 i 2 + (y 2).val = 256 + (y 2).val; omega

/-- Two carried buffers that agree where the point reads leave the same block; where the tile opens a sequence, any two do. -/
theorem outO_congr (kr kr' : Vec F S4x8x512 .f32)
    (h : opens i = 1#1 ∨ ∀ (r : Fin 8) (k : Fin 512), kr (ix3 (col i) r k) = kr' (ix3 (col i) r k)) :
    outO i wb wc wh cw lead xn kr = outO i wb wc wh cw lead xn kr' := by
  rcases h with h | h
  · unfold outO gL gR
    rw [h]
    rfl
  · have e1 := (ld_left i kr).trans ((funext fun y : S1x8x256.Idx => h (y 1) _).trans (ld_left i kr').symm)
    have e2 := (ld_right i kr).trans ((funext fun y : S1x8x256.Idx => h (y 1) _).trans (ld_right i kr').symm)
    unfold outO gL gR
    rw [e1, e2]

/-- The carried rows of the point's column tile after its stores are its last rows; -/
theorem put_hit (bk : Memref sig .tc .vmem S4x8x512 .f32) (f) (r : Fin 8) (k : Fin 512) :
    bk.view.read (Elt F) (bk.view.writes (Elt F) f (putK i wc wh xn)) (ix3 (col i) r k) = last wc wh xn (ix2 r k) := by
  unfold putK
  by_cases h : k.val < 256
  · rw [View.read_writes_cons_miss_of_axis _ _ _ _ _ 2 256 256 (by show k0_off2 i 2 = 256; rw [k0_off2_eq]; rfl) rfl rfl (Or.inl h),
      show last wc wh xn (ix2 r k) = k0_pay11 (vL wc wh xn) (ix3 0 r ⟨k.val, h⟩) from dif_pos h]
    have e0 : k0_off1 i 0 = (i 1).val := congrFun (k0_off1_eq i) 0
    have e1 : k0_off1 i 1 = 0 := congrFun (k0_off1_eq i) 1
    have e2 : k0_off1 i 2 = 0 := congrFun (k0_off1_eq i) 2
    have hx : ∀ a : Fin 3, ((ix3 (col i) r k : S4x8x512.Idx) a).val
        = k0_off1 i a + 1 * ((ix3 0 r ⟨k.val, h⟩ : S1x8x256.Idx) a).val := by
      intro a
      fin_cases a
      · show (i 1).val = k0_off1 i 0 + 1 * 0; omega
      · show r.val = k0_off1 i 1 + 1 * r.val; omega
      · show k.val = k0_off1 i 2 + 1 * k.val; omega
    exact View.read_writes_cons_hit_of_coords bk.view f
      (Rect.unit (s := S4x8x512) (k0_off1 i) S1x8x256.size (k0_off1_inb i)) (k0_pay11 (vL wc wh xn)) []
      (ix3 0 r ⟨k.val, h⟩ : S1x8x256.Idx) (ix3 (col i) r k) hx
  · have h' : k.val - 256 < 256 := by omega
    rw [show last wc wh xn (ix2 r k) = k0_pay2 (vR wc wh xn) (ix3 0 r ⟨k.val - 256, h'⟩) from dif_neg h]
    have e0 : k0_off2 i 0 = (i 1).val := congrFun (k0_off2_eq i) 0
    have e1 : k0_off2 i 1 = 0 := congrFun (k0_off2_eq i) 1
    have e2 : k0_off2 i 2 = 256 := congrFun (k0_off2_eq i) 2
    have hx : ∀ a : Fin 3, ((ix3 (col i) r k : S4x8x512.Idx) a).val
        = k0_off2 i a + 1 * ((ix3 0 r ⟨k.val - 256, h'⟩ : S1x8x256.Idx) a).val := by
      intro a
      fin_cases a
      · show (i 1).val = k0_off2 i 0 + 1 * 0; omega
      · show r.val = k0_off2 i 1 + 1 * r.val; omega
      · show k.val = k0_off2 i 2 + 1 * (k.val - 256); omega
    exact View.read_writes_cons_hit_of_coords bk.view f
      (Rect.unit (s := S4x8x512) (k0_off2 i) S1x8x256.size (k0_off2_inb i)) (k0_pay2 (vR wc wh xn))
      [⟨Rect.unit (s := S4x8x512) (k0_off1 i) S1x8x256.size (k0_off1_inb i), k0_pay11 (vL wc wh xn)⟩]
      (ix3 0 r ⟨k.val - 256, h'⟩ : S1x8x256.Idx) (ix3 (col i) r k) hx

/-- those of the other column tiles are as they were. -/
theorem put_miss (bk : Memref sig .tc .vmem S4x8x512 .f32) (f) (j : Fin 4) (hj : j.val ≠ (i 1).val) (r : Fin 8) (k : Fin 512) :
    bk.view.read (Elt F) (bk.view.writes (Elt F) f (putK i wc wh xn)) (ix3 j r k) = bk.view.read (Elt F) f (ix3 j r k) := by
  have h : j.val < (i 1).val ∨ (i 1).val + 1 ≤ j.val := by omega
  unfold putK
  rw [View.read_writes_cons_miss_of_axis _ _ _ _ _ 0 (i 1).val 1 (by show k0_off2 i 0 = _; rw [k0_off2_eq]; rfl) rfl rfl h,
    View.read_writes_cons_miss_of_axis _ _ _ _ _ 0 (i 1).val 1 (by show k0_off1 i 0 = _; rw [k0_off1_eq]; rfl) rfl rfl h]
  rfl

end Values

/-! ## The runs' pieces -/

section Pieces

variable (c : Dev nD) (i : grid0.Coords)
  (bx : Memref sig .tc .vmem S1024x2048 .f32) (hbx : bx.IsWhole) (bg : Memref sig .tc .vmem S1x2048 .f32) (hbg : bg.IsWhole)
  (bb : Memref sig .tc .vmem S2048x512 .bf16) (hbb : bb.IsWhole) (bc : Memref sig .tc .vmem S2048x512 .bf16) (hbc : bc.IsWhole)
  (bh : Memref sig .tc .vmem S2048x512 .bf16) (hbh : bh.IsWhole) (bw : Memref sig .tc .vmem S3x512 .f32) (hbw : bw.IsWhole)
  (bl : Memref sig .tc .vmem S8x512 .f32) (hbl : bl.IsWhole) (bo : Memref sig .tc .vmem S1024x512 .bf16) (hbo : bo.IsWhole)
  (bm : Memref sig .tc .vmem S8x512 .f32) (hbm : bm.IsWhole) (bn : Memref sig .tc .vmem S1024x2048 .bf16) (hbn : bn.IsWhole)
  (bk : Memref sig .tc .vmem S4x8x512 .f32) (hbk : bk.IsWhole)
  (x : Vec F S1024x2048 .f32) (g : Vec F S1x2048 .f32) (wb wc wh : Vec F S2048x512 .bf16) (cw : Vec F S3x512 .f32)
  (lead : Vec F S8x512 .f32) (xn : Vec F S1024x2048 .bf16) (kr : Vec F S4x8x512 .f32)

theorem coverO (w w') : ∀ y, ∃ p ∈ ([⟨Rect.unit (s := S1024x512) ![0, 256] S1024x256.size inb_S1024x512_S1024x256_0_256, w⟩,
    ⟨Rect.unit (s := S1024x512) ![0, 0] S1024x256.size inb_S1024x512_S1024x256_0_0, w'⟩] : List (View.Piece (Elt F) S1024x512 .bf16)), y ∈ p.1.set :=
  View.cover_of_tiledL _ S1024x256.size (by sl_kernel_rfl)

theorem coverM (w w') : ∀ y, ∃ p ∈ ([⟨Rect.unit (s := S8x512) ![0, 256] S8x256.size inb_S8x512_S8x256_0_256, w⟩,
    ⟨Rect.unit (s := S8x512) ![0, 0] S8x256.size inb_S8x512_S8x256_0_0, w'⟩] : List (View.Piece (Elt F) S8x512 .f32)), y ∈ p.1.set :=
  View.cover_of_tiledL _ S8x256.size (by sl_kernel_rfl)

theorem coverN (w) : ∀ y, ∃ p ∈ ([⟨Rect.unit (s := S1024x2048) ![0, 0] S1024x2048.size inb_S1024x2048_S1024x2048_0_0, w⟩] :
    List (View.Piece (Elt F) S1024x2048 .bf16)), y ∈ p.1.set :=
  View.cover_of_tiledL _ S1024x2048.size (by sl_kernel_rfl)

local notation "RA" => runA c i bx hbx bg hbg bb hbb bc hbc bh hbh bw hbw bl hbl bo hbo bm hbm bn hbn bk hbk x g wb wc wh cw lead kr
local notation "RB" => runB c i bx hbx bg hbg bb hbb bc hbc bh hbh bw hbw bl hbl bo hbo bm hbm bn hbn bk hbk x g wb wc wh cw lead xn kr

theorem A_O (hc : First i) : (RA hc).1
    = [⟨Rect.unit (s := S1024x512) ![0, 256] S1024x256.size inb_S1024x512_S1024x256_0_256, gR i wb wc wh cw lead (k0_pay4 x g) kr⟩,
    ⟨Rect.unit (s := S1024x512) ![0, 0] S1024x256.size inb_S1024x512_S1024x256_0_0, gL i wb wc wh cw lead (k0_pay4 x g) kr⟩] := by
  frame_out
  rfl

theorem A_M (hc : First i) : (RA hc).2.1
    = [⟨Rect.unit (s := S8x512) ![0, 256] S8x256.size inb_S8x512_S8x256_0_256, k0_pay3 (vR wc wh (k0_pay4 x g))⟩,
    ⟨Rect.unit (s := S8x512) ![0, 0] S8x256.size inb_S8x512_S8x256_0_0, k0_pay12 (vL wc wh (k0_pay4 x g))⟩] := by
  frame_out
  rfl

theorem A_N (hc : First i) : (RA hc).2.2.1
    = [⟨Rect.unit (s := S1024x2048) ![0, 0] S1024x2048.size inb_S1024x2048_S1024x2048_0_0, k0_pay4 x g⟩] := by
  frame_out

theorem A_K (hc : First i) : (RA hc).2.2.2.1 = putK i wc wh (k0_pay4 x g) := by
  frame_out
  rfl

theorem B_O (hc : ¬First i) : (RB hc).1
    = [⟨Rect.unit (s := S1024x512) ![0, 256] S1024x256.size inb_S1024x512_S1024x256_0_256, gR i wb wc wh cw lead xn kr⟩,
    ⟨Rect.unit (s := S1024x512) ![0, 0] S1024x256.size inb_S1024x512_S1024x256_0_0, gL i wb wc wh cw lead xn kr⟩] := by
  frame_out
  rfl

theorem B_M (hc : ¬First i) : (RB hc).2.1
    = [⟨Rect.unit (s := S8x512) ![0, 256] S8x256.size inb_S8x512_S8x256_0_256, k0_pay3 (vR wc wh xn)⟩,
    ⟨Rect.unit (s := S8x512) ![0, 0] S8x256.size inb_S8x512_S8x256_0_0, k0_pay12 (vL wc wh xn)⟩] := by
  frame_out
  rfl

theorem B_K (hc : ¬First i) : (RB hc).2.2.1 = putK i wc wh xn := by
  frame_out
  rfl

end Pieces

end Cert.KernelIdeal.ConvIn

end
-- ==== Proof.ConvIn.lean ====
/- The short convolution's input half (`KernelIdeal`) over its grid: what every point leaves in the two outputs, in the
   normed rows and in the carried last rows, the run of the whole program with its arrays named, and its frame. -/
module

public import proofs.«01_k».proof.Proof.ConvInVal
public import Idealize.ShloMosaic.Lib.Claim

@[expose] public section

set_option maxRecDepth 16384

noncomputable section

namespace Cert.KernelIdeal.ConvIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem lt64 (t : Fin cfg0.N) : t.val < 64 := lt_of_lt_of_eq t.isLt (show cfg0.N = 64 from N_0)

/-- The windows' block indices at every point. -/
theorem idx : ∀ t : Fin cfg0.N, win0_0.index t = ![t.val / 4, 0] ∧ win0_1.index t = ![0, 0]
    ∧ win0_2.index t = ![0, t.val % 4] ∧ win0_3.index t = ![0, 4 + t.val % 4] ∧ win0_4.index t = ![0, 8 + t.val % 4]
    ∧ win0_5.index t = ![0, t.val % 4] ∧ win0_6.index t = ![0, t.val % 4]
    ∧ win0_7.index t = ![t.val / 4, t.val % 4] ∧ win0_8.index t = ![t.val / 4, t.val % 4] :=
  (by decide +kernel : ∀ t : Fin grid0.N, _)

theorem row_val (t : Fin cfg0.N) : (grid0.coords t 0).val = t.val / 4 := by
  have e : (grid0.coords t 0).val = t.val / 4 % 16 := Pipeline.Grid.coords_val t 0 (by decide) rfl
  have := lt64 t
  rw [e]; omega

theorem col_val (t : Fin cfg0.N) : (grid0.coords t 1).val = t.val % 4 := by
  have e : (grid0.coords t 1).val = t.val / 1 % 4 := Pipeline.Grid.coords_val t 1 (by decide) rfl
  rw [e, Nat.div_one]

/-- The normed rows are written at the points of the first column tile. -/
theorem first_iff (t : Fin cfg0.N) : First (grid0.coords t) ↔ t.val % 4 = 0 := by
  have h : t.val % 4 < 4 := Nat.mod_lt _ (by decide)
  unfold First
  rw [col_val t]
  generalize t.val % 4 = n at h
  interval_cases n <;> decide

/-- Every fourth row tile opens a sequence. -/
theorem opens_val (t : Fin cfg0.N) : opens (grid0.coords t) = if t.val / 4 % 4 = 0 then 1#1 else 0#1 := by
  have h : t.val / 4 < 16 := by have := lt64 t; omega
  unfold opens
  rw [row_val t]
  generalize t.val / 4 = n at h
  interval_cases n <;> decide

/-- The block of rows is the same along a row of the grid. -/
theorem rblk (c : Dev nD) (t t' : Fin cfg0.N) (h : t.val / 4 = t'.val / 4) : iblk m c 0 t = iblk m c 0 t' := by
  funext y
  blk_ext [iblk, idx t, idx t', h]

/-- The scale is the same at every point. -/
theorem gblk (c : Dev nD) (t t' : Fin cfg0.N) : iblk m c 1 t = iblk m c 1 t' := by
  funext y
  blk_ext [iblk, idx t, idx t']

/-! ## What the points leave -/

/-- The normed rows of a point's row tile. -/
def xnAt (c : Dev nD) (t : Fin cfg0.N) : Vec F S1024x2048 .bf16 := k0_pay4 (iblk m c 0 t) (iblk m c 1 t)

theorem xnAt_eq (c : Dev nD) (t t' : Fin cfg0.N) (h : t.val / 4 = t'.val / 4) : xnAt m c t = xnAt m c t' := by
  unfold xnAt
  rw [rblk m c t t' h, gblk m c t t']

/-- The last rows of a point's tile. -/
def lastAt (c : Dev nD) (t : Fin cfg0.N) : Vec F S8x512 .f32 := last (iblk m c 3 t) (iblk m c 4 t) (xnAt m c t)

/-- The point one row tile above. -/
def above (t : Fin cfg0.N) : Fin cfg0.N := ⟨t.val - 4, lt_of_le_of_lt (Nat.sub_le _ _) t.isLt⟩

/-- The carried rows a point finds, as far as it reads them. -/
def krAt (c : Dev nD) (t : Fin cfg0.N) : Vec F S4x8x512 .f32 := fun y => lastAt m c (above t) (ix2 (y 1) (y 2))

/-- The first output's block after a point. -/
def outAt (c : Dev nD) (t : Fin cfg0.N) : Vec F S1024x512 .bf16 :=
  outO (grid0.coords t) (iblk m c 2 t) (iblk m c 3 t) (iblk m c 4 t) (iblk m c 5 t) (iblk m c 6 t) (xnAt m c t) (krAt m c t)

/-- The second output's block after a point. -/
def metaAt (c : Dev nD) (t : Fin cfg0.N) : Vec F S8x512 .f32 := outM (iblk m c 3 t) (iblk m c 4 t) (xnAt m c t)

/-- Before position `n`, off the first column tile, the normed rows are those of the row tile. -/
def NInv (c : Dev nD) (n : ℕ) (xn : Vec F S1024x2048 .bf16) : Prop :=
  ∀ t : Fin cfg0.N, t.val = n → n % 4 ≠ 0 → xn = xnAt m c t

/-- Before position `n` the carried rows of each of the last four points' column tiles are the last rows of that tile. -/
def KInv (c : Dev nD) (n : ℕ) (d : Vec F S4x8x512 .f32) : Prop :=
  ∀ t : Fin cfg0.N, t.val < n → n ≤ t.val + 4 → ∀ (r : Fin 8) (k : Fin 512),
    d (ix3 (col (grid0.coords t)) r k) = lastAt m c t (ix2 r k)

theorem NInv_step (c : Dev nD) (t : Fin cfg0.N) : NInv m c (t.val + 1) (xnAt m c t) := by
  intro t' h hn
  exact xnAt_eq m c t t' (by omega)

theorem KInv_step (c : Dev nD) (t : Fin cfg0.N) (bk : Memref sig .tc .vmem S4x8x512 .f32) (hbk : bk.IsWhole)
    (d : Vec F S4x8x512 .f32) (h : KInv m c t.val d) (L : List (View.Piece (Elt F) S4x8x512 .f32))
    (hL : L = putK (grid0.coords t) (iblk m c 3 t) (iblk m c 4 t) (xnAt m c t)) :
    KInv m c (t.val + 1) (bk.view.read (Elt F) (bk.view.writes (Elt F) (hbk.unread d) L)) := by
  subst hL
  intro s hs hn r k
  by_cases e : s.val = t.val
  · obtain rfl : s = t := Fin.ext e
    exact put_hit _ _ _ _ bk _ r k
  · have hne : (col (grid0.coords s)).val ≠ (grid0.coords t 1).val := by
      show (grid0.coords s 1).val ≠ _
      rw [col_val, col_val]; omega
    rw [put_miss _ _ _ _ bk _ _ hne r k, hbk.read_unread]
    exact h s (by omega) (by omega) r k

/-- A point's block is the same over any carried rows its invariant admits. -/
theorem outO_kr (c : Dev nD) (t : Fin cfg0.N) (d : Vec F S4x8x512 .f32) (h : KInv m c t.val d) :
    outO (grid0.coords t) (iblk m c 2 t) (iblk m c 3 t) (iblk m c 4 t) (iblk m c 5 t) (iblk m c 6 t) (xnAt m c t) d
      = outAt m c t := by
  refine outO_congr _ _ _ _ _ _ _ _ _ ?_
  by_cases e : t.val / 4 % 4 = 0
  · exact Or.inl ((opens_val t).trans (if_pos e))
  · refine Or.inr fun r k => ?_
    have h4 : 4 ≤ t.val := by omega
    have hv : (above t).val = t.val - 4 := rfl
    have hc : col (grid0.coords t) = col (grid0.coords (above t)) := Fin.ext (by
      show (grid0.coords t 1).val = (grid0.coords (above t) 1).val
      rw [col_val, col_val, hv]; omega)
    rw [hc, h (above t) (by omega) (by omega) r k]
    rfl

/-! ## The outputs' and the normed rows' buffers after their stores -/

theorem read_O {k : Kind} {sp : Space} (v : View sig k sp S1024x512 .bf16) (f) (gr gl : FVec F S1024x256 .bf16)
    (L : List (View.Piece (Elt F) S1024x512 .bf16))
    (h : L = [⟨Rect.unit (s := S1024x512) ![0, 256] S1024x256.size inb_S1024x512_S1024x256_0_256, gr⟩,
      ⟨Rect.unit (s := S1024x512) ![0, 0] S1024x256.size inb_S1024x512_S1024x256_0_0, gl⟩]) :
    v.read (Elt F) (v.writes (Elt F) f L)
      = View.canon [⟨Rect.unit (s := S1024x512) ![0, 256] S1024x256.size inb_S1024x512_S1024x256_0_256, gr⟩,
        ⟨Rect.unit (s := S1024x512) ![0, 0] S1024x256.size inb_S1024x512_S1024x256_0_0, gl⟩] := by
  subst h
  exact View.read_writes_eq_canon _ _ _ (coverO _ _)

theorem read_M {k : Kind} {sp : Space} (v : View sig k sp S8x512 .f32) (f) (gr gl : FVec F S8x256 .f32)
    (L : List (View.Piece (Elt F) S8x512 .f32))
    (h : L = [⟨Rect.unit (s := S8x512) ![0, 256] S8x256.size inb_S8x512_S8x256_0_256, gr⟩,
      ⟨Rect.unit (s := S8x512) ![0, 0] S8x256.size inb_S8x512_S8x256_0_0, gl⟩]) :
    v.read (Elt F) (v.writes (Elt F) f L)
      = View.canon [⟨Rect.unit (s := S8x512) ![0, 256] S8x256.size inb_S8x512_S8x256_0_256, gr⟩,
        ⟨Rect.unit (s := S8x512) ![0, 0] S8x256.size inb_S8x512_S8x256_0_0, gl⟩] := by
  subst h
  exact View.read_writes_eq_canon _ _ _ (coverM _ _)

theorem read_N {k : Kind} {sp : Space} (v : View sig k sp S1024x2048 .bf16) (f) (x : FVec F S1024x2048 .bf16)
    (L : List (View.Piece (Elt F) S1024x2048 .bf16))
    (h : L = [⟨Rect.unit (s := S1024x2048) ![0, 0] S1024x2048.size inb_S1024x2048_S1024x2048_0_0, x⟩]) :
    v.read (Elt F) (v.writes (Elt F) f L) = x := by
  subst h
  funext y
  refine View.read_writes_cons_hit_of_coords v f
    (Rect.unit (s := S1024x2048) ![0, 0] S1024x2048.size inb_S1024x2048_S1024x2048_0_0) x [] y y fun a => ?_
  fin_cases a
  · show (y 0).val = 0 + 1 * (y 0).val; omega
  · show (y 1).val = 0 + 1 * (y 1).val; omega

/-! ## The proof data -/

/-- The scratch buffer of the normed rows. -/
abbrev bnM : Memref sig .tc .vmem S1024x2048 .bf16 := Memref.whole cc0_scratch0
/-- The scratch buffer of the carried rows. -/
abbrev bkM : Memref sig .tc .vmem S4x8x512 .f32 := Memref.whole cc0_scratch1

/-- The invariant before position `n`: the two scratch buffers at contents of which what later points read is known. -/
def Inv (c : Dev nD) (n : ℕ) (_ : n ≤ cfg0.N) : sProp 𝕄 :=
  iprop(iprop((∃ xn, ⌜NInv m c n xn⌝ ∗ owns (c : Thread nD τ) bnM fullShare xn)
    ∗ (∃ d, ⌜KInv m c n d⌝ ∗ owns (c : Thread nD τ) bkM fullShare d)) ∗ (∃ r, prngReg c r))

theorem scratch_eq (c : Dev nD) :
    (Pipeline.ΦA spec0 c : sProp 𝕄) = iprop(iprop((∃ d, owns (c : Thread nD τ) bnM fullShare d)
      ∗ (∃ d, owns (c : Thread nD τ) bkM fullShare d)) ∗ (∃ r, prngReg c r)) := by
  unfold Pipeline.ΦA; rw [scopedRest0_eq]; simp only [bnM, bkM, owns_whole]; try rfl

/-- The proof data: the arrays as the region finds them, the inputs' blocks left in place, the outputs' blocks above, the
    invariant above, each input at the share its array leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => metaAt m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem after_8 (c : Dev nD) (t : Fin cfg0.N) : (dats m 0 c).after 8 t = metaAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at a point -/

/-- What the body finds at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at a point meets the proof data. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8,
    show (dats m 0 c).Φ t.succ = Inv m c (t.val + 1) t.isLt from rfl, Inv_castSucc]
  unfold Inv
  iintro ⟨⟨⟨⟨%xn, %hxn, HN⟩, ⟨%kr, %hkr, HK⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val % 4 = 0
  · iapply ((runA c (grid0.coords t) _ _ _ _ _ _ _ _ _ _ _ _ _ _ _ _ _ _ bnM (Memref.isWhole_whole _) bkM (Memref.isWhole_whole _)
      (iblk m c 0 t) (iblk m c 1 t) (iblk m c 2 t) (iblk m c 3 t) (iblk m c 4 t) (iblk m c 5 t) (iblk m c 6 t) kr
      ((first_iff t).mpr h0)).2.2.2.2 Set.univ _)
    isplitl [H0 H1 H2 H3 H4 H5 H6]
    · unfold ins
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [HN]; · iexists _; iexact HN
    isplitl [HK]; · iexact HK
    unfold ins
    iintro ⟨⟨H0, H1, H2, H3, H4, H5, H6⟩, ⟨%e7, H7⟩, ⟨%e8, H8⟩, ⟨%en, HN⟩, HK⟩
    isplitl [HN HK Hg]
    · isplitl [HN HK]
      · isplitl [HN]
        · iexists (xnAt m c t); isplitr; · ipureintro; exact NInv_step m c t
          unfold owns; iexists _; isplitr
          swap; · iexact HN
          ipureintro
          exact read_N _ _ _ _ (A_N _ _ _ _ _ _ _ _ _ _ _ _ _ _ _ _ _ _ _ _ _ _ _ _ _ _ _ _ _ _ _ _ _)
        iexists _; isplitr
        swap
        · unfold owns; iexists _; isplitr
          swap; · iexact HK
          ipureintro; rfl
        ipureintro; exact KInv_step m c t bkM (Memref.isWhole_whole _) kr hkr _
          (A_K _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      exact (read_O _ _ _ _ _ (A_O _ _ _ _ _ _ _ _ _ _ _ _ _ _ _ _ _ _ _ _ _ _ _ _ _ _ _ _ _ _ _ _ _)).trans (outO_kr m c t kr hkr)
    unfold owns; iexists _; isplitr
    swap; · iexact H8
    ipureintro
    exact read_M _ _ _ _ _ (A_M _ _ _ _ _ _ _ _ _ _ _ _ _ _ _ _ _ _ _ _ _ _ _ _ _ _ _ _ _ _ _ _ _)
  · obtain rfl : xn = xnAt m c t := hxn t rfl h0
    iapply ((runB c (grid0.coords t) _ _ _ _ _ _ _ _ _ _ _ _ _ _ _ _ _ _ bnM (Memref.isWhole_whole _) bkM (Memref.isWhole_whole _)
      (iblk m c 0 t) (iblk m c 1 t) (iblk m c 2 t) (iblk m c 3 t) (iblk m c 4 t) (iblk m c 5 t) (iblk m c 6 t) (xnAt m c t) kr
      (fun h => h0 ((first_iff t).mp h))).2.2.2 Set.univ _)
    isplitl [H0 H1 H2 H3 H4 H5 H6]
    · unfold ins
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [HN]; · iexact HN
    isplitl [HK]; · iexact HK
    unfold ins
    iintro ⟨⟨H0, H1, H2, H3, H4, H5, H6⟩, ⟨%e7, H7⟩, ⟨%e8, H8⟩, HN, HK⟩
    isplitl [HN HK Hg]
    · isplitl [HN HK]
      · isplitl [HN]
        · iexists (xnAt m c t); isplitr; · ipureintro; exact NInv_step m c t
          iexact HN
        iexists _; isplitr
        swap
        · unfold owns; iexists _; isplitr
          swap; · iexact HK
          ipureintro; rfl
        ipureintro; exact KInv_step m c t bkM (Memref.isWhole_whole _) kr hkr _
          (B_K _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      exact (read_O _ _ _ _ _ (B_O _ _ _ _ _ _ _ _ _ _ _ _ _ _ _ _ _ _ _ _ _ _ _ _ _ _ _ _ _ _ _ _ _ _)).trans (outO_kr m c t kr hkr)
    unfold owns; iexists _; isplitr
    swap; · iexact H8
    ipureintro
    exact read_M _ _ _ _ _ (B_M _ _ _ _ _ _ _ _ _ _ _ _ _ _ _ _ _ _ _ _ _ _ _ _ _ _ _ _ _ _ _ _ _ _)

theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound m c t) rfl .rfl fun _ => .rfl

/-- The scratch buffers at anything are the invariant before the first point, -/
theorem enter (c : Dev nD) : Pipeline.ΦA spec0 c ⊢ (dats m 0 c).Φ 0 := by
  rw [show (dats m 0 c).Φ 0 = Inv m c 0 (Nat.zero_le _) from rfl, scratch_eq]
  unfold Inv
  iintro ⟨⟨⟨%xn, HN⟩, ⟨%d, HK⟩⟩, Hg⟩
  isplitl [HN HK]
  · isplitl [HN]
    · iexists xn; isplitr; · ipureintro; exact fun t _ h => absurd (Nat.zero_mod 4) h
      iexact HN
    iexists d; isplitr; · ipureintro; exact fun t h => absurd h (Nat.not_lt_zero _)
    iexact HK
  iexact Hg

/-- and the invariant after the last gives them back. -/
theorem leave (c : Dev nD) : (dats m 0 c).Φ (Fin.last cfg0.N) ⊢ Pipeline.ΦA spec0 c := by
  rw [show (dats m 0 c).Φ (Fin.last cfg0.N) = Inv m c cfg0.N (Nat.le_refl _) from rfl, scratch_eq]
  unfold Inv
  iintro ⟨⟨⟨%xn, -, HN⟩, ⟨%d, -, HK⟩⟩, Hg⟩
  isplitl [HN HK]
  · isplitl [HN]; · iexists xn; iexact HN
    iexists d; iexact HK
  iexact Hg

/-! ## The run and the frame -/

set_option backward.isDefEq.respectTransparency.types false in
/-- Every execution ends, every array at what the proof data compute and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := enter m) (hout := leave m)

theorem run : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.ConvIn

end
-- ==== Proof.ConvInFrame.lean ====
/- The frame of `Kernel`, taken from the run of its ideal reading: the two programs have one text. -/
module

public import proofs.«01_k».proof.Defs
public import proofs.«01_k».proof.Proof.ConvIn
public import proofs.«01_k».proof.Proof.Gen.Kernel

@[expose] public section

set_option maxRecDepth 16384

noncomputable section

namespace Cert.Proof

open Idealize.ShloMosaic Idealize.ShloMosaic.TcCoe Idealize.SL.Sem

/-- The two body tables are one, -/
theorem defs_one (hK : Cert.Kernel.Facts := Cert.Kernel.Gen.facts) (hI : Cert.KernelIdeal.Facts := Cert.KernelIdeal.Gen.facts) :
    @Cert.Kernel.defs Bits _ hK = @Cert.KernelIdeal.defs Bits _ hI := by sl_kernel_rfl

/-- The frame of `Kernel`. -/
theorem quiescent_k1 : Cert.quiescent_Kernel (hKernel := Cert.Kernel.Gen.facts) := by
  intro m ρ _
  rw [defs_one]
  exact (θ_run Cert.KernelIdeal.defs _ _).mono (fun _ h => ⟨fun c => h.1 c, h.2⟩) (Cert.KernelIdeal.ConvIn.frame (F := Bits) m ρ)

end Cert.Proof

end
-- ==== Proof.MetaRun.lean ====
/- One point of the short convolution's input half over the meta tokens (`Kernel2Ideal`): the body run on any whole buffers. The first run is a point of the first column tile (the normed rows are written), the second any other. -/
module

public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.MetaConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The point is in the first column tile. -/
abbrev First (i : grid0.Coords) : Prop :=
  (Scalar.cmpi .ne (Scalar.extui (Scalar.cmpi .eq (BitVec.ofNat 32 (i 1).val) 0#32)) 0#32) = 1#1

variable (c : Dev nD) (i : grid0.Coords)
  (bx : Memref sig .tc .vmem S512x2048 .f32) (hbx : bx.IsWhole) (bg : Memref sig .tc .vmem S1x2048 .f32) (hbg : bg.IsWhole)
  (bb : Memref sig .tc .vmem S2048x512 .bf16) (hbb : bb.IsWhole) (bc : Memref sig .tc .vmem S2048x512 .bf16) (hbc : bc.IsWhole)
  (bh : Memref sig .tc .vmem S2048x512 .bf16) (hbh : bh.IsWhole) (bw : Memref sig .tc .vmem S3x512 .f32) (hbw : bw.IsWhole)
  (bl : Memref sig .tc .vmem S8x512 .f32) (hbl : bl.IsWhole) (bo : Memref sig .tc .vmem S512x512 .bf16) (hbo : bo.IsWhole)
  (bm : Memref sig .tc .vmem S8x512 .f32) (hbm : bm.IsWhole) (bn : Memref sig .tc .vmem S512x2048 .bf16) (hbn : bn.IsWhole)
  (bk : Memref sig .tc .vmem S4x8x512 .f32) (hbk : bk.IsWhole)
  (x : Vec F S512x2048 .f32) (g : Vec F S1x2048 .f32) (wb wc wh : Vec F S2048x512 .bf16) (cw : Vec F S3x512 .f32)
  (ld : Vec F S8x512 .f32) (xn : Vec F S512x2048 .bf16) (kr : Vec F S4x8x512 .f32)

/-- The seven input buffers at their contents. -/
abbrev ins : sProp 𝕄 :=
  iprop(owns (c : Thread nD τ) bx fullShare x ∗ owns (c : Thread nD τ) bg fullShare g ∗ owns (c : Thread nD τ) bb fullShare wb
    ∗ owns (c : Thread nD τ) bc fullShare wc ∗ owns (c : Thread nD τ) bh fullShare wh ∗ owns (c : Thread nD τ) bw fullShare cw
    ∗ owns (c : Thread nD τ) bl fullShare ld)

set_option maxHeartbeats 1600000 in
/-- The body at a point of the first column tile: the pieces its stores leave in the outputs, in the normed rows and in the
    carried rows, with the run that leaves them. -/
def runA (hc : First i) :
    Σ' (LO : List (View.Piece (Elt F) S512x512 .bf16)) (LM : List (View.Piece (Elt F) S8x512 .f32)) (LN : List (View.Piece (Elt F) S512x2048 .bf16)),
      { LK : List (View.Piece (Elt F) S4x8x512 .f32) //
      ∀ (E : Set ℕ) (K : PUnit → sProp 𝕄),
        iprop(ins c bx bg bb bc bh bw bl x g wb wc wh cw ld
            ∗ (∃ d, owns (c : Thread nD τ) bo fullShare d) ∗ (∃ d, owns (c : Thread nD τ) bm fullShare d)
            ∗ (∃ d, owns (c : Thread nD τ) bn fullShare d) ∗ owns (c : Thread nD τ) bk fullShare kr
            ∗ (iprop(ins c bx bg bb bc bh bw bl x g wb wc wh cw ld
              ∗ (∃ f, bo.view.loc (c : Thread nD τ) ↦[bo.view.set]{fullShare} bo.view.writes (Elt F) f LO)
              ∗ (∃ f, bm.view.loc (c : Thread nD τ) ↦[bm.view.set]{fullShare} bm.view.writes (Elt F) f LM)
              ∗ (∃ f, bn.view.loc (c : Thread nD τ) ↦[bn.view.set]{fullShare} bn.view.writes (Elt F) f LN)
              ∗ bk.view.loc (c : Thread nD τ) ↦[bk.view.set]{fullShare} bk.view.writes (Elt F) (hbk.unread kr) LK) -∗ K ⟨⟩))
          ⊢ wp frame (wpE (defs₀ (F := F)) Variants.none c none) E
              (cc0_conv_in i bx hbx bg hbg bb hbb bc hbc bh hbh bw hbw bl hbl bo hbo bm hbm bn hbn bk hbk) K } := by
  refine ⟨?_, ?_, ?_, ?_, fun E K => ?run⟩
  case run =>
    simp only [cc0_conv_in_eq_skeleton]; unfold cc0_conv_in_skel
    simp only [k0_part1_eq_skeleton, k0_part2_eq_skeleton, k0_part3_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%do_, %fo, -, HO⟩, ⟨%dm, %fm, -, HM⟩, ⟨%dn, %fn, -, HN⟩, ⟨%fk, %hfk, HK⟩, Hk⟩
    obtain rfl := hbx.eq_unread hf0; obtain rfl := hbg.eq_unread hf1; obtain rfl := hbb.eq_unread hf2
    obtain rfl := hbc.eq_unread hf3; obtain rfl := hbh.eq_unread hf4; obtain rfl := hbw.eq_unread hf5
    obtain rfl := hbl.eq_unread hf6; obtain rfl := hbk.eq_unread hfk
    sl_exec (disch := first | sl_exact hc)
    sl_step
    iapply Hk
    isplitl [H0 H1 H2 H3 H4 H5 H6]
    · isplitl [H0]
      · iexists _; isplitr; · ipureintro; exact hbx.read_unread _
        iexact H0
      isplitl [H1]
      · iexists _; isplitr; · ipureintro; exact hbg.read_unread _
        iexact H1
      isplitl [H2]
      · iexists _; isplitr; · ipureintro; exact hbb.read_unread _
        iexact H2
      isplitl [H3]
      · iexists _; isplitr; · ipureintro; exact hbc.read_unread _
        iexact H3
      isplitl [H4]
      · iexists _; isplitr; · ipureintro; exact hbh.read_unread _
        iexact H4
      isplitl [H5]
      · iexists _; isplitr; · ipureintro; exact hbw.read_unread _
        iexact H5
      iexists _; isplitr; · ipureintro; exact hbl.read_unread _
      iexact H6
    isplitl [HO]; · iexists _; iexact HO
    isplitl [HM]; · iexists _; iexact HM
    isplitl [HN]; · iexists _; iexact HN
    iexact HK

set_option maxHeartbeats 1600000 in
/-- The body at a point of another column tile, the normed rows carried from the point before. -/
def runB (hc : ¬First i) :
    Σ' (LO : List (View.Piece (Elt F) S512x512 .bf16)) (LM : List (View.Piece (Elt F) S8x512 .f32)),
      { LK : List (View.Piece (Elt F) S4x8x512 .f32) //
      ∀ (E : Set ℕ) (K : PUnit → sProp 𝕄),
        iprop(ins c bx bg bb bc bh bw bl x g wb wc wh cw ld
            ∗ (∃ d, owns (c : Thread nD τ) bo fullShare d) ∗ (∃ d, owns (c : Thread nD τ) bm fullShare d)
            ∗ owns (c : Thread nD τ) bn fullShare xn ∗ owns (c : Thread nD τ) bk fullShare kr
            ∗ (iprop(ins c bx bg bb bc bh bw bl x g wb wc wh cw ld
              ∗ (∃ f, bo.view.loc (c : Thread nD τ) ↦[bo.view.set]{fullShare} bo.view.writes (Elt F) f LO)
              ∗ (∃ f, bm.view.loc (c : Thread nD τ) ↦[bm.view.set]{fullShare} bm.view.writes (Elt F) f LM)
              ∗ owns (c : Thread nD τ) bn fullShare xn
              ∗ bk.view.loc (c : Thread nD τ) ↦[bk.view.set]{fullShare} bk.view.writes (Elt F) (hbk.unread kr) LK) -∗ K ⟨⟩))
          ⊢ wp frame (wpE (defs₀ (F := F)) Variants.none c none) E
              (cc0_conv_in i bx hbx bg hbg bb hbb bc hbc bh hbh bw hbw bl hbl bo hbo bm hbm bn hbn bk hbk) K } := by
  refine ⟨?_, ?_, ?_, fun E K => ?run⟩
  case run =>
    simp only [cc0_conv_in_eq_skeleton]; unfold cc0_conv_in_skel
    simp only [k0_part1_eq_skeleton, k0_part2_eq_skeleton, k0_part3_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%do_, %fo, -, HO⟩, ⟨%dm, %fm, -, HM⟩, ⟨%fn, %hfn, HN⟩, ⟨%fk, %hfk, HK⟩, Hk⟩
    obtain rfl := hbx.eq_unread hf0; obtain rfl := hbg.eq_unread hf1; obtain rfl := hbb.eq_unread hf2
    obtain rfl := hbc.eq_unread hf3; obtain rfl := hbh.eq_unread hf4; obtain rfl := hbw.eq_unread hf5
    obtain rfl := hbl.eq_unread hf6; obtain rfl := hbk.eq_unread hfk; obtain rfl := hbn.eq_unread hfn
    sl_exec (disch := first | sl_exact hc)
    sl_step
    iapply Hk
    isplitl [H0 H1 H2 H3 H4 H5 H6]
    · isplitl [H0]
      · iexists _; isplitr; · ipureintro; exact hbx.read_unread _
        iexact H0
      isplitl [H1]
      · iexists _; isplitr; · ipureintro; exact hbg.read_unread _
        iexact H1
      isplitl [H2]
      · iexists _; isplitr; · ipureintro; exact hbb.read_unread _
        iexact H2
      isplitl [H3]
      · iexists _; isplitr; · ipureintro; exact hbc.read_unread _
        iexact H3
      isplitl [H4]
      · iexists _; isplitr; · ipureintro; exact hbh.read_unread _
        iexact H4
      isplitl [H5]
      · iexists _; isplitr; · ipureintro; exact hbw.read_unread _
        iexact H5
      iexists _; isplitr; · ipureintro; exact hbl.read_unread _
      iexact H6
    isplitl [HO]; · iexists _; iexact HO
    isplitl [HM]; · iexists _; iexact HM
    isplitl [HN]
    · iexists _; isplitr; · ipureintro; exact hbn.read_unread _
      iexact HN
    iexact HK

end Cert.Kernel2Ideal.MetaConv

end
-- ==== Proof.MetaVal.lean ====
/- The short convolution's input half over the meta tokens (`Kernel2Ideal`) run over its grid: what every point stores into the two outputs and
   the normed rows, and that it does not depend on the carried last rows. -/
module

public import proofs.«01_k».proof.Proof.MetaRun
public import Idealize.ShloMosaic.Lib.Pipeline.ValueKit
public import Idealize.ShloMosaic.Lib.Writes

@[expose] public section

set_option maxRecDepth 16384

noncomputable section

namespace Cert.Kernel2Ideal.MetaConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## What a point stores -/

section Values

variable (i : grid0.Coords) (x : Vec F S512x2048 .f32) (g : Vec F S1x2048 .f32) (wb wc wh : Vec F S2048x512 .bf16)
  (cw : Vec F S3x512 .f32) (lead : Vec F S8x512 .f32) (xn : Vec F S512x2048 .bf16) (kr : Vec F S4x8x512 .f32)

/-- The left half of a weights' block. -/
abbrev wL (w : Vec F S2048x512 .bf16) : Vec F S2048x256 .bf16 :=
  View.ld w (Rect.unit (s := S2048x512) ![0, 0] S2048x256.size inb_S2048x512_S2048x256_0_0)
/-- Its right half. -/
abbrev wR (w : Vec F S2048x512 .bf16) : Vec F S2048x256 .bf16 :=
  View.ld w (Rect.unit (s := S2048x512) ![0, 256] S2048x256.size inb_S2048x512_S2048x256_0_256)

/-- The product of the two gates' halves, left columns. -/
def vL : FVec F S512x256 .f32 := k0_pay9 xn (wL wc) (wL wh)
/-- The same, right columns. -/
def vR : FVec F S512x256 .f32 := k0_pay14 (k0_pay7 xn (wR wc)) (k0_pay8 xn (wR wh))

/-- Whether the row tile opens the sequence. -/
def opens : BitVec 1 := Scalar.cmpi .eq (Scalar.remsi (BitVec.ofNat 32 (i 0).val) 1#32) 0#32
/-- The row of every element of a tile. -/
def rows : IVec S512x256 32 := iota .tc S512x256 32 [0] iota_S512x256_d0_w32

/-- The gated convolution's left columns. -/
def gL : FVec F S512x256 .bf16 :=
  k0_pay11 (opens i) rows (k0_pay5 xn (wL wb)) (vL wc wh xn)
    (k0_pay10 (View.ld lead (Rect.unit (s := S8x512) ![0, 0] S8x256.size inb_S8x512_S8x256_0_0)))
    (View.ld kr (Rect.unit (s := S4x8x512) (k0_off1 i) S1x8x256.size (k0_off1_inb i)))
    (View.ld cw (Rect.unit (s := S3x512) ![0, 0] S1x256.size inb_S3x512_S1x256_0_0))
    (View.ld cw (Rect.unit (s := S3x512) ![1, 0] S1x256.size inb_S3x512_S1x256_1_0))
    (View.ld cw (Rect.unit (s := S3x512) ![2, 0] S1x256.size inb_S3x512_S1x256_2_0))
/-- Its right columns. -/
def gR : FVec F S512x256 .bf16 :=
  k0_pay1 (k0_pay6 xn (wR wb)) (k0_pay15 (opens i) rows (k0_pay7 xn (wR wc)) (k0_pay8 xn (wR wh))
    (View.ld lead (Rect.unit (s := S8x512) ![0, 256] S8x256.size inb_S8x512_S8x256_0_256))
    (View.ld kr (Rect.unit (s := S4x8x512) (k0_off2 i) S1x8x256.size (k0_off2_inb i)))
    (View.ld cw (Rect.unit (s := S3x512) ![0, 256] S1x256.size inb_S3x512_S1x256_0_256))
    (View.ld cw (Rect.unit (s := S3x512) ![1, 256] S1x256.size inb_S3x512_S1x256_1_256)))
    (k0_pay16 (k0_pay7 xn (wR wc)) (k0_pay8 xn (wR wh)) (View.ld cw (Rect.unit (s := S3x512) ![2, 256] S1x256.size inb_S3x512_S1x256_2_256)))

/-- The right columns are computed as the left ones are. -/
theorem gR_eq : gR i wb wc wh cw lead xn kr
    = k0_pay11 (opens i) rows (k0_pay5 xn (wR wb)) (vR wc wh xn)
      (k0_pay10 (View.ld lead (Rect.unit (s := S8x512) ![0, 256] S8x256.size inb_S8x512_S8x256_0_256)))
      (View.ld kr (Rect.unit (s := S4x8x512) (k0_off2 i) S1x8x256.size (k0_off2_inb i)))
      (View.ld cw (Rect.unit (s := S3x512) ![0, 256] S1x256.size inb_S3x512_S1x256_0_256))
      (View.ld cw (Rect.unit (s := S3x512) ![1, 256] S1x256.size inb_S3x512_S1x256_1_256))
      (View.ld cw (Rect.unit (s := S3x512) ![2, 256] S1x256.size inb_S3x512_S1x256_2_256)) := by
  unfold gR vR k0_pay1 k0_pay15 k0_pay16 k0_pay11 k0_pay5 k0_pay6 k0_pay10
  rfl

/-- The first output's block. -/
def outO : Vec F S512x512 .bf16 :=
  View.canon [⟨Rect.unit (s := S512x512) ![0, 256] S512x256.size inb_S512x512_S512x256_0_256, gR i wb wc wh cw lead xn kr⟩,
    ⟨Rect.unit (s := S512x512) ![0, 0] S512x256.size inb_S512x512_S512x256_0_0, gL i wb wc wh cw lead xn kr⟩]
/-- The second output's block. -/
def outM : Vec F S8x512 .f32 :=
  View.canon [⟨Rect.unit (s := S8x512) ![0, 256] S8x256.size inb_S8x512_S8x256_0_256, k0_pay3 (vR wc wh xn)⟩,
    ⟨Rect.unit (s := S8x512) ![0, 0] S8x256.size inb_S8x512_S8x256_0_0, k0_pay13 (vL wc wh xn)⟩]
/-- The point opens the one sequence there is. -/
theorem opens_eq : opens i = 1#1 := by
  have h : (i 0).val = 0 := Nat.lt_one_iff.mp (i 0).isLt
  unfold opens
  rw [h]
  rfl

/-- Any two contents of the carried rows leave the same block. -/
theorem outO_congr (kr kr' : Vec F S4x8x512 .f32) :
    outO i wb wc wh cw lead xn kr = outO i wb wc wh cw lead xn kr' := by
  unfold outO gL gR
  rw [opens_eq i]
  rfl

end Values

/-! ## The runs' pieces -/

section Pieces

variable (c : Dev nD) (i : grid0.Coords)
  (bx : Memref sig .tc .vmem S512x2048 .f32) (hbx : bx.IsWhole) (bg : Memref sig .tc .vmem S1x2048 .f32) (hbg : bg.IsWhole)
  (bb : Memref sig .tc .vmem S2048x512 .bf16) (hbb : bb.IsWhole) (bc : Memref sig .tc .vmem S2048x512 .bf16) (hbc : bc.IsWhole)
  (bh : Memref sig .tc .vmem S2048x512 .bf16) (hbh : bh.IsWhole) (bw : Memref sig .tc .vmem S3x512 .f32) (hbw : bw.IsWhole)
  (bl : Memref sig .tc .vmem S8x512 .f32) (hbl : bl.IsWhole) (bo : Memref sig .tc .vmem S512x512 .bf16) (hbo : bo.IsWhole)
  (bm : Memref sig .tc .vmem S8x512 .f32) (hbm : bm.IsWhole) (bn : Memref sig .tc .vmem S512x2048 .bf16) (hbn : bn.IsWhole)
  (bk : Memref sig .tc .vmem S4x8x512 .f32) (hbk : bk.IsWhole)
  (x : Vec F S512x2048 .f32) (g : Vec F S1x2048 .f32) (wb wc wh : Vec F S2048x512 .bf16) (cw : Vec F S3x512 .f32)
  (lead : Vec F S8x512 .f32) (xn : Vec F S512x2048 .bf16) (kr : Vec F S4x8x512 .f32)

theorem coverO (w w') : ∀ y, ∃ p ∈ ([⟨Rect.unit (s := S512x512) ![0, 256] S512x256.size inb_S512x512_S512x256_0_256, w⟩,
    ⟨Rect.unit (s := S512x512) ![0, 0] S512x256.size inb_S512x512_S512x256_0_0, w'⟩] : List (View.Piece (Elt F) S512x512 .bf16)), y ∈ p.1.set :=
  View.cover_of_tiledL _ S512x256.size (by sl_kernel_rfl)

theorem coverM (w w') : ∀ y, ∃ p ∈ ([⟨Rect.unit (s := S8x512) ![0, 256] S8x256.size inb_S8x512_S8x256_0_256, w⟩,
    ⟨Rect.unit (s := S8x512) ![0, 0] S8x256.size inb_S8x512_S8x256_0_0, w'⟩] : List (View.Piece (Elt F) S8x512 .f32)), y ∈ p.1.set :=
  View.cover_of_tiledL _ S8x256.size (by sl_kernel_rfl)

theorem coverN (w) : ∀ y, ∃ p ∈ ([⟨Rect.unit (s := S512x2048) ![0, 0] S512x2048.size inb_S512x2048_S512x2048_0_0, w⟩] :
    List (View.Piece (Elt F) S512x2048 .bf16)), y ∈ p.1.set :=
  View.cover_of_tiledL _ S512x2048.size (by sl_kernel_rfl)

local notation "RA" => runA c i bx hbx bg hbg bb hbb bc hbc bh hbh bw hbw bl hbl bo hbo bm hbm bn hbn bk hbk x g wb wc wh cw lead kr
local notation "RB" => runB c i bx hbx bg hbg bb hbb bc hbc bh hbh bw hbw bl hbl bo hbo bm hbm bn hbn bk hbk x g wb wc wh cw lead xn kr

theorem A_O (hc : First i) : (RA hc).1
    = [⟨Rect.unit (s := S512x512) ![0, 256] S512x256.size inb_S512x512_S512x256_0_256, gR i wb wc wh cw lead (k0_pay4 x g) kr⟩,
    ⟨Rect.unit (s := S512x512) ![0, 0] S512x256.size inb_S512x512_S512x256_0_0, gL i wb wc wh cw lead (k0_pay4 x g) kr⟩] := by
  frame_out
  rfl

theorem A_M (hc : First i) : (RA hc).2.1
    = [⟨Rect.unit (s := S8x512) ![0, 256] S8x256.size inb_S8x512_S8x256_0_256, k0_pay3 (vR wc wh (k0_pay4 x g))⟩,
    ⟨Rect.unit (s := S8x512) ![0, 0] S8x256.size inb_S8x512_S8x256_0_0, k0_pay13 (vL wc wh (k0_pay4 x g))⟩] := by
  frame_out
  rfl

theorem A_N (hc : First i) : (RA hc).2.2.1
    = [⟨Rect.unit (s := S512x2048) ![0, 0] S512x2048.size inb_S512x2048_S512x2048_0_0, k0_pay4 x g⟩] := by
  frame_out

theorem B_O (hc : ¬First i) : (RB hc).1
    = [⟨Rect.unit (s := S512x512) ![0, 256] S512x256.size inb_S512x512_S512x256_0_256, gR i wb wc wh cw lead xn kr⟩,
    ⟨Rect.unit (s := S512x512) ![0, 0] S512x256.size inb_S512x512_S512x256_0_0, gL i wb wc wh cw lead xn kr⟩] := by
  frame_out
  rfl

theorem B_M (hc : ¬First i) : (RB hc).2.1
    = [⟨Rect.unit (s := S8x512) ![0, 256] S8x256.size inb_S8x512_S8x256_0_256, k0_pay3 (vR wc wh xn)⟩,
    ⟨Rect.unit (s := S8x512) ![0, 0] S8x256.size inb_S8x512_S8x256_0_0, k0_pay13 (vL wc wh xn)⟩] := by
  frame_out
  rfl

end Pieces

end Cert.Kernel2Ideal.MetaConv

end
-- ==== Proof.Meta.lean ====
/- The short convolution's input half over the meta tokens (`Kernel2Ideal`) over its grid: what every point leaves in the two outputs, in the
   normed rows, the run of the whole program with its arrays named, and its frame. -/
module

public import proofs.«01_k».proof.Proof.MetaVal
public import Idealize.ShloMosaic.Lib.Claim

@[expose] public section

set_option maxRecDepth 16384

noncomputable section

namespace Cert.Kernel2Ideal.MetaConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem lt4 (t : Fin cfg0.N) : t.val < 4 := lt_of_lt_of_eq t.isLt (show cfg0.N = 4 from N_0)

/-- The windows' block indices at every point. -/
theorem idx : ∀ t : Fin cfg0.N, win0_0.index t = ![0, 0] ∧ win0_1.index t = ![0, 0]
    ∧ win0_2.index t = ![0, t.val] ∧ win0_3.index t = ![0, 4 + t.val] ∧ win0_4.index t = ![0, 8 + t.val]
    ∧ win0_5.index t = ![0, t.val] ∧ win0_6.index t = ![0, t.val]
    ∧ win0_7.index t = ![0, t.val] ∧ win0_8.index t = ![0, t.val] :=
  (by decide +kernel : ∀ t : Fin grid0.N, _)

theorem col_val (t : Fin cfg0.N) : (grid0.coords t 1).val = t.val := by
  have e : (grid0.coords t 1).val = t.val / 1 % 4 := Pipeline.Grid.coords_val t 1 (by decide) rfl
  have := lt4 t
  rw [e]; omega

/-- The normed rows are written at the first point. -/
theorem first_iff (t : Fin cfg0.N) : First (grid0.coords t) ↔ t.val = 0 := by
  have h : t.val < 4 := lt4 t
  unfold First
  rw [col_val t]
  generalize t.val = n at h
  interval_cases n <;> decide

/-- The block of rows is the same at every point, -/
theorem rblk (c : Dev nD) (t t' : Fin cfg0.N) : iblk m c 0 t = iblk m c 0 t' := by
  funext y
  blk_ext [iblk, idx t, idx t']

/-- and the scale too. -/
theorem gblk (c : Dev nD) (t t' : Fin cfg0.N) : iblk m c 1 t = iblk m c 1 t' := by
  funext y
  blk_ext [iblk, idx t, idx t']

/-! ## What the points leave -/

/-- The normed rows. -/
def xnAt (c : Dev nD) (t : Fin cfg0.N) : Vec F S512x2048 .bf16 := k0_pay4 (iblk m c 0 t) (iblk m c 1 t)

theorem xnAt_eq (c : Dev nD) (t t' : Fin cfg0.N) : xnAt m c t = xnAt m c t' := by
  unfold xnAt
  rw [rblk m c t t', gblk m c t t']

/-- The first output's block after a point, over carried rows of zeros: it is the same over any. -/
def outAt (c : Dev nD) (t : Fin cfg0.N) : Vec F S512x512 .bf16 :=
  outO (grid0.coords t) (iblk m c 2 t) (iblk m c 3 t) (iblk m c 4 t) (iblk m c 5 t) (iblk m c 6 t) (xnAt m c t)
    (constant S4x8x512 .f32 0x00000000#32)

/-- The second output's block after a point. -/
def metaAt (c : Dev nD) (t : Fin cfg0.N) : Vec F S8x512 .f32 := outM (iblk m c 3 t) (iblk m c 4 t) (xnAt m c t)

/-- Before position `n`, past the first point, the normed rows are the point's. -/
def NInv (c : Dev nD) (n : ℕ) (xn : Vec F S512x2048 .bf16) : Prop :=
  ∀ t : Fin cfg0.N, t.val = n → n ≠ 0 → xn = xnAt m c t

theorem NInv_step (c : Dev nD) (t : Fin cfg0.N) : NInv m c (t.val + 1) (xnAt m c t) := by
  intro t' h hn
  exact xnAt_eq m c t t'

/-! ## The outputs' and the normed rows' buffers after their stores -/

theorem read_O {k : Kind} {sp : Space} (v : View sig k sp S512x512 .bf16) (f) (gr gl : FVec F S512x256 .bf16)
    (L : List (View.Piece (Elt F) S512x512 .bf16))
    (h : L = [⟨Rect.unit (s := S512x512) ![0, 256] S512x256.size inb_S512x512_S512x256_0_256, gr⟩,
      ⟨Rect.unit (s := S512x512) ![0, 0] S512x256.size inb_S512x512_S512x256_0_0, gl⟩]) :
    v.read (Elt F) (v.writes (Elt F) f L)
      = View.canon [⟨Rect.unit (s := S512x512) ![0, 256] S512x256.size inb_S512x512_S512x256_0_256, gr⟩,
        ⟨Rect.unit (s := S512x512) ![0, 0] S512x256.size inb_S512x512_S512x256_0_0, gl⟩] := by
  subst h
  exact View.read_writes_eq_canon _ _ _ (coverO _ _)

theorem read_M {k : Kind} {sp : Space} (v : View sig k sp S8x512 .f32) (f) (gr gl : FVec F S8x256 .f32)
    (L : List (View.Piece (Elt F) S8x512 .f32))
    (h : L = [⟨Rect.unit (s := S8x512) ![0, 256] S8x256.size inb_S8x512_S8x256_0_256, gr⟩,
      ⟨Rect.unit (s := S8x512) ![0, 0] S8x256.size inb_S8x512_S8x256_0_0, gl⟩]) :
    v.read (Elt F) (v.writes (Elt F) f L)
      = View.canon [⟨Rect.unit (s := S8x512) ![0, 256] S8x256.size inb_S8x512_S8x256_0_256, gr⟩,
        ⟨Rect.unit (s := S8x512) ![0, 0] S8x256.size inb_S8x512_S8x256_0_0, gl⟩] := by
  subst h
  exact View.read_writes_eq_canon _ _ _ (coverM _ _)

theorem read_N {k : Kind} {sp : Space} (v : View sig k sp S512x2048 .bf16) (f) (x : FVec F S512x2048 .bf16)
    (L : List (View.Piece (Elt F) S512x2048 .bf16))
    (h : L = [⟨Rect.unit (s := S512x2048) ![0, 0] S512x2048.size inb_S512x2048_S512x2048_0_0, x⟩]) :
    v.read (Elt F) (v.writes (Elt F) f L) = x := by
  subst h
  funext y
  refine View.read_writes_cons_hit_of_coords v f
    (Rect.unit (s := S512x2048) ![0, 0] S512x2048.size inb_S512x2048_S512x2048_0_0) x [] y y fun a => ?_
  fin_cases a
  · show (y 0).val = 0 + 1 * (y 0).val; omega
  · show (y 1).val = 0 + 1 * (y 1).val; omega

/-! ## The proof data -/

/-- The scratch buffer of the normed rows. -/
abbrev bnM : Memref sig .tc .vmem S512x2048 .bf16 := Memref.whole cc0_scratch0
/-- The scratch buffer of the carried rows. -/
abbrev bkM : Memref sig .tc .vmem S4x8x512 .f32 := Memref.whole cc0_scratch1

/-- The invariant before position `n`: the normed rows as later points read them, the carried rows at anything. -/
def Inv (c : Dev nD) (n : ℕ) (_ : n ≤ cfg0.N) : sProp 𝕄 :=
  iprop(iprop((∃ xn, ⌜NInv m c n xn⌝ ∗ owns (c : Thread nD τ) bnM fullShare xn)
    ∗ (∃ d, owns (c : Thread nD τ) bkM fullShare d)) ∗ (∃ r, prngReg c r))

theorem scratch_eq (c : Dev nD) :
    (Pipeline.ΦA spec0 c : sProp 𝕄) = iprop(iprop((∃ d, owns (c : Thread nD τ) bnM fullShare d)
      ∗ (∃ d, owns (c : Thread nD τ) bkM fullShare d)) ∗ (∃ r, prngReg c r)) := by
  unfold Pipeline.ΦA; rw [scopedRest0_eq]; simp only [bnM, bkM, owns_whole]; try rfl

/-- The proof data: the arrays as the region finds them, the inputs' blocks left in place, the outputs' blocks above, the
    invariant above, each input at the share its array leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => metaAt m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem after_8 (c : Dev nD) (t : Fin cfg0.N) : (dats m 0 c).after 8 t = metaAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at a point -/

/-- What the body finds at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at a point meets the proof data. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8,
    show (dats m 0 c).Φ t.succ = Inv m c (t.val + 1) t.isLt from rfl, Inv_castSucc]
  unfold Inv
  iintro ⟨⟨⟨⟨%xn, %hxn, HN⟩, ⟨%kr, HK⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val = 0
  · iapply ((runA c (grid0.coords t) _ _ _ _ _ _ _ _ _ _ _ _ _ _ _ _ _ _ bnM (Memref.isWhole_whole _) bkM (Memref.isWhole_whole _)
      (iblk m c 0 t) (iblk m c 1 t) (iblk m c 2 t) (iblk m c 3 t) (iblk m c 4 t) (iblk m c 5 t) (iblk m c 6 t) kr
      ((first_iff t).mpr h0)).2.2.2.2 Set.univ _)
    isplitl [H0 H1 H2 H3 H4 H5 H6]
    · unfold ins
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [HN]; · iexists _; iexact HN
    isplitl [HK]; · iexact HK
    unfold ins
    iintro ⟨⟨H0, H1, H2, H3, H4, H5, H6⟩, ⟨%e7, H7⟩, ⟨%e8, H8⟩, ⟨%en, HN⟩, HK⟩
    isplitl [HN HK Hg]
    · isplitl [HN HK]
      · isplitl [HN]
        · iexists (xnAt m c t); isplitr; · ipureintro; exact NInv_step m c t
          unfold owns; iexists _; isplitr
          swap; · iexact HN
          ipureintro
          exact read_N _ _ _ _ (A_N _ _ _ _ _ _ _ _ _ _ _ _ _ _ _ _ _ _ _ _ _ _ _ _ _ _ _ _ _ _ _ _ _)
        iexists _; unfold owns; iexists _; isplitr
        swap; · iexact HK
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      exact (read_O _ _ _ _ _ (A_O _ _ _ _ _ _ _ _ _ _ _ _ _ _ _ _ _ _ _ _ _ _ _ _ _ _ _ _ _ _ _ _ _)).trans (outO_congr _ _ _ _ _ _ _ _ _)
    unfold owns; iexists _; isplitr
    swap; · iexact H8
    ipureintro
    exact read_M _ _ _ _ _ (A_M _ _ _ _ _ _ _ _ _ _ _ _ _ _ _ _ _ _ _ _ _ _ _ _ _ _ _ _ _ _ _ _ _)
  · obtain rfl : xn = xnAt m c t := hxn t rfl h0
    iapply ((runB c (grid0.coords t) _ _ _ _ _ _ _ _ _ _ _ _ _ _ _ _ _ _ bnM (Memref.isWhole_whole _) bkM (Memref.isWhole_whole _)
      (iblk m c 0 t) (iblk m c 1 t) (iblk m c 2 t) (iblk m c 3 t) (iblk m c 4 t) (iblk m c 5 t) (iblk m c 6 t) (xnAt m c t) kr
      (fun h => h0 ((first_iff t).mp h))).2.2.2 Set.univ _)
    isplitl [H0 H1 H2 H3 H4 H5 H6]
    · unfold ins
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [HN]; · iexact HN
    isplitl [HK]; · iexact HK
    unfold ins
    iintro ⟨⟨H0, H1, H2, H3, H4, H5, H6⟩, ⟨%e7, H7⟩, ⟨%e8, H8⟩, HN, HK⟩
    isplitl [HN HK Hg]
    · isplitl [HN HK]
      · isplitl [HN]
        · iexists (xnAt m c t); isplitr; · ipureintro; exact NInv_step m c t
          iexact HN
        iexists _; unfold owns; iexists _; isplitr
        swap; · iexact HK
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      exact (read_O _ _ _ _ _ (B_O _ _ _ _ _ _ _ _ _ _ _ _ _ _ _ _ _ _ _ _ _ _ _ _ _ _ _ _ _ _ _ _ _ _)).trans (outO_congr _ _ _ _ _ _ _ _ _)
    unfold owns; iexists _; isplitr
    swap; · iexact H8
    ipureintro
    exact read_M _ _ _ _ _ (B_M _ _ _ _ _ _ _ _ _ _ _ _ _ _ _ _ _ _ _ _ _ _ _ _ _ _ _ _ _ _ _ _ _ _)

theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound m c t) rfl .rfl fun _ => .rfl

/-- The scratch buffers at anything are the invariant before the first point, -/
theorem enter (c : Dev nD) : Pipeline.ΦA spec0 c ⊢ (dats m 0 c).Φ 0 := by
  rw [show (dats m 0 c).Φ 0 = Inv m c 0 (Nat.zero_le _) from rfl, scratch_eq]
  unfold Inv
  iintro ⟨⟨⟨%xn, HN⟩, ⟨%d, HK⟩⟩, Hg⟩
  isplitl [HN HK]
  · isplitl [HN]
    · iexists xn; isplitr; · ipureintro; exact fun t _ h => absurd rfl h
      iexact HN
    iexists d; iexact HK
  iexact Hg

/-- and the invariant after the last gives them back. -/
theorem leave (c : Dev nD) : (dats m 0 c).Φ (Fin.last cfg0.N) ⊢ Pipeline.ΦA spec0 c := by
  rw [show (dats m 0 c).Φ (Fin.last cfg0.N) = Inv m c cfg0.N (Nat.le_refl _) from rfl, scratch_eq]
  unfold Inv
  iintro ⟨⟨⟨%xn, -, HN⟩, ⟨%d, HK⟩⟩, Hg⟩
  isplitl [HN HK]
  · isplitl [HN]; · iexists xn; iexact HN
    iexists d; iexact HK
  iexact Hg

/-! ## The run and the frame -/

set_option backward.isDefEq.respectTransparency.types false in
/-- Every execution ends, every array at what the proof data compute and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := enter m) (hout := leave m)

theorem run : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.Kernel2Ideal.MetaConv

end
-- ==== Proof.MetaRef.lean ====
/- The value of the short convolution's input half over the meta tokens (`Kernel2Ideal`): the reference's two terms. -/
module

public import proofs.«01_k».proof.Proof.Meta
public import proofs.«01_k».proof.Proof.Gen.Reference2Ideal.Run
public import Idealize.ShloMosaic.Lib.Pipeline.ValueKit
public import Idealize.ShloMosaic.Lib.Pipeline.ReadBack

@[expose] public section

set_option maxRecDepth 16384

noncomputable section

namespace Cert.Kernel2Ideal.MetaConv

open Idealize.ShloMosaic Idealize.ShloMosaic.TcCoe Idealize.SL.Sem
open Idealize.ShloMosaic.Pipeline (Dat)
open Cert.Kernel2Ideal Cert.Kernel2Ideal.Gen

/-! ## The reference's terms -/

/-- The meta tokens' rows laid between zero rows. -/
def XP (mt : FVec Ideal S16x2048 .f32) : FVec Ideal S512x2048 .f32 :=
  pad Cert.Reference2Ideal.S512x2048 ![112, 0] ![384, 0] ![0, 0] mt (sitofp .f32 (constantI Cert.Reference2Ideal.S_ 32 0#32))
    Cert.Reference2Ideal.Gen.pads_S16x2048_S512x2048_1123840_000 Cert.Reference2Ideal.Gen.h_S_

theorem sitofp_zero : (FloatOps.sitofp FTy.f32 0#32 : Ideal .f32) = (0 : EReal) := by
  show ((((0 : Int) : ℝ)) : EReal) = 0
  simp

theorem XP_at (mt : FVec Ideal S16x2048 .f32) (r : Fin 512) (k : Fin 2048) :
    XP mt (ix2 r k) = if h : 112 ≤ r.val ∧ r.val < 128 then mt (ix2 ⟨r.val - 112, by omega⟩ k) else (0 : EReal) := by
  unfold XP
  pointwise
  by_cases h : 112 ≤ r.val ∧ r.val < 128
  · rw [dif_pos h, dif_pos ⟨h.1, by omega⟩]
  · rw [dif_neg h, dif_neg (fun h' => h ⟨h'.1, by omega⟩), sitofp_zero]

section Reference

variable (x : FVec Ideal S512x2048 .f32) (g : FVec Ideal S2x2048 .f32)
  (w : FVec Ideal S1x2048x6144 .f32) (cw : FVec Ideal S1x3x2048 .f32)

/-- The reference's normed rows. -/
def NRM : FVec Ideal S512x2048 .f32 :=
  mulf (mulf x (broadcastInDim Cert.Reference2Ideal.S512x2048 ![0, 1] Cert.Reference2Ideal.Gen.bcast_S512x1_S512x2048_0_1 (Host.rsqrt (addf (Host.divf (broadcastInDim Cert.Reference2Ideal.S512x1 ![0] Cert.Reference2Ideal.Gen.bcast_S512_S512x1_0 (Host.reduceAdd (mulf x x) (constant Cert.Reference2Ideal.S_ .f32 0x00000000#32) Cert.Reference2Ideal.Gen.reducesTo_S512x2048_S512_d1 Cert.Reference2Ideal.Gen.h_S_)) (broadcastInDim Cert.Reference2Ideal.S512x1 ![] Cert.Reference2Ideal.Gen.bcast_S_S512x1 (constant Cert.Reference2Ideal.S_ .f32 0x45000000#32))) (broadcastInDim Cert.Reference2Ideal.S512x1 ![] Cert.Reference2Ideal.Gen.bcast_S_S512x1 (constant Cert.Reference2Ideal.S_ .f32 0x358637BD#32))))))
    (broadcastInDim Cert.Reference2Ideal.S512x2048 ![0, 1] Cert.Reference2Ideal.Gen.bcast_S1x2048_S512x2048_0_1 (broadcastInDim Cert.Reference2Ideal.S1x2048 ![1] Cert.Reference2Ideal.Gen.bcast_S2048_S1x2048_1 (shapeCast _ (extractStridedSlice Cert.Reference2Ideal.S1x2048 ![0, 0] g Cert.Reference2Ideal.Gen.slices_S2x2048_S1x2048_0_0) Cert.Reference2Ideal.Gen.shapeCasts_S1x2048_S2048)))

/-- Their product with the three gates' weights. -/
def PROD : FVec Ideal Cert.Reference2Ideal.S512x6144 .f32 :=
  Host.dotGeneral Cert.Reference2Ideal.dot_S512x2048_S2048x6144_S512x6144_1_0_0_1_n_n none (NRM x g) (shapeCast _ w Cert.Reference2Ideal.Gen.shapeCasts_S1x2048x6144_S2048x6144)

/-- The product of the second and third gates. -/
def VV : FVec Ideal S512x2048 .f32 :=
  mulf (extractStridedSlice Cert.Reference2Ideal.S512x2048 ![0, 2048] (PROD x g w) Cert.Reference2Ideal.Gen.slices_S512x6144_S512x2048_0_2048)
    (extractStridedSlice Cert.Reference2Ideal.S512x2048 ![0, 4096] (PROD x g w) Cert.Reference2Ideal.Gen.slices_S512x6144_S512x2048_0_4096)

/-- The same below two zero rows. -/
def VP : FVec Ideal Cert.Reference2Ideal.S514x2048 .f32 :=
  pad Cert.Reference2Ideal.S514x2048 ![2, 0] ![0, 0] ![0, 0] (VV x g w) (sitofp .f32 (constantI Cert.Reference2Ideal.S_ 32 0#32)) Cert.Reference2Ideal.Gen.pads_S512x2048_S514x2048_200_000 Cert.Reference2Ideal.Gen.h_S_

/-- One tap of the convolution, laid over the rows. -/
abbrev TAP (a : FVec Ideal Cert.Reference2Ideal.S1x1x2048 .f32) : FVec Ideal S512x2048 .f32 :=
  broadcastInDim Cert.Reference2Ideal.S512x2048 ![0, 1] Cert.Reference2Ideal.Gen.bcast_S1x2048_S512x2048_0_1 (broadcastInDim Cert.Reference2Ideal.S1x2048 ![1] Cert.Reference2Ideal.Gen.bcast_S2048_S1x2048_1 (shapeCast _ a Cert.Reference2Ideal.Gen.shapeCasts_S1x1x2048_S2048))

/-- The reference's first term: the gated convolution. -/
def REF : FVec Ideal S512x2048 .bf16 :=
  truncf .bf16 (mulf (extractStridedSlice Cert.Reference2Ideal.S512x2048 ![0, 0] (PROD x g w) Cert.Reference2Ideal.Gen.slices_S512x6144_S512x2048_0_0)
    (addf (addf (mulf (TAP (extractStridedSlice Cert.Reference2Ideal.S1x1x2048 ![0, 0, 0] cw Cert.Reference2Ideal.Gen.slices_S1x3x2048_S1x1x2048_0_0_0)) (extractStridedSlice Cert.Reference2Ideal.S512x2048 ![0, 0] (VP x g w) Cert.Reference2Ideal.Gen.slices_S514x2048_S512x2048_0_0))
      (mulf (TAP (extractStridedSlice Cert.Reference2Ideal.S1x1x2048 ![0, 1, 0] cw Cert.Reference2Ideal.Gen.slices_S1x3x2048_S1x1x2048_0_1_0)) (extractStridedSlice Cert.Reference2Ideal.S512x2048 ![1, 0] (VP x g w) Cert.Reference2Ideal.Gen.slices_S514x2048_S512x2048_1_0)))
      (mulf (TAP (extractStridedSlice Cert.Reference2Ideal.S1x1x2048 ![0, 2, 0] cw Cert.Reference2Ideal.Gen.slices_S1x3x2048_S1x1x2048_0_2_0)) (extractStridedSlice Cert.Reference2Ideal.S512x2048 ![2, 0] (VP x g w) Cert.Reference2Ideal.Gen.slices_S514x2048_S512x2048_2_0)))) Cert.Reference2Ideal.Gen.bitsLt_bf16_f32

/-- Its second term: the last eight meta tokens' rows of that product. -/
def REFM : FVec Ideal S8x2048 .f32 := extractStridedSlice Cert.Reference2Ideal.S8x2048 ![120, 0] (VV x g w) Cert.Reference2Ideal.Gen.slices_S512x2048_S8x2048_120_0

/-- Past its first two rows the padded product is the product, -/
theorem VP_past (l : Fin 512) (J : Fin 2048) (l' : Fin 514) (h : l'.val = l.val + 2) :
    VP x g w (ix2 l' J) = VV x g w (ix2 l J) := by
  have e : l'.val - 2 = l.val := by omega
  unfold VP
  generalize VV x g w = v
  pointwise
  rw [dif_pos ⟨by omega, by omega⟩]
  simp only [e]

/-- and its first two rows are zero. -/
theorem VP_before (l' : Fin 514) (J : Fin 2048) (h : l'.val < 2) : VP x g w (ix2 l' J) = (0 : EReal) := by
  unfold VP
  generalize VV x g w = v
  pointwise
  rw [dif_neg (by omega), sitofp_zero]

theorem VV_at (l : Fin 512) (J : Fin 2048) (J1 J2 : Fin 6144) (h1 : J1.val = 2048 + J.val) (h2 : J2.val = 4096 + J.val) :
    VV x g w (ix2 l J) = PROD x g w (ix2 l J1) * PROD x g w (ix2 l J2) := by
  have hJ := J.isLt
  have e1 : J1 = ⟨2048 + J.val, by clear h1 h2; omega⟩ := Fin.ext h1
  have e2 : J2 = ⟨4096 + J.val, by clear h1 h2; omega⟩ := Fin.ext h2
  subst e1 e2
  unfold VV
  generalize PROD x g w = p
  pointwise

theorem REF_at (l : Fin 512) (J : Fin 2048) (J0 : Fin 6144) (h0 : J0.val = J.val) :
    REF x g w cw (ix2 l J) = PROD x g w (ix2 l J0)
      * (cw (ix3 0 0 J) * VP x g w (ix2 ⟨l.val, by omega⟩ J) + cw (ix3 0 1 J) * VP x g w (ix2 ⟨1 + l.val, by omega⟩ J)
        + cw (ix3 0 2 J) * VP x g w (ix2 ⟨2 + l.val, by omega⟩ J)) := by
  have e0 : J0 = ⟨J.val, by clear h0; omega⟩ := Fin.ext h0
  subst e0
  unfold REF
  generalize PROD x g w = p
  generalize VP x g w = v
  pointwise

theorem REFM_at (q : Fin 8) (J : Fin 2048) : REFM x g w (ix2 q J) = VV x g w (ix2 ⟨120 + q.val, by omega⟩ J) := by
  unfold REFM
  generalize VV x g w = v
  pointwise

end Reference

end Cert.Kernel2Ideal.MetaConv

end
-- ==== Proof.MetaEq.lean ====
/- The short convolution's input half over the meta tokens (`Kernel2Ideal`): every block it stores is the reference's term there, in both outputs. -/
module

public import proofs.«01_k».proof.Proof.MetaRef

@[expose] public section

set_option maxRecDepth 16384

noncomputable section

namespace Cert.Kernel2Ideal.MetaConv

open Idealize.ShloMosaic Idealize.ShloMosaic.TcCoe Idealize.SL.Sem
open Idealize.ShloMosaic.Pipeline (Dat)
open Cert.Kernel2Ideal Cert.Kernel2Ideal.Gen

/-! ## The gated convolution of one half of a tile -/

/-- The row before the tile's first, `k` rows up, from the two candidates for it. -/
abbrev prev (op : BitVec 1) (ld : FVec Ideal S8x256 .f32) (kr : FVec Ideal S1x8x256 .f32) (q : Fin 8) (j : Fin 256) : EReal :=
  Scalar.select op (ld (ix2 q j)) (kr (ix3 0 q j))

theorem half (op : BitVec 1) (b v : FVec Ideal S512x256 .f32) (ld : FVec Ideal S8x256 .f32) (kr : FVec Ideal S1x8x256 .f32)
    (c0 c1 c2 : FVec Ideal S1x256 .f32) (r : Fin 512) (j : Fin 256) (s1 s2 : EReal)
    (h1 : s1 = if h : r.val = 0 then prev op ld kr 7 j else v (ix2 ⟨r.val - 1, by omega⟩ j))
    (h2 : s2 = if h : r.val = 0 then prev op ld kr 6 j else if h' : r.val = 1 then prev op ld kr 7 j
      else v (ix2 ⟨r.val - 2, by omega⟩ j)) :
    k0_pay11 op rows b v ld kr c0 c1 c2 (ix2 r j)
      = b (ix2 r j) * (c0 (ix2 0 j) * s2 + c1 (ix2 0 j) * s1 + c2 (ix2 0 j) * v (ix2 r j)) := by
  have q : ∀ n : ℕ, n < 512 → ∀ a b : EReal, Scalar.select (IntOp.cmpi .eq (BitVec.ofNat 32 r.val) (BitVec.ofNat 32 n)) a b
      = if r.val = n then a else b := by
    intro n hn a b
    have e : (BitVec.ofNat 32 r.val = BitVec.ofNat 32 n) ↔ r.val = n := by
      rw [← BitVec.toNat_inj, BitVec.toNat_ofNat, BitVec.toNat_ofNat, Nat.mod_eq_of_lt (by omega), Nat.mod_eq_of_lt (by omega)]
    by_cases h : r.val = n
    · rw [if_pos h, h]; simp [IntOp.cmpi, Scalar.select]
    · have e' : (BitVec.ofNat 32 r.val == BitVec.ofNat 32 n) = false := beq_eq_false_iff_ne.mpr (mt e.mp h)
      rw [if_neg h]
      simp only [IntOp.cmpi, Scalar.select, e']
      rfl
  have q0 := q 0 (by decide)
  have q1 := q 1 (by decide)
  subst h1 h2
  unfold prev
  pointwise [k0_pay11, rows]
  rw [q0, q1, q0]
  by_cases h : r.val = 0
  · rw [if_pos h, if_pos h, dif_pos h, dif_pos h]
  · rw [if_neg h, if_neg h, dif_neg h, dif_neg h]
    have e1 : (r.val + 512 - 1) % 512 = r.val - 1 := by omega
    by_cases h' : r.val = 1
    · rw [if_pos h', dif_pos h']
      simp only [e1]
    · have e2 : (r.val + 512 - 2) % 512 = r.val - 2 := by omega
      rw [if_neg h', dif_neg h']
      simp only [e1, e2]

/-! ## What a point reads -/

variable (m : (ℓ : Loc nD τ sig) → Buf (Elt Ideal) ℓ)

/-- The meta tokens, -/
abbrev aT (c : Dev nD) : FVec Ideal S16x2048 .f32 := m ((c : Thread nD τ).loc main_arg0)
/-- the norm's scale, -/
abbrev aG (c : Dev nD) : FVec Ideal S2x2048 .f32 := m ((c : Thread nD τ).loc main_arg1)
/-- the gates' weights -/
abbrev aW (c : Dev nD) : FVec Ideal S1x2048x6144 .f32 := m ((c : Thread nD τ).loc main_arg2)
/-- and the convolution's weights. -/
abbrev aC (c : Dev nD) : FVec Ideal S1x3x2048 .f32 := m ((c : Thread nD τ).loc main_arg3)

/-- The meta tokens' rows laid between zero rows. -/
abbrev aX (c : Dev nD) : FVec Ideal S512x2048 .f32 := XP (aT m c)

/-- The rows the kernel is given: the host lays the meta tokens between two blocks of zeros. -/
theorem V_x0 (c : Dev nD) :
    V m c main_v2 = concatenate S512x2048 0
      [⟨S112x2048, broadcastInDim S112x2048 ![] bcast_S_S112x2048 (constant (F := Ideal) S_ .f32 0x00000000#32)⟩,
        ⟨S16x2048, aT m c⟩,
        ⟨S384x2048, broadcastInDim S384x2048 ![] bcast_S_S384x2048 (constant (F := Ideal) S_ .f32 0x00000000#32)⟩]
      concatenates_S112x2048_S16x2048_S384x2048_S512x2048_d0 := by
  unfold V
  after_results
  all_goals rfl

theorem V_x (c : Dev nD) (r : Fin 512) (k : Fin 2048) : V m c main_v2 (ix2 r k) = aX m c (ix2 r k) := by
  refine Eq.trans ?_ (XP_at (aT m c) r k).symm
  rw [V_x0]
  generalize aT m c = mt
  pointwise
  by_cases h : 112 ≤ r.val ∧ r.val < 128
  · rw [dif_pos h, dif_neg (by omega), dif_pos (by omega)]
  · rw [dif_neg h]
    by_cases h1 : r.val < 112
    · simp [h1]
    · simp [h1, show ¬ r.val - 112 < 16 by omega]

theorem V_g (c : Dev nD) (k : Fin 2048) : V m c main_v5 (ix2 0 k) = aG m c (ix2 0 k) := by
  entry_read
  pointwise

theorem V_w (c : Dev nD) (k : Fin 2048) (j : Fin 6144) : V m c main_v7 (ix2 k j) = aW m c (ix3 0 k j) := by
  entry_read
  pointwise

theorem V_c (c : Dev nD) (k : Fin 3) (j : Fin 2048) : V m c main_v8 (ix2 k j) = aC m c (ix3 0 k j) := by
  entry_read
  pointwise

theorem V_m (c : Dev nD) (k : Fin 8) (j : Fin 2048) : V m c main_v9 (ix2 k j) = (0 : EReal) := by
  entry_read
  pointwise

theorem xread (c : Dev nD) (t : Fin cfg0.N) (r : Fin 512) (k : Fin 2048) :
    (iblk m c 0 t : FVec Ideal S512x2048 .f32) (ix2 r k) = aX m c (ix2 r k) := by
  rw [← V_x m c r k]
  blk_ext [iblk, idx t]

theorem gread (c : Dev nD) (t : Fin cfg0.N) (z : Fin 1) (k : Fin 2048) :
    (iblk m c 1 t : FVec Ideal S1x2048 .f32) (ix2 z k) = aG m c (ix2 0 k) := by
  rw [← V_g m c k]
  blk_ext [iblk, idx t]

theorem wbread (c : Dev nD) (t : Fin cfg0.N) (k : Fin 2048) (j : Fin 512) (J : Fin 6144) (h : J.val = t.val * 512 + j.val) :
    (iblk m c 2 t : FVec Ideal S2048x512 .bf16) (ix2 k j) = aW m c (ix3 0 k J) := by
  rw [← V_w m c k J]
  blk_ext [iblk, idx t, h]

theorem wcread (c : Dev nD) (t : Fin cfg0.N) (k : Fin 2048) (j : Fin 512) (J : Fin 6144)
    (h : J.val = (4 + t.val) * 512 + j.val) :
    (iblk m c 3 t : FVec Ideal S2048x512 .bf16) (ix2 k j) = aW m c (ix3 0 k J) := by
  rw [← V_w m c k J]
  blk_ext [iblk, idx t, h]

theorem whread (c : Dev nD) (t : Fin cfg0.N) (k : Fin 2048) (j : Fin 512) (J : Fin 6144)
    (h : J.val = (8 + t.val) * 512 + j.val) :
    (iblk m c 4 t : FVec Ideal S2048x512 .bf16) (ix2 k j) = aW m c (ix3 0 k J) := by
  rw [← V_w m c k J]
  blk_ext [iblk, idx t, h]

theorem cread (c : Dev nD) (t : Fin cfg0.N) (k : Fin 3) (j : Fin 512) (J : Fin 2048) (h : J.val = t.val * 512 + j.val) :
    (iblk m c 5 t : FVec Ideal S3x512 .f32) (ix2 k j) = aC m c (ix3 0 k J) := by
  rw [← V_c m c k J]
  blk_ext [iblk, idx t, h]

theorem mread (c : Dev nD) (t : Fin cfg0.N) (k : Fin 8) (j : Fin 512) (J : Fin 2048) (h : J.val = t.val * 512 + j.val) :
    (iblk m c 6 t : FVec Ideal S8x512 .f32) (ix2 k j) = (0 : EReal) := by
  rw [← V_m m c k J]
  blk_ext [iblk, idx t, h]

theorem oread (t : Fin cfg0.N) (r : Fin 512) (j : Fin 512) (hj : t.val * 512 + j.val < 2048) :
    ((cfg0.win 7).blk t).view.emb (ix2 r j) = (ix2 r ⟨t.val * 512 + j.val, hj⟩ : S512x2048.Idx) := by
  blk_ext [idx t]

theorem nread (t : Fin cfg0.N) (r : Fin 8) (j : Fin 512) (hj : t.val * 512 + j.val < 2048) :
    ((cfg0.win 8).blk t).view.emb (ix2 r j) = (ix2 r ⟨t.val * 512 + j.val, hj⟩ : S8x2048.Idx) := by
  blk_ext [idx t]

theorem ldw (w : FVec Ideal S2048x512 .bf16) (k : Fin 2048) (j : Fin 256) :
    (wL (F := Ideal) w : FVec Ideal S2048x256 .bf16) (ix2 k j) = w (ix2 k ⟨0 + j.val, by omega⟩) := by
  unfold wL
  pointwise

theorem ldw' (w : FVec Ideal S2048x512 .bf16) (k : Fin 2048) (j : Fin 256) :
    (wR (F := Ideal) w : FVec Ideal S2048x256 .bf16) (ix2 k j) = w (ix2 k ⟨256 + j.val, by omega⟩) := by
  unfold wR
  pointwise

/-! ## The products -/

theorem proj (c : Dev nD) (t : Fin cfg0.N) (w : FVec Ideal S2048x256 .bf16) (r : Fin 512) (j : Fin 256)
    (J : Fin 6144) (hw : ∀ k, w (ix2 k j) = aW m c (ix3 0 k J)) :
    k0_pay5 (xnAt m c t) w (ix2 r j) = PROD (aX m c) (aG m c) (aW m c) (ix2 r J) := by
  unfold PROD NRM xnAt
  pointwise [k0_pay5, k0_pay4, xread m c t, gread, hw]

/-- The product of the second and third gates, over halves of their weights' blocks. -/
theorem gates (c : Dev nD) (t : Fin cfg0.N) (wc wh : FVec Ideal S2048x256 .bf16) (r : Fin 512) (j : Fin 256)
    (J : Fin 2048) (J1 J2 : Fin 6144)
    (h1 : J1.val = 2048 + J.val) (h2 : J2.val = 4096 + J.val) (hc : ∀ k, wc (ix2 k j) = aW m c (ix3 0 k J1))
    (hh : ∀ k, wh (ix2 k j) = aW m c (ix3 0 k J2)) :
    k0_pay9 (xnAt m c t) wc wh (ix2 r j) = VV (aX m c) (aG m c) (aW m c) (ix2 r J) := by
  rw [VV_at _ _ _ r J J1 J2 h1 h2, ← proj m c t wc r j J1 hc, ← proj m c t wh r j J2 hh]
  rfl

theorem left (c : Dev nD) (t : Fin cfg0.N) (r : Fin 512) (j : Fin 256) (J : Fin 2048) (hJ : J.val = t.val * 512 + j.val) :
    vL (iblk m c 3 t) (iblk m c 4 t) (xnAt m c t) (ix2 r j) = VV (aX m c) (aG m c) (aW m c) (ix2 r J) := by
  refine gates m c t _ _ r j J ⟨2048 + J.val, by omega⟩ ⟨4096 + J.val, by omega⟩ rfl rfl (fun k => ?_) (fun k => ?_)
  · exact (ldw _ k j).trans (wcread m c t k _ _ (by dsimp only; omega))
  · exact (ldw _ k j).trans (whread m c t k _ _ (by dsimp only; omega))

theorem right (c : Dev nD) (t : Fin cfg0.N) (r : Fin 512) (j : Fin 256) (J : Fin 2048) (hJ : J.val = t.val * 512 + 256 + j.val) :
    vR (iblk m c 3 t) (iblk m c 4 t) (xnAt m c t) (ix2 r j) = VV (aX m c) (aG m c) (aW m c) (ix2 r J) := by
  refine gates m c t (wR (iblk m c 3 t)) (wR (iblk m c 4 t)) r j J ⟨2048 + J.val, by omega⟩ ⟨4096 + J.val, by omega⟩ rfl rfl
    (fun k => ?_) (fun k => ?_)
  · exact (ldw' _ k j).trans (wcread m c t k _ _ (by dsimp only; omega))
  · exact (ldw' _ k j).trans (whread m c t k _ _ (by dsimp only; omega))

/-! ## A point's blocks -/

theorem tile (c : Dev nD) (t : Fin cfg0.N) (r : Fin 512) (j : Fin 256) (J : Fin 2048) (J0 : Fin 6144)
    (wb : FVec Ideal S2048x256 .bf16) (v : FVec Ideal S512x256 .f32) (ld : FVec Ideal S8x256 .f32)
    (kr : FVec Ideal S1x8x256 .f32) (c0 c1 c2 : FVec Ideal S1x256 .f32) (h0 : J0.val = J.val)
    (hb : ∀ k, wb (ix2 k j) = aW m c (ix3 0 k J0))
    (hv : ∀ r' : Fin 512, v (ix2 r' j) = VV (aX m c) (aG m c) (aW m c) (ix2 r' J))
    (hl : ∀ q, ld (ix2 q j) = (0 : EReal))
    (hc0 : c0 (ix2 0 j) = aC m c (ix3 0 0 J)) (hc1 : c1 (ix2 0 j) = aC m c (ix3 0 1 J)) (hc2 : c2 (ix2 0 j) = aC m c (ix3 0 2 J)) :
    k0_pay11 (opens (grid0.coords t)) rows (k0_pay5 (xnAt m c t) wb) v ld kr c0 c1 c2 (ix2 r j)
      = REF (aX m c) (aG m c) (aW m c) (aC m c) (ix2 r J) := by
  have pr : ∀ (q : Fin 8) (l' : Fin 514), l'.val < 2 →
      prev (opens (grid0.coords t)) ld kr q j = VP (aX m c) (aG m c) (aW m c) (ix2 l' J) := by
    intro q l' hl'
    unfold prev
    rw [opens_eq, VP_before _ _ _ l' J hl', ← hl q]
    rfl
  rw [REF_at _ _ _ _ r J J0 h0, half (opens (grid0.coords t)) _ v ld kr c0 c1 c2 r j
      (VP (aX m c) (aG m c) (aW m c) (ix2 ⟨1 + r.val, by omega⟩ J))
      (VP (aX m c) (aG m c) (aW m c) (ix2 ⟨r.val, by omega⟩ J)), proj m c t wb r j J0 hb, hc0, hc1, hc2,
    hv r, VP_past _ _ _ r J ⟨2 + r.val, by omega⟩ (by dsimp only; omega)]
  · by_cases e : r.val = 0
    · rw [dif_pos e, pr 7 ⟨1 + r.val, by omega⟩ (by dsimp only; omega)]
    · rw [dif_neg e, VP_past _ _ _ ⟨r.val - 1, by omega⟩ J _ (by dsimp only; omega), hv ⟨r.val - 1, by omega⟩]
  · by_cases e : r.val = 0
    · rw [dif_pos e, pr 6 ⟨r.val, by omega⟩ (by dsimp only; omega)]
    · rw [dif_neg e]
      by_cases e' : r.val = 1
      · rw [dif_pos e', pr 7 ⟨r.val, by omega⟩ (by dsimp only; omega)]
      · rw [dif_neg e', VP_past _ _ _ ⟨r.val - 2, by omega⟩ J _ (by dsimp only; omega), hv ⟨r.val - 2, by omega⟩]

theorem canon_low (gr gl : FVec Ideal S512x256 .bf16) (r : Fin 512) (j : Fin 512) (h : j.val < 256) :
    (View.canon [⟨Rect.unit (s := S512x512) ![0, 256] S512x256.size inb_S512x512_S512x256_0_256, gr⟩,
      ⟨Rect.unit (s := S512x512) ![0, 0] S512x256.size inb_S512x512_S512x256_0_0, gl⟩] : Vec Ideal S512x512 .bf16) (ix2 r j)
      = gl (ix2 r ⟨j.val, h⟩) := by
  canon_tiles x hx using coverO (F := Ideal) gr gl (ix2 r j)
  · exact absurd (show j.val = 256 + (x 1).val from hx1) (by omega)
  · refine congrArg gl (funext fun a => Fin.ext ?_)
    fin_cases a
    · exact hx0.symm
    · exact hx1.symm

theorem canon_high (gr gl : FVec Ideal S512x256 .bf16) (r : Fin 512) (j : Fin 512) (h : ¬ j.val < 256) :
    (View.canon [⟨Rect.unit (s := S512x512) ![0, 256] S512x256.size inb_S512x512_S512x256_0_256, gr⟩,
      ⟨Rect.unit (s := S512x512) ![0, 0] S512x256.size inb_S512x512_S512x256_0_0, gl⟩] : Vec Ideal S512x512 .bf16) (ix2 r j)
      = gr (ix2 r ⟨j.val - 256, by omega⟩) := by
  canon_tiles x hx using coverO (F := Ideal) gr gl (ix2 r j)
  · refine congrArg gr (funext fun a => Fin.ext ?_)
    fin_cases a
    · exact hx0.symm
    · have e : j.val = 256 + (x 1).val := hx1
      show (x 1).val = j.val - 256
      omega
  · exact absurd (show j.val = (x 1).val from hx1) (by omega)

theorem canonM_low (gr gl : FVec Ideal S8x256 .f32) (r : Fin 8) (j : Fin 512) (h : j.val < 256) :
    (View.canon [⟨Rect.unit (s := S8x512) ![0, 256] S8x256.size inb_S8x512_S8x256_0_256, gr⟩,
      ⟨Rect.unit (s := S8x512) ![0, 0] S8x256.size inb_S8x512_S8x256_0_0, gl⟩] : Vec Ideal S8x512 .f32) (ix2 r j)
      = gl (ix2 r ⟨j.val, h⟩) := by
  canon_tiles x hx using coverM (F := Ideal) gr gl (ix2 r j)
  · exact absurd (show j.val = 256 + (x 1).val from hx1) (by omega)
  · refine congrArg gl (funext fun a => Fin.ext ?_)
    fin_cases a
    · exact hx0.symm
    · exact hx1.symm

theorem canonM_high (gr gl : FVec Ideal S8x256 .f32) (r : Fin 8) (j : Fin 512) (h : ¬ j.val < 256) :
    (View.canon [⟨Rect.unit (s := S8x512) ![0, 256] S8x256.size inb_S8x512_S8x256_0_256, gr⟩,
      ⟨Rect.unit (s := S8x512) ![0, 0] S8x256.size inb_S8x512_S8x256_0_0, gl⟩] : Vec Ideal S8x512 .f32) (ix2 r j)
      = gr (ix2 r ⟨j.val - 256, by omega⟩) := by
  canon_tiles x hx using coverM (F := Ideal) gr gl (ix2 r j)
  · refine congrArg gr (funext fun a => Fin.ext ?_)
    fin_cases a
    · exact hx0.symm
    · have e : j.val = 256 + (x 1).val := hx1
      show (x 1).val = j.val - 256
      omega
  · exact absurd (show j.val = (x 1).val from hx1) (by omega)

/-- What a point stores into the first output, at a block index, is the reference's first term there. -/
theorem point (c : Dev nD) (t : Fin cfg0.N) (y : S512x512.Idx) :
    outAt m c t y = REF (aX m c) (aG m c) (aW m c) (aC m c) (((cfg0.win 7).blk t).view.emb y) := by
  have hN := lt4 t
  obtain ⟨r, j, rfl⟩ : ∃ (r : Fin 512) (j : Fin 512), y = ix2 r j := ⟨y 0, y 1, by funext a; fin_cases a <;> rfl⟩
  have hj : t.val * 512 + j.val < 2048 := by omega
  rw [oread t r j hj]
  unfold outAt outO
  by_cases h : j.val < 256
  · rw [canon_low _ _ r j h]
    unfold gL
    exact tile m c t r ⟨j.val, h⟩ ⟨t.val * 512 + j.val, hj⟩ ⟨t.val * 512 + j.val, by omega⟩ _ _ _ _ _ _ _ rfl
      (fun k => (ldw _ k _).trans (wbread m c t k _ _ (by dsimp only; omega)))
      (fun r' => left m c t r' _ _ rfl)
      (fun q => (by pointwise [k0_pay10, mread m c t _ _ ⟨t.val * 512 + j.val, hj⟩ rfl]))
      (by pointwise [cread m c t _ _ ⟨t.val * 512 + j.val, hj⟩ rfl])
      (by pointwise [cread m c t _ _ ⟨t.val * 512 + j.val, hj⟩ rfl])
      (by pointwise [cread m c t _ _ ⟨t.val * 512 + j.val, hj⟩ rfl])
  · rw [canon_high _ _ r j h]
    have hj' : t.val * 512 + j.val = t.val * 512 + (256 + (j.val - 256)) := by omega
    rw [gR_eq]
    exact tile m c t r ⟨j.val - 256, by omega⟩ ⟨t.val * 512 + j.val, hj⟩ ⟨t.val * 512 + j.val, by omega⟩ _ _ _ _ _ _ _ rfl
      (fun k => (ldw' _ k _).trans (wbread m c t k _ _ hj'))
      (fun r' => right m c t r' _ _ (by dsimp only; omega))
      (fun q => (by pointwise [k0_pay10, mread m c t _ ⟨256 + (j.val - 256), by omega⟩ ⟨t.val * 512 + j.val, hj⟩ hj']))
      (by pointwise [cread m c t _ ⟨256 + (j.val - 256), by omega⟩ ⟨t.val * 512 + j.val, hj⟩ hj'])
      (by pointwise [cread m c t _ ⟨256 + (j.val - 256), by omega⟩ ⟨t.val * 512 + j.val, hj⟩ hj'])
      (by pointwise [cread m c t _ ⟨256 + (j.val - 256), by omega⟩ ⟨t.val * 512 + j.val, hj⟩ hj'])

/-- What a point stores into the second output is the reference's second term there. -/
theorem pointM (c : Dev nD) (t : Fin cfg0.N) (y : S8x512.Idx) :
    metaAt m c t y = REFM (aX m c) (aG m c) (aW m c) (((cfg0.win 8).blk t).view.emb y) := by
  have hN := lt4 t
  obtain ⟨q, j, rfl⟩ : ∃ (q : Fin 8) (j : Fin 512), y = ix2 q j := ⟨y 0, y 1, by funext a; fin_cases a <;> rfl⟩
  have hj : t.val * 512 + j.val < 2048 := by omega
  rw [nread t q j hj, REFM_at]
  unfold metaAt outM
  by_cases h : j.val < 256
  · rw [canonM_low _ _ q j h, ← left m c t ⟨120 + q.val, by omega⟩ ⟨j.val, h⟩ ⟨t.val * 512 + j.val, hj⟩ rfl]
    generalize vL (iblk m c 3 t) (iblk m c 4 t) (xnAt m c t) = v
    pointwise [k0_pay13]
  · rw [canonM_high _ _ q j h, ← right m c t ⟨120 + q.val, by omega⟩ ⟨j.val - 256, by omega⟩ ⟨t.val * 512 + j.val, hj⟩ (by dsimp only; omega)]
    generalize vR (iblk m c 3 t) (iblk m c 4 t) (xnAt m c t) = v
    pointwise [k0_pay3]

/-- The first array after the run, -/
theorem final (c : Dev nD) : (dats m 0 c).arrAt 7 (cfgs 0).N = REF (aX m c) (aG m c) (aW m c) (aC m c) := by
  refine (dats m 0 c).arrAt_eq_of_covers 7 _ (by decide +kernel) fun t _ y => ?_
  blk_simp
  rw [after_7]
  exact point m c t y

/-- and the second. -/
theorem finalM (c : Dev nD) : (dats m 0 c).arrAt 8 (cfgs 0).N = REFM (aX m c) (aG m c) (aW m c) := by
  refine (dats m 0 c).arrAt_eq_of_covers 8 _ (by decide +kernel) fun t _ y => ?_
  blk_simp
  rw [after_8]
  exact pointM m c t y

/-- The run with its arrays named by the reference's terms. -/
theorem run_value (ρ : Dev nD → PrngReg) :
    θ_run defs (onTc (τ := τ) (main (F := Ideal))) ⟨m, fun _ => 0, ρ⟩ (fun r => ∀ c : Dev nD,
      r.2.mem ((c.tc : Thread nD τ).loc main_v10_0) = REF (aX m c) (aG m c) (aW m c) (aC m c)
      ∧ r.2.mem ((c.tc : Thread nD τ).loc main_v10_1) = REFM (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 7).trans (final m c), ((h.1 c).1 8).trans (finalM m c), h.2 c⟩)
    (θ_run_and (run m ρ) (frame_of m ρ (dats m) (A_eq m) (run m ρ)))

end Cert.Kernel2Ideal.MetaConv

end
-- ==== Proof.MetaClaims.lean ====
/- The claims of `Kernel2`, `Kernel2Ideal` and `Reference2Ideal`: the frames and the value. `Kernel2`'s frame is taken from the
   run of its ideal reading, as the two programs have one text. -/
module

public import proofs.«01_k».proof.Defs
public import proofs.«01_k».proof.Proof.MetaEq
public import proofs.«01_k».proof.Proof.Gen.Kernel2

@[expose] public section

set_option maxRecDepth 16384

noncomputable section

namespace Cert.Proof

open Idealize.ShloMosaic Idealize.ShloMosaic.TcCoe Idealize.SL.Sem

/-- The two body tables are one, -/
theorem defs_two (hK : Cert.Kernel2.Facts := Cert.Kernel2.Gen.facts) (hI : Cert.Kernel2Ideal.Facts := Cert.Kernel2Ideal.Gen.facts) :
    @Cert.Kernel2.defs Bits _ hK = @Cert.Kernel2Ideal.defs Bits _ hI := by sl_kernel_rfl

/-- The frame of `Kernel2`. -/
theorem quiescent_k2 : Cert.quiescent_Kernel2 (hKernel2 := Cert.Kernel2.Gen.facts) := by
  intro m ρ _
  rw [defs_two]
  exact (θ_run Cert.Kernel2Ideal.defs _ _).mono (fun _ h => ⟨fun c => h.1 c, h.2⟩) (Cert.Kernel2Ideal.MetaConv.frame (F := Bits) m ρ)

/-- The frame of `Kernel2Ideal`. -/
theorem quiescent_k2i : Cert.quiescent_Kernel2Ideal (hKernel2Ideal := Cert.Kernel2Ideal.Gen.facts) :=
  fun m ρ _ => Cert.Kernel2Ideal.MetaConv.frame m ρ

/-- The frame of `Reference2Ideal`. -/
theorem quiescent_r2 : Cert.quiescent_Reference2Ideal (hReference2Ideal := Cert.Reference2Ideal.Gen.facts) := fun m g _ =>
  (θ_run Cert.Reference2Ideal.defs _ _).mono (fun _ h => ⟨fun c => (h c).2.2, funext fun s => nomatch s.2⟩)
    (Cert.Reference2Ideal.Value.run m g)

/-- The two values of `Kernel2Ideal` are `Reference2Ideal`'s. -/
theorem algebraic_2 : Cert.algebraic_Kernel2Ideal_Reference2Ideal
    (hKernel2Ideal := Cert.Kernel2Ideal.Gen.facts) (hReference2Ideal := Cert.Reference2Ideal.Gen.facts) :=
  fun m g m' g' _ hag => ⟨_, _, Cert.Kernel2Ideal.MetaConv.run_value m g,
    (θ_run Cert.Reference2Ideal.defs _ _).mono (fun _ h c => by
      obtain ⟨e0, e1, e2, e3⟩ := hag c
      refine ⟨(h c).1.trans ?_, (h c).2.1.trans ?_, (h c).2.2⟩
      · unfold Cert.Reference2Ideal.Value.res_main_v44
        rw [e0, e1, e2, e3]
        rfl
      · rw [e0, e1, e2]
        rfl)
      (Cert.Reference2Ideal.Value.run m' g')⟩

end Cert.Proof

end
-- ==== Proof.RefFrames.lean ====
/- The references' frames: each is host code alone, with no semaphore. -/
module

public import proofs.«01_k».proof.Defs
public import proofs.«01_k».proof.Proof.Gen.ReferenceIdeal.Run
public import proofs.«01_k».proof.Proof.Gen.Reference3Ideal.Run
public import proofs.«01_k».proof.Proof.Gen.Reference4Ideal.Run
public import proofs.«01_k».proof.Proof.Gen.Reference5Ideal.Run

@[expose] public section

set_option maxRecDepth 16384

noncomputable section

namespace Cert.Proof

open Idealize.ShloMosaic Idealize.ShloMosaic.TcCoe Idealize.SL.Sem

/-- The frame of `ReferenceIdeal`. -/
theorem quiescent_r1 : Cert.quiescent_ReferenceIdeal (hReferenceIdeal := Cert.ReferenceIdeal.Gen.facts) := fun m g _ =>
  (θ_run Cert.ReferenceIdeal.defs _ _).mono (fun _ h => ⟨fun c => (h c).2.2, funext fun s => nomatch s.2⟩)
    (Cert.ReferenceIdeal.Value.run m g)

/-- The frame of `Reference3Ideal`. -/
theorem quiescent_r3 : Cert.quiescent_Reference3Ideal (hReference3Ideal := Cert.Reference3Ideal.Gen.facts) := fun m g _ =>
  (θ_run Cert.Reference3Ideal.defs _ _).mono (fun _ h => ⟨fun c => (h c).2, funext fun s => nomatch s.2⟩)
    (Cert.Reference3Ideal.Value.run m g)

/-- The frame of `Reference4Ideal`. -/
theorem quiescent_r4 : Cert.quiescent_Reference4Ideal (hReference4Ideal := Cert.Reference4Ideal.Gen.facts) := fun m g _ =>
  (θ_run Cert.Reference4Ideal.defs _ _).mono (fun _ h => ⟨fun c => (h c).2, funext fun s => nomatch s.2⟩)
    (Cert.Reference4Ideal.Value.run m g)

/-- The frame of `Reference5Ideal`. -/
theorem quiescent_r5 : Cert.quiescent_Reference5Ideal (hReference5Ideal := Cert.Reference5Ideal.Gen.facts) := fun m g _ =>
  (θ_run Cert.Reference5Ideal.defs _ _).mono (fun _ h => ⟨fun c => (h c).2, funext fun s => nomatch s.2⟩)
    (Cert.Reference5Ideal.Value.run m g)

end Cert.Proof

end
-- ==== Proof.ConvInRef.lean ====
/- The value of the short convolution's input half (`KernelIdeal`): the reference's two terms. -/
module

public import proofs.«01_k».proof.Proof.ConvIn
public import proofs.«01_k».proof.Proof.Gen.ReferenceIdeal.Run
public import Idealize.ShloMosaic.Lib.Pipeline.ValueKit
public import Idealize.ShloMosaic.Lib.Pipeline.ReadBack

@[expose] public section

set_option maxRecDepth 16384

noncomputable section

namespace Cert.KernelIdeal.ConvIn

open Idealize.ShloMosaic Idealize.ShloMosaic.TcCoe Idealize.SL.Sem
open Idealize.ShloMosaic.Pipeline (Dat)
open Cert.KernelIdeal Cert.KernelIdeal.Gen

/-! ## The reference's terms -/

section Reference

variable (x : FVec Ideal S4x4096x2048 .f32) (mv : FVec Ideal S8x2048 .f32) (g : FVec Ideal S2x2048 .f32)
  (w : FVec Ideal S1x2048x6144 .f32) (cw : FVec Ideal S1x3x2048 .f32)

/-- The reference's normed rows. -/
def NRM : FVec Ideal S4x4096x2048 .f32 :=
  (mulf (mulf x (broadcastInDim Cert.ReferenceIdeal.S4x4096x2048 ![0, 1, 2] Cert.ReferenceIdeal.Gen.bcast_S4x4096x1_S4x4096x2048_0_1_2 (Host.rsqrt (addf (Host.divf (broadcastInDim Cert.ReferenceIdeal.S4x4096x1 ![0, 1] Cert.ReferenceIdeal.Gen.bcast_S4x4096_S4x4096x1_0_1 (Host.reduceAdd (mulf x x) (constant Cert.ReferenceIdeal.S_ .f32 0x00000000#32) Cert.ReferenceIdeal.Gen.reducesTo_S4x4096x2048_S4x4096_d2 Cert.ReferenceIdeal.Gen.h_S_)) (broadcastInDim Cert.ReferenceIdeal.S4x4096x1 ![] Cert.ReferenceIdeal.Gen.bcast_S_S4x4096x1 (constant Cert.ReferenceIdeal.S_ .f32 0x45000000#32))) (broadcastInDim Cert.ReferenceIdeal.S4x4096x1 ![] Cert.ReferenceIdeal.Gen.bcast_S_S4x4096x1 (constant Cert.ReferenceIdeal.S_ .f32 0x358637BD#32)))))) (broadcastInDim Cert.ReferenceIdeal.S4x4096x2048 ![0, 1, 2] Cert.ReferenceIdeal.Gen.bcast_S1x1x2048_S4x4096x2048_0_1_2 (broadcastInDim Cert.ReferenceIdeal.S1x1x2048 ![2] Cert.ReferenceIdeal.Gen.bcast_S2048_S1x1x2048_2 (shapeCast _ (extractStridedSlice Cert.ReferenceIdeal.S1x2048 ![0, 0] g Cert.ReferenceIdeal.Gen.slices_S2x2048_S1x2048_0_0) Cert.ReferenceIdeal.Gen.shapeCasts_S1x2048_S2048))))

/-- Its product with the three gates' weights. -/
def PROD : FVec Ideal Cert.ReferenceIdeal.S4x4096x6144 .f32 :=
  (Host.dotGeneral Cert.ReferenceIdeal.dot_S4x4096x2048_S2048x6144_S4x4096x6144_2_0_01_1_n_n none (NRM x g) (shapeCast _ w Cert.ReferenceIdeal.Gen.shapeCasts_S1x2048x6144_S2048x6144))

/-- The product of the second and third gates. -/
def VV : FVec Ideal S4x4096x2048 .f32 :=
  (mulf (extractStridedSlice Cert.ReferenceIdeal.S4x4096x2048 ![0, 0, 2048] (PROD x g w) Cert.ReferenceIdeal.Gen.slices_S4x4096x6144_S4x4096x2048_0_0_2048) (extractStridedSlice Cert.ReferenceIdeal.S4x4096x2048 ![0, 0, 4096] (PROD x g w) Cert.ReferenceIdeal.Gen.slices_S4x4096x6144_S4x4096x2048_0_0_4096))

/-- The same below the two rows that come before the sequence. -/
def VP : FVec Ideal Cert.ReferenceIdeal.S4x4098x2048 .f32 :=
  (concatenate Cert.ReferenceIdeal.S4x4098x2048 1 [⟨Cert.ReferenceIdeal.S4x2x2048, (broadcastInDim Cert.ReferenceIdeal.S4x2x2048 ![1, 2] Cert.ReferenceIdeal.Gen.bcast_S2x2048_S4x2x2048_1_2 (extractStridedSlice Cert.ReferenceIdeal.S2x2048 ![6, 0] mv Cert.ReferenceIdeal.Gen.slices_S8x2048_S2x2048_6_0))⟩, ⟨Cert.ReferenceIdeal.S4x4096x2048, (VV x g w)⟩] Cert.ReferenceIdeal.Gen.concatenates_S4x2x2048_S4x4096x2048_S4x4098x2048_d1)

/-- The reference's first term over the argument arrays. -/
def REF : FVec Ideal S16384x2048 .bf16 :=
  shapeCast _ (truncf .bf16 (mulf (extractStridedSlice Cert.ReferenceIdeal.S4x4096x2048 ![0, 0, 0] (PROD x g w) Cert.ReferenceIdeal.Gen.slices_S4x4096x6144_S4x4096x2048_0_0_0) (addf (addf (mulf (broadcastInDim Cert.ReferenceIdeal.S4x4096x2048 ![0, 1, 2] Cert.ReferenceIdeal.Gen.bcast_S1x1x2048_S4x4096x2048_0_1_2 (broadcastInDim Cert.ReferenceIdeal.S1x1x2048 ![2] Cert.ReferenceIdeal.Gen.bcast_S2048_S1x1x2048_2 (shapeCast _ (extractStridedSlice Cert.ReferenceIdeal.S1x1x2048 ![0, 0, 0] cw Cert.ReferenceIdeal.Gen.slices_S1x3x2048_S1x1x2048_0_0_0) Cert.ReferenceIdeal.Gen.shapeCasts_S1x1x2048_S2048))) (extractStridedSlice Cert.ReferenceIdeal.S4x4096x2048 ![0, 0, 0] (VP x mv g w) Cert.ReferenceIdeal.Gen.slices_S4x4098x2048_S4x4096x2048_0_0_0)) (mulf (broadcastInDim Cert.ReferenceIdeal.S4x4096x2048 ![0, 1, 2] Cert.ReferenceIdeal.Gen.bcast_S1x1x2048_S4x4096x2048_0_1_2 (broadcastInDim Cert.ReferenceIdeal.S1x1x2048 ![2] Cert.ReferenceIdeal.Gen.bcast_S2048_S1x1x2048_2 (shapeCast _ (extractStridedSlice Cert.ReferenceIdeal.S1x1x2048 ![0, 1, 0] cw Cert.ReferenceIdeal.Gen.slices_S1x3x2048_S1x1x2048_0_1_0) Cert.ReferenceIdeal.Gen.shapeCasts_S1x1x2048_S2048))) (extractStridedSlice Cert.ReferenceIdeal.S4x4096x2048 ![0, 1, 0] (VP x mv g w) Cert.ReferenceIdeal.Gen.slices_S4x4098x2048_S4x4096x2048_0_1_0))) (mulf (broadcastInDim Cert.ReferenceIdeal.S4x4096x2048 ![0, 1, 2] Cert.ReferenceIdeal.Gen.bcast_S1x1x2048_S4x4096x2048_0_1_2 (broadcastInDim Cert.ReferenceIdeal.S1x1x2048 ![2] Cert.ReferenceIdeal.Gen.bcast_S2048_S1x1x2048_2 (shapeCast _ (extractStridedSlice Cert.ReferenceIdeal.S1x1x2048 ![0, 2, 0] cw Cert.ReferenceIdeal.Gen.slices_S1x3x2048_S1x1x2048_0_2_0) Cert.ReferenceIdeal.Gen.shapeCasts_S1x1x2048_S2048))) (extractStridedSlice Cert.ReferenceIdeal.S4x4096x2048 ![0, 2, 0] (VP x mv g w) Cert.ReferenceIdeal.Gen.slices_S4x4098x2048_S4x4096x2048_0_2_0)))) Cert.ReferenceIdeal.Gen.bitsLt_bf16_f32) Cert.ReferenceIdeal.Gen.shapeCasts_S4x4096x2048_S16384x2048

/-- The reference's second term: rows 120 to 127 of every 1024 rows of that product. -/
def REFM : FVec Ideal S128x2048 .f32 :=
  shapeCast _ (extractStridedSlice Cert.ReferenceIdeal.S16x8x2048 ![0, 120, 0] (shapeCast _ (VV x g w) Cert.ReferenceIdeal.Gen.shapeCasts_S4x4096x2048_S16x1024x2048) Cert.ReferenceIdeal.Gen.slices_S16x1024x2048_S16x8x2048_0_120_0) Cert.ReferenceIdeal.Gen.shapeCasts_S16x8x2048_S128x2048

/-- Past its first two rows the padded product is the product, -/
theorem VP_past (b : Fin 4) (l : Fin 4096) (J : Fin 2048) (l' : Fin 4098) (h : l'.val = l.val + 2) :
    VP x mv g w (ix3 b l' J) = VV x g w (ix3 b l J) := by
  have hl : ¬ l'.val < 2 := by omega
  have e : l'.val - 2 = l.val := by omega
  unfold VP
  generalize VV x g w = v
  pointwise
  rw [dif_neg hl]
  simp only [e]

/-- and its first two rows are the last two rows of what comes before. -/
theorem VP_before (b : Fin 4) (l' : Fin 4098) (J : Fin 2048) (q : Fin 8) (h : l'.val < 2) (hq : q.val = l'.val + 6) :
    VP x mv g w (ix3 b l' J) = mv (ix2 q J) := by
  have e : q = ⟨6 + l'.val, by omega⟩ := Fin.ext (by dsimp only; omega)
  unfold VP
  generalize VV x g w = v
  pointwise
  rw [dif_pos h, e]

theorem VV_at (b : Fin 4) (l : Fin 4096) (J : Fin 2048) (J1 J2 : Fin 6144) (h1 : J1.val = 2048 + J.val) (h2 : J2.val = 4096 + J.val) :
    VV x g w (ix3 b l J) = PROD x g w (ix3 b l J1) * PROD x g w (ix3 b l J2) := by
  have hJ := J.isLt
  have e1 : J1 = ⟨2048 + J.val, by clear h1 h2; omega⟩ := Fin.ext h1
  have e2 : J2 = ⟨4096 + J.val, by clear h1 h2; omega⟩ := Fin.ext h2
  subst e1 e2
  unfold VV
  generalize PROD x g w = p
  pointwise

theorem REF_at (R : Fin 16384) (J : Fin 2048) (b : Fin 4) (l : Fin 4096) (h : R.val = b.val * 4096 + l.val) (J0 : Fin 6144)
    (h0 : J0.val = J.val) :
    REF x mv g w cw (ix2 R J) = PROD x g w (ix3 b l J0)
      * (cw (ix3 0 0 J) * VP x mv g w (ix3 b ⟨l.val, by omega⟩ J) + cw (ix3 0 1 J) * VP x mv g w (ix3 b ⟨1 + l.val, by omega⟩ J)
        + cw (ix3 0 2 J) * VP x mv g w (ix3 b ⟨2 + l.val, by omega⟩ J)) := by
  have e0 : J0 = ⟨J.val, by clear h0 h; omega⟩ := Fin.ext h0
  have hR : R = ⟨b.val * 4096 + l.val, by clear h0 h; omega⟩ := Fin.ext h
  subst e0 hR
  unfold REF
  generalize PROD x g w = p
  generalize VP x mv g w = v
  have eb : (b.val * 4096 + l.val) / 4096 = b.val := by omega
  have el : (b.val * 4096 + l.val) % 4096 = l.val := by omega
  pointwise [eb, el]

theorem REFM_at (a : Fin 16) (q : Fin 8) (J : Fin 2048) :
    REFM x g w (ix2 ⟨a.val * 8 + q.val, by omega⟩ J)
      = VV x g w (ix3 ⟨a.val / 4, by omega⟩ ⟨a.val % 4 * 1024 + 120 + q.val, by omega⟩ J) := by
  unfold REFM
  generalize VV x g w = v
  have e1 : (a.val * 8 + q.val) / 8 = a.val := by omega
  have e2 : (a.val * 8 + q.val) % 8 = q.val := by omega
  have e3 : (a.val * 1024 + (120 + q.val)) / 4096 = a.val / 4 := by omega
  have e4 : (a.val * 1024 + (120 + q.val)) % 4096 = a.val % 4 * 1024 + 120 + q.val := by omega
  pointwise [e1, e2, e3, e4, Nat.add_assoc]

end Reference

end Cert.KernelIdeal.ConvIn

end
-- ==== Proof.ConvInEq.lean ====
/- The short convolution's input half (`KernelIdeal`): every block it stores is the reference's term there, in both outputs. -/
module

public import proofs.«01_k».proof.Proof.ConvInRef

@[expose] public section

set_option maxRecDepth 16384

noncomputable section

namespace Cert.KernelIdeal.ConvIn

open Idealize.ShloMosaic Idealize.ShloMosaic.TcCoe Idealize.SL.Sem
open Idealize.ShloMosaic.Pipeline (Dat)
open Cert.KernelIdeal Cert.KernelIdeal.Gen

/-! ## The gated convolution of one half of a tile -/

/-- The row before the tile's first, `k` rows up, from the two candidates for it. -/
abbrev prev (op : BitVec 1) (ld : FVec Ideal S8x256 .f32) (kr : FVec Ideal S1x8x256 .f32) (q : Fin 8) (j : Fin 256) : EReal :=
  Scalar.select op (ld (ix2 q j)) (kr (ix3 0 q j))

theorem half (op : BitVec 1) (b v : FVec Ideal S1024x256 .f32) (ld : FVec Ideal S8x256 .f32) (kr : FVec Ideal S1x8x256 .f32)
    (c0 c1 c2 : FVec Ideal S1x256 .f32) (r : Fin 1024) (j : Fin 256) (s1 s2 : EReal)
    (h1 : s1 = if h : r.val = 0 then prev op ld kr 7 j else v (ix2 ⟨r.val - 1, by omega⟩ j))
    (h2 : s2 = if h : r.val = 0 then prev op ld kr 6 j else if h' : r.val = 1 then prev op ld kr 7 j
      else v (ix2 ⟨r.val - 2, by omega⟩ j)) :
    k0_pay10 op rows b v ld kr c0 c1 c2 (ix2 r j)
      = b (ix2 r j) * (c0 (ix2 0 j) * s2 + c1 (ix2 0 j) * s1 + c2 (ix2 0 j) * v (ix2 r j)) := by
  have q : ∀ n : ℕ, n < 1024 → ∀ a b : EReal, Scalar.select (IntOp.cmpi .eq (BitVec.ofNat 32 r.val) (BitVec.ofNat 32 n)) a b
      = if r.val = n then a else b := by
    intro n hn a b
    have e : (BitVec.ofNat 32 r.val = BitVec.ofNat 32 n) ↔ r.val = n := by
      rw [← BitVec.toNat_inj, BitVec.toNat_ofNat, BitVec.toNat_ofNat, Nat.mod_eq_of_lt (by omega), Nat.mod_eq_of_lt (by omega)]
    by_cases h : r.val = n
    · rw [if_pos h, h]; simp [IntOp.cmpi, Scalar.select]
    · have e' : (BitVec.ofNat 32 r.val == BitVec.ofNat 32 n) = false := beq_eq_false_iff_ne.mpr (mt e.mp h)
      rw [if_neg h]
      simp only [IntOp.cmpi, Scalar.select, e']
      rfl
  have q0 := q 0 (by decide)
  have q1 := q 1 (by decide)
  subst h1 h2
  unfold prev
  pointwise [k0_pay10, rows]
  rw [q0, q1, q0]
  by_cases h : r.val = 0
  · rw [if_pos h, if_pos h, dif_pos h, dif_pos h]
  · rw [if_neg h, if_neg h, dif_neg h, dif_neg h]
    have e1 : (r.val + 1024 - 1) % 1024 = r.val - 1 := by omega
    by_cases h' : r.val = 1
    · rw [if_pos h', dif_pos h']
      simp only [e1]
    · have e2 : (r.val + 1024 - 2) % 1024 = r.val - 2 := by omega
      rw [if_neg h', dif_neg h']
      simp only [e1, e2]

/-! ## What a point reads -/

variable (m : (ℓ : Loc nD τ sig) → Buf (Elt Ideal) ℓ)

/-- The layer's input rows, -/
abbrev aX (c : Dev nD) : FVec Ideal S4x4096x2048 .f32 := m ((c : Thread nD τ).loc main_arg0)
/-- the rows before every sequence, -/
abbrev aM (c : Dev nD) : FVec Ideal S8x2048 .f32 := m ((c : Thread nD τ).loc main_arg1)
/-- the norm's scale, -/
abbrev aG (c : Dev nD) : FVec Ideal S2x2048 .f32 := m ((c : Thread nD τ).loc main_arg2)
/-- the gates' weights -/
abbrev aW (c : Dev nD) : FVec Ideal S1x2048x6144 .f32 := m ((c : Thread nD τ).loc main_arg3)
/-- and the convolution's weights. -/
abbrev aC (c : Dev nD) : FVec Ideal S1x3x2048 .f32 := m ((c : Thread nD τ).loc main_arg4)

theorem V_x (c : Dev nD) (b : Fin 4) (l : Fin 4096) (k : Fin 2048) :
    V m c main_v0 (ix2 ⟨b.val * 4096 + l.val, by omega⟩ k) = aX m c (ix3 b l k) := by
  have eb : (b.val * 4096 + l.val) / 4096 = b.val := by omega
  have el : (b.val * 4096 + l.val) % 4096 = l.val := by omega
  entry_read
  pointwise [eb, el]

theorem V_g (c : Dev nD) (k : Fin 2048) : V m c main_v3 (ix2 0 k) = aG m c (ix2 0 k) := by
  entry_read
  pointwise

theorem V_w (c : Dev nD) (k : Fin 2048) (j : Fin 6144) : V m c main_v5 (ix2 k j) = aW m c (ix3 0 k j) := by
  entry_read
  pointwise

theorem V_c (c : Dev nD) (k : Fin 3) (j : Fin 2048) : V m c main_v6 (ix2 k j) = aC m c (ix3 0 k j) := by
  entry_read
  pointwise

theorem xread (c : Dev nD) (t : Fin cfg0.N) (r : Fin 1024) (k : Fin 2048) (b : Fin 4) (l : Fin 4096)
    (h : t.val / 4 * 1024 + r.val = b.val * 4096 + l.val) :
    (iblk m c 0 t : FVec Ideal S1024x2048 .f32) (ix2 r k) = aX m c (ix3 b l k) := by
  rw [← V_x m c b l k]
  blk_ext [iblk, idx t, h]

theorem gread (c : Dev nD) (t : Fin cfg0.N) (z : Fin 1) (k : Fin 2048) :
    (iblk m c 1 t : FVec Ideal S1x2048 .f32) (ix2 z k) = aG m c (ix2 0 k) := by
  rw [← V_g m c k]
  blk_ext [iblk, idx t]

theorem wbread (c : Dev nD) (t : Fin cfg0.N) (k : Fin 2048) (j : Fin 512) (J : Fin 6144) (h : J.val = t.val % 4 * 512 + j.val) :
    (iblk m c 2 t : FVec Ideal S2048x512 .bf16) (ix2 k j) = aW m c (ix3 0 k J) := by
  rw [← V_w m c k J]
  blk_ext [iblk, idx t, h]

theorem wcread (c : Dev nD) (t : Fin cfg0.N) (k : Fin 2048) (j : Fin 512) (J : Fin 6144)
    (h : J.val = (4 + t.val % 4) * 512 + j.val) :
    (iblk m c 3 t : FVec Ideal S2048x512 .bf16) (ix2 k j) = aW m c (ix3 0 k J) := by
  rw [← V_w m c k J]
  blk_ext [iblk, idx t, h]

theorem whread (c : Dev nD) (t : Fin cfg0.N) (k : Fin 2048) (j : Fin 512) (J : Fin 6144)
    (h : J.val = (8 + t.val % 4) * 512 + j.val) :
    (iblk m c 4 t : FVec Ideal S2048x512 .bf16) (ix2 k j) = aW m c (ix3 0 k J) := by
  rw [← V_w m c k J]
  blk_ext [iblk, idx t, h]

theorem cread (c : Dev nD) (t : Fin cfg0.N) (k : Fin 3) (j : Fin 512) (J : Fin 2048) (h : J.val = t.val % 4 * 512 + j.val) :
    (iblk m c 5 t : FVec Ideal S3x512 .f32) (ix2 k j) = aC m c (ix3 0 k J) := by
  rw [← V_c m c k J]
  blk_ext [iblk, idx t, h]

theorem mread (c : Dev nD) (t : Fin cfg0.N) (k : Fin 8) (j : Fin 512) (J : Fin 2048) (h : J.val = t.val % 4 * 512 + j.val) :
    (iblk m c 6 t : FVec Ideal S8x512 .f32) (ix2 k j) = aM m c (ix2 k J) := by
  blk_ext [iblk, V, idx t, h]

theorem oread (t : Fin cfg0.N) (r : Fin 1024) (j : Fin 512) (hr : t.val / 4 * 1024 + r.val < 16384)
    (hj : t.val % 4 * 512 + j.val < 2048) :
    ((cfg0.win 7).blk t).view.emb (ix2 r j) = (ix2 ⟨t.val / 4 * 1024 + r.val, hr⟩ ⟨t.val % 4 * 512 + j.val, hj⟩ : S16384x2048.Idx) := by
  blk_ext [idx t]

theorem nread (t : Fin cfg0.N) (q : Fin 8) (j : Fin 512) (hr : t.val / 4 * 8 + q.val < 128)
    (hj : t.val % 4 * 512 + j.val < 2048) :
    ((cfg0.win 8).blk t).view.emb (ix2 q j) = (ix2 ⟨t.val / 4 * 8 + q.val, hr⟩ ⟨t.val % 4 * 512 + j.val, hj⟩ : S128x2048.Idx) := by
  blk_ext [idx t]

theorem ldw (w : FVec Ideal S2048x512 .bf16) (k : Fin 2048) (j : Fin 256) :
    (wL (F := Ideal) w : FVec Ideal S2048x256 .bf16) (ix2 k j) = w (ix2 k ⟨0 + j.val, by omega⟩) := by
  unfold wL
  pointwise

theorem ldw' (w : FVec Ideal S2048x512 .bf16) (k : Fin 2048) (j : Fin 256) :
    (wR (F := Ideal) w : FVec Ideal S2048x256 .bf16) (ix2 k j) = w (ix2 k ⟨256 + j.val, by omega⟩) := by
  unfold wR
  pointwise

/-! ## The products -/

theorem proj (c : Dev nD) (t : Fin cfg0.N) (w : FVec Ideal S2048x256 .bf16) (r : Fin 1024) (j : Fin 256) (b : Fin 4) (l : Fin 4096)
    (J : Fin 6144) (h : t.val / 4 * 1024 + r.val = b.val * 4096 + l.val) (hw : ∀ k, w (ix2 k j) = aW m c (ix3 0 k J)) :
    k0_pay5 (xnAt m c t) w (ix2 r j) = PROD (aX m c) (aG m c) (aW m c) (ix3 b l J) := by
  unfold PROD NRM xnAt
  pointwise [k0_pay5, k0_pay4, xread m c t r _ b l h, gread, hw]

/-- The product of the second and third gates, over halves of their weights' blocks. -/
theorem gates (c : Dev nD) (t : Fin cfg0.N) (wc wh : FVec Ideal S2048x256 .bf16) (r : Fin 1024) (j : Fin 256) (b : Fin 4)
    (l : Fin 4096) (J : Fin 2048) (J1 J2 : Fin 6144) (h : t.val / 4 * 1024 + r.val = b.val * 4096 + l.val)
    (h1 : J1.val = 2048 + J.val) (h2 : J2.val = 4096 + J.val) (hc : ∀ k, wc (ix2 k j) = aW m c (ix3 0 k J1))
    (hh : ∀ k, wh (ix2 k j) = aW m c (ix3 0 k J2)) :
    k0_pay9 (xnAt m c t) wc wh (ix2 r j) = VV (aX m c) (aG m c) (aW m c) (ix3 b l J) := by
  rw [VV_at _ _ _ b l J J1 J2 h1 h2, ← proj m c t wc r j b l J1 h hc, ← proj m c t wh r j b l J2 h hh]
  rfl

theorem left (c : Dev nD) (t : Fin cfg0.N) (r : Fin 1024) (j : Fin 256) (b : Fin 4) (l : Fin 4096) (J : Fin 2048)
    (h : t.val / 4 * 1024 + r.val = b.val * 4096 + l.val) (hJ : J.val = t.val % 4 * 512 + j.val) :
    vL (iblk m c 3 t) (iblk m c 4 t) (xnAt m c t) (ix2 r j) = VV (aX m c) (aG m c) (aW m c) (ix3 b l J) := by
  refine gates m c t _ _ r j b l J ⟨2048 + J.val, by omega⟩ ⟨4096 + J.val, by omega⟩ h rfl rfl (fun k => ?_) (fun k => ?_)
  · exact (ldw _ k j).trans (wcread m c t k _ _ (by dsimp only; omega))
  · exact (ldw _ k j).trans (whread m c t k _ _ (by dsimp only; omega))

theorem right (c : Dev nD) (t : Fin cfg0.N) (r : Fin 1024) (j : Fin 256) (b : Fin 4) (l : Fin 4096) (J : Fin 2048)
    (h : t.val / 4 * 1024 + r.val = b.val * 4096 + l.val) (hJ : J.val = t.val % 4 * 512 + 256 + j.val) :
    vR (iblk m c 3 t) (iblk m c 4 t) (xnAt m c t) (ix2 r j) = VV (aX m c) (aG m c) (aW m c) (ix3 b l J) := by
  refine gates m c t (wR (iblk m c 3 t)) (wR (iblk m c 4 t)) r j b l J ⟨2048 + J.val, by omega⟩ ⟨4096 + J.val, by omega⟩ h rfl rfl
    (fun k => ?_) (fun k => ?_)
  · exact (ldw' _ k j).trans (wcread m c t k _ _ (by dsimp only; omega))
  · exact (ldw' _ k j).trans (whread m c t k _ _ (by dsimp only; omega))

/-- The last rows a point carries on are rows of that product. -/
theorem last_at (c : Dev nD) (t : Fin cfg0.N) (q : Fin 8) (k : Fin 512) (b : Fin 4) (l : Fin 4096) (J : Fin 2048)
    (h : t.val / 4 * 1024 + 1016 + q.val = b.val * 4096 + l.val) (hJ : J.val = t.val % 4 * 512 + k.val) :
    lastAt m c t (ix2 q k) = VV (aX m c) (aG m c) (aW m c) (ix3 b l J) := by
  unfold lastAt last
  by_cases hk : k.val < 256
  · rw [dif_pos (show ((ix2 q k : S8x512.Idx) 1).val < 256 from hk),
      ← left m c t ⟨1016 + q.val, by omega⟩ ⟨k.val, hk⟩ b l J (by dsimp only; omega) hJ]
    generalize vL (iblk m c 3 t) (iblk m c 4 t) (xnAt m c t) = v
    pointwise [k0_pay11]
  · rw [dif_neg (show ¬ ((ix2 q k : S8x512.Idx) 1).val < 256 from hk),
      ← right m c t ⟨1016 + q.val, by omega⟩ ⟨k.val - 256, by omega⟩ b l J (by dsimp only; omega) (by dsimp only; omega)]
    generalize vR (iblk m c 3 t) (iblk m c 4 t) (xnAt m c t) = v
    pointwise [k0_pay2]

/-! ## A point's block -/

theorem tile (c : Dev nD) (t : Fin cfg0.N) (r : Fin 1024) (j : Fin 256) (b : Fin 4) (l : Fin 4096) (J : Fin 2048) (J0 : Fin 6144)
    (R : Fin 16384) (wb : FVec Ideal S2048x256 .bf16) (v : FVec Ideal S1024x256 .f32) (ld : FVec Ideal S8x256 .f32)
    (kr : FVec Ideal S1x8x256 .f32) (c0 c1 c2 : FVec Ideal S1x256 .f32)
    (h : t.val / 4 * 1024 + r.val = b.val * 4096 + l.val) (hR : R.val = t.val / 4 * 1024 + r.val) (h0 : J0.val = J.val)
    (hb : ∀ k, wb (ix2 k j) = aW m c (ix3 0 k J0))
    (hv : ∀ (r' : Fin 1024) (l' : Fin 4096), t.val / 4 * 1024 + r'.val = b.val * 4096 + l'.val →
      v (ix2 r' j) = VV (aX m c) (aG m c) (aW m c) (ix3 b l' J))
    (hl : ∀ q, ld (ix2 q j) = aM m c (ix2 q J))
    (hk : ∀ (q : Fin 8) (l' : Fin 4096), t.val / 4 % 4 ≠ 0 → t.val / 4 * 1024 + q.val = b.val * 4096 + l'.val + 8 →
      kr (ix3 0 q j) = VV (aX m c) (aG m c) (aW m c) (ix3 b l' J))
    (hc0 : c0 (ix2 0 j) = aC m c (ix3 0 0 J)) (hc1 : c1 (ix2 0 j) = aC m c (ix3 0 1 J)) (hc2 : c2 (ix2 0 j) = aC m c (ix3 0 2 J)) :
    k0_pay10 (opens (grid0.coords t)) rows (k0_pay5 (xnAt m c t) wb) v ld kr c0 c1 c2 (ix2 r j)
      = REF (aX m c) (aM m c) (aG m c) (aW m c) (aC m c) (ix2 R J) := by
  have pr : ∀ (q : Fin 8) (l' : Fin 4098), l'.val + 6 + r.val = l.val + q.val → 6 ≤ q.val →
      prev (opens (grid0.coords t)) ld kr q j = VP (aX m c) (aM m c) (aG m c) (aW m c) (ix3 b l' J) := by
    intro q l' hl' hr
    unfold prev
    rw [opens_val]
    by_cases e : t.val / 4 % 4 = 0
    · rw [if_pos e, VP_before _ _ _ _ b l' J q (by omega) (by omega), ← hl q]
      rfl
    · rw [if_neg e, VP_past _ _ _ _ b ⟨l'.val - 2, by omega⟩ J l' (by dsimp only; omega), ← hk q ⟨l'.val - 2, by omega⟩ e (by dsimp only; omega)]
      rfl
  rw [REF_at _ _ _ _ _ R J b l (hR.trans h) J0 h0, half (opens (grid0.coords t)) _ v ld kr c0 c1 c2 r j
      (VP (aX m c) (aM m c) (aG m c) (aW m c) (ix3 b ⟨1 + l.val, by omega⟩ J))
      (VP (aX m c) (aM m c) (aG m c) (aW m c) (ix3 b ⟨l.val, by omega⟩ J)), proj m c t wb r j b l J0 h hb, hc0, hc1, hc2,
    hv r l h, VP_past _ _ _ _ b l J ⟨2 + l.val, by omega⟩ (by dsimp only; omega)]
  · by_cases e : r.val = 0
    · rw [dif_pos e, pr 7 ⟨1 + l.val, by omega⟩ (by show 1 + l.val + 6 + r.val = l.val + 7; omega) (by decide)]
    · rw [dif_neg e, VP_past _ _ _ _ b ⟨l.val - 1, by omega⟩ J _ (by dsimp only; omega),
        hv ⟨r.val - 1, by omega⟩ ⟨l.val - 1, by omega⟩ (by dsimp only; omega)]
  · by_cases e : r.val = 0
    · rw [dif_pos e, pr 6 ⟨l.val, by omega⟩ (by show l.val + 6 + r.val = l.val + 6; omega) (by decide)]
    · rw [dif_neg e]
      by_cases e' : r.val = 1
      · rw [dif_pos e', pr 7 ⟨l.val, by omega⟩ (by show l.val + 6 + r.val = l.val + 7; omega) (by decide)]
      · rw [dif_neg e', VP_past _ _ _ _ b ⟨l.val - 2, by omega⟩ J _ (by dsimp only; omega),
          hv ⟨r.val - 2, by omega⟩ ⟨l.val - 2, by omega⟩ (by dsimp only; omega)]

theorem canon_low (gr gl : FVec Ideal S1024x256 .bf16) (r : Fin 1024) (j : Fin 512) (h : j.val < 256) :
    (View.canon [⟨Rect.unit (s := S1024x512) ![0, 256] S1024x256.size inb_S1024x512_S1024x256_0_256, gr⟩,
      ⟨Rect.unit (s := S1024x512) ![0, 0] S1024x256.size inb_S1024x512_S1024x256_0_0, gl⟩] : Vec Ideal S1024x512 .bf16) (ix2 r j)
      = gl (ix2 r ⟨j.val, h⟩) := by
  canon_tiles x hx using coverO (F := Ideal) gr gl (ix2 r j)
  · exact absurd (show j.val = 256 + (x 1).val from hx1) (by omega)
  · refine congrArg gl (funext fun a => Fin.ext ?_)
    fin_cases a
    · exact hx0.symm
    · exact hx1.symm

theorem canon_high (gr gl : FVec Ideal S1024x256 .bf16) (r : Fin 1024) (j : Fin 512) (h : ¬ j.val < 256) :
    (View.canon [⟨Rect.unit (s := S1024x512) ![0, 256] S1024x256.size inb_S1024x512_S1024x256_0_256, gr⟩,
      ⟨Rect.unit (s := S1024x512) ![0, 0] S1024x256.size inb_S1024x512_S1024x256_0_0, gl⟩] : Vec Ideal S1024x512 .bf16) (ix2 r j)
      = gr (ix2 r ⟨j.val - 256, by omega⟩) := by
  canon_tiles x hx using coverO (F := Ideal) gr gl (ix2 r j)
  · refine congrArg gr (funext fun a => Fin.ext ?_)
    fin_cases a
    · exact hx0.symm
    · have e : j.val = 256 + (x 1).val := hx1
      show (x 1).val = j.val - 256
      omega
  · exact absurd (show j.val = (x 1).val from hx1) (by omega)

theorem canonM_low (gr gl : FVec Ideal S8x256 .f32) (r : Fin 8) (j : Fin 512) (h : j.val < 256) :
    (View.canon [⟨Rect.unit (s := S8x512) ![0, 256] S8x256.size inb_S8x512_S8x256_0_256, gr⟩,
      ⟨Rect.unit (s := S8x512) ![0, 0] S8x256.size inb_S8x512_S8x256_0_0, gl⟩] : Vec Ideal S8x512 .f32) (ix2 r j)
      = gl (ix2 r ⟨j.val, h⟩) := by
  canon_tiles x hx using coverM (F := Ideal) gr gl (ix2 r j)
  · exact absurd (show j.val = 256 + (x 1).val from hx1) (by omega)
  · refine congrArg gl (funext fun a => Fin.ext ?_)
    fin_cases a
    · exact hx0.symm
    · exact hx1.symm

theorem canonM_high (gr gl : FVec Ideal S8x256 .f32) (r : Fin 8) (j : Fin 512) (h : ¬ j.val < 256) :
    (View.canon [⟨Rect.unit (s := S8x512) ![0, 256] S8x256.size inb_S8x512_S8x256_0_256, gr⟩,
      ⟨Rect.unit (s := S8x512) ![0, 0] S8x256.size inb_S8x512_S8x256_0_0, gl⟩] : Vec Ideal S8x512 .f32) (ix2 r j)
      = gr (ix2 r ⟨j.val - 256, by omega⟩) := by
  canon_tiles x hx using coverM (F := Ideal) gr gl (ix2 r j)
  · refine congrArg gr (funext fun a => Fin.ext ?_)
    fin_cases a
    · exact hx0.symm
    · have e : j.val = 256 + (x 1).val := hx1
      show (x 1).val = j.val - 256
      omega
  · exact absurd (show j.val = (x 1).val from hx1) (by omega)

/-- What a point stores into the first output, at a block index, is the reference's first term there. -/
theorem point (c : Dev nD) (t : Fin cfg0.N) (y : S1024x512.Idx) :
    outAt m c t y = REF (aX m c) (aM m c) (aG m c) (aW m c) (aC m c) (((cfg0.win 7).blk t).view.emb y) := by
  have hN := lt64 t
  obtain ⟨r, j, rfl⟩ : ∃ (r : Fin 1024) (j : Fin 512), y = ix2 r j := ⟨y 0, y 1, by funext a; fin_cases a <;> rfl⟩
  have hr : t.val / 4 * 1024 + r.val < 16384 := by omega
  have hj : t.val % 4 * 512 + j.val < 2048 := by omega
  rw [oread t r j hr hj]
  have hx : ∀ (q : Fin 8) (k : Fin 512) (l' : Fin 4096), t.val / 4 % 4 ≠ 0 →
      t.val / 4 * 1024 + q.val = t.val / 16 * 4096 + l'.val + 8 → ∀ J : Fin 2048, J.val = t.val % 4 * 512 + k.val →
      krAt m c t (ix3 (col (grid0.coords t)) q k) = VV (aX m c) (aG m c) (aW m c) (ix3 ⟨t.val / 16, by omega⟩ l' J) := by
    intro q k l' hne hl J hJ
    refine last_at m c (above t) q k _ l' J ?_ ?_
    · show (t.val - 4) / 4 * 1024 + 1016 + q.val = t.val / 16 * 4096 + l'.val; omega
    · show J.val = (t.val - 4) % 4 * 512 + k.val; omega
  unfold outAt outO
  by_cases h : j.val < 256
  · rw [canon_low _ _ r j h]
    unfold gL
    rw [ld_left]
    exact tile m c t r ⟨j.val, h⟩ ⟨t.val / 16, by omega⟩ ⟨t.val / 4 % 4 * 1024 + r.val, by omega⟩ ⟨t.val % 4 * 512 + j.val, hj⟩
      ⟨t.val % 4 * 512 + j.val, by omega⟩ ⟨t.val / 4 * 1024 + r.val, hr⟩ _ _ _ _ _ _ _ (by dsimp only; omega) rfl rfl
      (fun k => (ldw _ k _).trans (wbread m c t k _ _ (by dsimp only; omega)))
      (fun r' l' h' => left m c t r' _ _ l' _ h' rfl)
      (fun q => (by pointwise [mread m c t _ _ ⟨t.val % 4 * 512 + j.val, hj⟩ rfl]))
      (fun q l' hne hl => hx q _ l' hne hl _ rfl)
      (by pointwise [cread m c t _ _ ⟨t.val % 4 * 512 + j.val, hj⟩ rfl])
      (by pointwise [cread m c t _ _ ⟨t.val % 4 * 512 + j.val, hj⟩ rfl])
      (by pointwise [cread m c t _ _ ⟨t.val % 4 * 512 + j.val, hj⟩ rfl])
  · rw [canon_high _ _ r j h]
    unfold gR
    rw [ld_right]
    have hj' : t.val % 4 * 512 + j.val = t.val % 4 * 512 + (256 + (j.val - 256)) := by omega
    exact tile m c t r ⟨j.val - 256, by omega⟩ ⟨t.val / 16, by omega⟩ ⟨t.val / 4 % 4 * 1024 + r.val, by omega⟩ ⟨t.val % 4 * 512 + j.val, hj⟩
      ⟨t.val % 4 * 512 + j.val, by omega⟩ ⟨t.val / 4 * 1024 + r.val, hr⟩ (wR (iblk m c 2 t)) (vR (iblk m c 3 t) (iblk m c 4 t) (xnAt m c t))
      _ _ _ _ _ (by dsimp only; omega) rfl rfl
      (fun k => (ldw' _ k _).trans (wbread m c t k _ _ hj'))
      (fun r' l' h' => right m c t r' _ _ l' _ h' (by dsimp only; omega))
      (fun q => (by pointwise [mread m c t _ ⟨256 + (j.val - 256), by omega⟩ ⟨t.val % 4 * 512 + j.val, hj⟩ hj']))
      (fun q l' hne hl => hx q _ l' hne hl _ hj')
      (by pointwise [cread m c t _ ⟨256 + (j.val - 256), by omega⟩ ⟨t.val % 4 * 512 + j.val, hj⟩ hj'])
      (by pointwise [cread m c t _ ⟨256 + (j.val - 256), by omega⟩ ⟨t.val % 4 * 512 + j.val, hj⟩ hj'])
      (by pointwise [cread m c t _ ⟨256 + (j.val - 256), by omega⟩ ⟨t.val % 4 * 512 + j.val, hj⟩ hj'])

/-- What a point stores into the second output is the reference's second term there. -/
theorem pointM (c : Dev nD) (t : Fin cfg0.N) (y : S8x512.Idx) :
    metaAt m c t y = REFM (aX m c) (aG m c) (aW m c) (((cfg0.win 8).blk t).view.emb y) := by
  have hN := lt64 t
  obtain ⟨q, j, rfl⟩ : ∃ (q : Fin 8) (j : Fin 512), y = ix2 q j := ⟨y 0, y 1, by funext a; fin_cases a <;> rfl⟩
  have hr : t.val / 4 * 8 + q.val < 128 := by omega
  have hj : t.val % 4 * 512 + j.val < 2048 := by omega
  rw [nread t q j hr hj, REFM_at _ _ _ ⟨t.val / 4, by omega⟩ q ⟨t.val % 4 * 512 + j.val, hj⟩]
  unfold metaAt outM
  by_cases h : j.val < 256
  · rw [canonM_low _ _ q j h, ← left m c t ⟨120 + q.val, by omega⟩ ⟨j.val, h⟩ _ _ ⟨t.val % 4 * 512 + j.val, hj⟩ (by dsimp only; omega) rfl]
    generalize vL (iblk m c 3 t) (iblk m c 4 t) (xnAt m c t) = v
    pointwise [k0_pay12]
  · rw [canonM_high _ _ q j h, ← right m c t ⟨120 + q.val, by omega⟩ ⟨j.val - 256, by omega⟩ _ _ ⟨t.val % 4 * 512 + j.val, hj⟩ (by dsimp only; omega)
      (by dsimp only; omega)]
    generalize vR (iblk m c 3 t) (iblk m c 4 t) (xnAt m c t) = v
    pointwise [k0_pay3]

/-- The first array after the run, -/
theorem final (c : Dev nD) : (dats m 0 c).arrAt 7 (cfgs 0).N
    = REF (aX m c) (aM m c) (aG m c) (aW m c) (aC m c) := by
  refine (dats m 0 c).arrAt_eq_of_covers 7 _ (by decide +kernel) fun t _ y => ?_
  blk_simp
  rw [after_7]
  exact point m c t y

/-- and the second. -/
theorem finalM (c : Dev nD) : (dats m 0 c).arrAt 8 (cfgs 0).N = REFM (aX m c) (aG m c) (aW m c) := by
  refine (dats m 0 c).arrAt_eq_of_covers 8 _ (by decide +kernel) fun t _ y => ?_
  blk_simp
  rw [after_8]
  exact pointM m c t y

/-- The run with its arrays named by the reference's terms. -/
theorem run_value (ρ : Dev nD → PrngReg) :
    θ_run defs (onTc (τ := τ) (main (F := Ideal))) ⟨m, fun _ => 0, ρ⟩ (fun r => ∀ c : Dev nD,
      r.2.mem ((c.tc : Thread nD τ).loc main_v7_0) = REF (aX m c) (aM m c) (aG m c) (aW m c) (aC m c)
      ∧ r.2.mem ((c.tc : Thread nD τ).loc main_v7_1) = REFM (aX m c) (aG m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 7).trans (final m c), ((h.1 c).1 8).trans (finalM m c), h.2 c⟩)
    (θ_run_and (run m ρ) (frame_of m ρ (dats m) (A_eq m) (run m ρ)))

end Cert.KernelIdeal.ConvIn

end
-- ==== Proof.OutOne.lean ====
/- The value of the conv mixer's output product and residual (`Kernel3Ideal`): its array is the reference's term. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

namespace Cert.Kernel3Ideal.OutOne

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The rows that the product is added to: the tokens, then the meta tokens between zero rows. -/
abbrev XS (x : FVec Ideal S4x4096x2048 .f32) (mt : FVec Ideal S16x2048 .f32) : FVec Ideal S16896x2048 .f32 :=
  (concatenate S16896x2048 0 [⟨S16384x2048, (shapeCast _ x Cert.Reference3Ideal.Gen.shapeCasts_S4x4096x2048_S16384x2048)⟩,
      ⟨S512x2048, (pad S512x2048 ![112, 0] ![384, 0] ![0, 0] mt (sitofp .f32 (constantI Cert.Reference3Ideal.S_ 32 0#32))
        Cert.Reference3Ideal.Gen.pads_S16x2048_S512x2048_1123840_000 Cert.Reference3Ideal.Gen.h_S_)⟩] Cert.Reference3Ideal.Gen.concatenates_S16384x2048_S512x2048_S16896x2048_d0)

/-- The gated rows: those of the tokens, then those of the tail. -/
abbrev GS (g : FVec Ideal S16384x2048 .bf16) (gt : FVec Ideal S512x2048 .bf16) : FVec Ideal S16896x2048 .bf16 :=
  (concatenate S16896x2048 0 [⟨S16384x2048, g⟩, ⟨S512x2048, gt⟩]
        Cert.Reference3Ideal.Gen.concatenates_S16384x2048_S512x2048_S16896x2048_d0)

/-- The reference's term over the argument arrays. -/
abbrev REF (g : FVec Ideal S16384x2048 .bf16) (gt : FVec Ideal S512x2048 .bf16) (w : FVec Ideal S1x2048x2048 .f32)
    (x : FVec Ideal S4x4096x2048 .f32) (mt : FVec Ideal S16x2048 .f32) : FVec Ideal S16896x2048 .f32 :=
  addf
    (XS x mt)
    (Host.dotGeneral Cert.Reference3Ideal.dot_S16896x2048_S2048x2048_S16896x2048_1_0_0_1_n_n none
      (extf .f32 (GS g gt) Cert.Reference3Ideal.Gen.bitsLt_bf16_f32)
      (shapeCast _ w Cert.Reference3Ideal.Gen.shapeCasts_S1x2048x2048_S2048x2048))

/-- The windows' block indices at every point: the big arrays' blocks stop at the last one, the tail's blocks stay. -/
theorem idx : ∀ t : Fin cfg0.N, win0_0.index t = ![min t.val 31, 0] ∧ win0_1.index t = ![0, 0]
    ∧ win0_2.index t = ![0, 0] ∧ win0_3.index t = ![min t.val 31, 0] ∧ win0_4.index t = ![0, 0]
    ∧ win0_5.index t = ![t.val, 0] :=
  (by decide +kernel : ∀ t : Fin grid0.N, _)

/-- The weight block is the same at every point. -/
theorem wblk (c : Dev nD) (t t' : Fin cfg0.N) : iblk m c 2 t = iblk m c 2 t' := by
  funext y
  blk_ext [iblk, idx t, idx t']

/-- The carried weight, cast once at the first point, is the cast of the weight block after every point. -/
theorem carried (c : Dev nD) : ∀ (n : ℕ) (hn : n < cfg0.N),
    (outsAt0 m c n hn).2 = k0_pay1 (iblk m c 2 ⟨n, hn⟩)
  | 0, hn => by
    rw [outsAt0_A m c ⟨0, hn⟩ (Nat.zero_mod _) (by dsimp only; omega) (by dsimp only; omega)]
    frame_out
  | n + 1, hn => by
    have hN : n + 1 < 33 := lt_of_lt_of_eq hn (show cfg0.N = 33 from N_0)
    by_cases h : n + 1 < 32
    · rw [outsAt0_B m c ⟨n + 1, hn⟩ (by dsimp only; omega) h (by dsimp only; omega)]
      unfold sout0_B_0
      dsimp only
      rw [wblk m c ⟨n + 1, hn⟩ ⟨n, Nat.lt_of_succ_lt hn⟩]
      exact carried c n _
    · rw [outsAt0_C m c ⟨n + 1, hn⟩ (by dsimp only; omega) h (by dsimp only; omega)]
      unfold sout0_C_0
      dsimp only
      rw [wblk m c ⟨n + 1, hn⟩ ⟨n, Nat.lt_of_succ_lt hn⟩]
      exact carried c n _

/-- The padded meta tokens at an index. -/
theorem pad_at (mt : FVec Ideal S16x2048 .f32) (r : Fin 512) (k : Fin 2048) :
    pad S512x2048 ![112, 0] ![384, 0] ![0, 0] mt (sitofp .f32 (constantI Cert.Reference3Ideal.S_ 32 0#32))
        Cert.Reference3Ideal.Gen.pads_S16x2048_S512x2048_1123840_000 Cert.Reference3Ideal.Gen.h_S_ (ix2 r k)
      = if h' : 112 ≤ r.val ∧ r.val < 128 then mt (ix2 ⟨r.val - 112, by omega⟩ k) else (0 : EReal) := by
  pointwise
  have z : (FloatOps.sitofp FTy.f32 0#32 : Ideal .f32) = (0 : EReal) := by
    show ((((0 : Int) : ℝ)) : EReal) = 0
    simp
  by_cases h : 112 ≤ r.val ∧ r.val < 128
  · rw [dif_pos h, dif_pos ⟨h.1, by omega⟩]
  · rw [dif_neg h, dif_neg (fun h' => h ⟨h'.1, by omega⟩), z]

/-- The summand's rows of the tokens. -/
theorem XS_big (x : FVec Ideal S4x4096x2048 .f32) (mt : FVec Ideal S16x2048 .f32) (r : Fin 16896) (k : Fin 2048) (h : r.val < 16384) :
    XS x mt (ix2 r k) = x (ix3 ⟨r.val / 4096, by omega⟩ ⟨r.val % 4096, by omega⟩ k) := by
  refine (concatenate_pair_apply_left (t := S16896x2048) (s₁ := S16384x2048) (s₂ := S512x2048) 0 _ _ _ _ rfl (ix2 ⟨r.val, h⟩ k)
    (fun a => by fin_cases a <;> rfl)).trans ?_
  pointwise

/-- The summand's rows of the tail. -/
theorem XS_tail (x : FVec Ideal S4x4096x2048 .f32) (mt : FVec Ideal S16x2048 .f32) (r : Fin 16896) (k : Fin 2048) (h : ¬ r.val < 16384)
    (q : Fin 512) (hq : q.val + 16384 = r.val) :
    XS x mt (ix2 r k) = if h' : 112 ≤ q.val ∧ q.val < 128 then mt (ix2 ⟨q.val - 112, by omega⟩ k) else (0 : EReal) :=
  (concatenate_pair_apply_right (t := S16896x2048) (s₁ := S16384x2048) (s₂ := S512x2048) 0 _ _ _ (ix2 r k) rfl rfl (ix2 q k)
    (fun a ha => by fin_cases a <;> first | exact absurd rfl ha | rfl) hq).trans (pad_at mt q k)

/-- The gated rows of the tokens. -/
theorem GS_big (g : FVec Ideal S16384x2048 .bf16) (gt : FVec Ideal S512x2048 .bf16) (r : Fin 16896) (k : Fin 2048) (h : r.val < 16384) :
    GS g gt (ix2 r k) = g (ix2 ⟨r.val, h⟩ k) := by
  pointwise [GS]
  rw [dif_pos h]

/-- The gated rows of the tail. -/
theorem GS_tail (g : FVec Ideal S16384x2048 .bf16) (gt : FVec Ideal S512x2048 .bf16) (r : Fin 16896) (k : Fin 2048) (h : ¬ r.val < 16384) :
    GS g gt (ix2 r k) = gt (ix2 ⟨r.val - 16384, by omega⟩ k) := by
  pointwise [GS]
  rw [dif_neg h]

/-- The tail's rows: the meta tokens laid between zero rows. -/
theorem V_t0 (c : Dev nD) :
    V m c main_v3 = concatenate S512x2048 0
      [⟨S112x2048, broadcastInDim S112x2048 ![] bcast_S_S112x2048 (constant (F := Ideal) S_ .f32 0x00000000#32)⟩,
        ⟨S16x2048, m ((c : Thread nD τ).loc main_arg4)⟩,
        ⟨S384x2048, broadcastInDim S384x2048 ![] bcast_S_S384x2048 (constant (F := Ideal) S_ .f32 0x00000000#32)⟩]
      concatenates_S112x2048_S16x2048_S384x2048_S512x2048_d0 := by
  unfold V
  after_results
  all_goals rfl

/-- The tail's rows at an index. -/
theorem V_t (c : Dev nD) (r : Fin 512) (k : Fin 2048) :
    V m c main_v3 (ix2 r k) = if h' : 112 ≤ r.val ∧ r.val < 128
      then (m ((c : Thread nD τ).loc main_arg4) : S16x2048.Idx → EReal) (ix2 ⟨r.val - 112, by omega⟩ k) else (0 : EReal) := by
  rw [V_t0]
  generalize (m ((c : Thread nD τ).loc main_arg4) : S16x2048.Idx → EReal) = mt
  pointwise
  by_cases h : 112 ≤ r.val ∧ r.val < 128
  · rw [dif_pos h, dif_neg (by omega), dif_pos (by omega)]
  · rw [dif_neg h]
    by_cases h1 : r.val < 112
    · simp [h1]
    · simp [h1, show ¬ r.val - 112 < 16 by omega]

/-- The tokens' rows at an index. -/
theorem V_x (c : Dev nD) (r : Fin 16384) (k : Fin 2048) :
    V m c main_v0 (ix2 r k) = (m ((c : Thread nD τ).loc main_arg3) : FVec Ideal S4x4096x2048 .f32) (ix3 ⟨r.val / 4096, by omega⟩ ⟨r.val % 4096, by omega⟩ k) := by
  entry_read
  pointwise

/-- The output's block at an index. -/
theorem oread (t : Fin cfg0.N) (r : Fin 512) (j : Fin 2048) (hr : t.val * 512 + r.val < 16896) :
    ((cfg0.win 5).blk t).view.emb (ix2 r j) = (ix2 ⟨t.val * 512 + r.val, hr⟩ j : S16896x2048.Idx) := by
  blk_ext [idx t]

/-- The gated rows' block at an index. -/
theorem gread (c : Dev nD) (t : Fin cfg0.N) (h : t.val < 32) (r : Fin 512) (k : Fin 2048) (hr : t.val * 512 + r.val < 16384) :
    (iblk m c 0 t : FVec Ideal S512x2048 .bf16) (ix2 r k) = (m ((c : Thread nD τ).loc main_arg0) : FVec Ideal S16384x2048 .bf16) (ix2 ⟨t.val * 512 + r.val, hr⟩ k) := by
  have hm : min t.val 31 = t.val := by omega
  blk_ext [iblk, V, idx t, hm]

/-- The gated tail's block at an index. -/
theorem gtread (c : Dev nD) (t : Fin cfg0.N) (r : Fin 512) (k : Fin 2048) :
    (iblk m c 1 t : FVec Ideal S512x2048 .bf16) (ix2 r k) = (m ((c : Thread nD τ).loc main_arg1) : FVec Ideal S512x2048 .bf16) (ix2 r k) := by
  blk_ext [iblk, V, idx t]

/-- The weights' block at an index. -/
theorem wread (c : Dev nD) (t : Fin cfg0.N) (k : Fin 2048) (j : Fin 2048) :
    (iblk m c 2 t : FVec Ideal S2048x2048 .f32) (ix2 k j) = (m ((c : Thread nD τ).loc main_arg2) : FVec Ideal S1x2048x2048 .f32) (ix3 0 k j) := by
  blk_point [iblk, idx t]

/-- The tokens' block at an index. -/
theorem xread (c : Dev nD) (t : Fin cfg0.N) (h : t.val < 32) (r : Fin 512) (k : Fin 2048) (hr : t.val * 512 + r.val < 16384) :
    (iblk m c 3 t : FVec Ideal S512x2048 .f32) (ix2 r k)
      = (m ((c : Thread nD τ).loc main_arg3) : FVec Ideal S4x4096x2048 .f32) (ix3 ⟨(t.val * 512 + r.val) / 4096, by omega⟩ ⟨(t.val * 512 + r.val) % 4096, by omega⟩ k) := by
  have hm : min t.val 31 = t.val := by omega
  rw [← V_x m c ⟨t.val * 512 + r.val, hr⟩ k]
  blk_ext [iblk, idx t, hm]

/-- The meta tokens' block at an index. -/
theorem tread (c : Dev nD) (t : Fin cfg0.N) (r : Fin 512) (k : Fin 2048) :
    (iblk m c 4 t : FVec Ideal S512x2048 .f32) (ix2 r k)
      = if h' : 112 ≤ r.val ∧ r.val < 128 then (m ((c : Thread nD τ).loc main_arg4) : S16x2048.Idx → EReal) (ix2 ⟨r.val - 112, by omega⟩ k) else (0 : EReal) := by
  rw [← V_t m c r k]
  blk_ext [iblk, idx t]

/-- What a point of the big arrays stores, at a block index, is the reference's term there. -/
theorem point (c : Dev nD) (t : Fin cfg0.N) (h : t.val < 32) (y) :
    k0_pay2 (iblk m c 3 t) (iblk m c 0 t) (k0_pay1 (iblk m c 2 t)) y
      = REF (m ((c : Thread nD τ).loc main_arg0)) (m ((c : Thread nD τ).loc main_arg1)) (m ((c : Thread nD τ).loc main_arg2))
          (m ((c : Thread nD τ).loc main_arg3)) (m ((c : Thread nD τ).loc main_arg4))
          (((cfg0.win 5).blk t).view.emb y) := by
  obtain ⟨r, j, rfl⟩ : ∃ (r : Fin 512) (j : Fin 2048), y = ix2 r j := ⟨y 0, y 1, by funext a; fin_cases a <;> rfl⟩
  have hr : t.val * 512 + r.val < 16384 := by omega
  rw [oread t r j (by omega)]
  pointwise [k0_pay1, k0_pay2, REF, xread m c t h _ _ hr, gread m c t h _ _ hr, wread, XS_big _ _ ⟨t.val * 512 + r.val, _⟩ _ hr,
    GS_big _ _ ⟨t.val * 512 + r.val, _⟩ _ hr]

/-- What the last point stores, from the tail's blocks, at a block index, is the reference's term there. -/
theorem pointTail (c : Dev nD) (t : Fin cfg0.N) (h : t.val = 32) (y) :
    k0_pay3 (iblk m c 4 t) (iblk m c 1 t) (k0_pay1 (iblk m c 2 t)) y
      = REF (m ((c : Thread nD τ).loc main_arg0)) (m ((c : Thread nD τ).loc main_arg1)) (m ((c : Thread nD τ).loc main_arg2))
          (m ((c : Thread nD τ).loc main_arg3)) (m ((c : Thread nD τ).loc main_arg4))
          (((cfg0.win 5).blk t).view.emb y) := by
  obtain ⟨r, j, rfl⟩ : ∃ (r : Fin 512) (j : Fin 2048), y = ix2 r j := ⟨y 0, y 1, by funext a; fin_cases a <;> rfl⟩
  have hr : ¬ t.val * 512 + r.val < 16384 := by omega
  have hq : r.val + 16384 = t.val * 512 + r.val := by omega
  have hs : t.val * 512 + r.val - 16384 = r.val := by omega
  rw [oread t r j (by omega)]
  pointwise [k0_pay1, k0_pay3, REF, tread, gtread, wread, XS_tail _ _ ⟨t.val * 512 + r.val, _⟩ _ hr r hq,
    GS_tail _ _ ⟨t.val * 512 + r.val, _⟩ _ hr, hs]

/-- The array after the run. -/
theorem final (c : Dev nD) : (dats m 0 c).arrAt 5 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  have hN : t.val < 33 := lt_of_lt_of_eq t.isLt (show cfg0.N = 33 from N_0)
  by_cases h : t.val % 33 = 0
  · rw [outsAt0_A m c t h (by omega) (by omega)]
    frame_out
    exact point m c t (by omega) y
  · by_cases h' : t.val < 32
    · rw [outsAt0_B m c t h h' (by omega), carried]
      frame_out
      rw [read_unread_whole, wblk m c ⟨t.val - 1, _⟩ t]
      exact point m c t h' y
    · rw [outsAt0_C m c t h h' (by omega), carried]
      frame_out
      rw [read_unread_whole, wblk m c ⟨t.val - 1, _⟩ t]
      exact pointTail m c t (by omega) y

end Cert.Kernel3Ideal.OutOne

end
-- ==== Proof.NormQkv.lean ====
/- The value of the attention's norm and projections (`Kernel4Ideal`): its array is the reference's term. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Cert.Kernel4Ideal.NormQkv

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The reference's normed rows. -/
abbrev NRM (h : FVec Ideal S16896x2048 .f32) (g : FVec Ideal S2x2048 .f32) : FVec Ideal S16896x2048 .f32 :=
  (mulf (mulf h (broadcastInDim Cert.Reference4Ideal.S16896x2048 ![0, 1] Cert.Reference4Ideal.Gen.bcast_S16896x1_S16896x2048_0_1 (Host.rsqrt (addf (Host.divf (broadcastInDim Cert.Reference4Ideal.S16896x1 ![0] Cert.Reference4Ideal.Gen.bcast_S16896_S16896x1_0 (Host.reduceAdd (mulf h h) (constant Cert.Reference4Ideal.S_ .f32 0x00000000#32) Cert.Reference4Ideal.Gen.reducesTo_S16896x2048_S16896_d1 Cert.Reference4Ideal.Gen.h_S_)) (broadcastInDim Cert.Reference4Ideal.S16896x1 ![] Cert.Reference4Ideal.Gen.bcast_S_S16896x1 (constant Cert.Reference4Ideal.S_ .f32 0x45000000#32))) (broadcastInDim Cert.Reference4Ideal.S16896x1 ![] Cert.Reference4Ideal.Gen.bcast_S_S16896x1 (constant Cert.Reference4Ideal.S_ .f32 0x358637BD#32)))))) (broadcastInDim Cert.Reference4Ideal.S16896x2048 ![0, 1] Cert.Reference4Ideal.Gen.bcast_S1x2048_S16896x2048_0_1 (broadcastInDim Cert.Reference4Ideal.S1x2048 ![1] Cert.Reference4Ideal.Gen.bcast_S2048_S1x2048_1 (shapeCast _ (extractStridedSlice Cert.Reference4Ideal.S1x2048 ![1, 0] g Cert.Reference4Ideal.Gen.slices_S2x2048_S1x2048_1_0) Cert.Reference4Ideal.Gen.shapeCasts_S1x2048_S2048))))

/-- The reference's product with the projection weights. -/
abbrev PROD (h : FVec Ideal S16896x2048 .f32) (g : FVec Ideal S2x2048 .f32) (w : FVec Ideal S1x2048x6144 .f32) :
    FVec Ideal S16896x6144 .f32 :=
  (Host.dotGeneral Cert.Reference4Ideal.dot_S16896x2048_S2048x6144_S16896x6144_1_0_0_1_n_n none (NRM h g) (shapeCast _ w Cert.Reference4Ideal.Gen.shapeCasts_S1x2048x6144_S2048x6144))

/-- The reference's term over the argument arrays. -/
abbrev REF (h : FVec Ideal S16896x2048 .f32) (g : FVec Ideal S2x2048 .f32) (w : FVec Ideal S1x2048x6144 .f32) :
    FVec Ideal S16896x6144 .bf16 :=
  truncf .bf16 ((concatenate Cert.Reference4Ideal.S16896x6144 1 [⟨Cert.Reference4Ideal.S16896x2048, ((mulf (extractStridedSlice Cert.Reference4Ideal.S16896x2048 ![0, 0] (PROD h g w) Cert.Reference4Ideal.Gen.slices_S16896x6144_S16896x2048_0_0) (broadcastInDim Cert.Reference4Ideal.S16896x2048 ![] Cert.Reference4Ideal.Gen.bcast_S_S16896x2048 (constant Cert.Reference4Ideal.S_ .f32 0x3DB504F3#32))))⟩, ⟨Cert.Reference4Ideal.S16896x2048, ((extractStridedSlice Cert.Reference4Ideal.S16896x2048 ![0, 2048] (PROD h g w) Cert.Reference4Ideal.Gen.slices_S16896x6144_S16896x2048_0_2048))⟩, ⟨Cert.Reference4Ideal.S16896x2048, ((extractStridedSlice Cert.Reference4Ideal.S16896x2048 ![0, 4096] (PROD h g w) Cert.Reference4Ideal.Gen.slices_S16896x6144_S16896x2048_0_4096))⟩] Cert.Reference4Ideal.Gen.concatenates_S16896x2048_S16896x2048_S16896x2048_S16896x6144_d1)) Cert.Reference4Ideal.Gen.bitsLt_bf16_f32

/-- The windows' block indices at every point. -/
theorem idx : ∀ t : Fin cfg0.N, win0_0.index t = ![t.val / 6, 0] ∧ win0_1.index t = ![0, 0]
    ∧ win0_2.index t = ![0, t.val % 6] ∧ win0_3.index t = ![t.val / 6, t.val % 6] :=
  (by decide +kernel : ∀ t : Fin grid0.N, _)

/-- The column coordinate of every point. -/
theorem col (t : Fin cfg0.N) : (grid0.coords t 1).val = t.val % 6 := by
  have e : (grid0.coords t 1).val = t.val / 1 % 6 := Pipeline.Grid.coords_val t 1 (by decide) rfl
  rw [e, Nat.div_one]

/-- The projection weights, reshaped and cast, at an index. -/
theorem V_w (c : Dev nD) (k : Fin 2048) (j : Fin 6144) :
    V m c main_v4 (ix2 k j) = (m ((c : Thread nD τ).loc main_arg2) : FVec Ideal S1x2048x6144 .f32) (ix3 0 k j) := by
  entry_read
  pointwise

/-- The scale, cut and reshaped, at an index. -/
theorem V_g (c : Dev nD) (k : Fin 2048) :
    V m c main_v2 (ix2 0 k) = (m ((c : Thread nD τ).loc main_arg1) : FVec Ideal S2x2048 .f32) (ix2 1 k) := by
  entry_read
  pointwise

/-- The block of rows at an index. -/
theorem hread (c : Dev nD) (t : Fin cfg0.N) (r : Fin 1536) (k : Fin 2048) (hr : t.val / 6 * 1536 + r.val < 16896) :
    (iblk m c 0 t : FVec Ideal S1536x2048 .f32) (ix2 r k) = (m ((c : Thread nD τ).loc main_arg0) : FVec Ideal S16896x2048 .f32)
      (ix2 ⟨t.val / 6 * 1536 + r.val, hr⟩ k) := by
  blk_ext [iblk, V, idx t]

/-- The scale's block at an index. -/
theorem gread (c : Dev nD) (t : Fin cfg0.N) (z : Fin 1) (k : Fin 2048) :
    (iblk m c 1 t : FVec Ideal S1x2048 .f32) (ix2 z k)
      = (m ((c : Thread nD τ).loc main_arg1) : FVec Ideal S2x2048 .f32) (ix2 1 k) := by
  rw [← V_g m c k]
  blk_ext [iblk, idx t]

/-- The weights' block at an index. -/
theorem wread (c : Dev nD) (t : Fin cfg0.N) (k : Fin 2048) (j : Fin 1024) (hj : t.val % 6 * 1024 + j.val < 6144) :
    (iblk m c 2 t : FVec Ideal S2048x1024 .bf16) (ix2 k j)
      = (m ((c : Thread nD τ).loc main_arg2) : FVec Ideal S1x2048x6144 .f32) (ix3 0 k ⟨t.val % 6 * 1024 + j.val, hj⟩) := by
  rw [← V_w m c k ⟨t.val % 6 * 1024 + j.val, hj⟩]
  blk_ext [iblk, idx t]

/-- The output's block at an index. -/
theorem oread (t : Fin cfg0.N) (r : Fin 1536) (j : Fin 1024) (hr : t.val / 6 * 1536 + r.val < 16896)
    (hj : t.val % 6 * 1024 + j.val < 6144) :
    ((cfg0.win 3).blk t).view.emb (ix2 r j) = (ix2 ⟨t.val / 6 * 1536 + r.val, hr⟩ ⟨t.val % 6 * 1024 + j.val, hj⟩ : S16896x6144.Idx) := by
  blk_ext [idx t]

/-- The block of rows is the same along a row of the grid. -/
theorem rblk (c : Dev nD) (t t' : Fin cfg0.N) (h : t.val / 6 = t'.val / 6) : iblk m c 0 t = iblk m c 0 t' := by
  funext y
  blk_ext [iblk, idx t, idx t', h]

/-- The scale is the same at every point. -/
theorem gblk (c : Dev nD) (t t' : Fin cfg0.N) : iblk m c 1 t = iblk m c 1 t' := by
  funext y
  blk_ext [iblk, idx t, idx t']

/-- The carried rows are the normed block of rows after every point. -/
theorem carried (c : Dev nD) : ∀ (n : ℕ) (hn : n < cfg0.N),
    (outsAt0 m c n hn).2 = k0_pay1 (iblk m c 0 ⟨n, hn⟩) (iblk m c 1 ⟨n, hn⟩)
  | 0, hn => by
    rw [outsAt0_A m c ⟨0, hn⟩ (Nat.zero_mod _)]
    frame_out
  | n + 1, hn => by
    by_cases h : (n + 1) % 6 = 0
    · rw [outsAt0_A m c ⟨n + 1, hn⟩ h]
      frame_out
    · rw [outsAt0_B m c ⟨n + 1, hn⟩ h]
      unfold sout0_B_0
      dsimp only
      rw [rblk m c ⟨n + 1, hn⟩ ⟨n, Nat.lt_of_succ_lt hn⟩ (by dsimp only; omega),
        gblk m c ⟨n + 1, hn⟩ ⟨n, Nat.lt_of_succ_lt hn⟩]
      exact carried c n _

/-- The factor of a column block: the scale of the queries in the first two, one in the others. -/
theorem mult (t : Fin cfg0.N) :
    Scalar.select (Scalar.cmpi .slt (BitVec.ofNat 32 (grid0.coords t 1).val) 2#32)
      (Scalar.ofBits .f32 0x3DB504F3#32 : Ideal .f32) (Scalar.ofBits .f32 0x3F800000#32)
      = if t.val % 6 < 2 then (Scalar.ofBits .f32 0x3DB504F3#32 : Ideal .f32) else (Scalar.ofBits .f32 0x3F800000#32 : Ideal .f32) := by
  rw [col t]
  have h : t.val % 6 < 6 := Nat.mod_lt _ (by decide)
  generalize t.val % 6 = n at h
  interval_cases n <;> rfl

/-- What a point stores, at a block index, is the reference's term there. -/
theorem point (c : Dev nD) (t : Fin cfg0.N) (y) :
    k0_pay2 (grid0.coords t) (k0_pay1 (iblk m c 0 t) (iblk m c 1 t)) (iblk m c 2 t) y
      = REF (m ((c : Thread nD τ).loc main_arg0)) (m ((c : Thread nD τ).loc main_arg1)) (m ((c : Thread nD τ).loc main_arg2))
          (((cfg0.win 3).blk t).view.emb y) := by
  have hN : t.val < 66 := lt_of_lt_of_eq t.isLt (show cfg0.N = 66 from N_0)
  obtain ⟨r, j, rfl⟩ : ∃ (r : Fin 1536) (j : Fin 1024), y = ix2 r j := ⟨y 0, y 1, by funext a; fin_cases a <;> rfl⟩
  have hr : t.val / 6 * 1536 + r.val < 16896 := by omega
  have hj : t.val % 6 * 1024 + j.val < 6144 := by omega
  rw [oread t r j hr hj]
  have hM := mult t
  unfold k0_pay2
  dsimp only
  rw [hM]
  by_cases h : t.val % 6 < 2
  · have h' : t.val % 6 * 1024 + j.val < 2048 := by omega
    rw [if_pos h]
    pointwise [k0_pay1, REF, NRM, PROD, hread m c t _ _ hr, gread, wread m c t _ _ hj]
    rw [dif_pos h']
  · rw [if_neg h]
    have h' : ¬ t.val % 6 * 1024 + j.val < 2048 := by omega
    pointwise [k0_pay1, REF, NRM, PROD, hread m c t _ _ hr, gread, wread m c t _ _ hj]
    rw [dif_neg h']
    by_cases h2 : t.val % 6 * 1024 + j.val - 2048 < 2048
    · rw [dif_pos h2]
      have e : 2048 + (t.val % 6 * 1024 + j.val - 2048) = t.val % 6 * 1024 + j.val := by omega
      simp only [e]
    · rw [dif_neg h2]
      have e : 4096 + (t.val % 6 * 1024 + j.val - 2048 - 2048) = t.val % 6 * 1024 + j.val := by omega
      simp only [e]

/-- The array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 6 = 0
  · rw [outsAt0_A m c t h]
    frame_out
    exact point m c t y
  · rw [outsAt0_B m c t h, carried]
    frame_out
    rw [read_unread_whole, rblk m c ⟨t.val - 1, _⟩ t (by dsimp only; omega), gblk m c ⟨t.val - 1, _⟩ t]
    exact point m c t y

end Cert.Kernel4Ideal.NormQkv

end
-- ==== Proof.OutTwo.lean ====
/- The value of the attention's output product and residual (`Kernel5Ideal`): its array is the reference's term. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.Kernel5Ideal.OutTwo

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The reference's term over the argument arrays. -/
abbrev REF (o : FVec Ideal S16896x2048 .bf16) (w : FVec Ideal S1x2048x2048 .f32) (h : FVec Ideal S16896x2048 .f32) :
    FVec Ideal S16896x2048 .f32 :=
  addf h (Host.dotGeneral Cert.Reference5Ideal.dot_S16896x2048_S2048x2048_S16896x2048_1_0_0_1_n_n none
    (extf .f32 o Cert.Reference5Ideal.Gen.bitsLt_bf16_f32)
    (shapeCast _ w Cert.Reference5Ideal.Gen.shapeCasts_S1x2048x2048_S2048x2048))

/-- The windows' block indices at every point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The weight block is the same at every point. -/
theorem wblk (c : Dev nD) (t t' : Fin cfg0.N) : iblk m c 1 t = iblk m c 1 t' := by
  funext y
  blk_ext [iblk, idx t, idx t']

/-- The carried weight, cast once at the first point, is the cast of the weight block after every point. -/
theorem carried (c : Dev nD) : ∀ (n : ℕ) (hn : n < cfg0.N),
    (outsAt0 m c n hn).2 = k0_pay1 (iblk m c 1 ⟨n, hn⟩)
  | 0, hn => by
    rw [outsAt0_A m c ⟨0, hn⟩ (Nat.zero_mod _)]
    frame_out
  | n + 1, hn => by
    have hN : n + 1 < 33 := lt_of_lt_of_eq hn (show cfg0.N = 33 from N_0)
    rw [outsAt0_B m c ⟨n + 1, hn⟩ (by dsimp only; omega)]
    unfold sout0_B_0
    dsimp only
    rw [wblk m c ⟨n + 1, hn⟩ ⟨n, Nat.lt_of_succ_lt hn⟩]
    exact carried c n _

/-- What a point stores, at a block index, is the reference's term there. -/
theorem point (c : Dev nD) (t : Fin cfg0.N) (y) :
    k0_pay2 (iblk m c 2 t) (iblk m c 0 t) (k0_pay1 (iblk m c 1 t)) y
      = REF (m ((c : Thread nD τ).loc main_arg0)) (m ((c : Thread nD τ).loc main_arg1)) (m ((c : Thread nD τ).loc main_arg2))
          (((cfg0.win 3).blk t).view.emb y) := by
  pointwise [k0_pay1, k0_pay2, REF]
  blk_point [iblk, idx t]

/-- The array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hN : t.val < 33 := lt_of_lt_of_eq t.isLt (show cfg0.N = 33 from N_0)
  by_cases h : t.val % 33 = 0
  · rw [outsAt0_A m c t h]
    frame_out
    exact point m c t y
  · rw [outsAt0_B m c t h, carried]
    frame_out
    rw [read_unread_whole, wblk m c ⟨t.val - 1, _⟩ t]
    exact point m c t y

end Cert.Kernel5Ideal.OutTwo

end
-- ==== Proof.Values.lean ====
/- The value claims of the short convolution's input half, of the residual products and of the projections. -/
module

public import proofs.«01_k».proof.Defs
public import proofs.«01_k».proof.Proof.ConvInEq
public import proofs.«01_k».proof.Proof.OutOne
public import proofs.«01_k».proof.Proof.NormQkv
public import proofs.«01_k».proof.Proof.OutTwo

@[expose] public section

set_option maxRecDepth 16384

noncomputable section

namespace Cert.Proof

open Idealize.ShloMosaic Idealize.ShloMosaic.TcCoe Idealize.SL.Sem

/-- The two values of `KernelIdeal` are `ReferenceIdeal`'s. -/
theorem algebraic_1 : Cert.algebraic_KernelIdeal_ReferenceIdeal
    (hKernelIdeal := Cert.KernelIdeal.Gen.facts) (hReferenceIdeal := Cert.ReferenceIdeal.Gen.facts) :=
  fun m g m' g' _ hag => ⟨_, _, Cert.KernelIdeal.ConvIn.run_value m g,
    (θ_run Cert.ReferenceIdeal.defs _ _).mono (fun _ h c => by
      obtain ⟨e0, e1, e2, e3, e4⟩ := hag c
      refine ⟨(h c).1.trans ?_, (h c).2.1.trans ?_, (h c).2.2⟩
      · unfold Cert.ReferenceIdeal.Value.res_main_v48
        rw [e0, e1, e2, e3, e4]
        rfl
      · rw [e0, e2, e3]
        rfl)
      (Cert.ReferenceIdeal.Value.run m' g')⟩

/-- The value of `Kernel3Ideal` is `Reference3Ideal`'s. -/
theorem algebraic_3 : Cert.algebraic_Kernel3Ideal_Reference3Ideal
    (hKernel3Ideal := Cert.Kernel3Ideal.Gen.facts) (hReference3Ideal := Cert.Reference3Ideal.Gen.facts) :=
  fun m g m' g' _ hag => ⟨fun c => Cert.Kernel3Ideal.OutOne.REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
    (θ_run Cert.Kernel3Ideal.defs _ _).mono (fun _ h c => ⟨(h c).1.trans (Cert.Kernel3Ideal.OutOne.final m c), (h c).2⟩)
      (Cert.Kernel3Ideal.Value.run_blocks m g),
    (θ_run Cert.Reference3Ideal.defs _ _).mono (fun _ h c => by
      obtain ⟨e0, e1, e2, e3, e4⟩ := hag c
      refine ⟨(h c).1.trans ?_, (h c).2⟩
      rw [e0, e1, e2, e3, e4])
      (Cert.Reference3Ideal.Value.run m' g')⟩

/-- The value of `Kernel4Ideal` is `Reference4Ideal`'s. -/
theorem algebraic_4 : Cert.algebraic_Kernel4Ideal_Reference4Ideal
    (hKernel4Ideal := Cert.Kernel4Ideal.Gen.facts) (hReference4Ideal := Cert.Reference4Ideal.Gen.facts) :=
  fun m g m' g' _ hag => ⟨fun c => Cert.Kernel4Ideal.NormQkv.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    (θ_run Cert.Kernel4Ideal.defs _ _).mono (fun _ h c => ⟨(h c).1.trans (Cert.Kernel4Ideal.NormQkv.final m c), (h c).2⟩)
      (Cert.Kernel4Ideal.Value.run_blocks m g),
    (θ_run Cert.Reference4Ideal.defs _ _).mono (fun _ h c => by
      obtain ⟨e0, e1, e2⟩ := hag c
      refine ⟨(h c).1.trans ?_, (h c).2⟩
      rw [e0, e1, e2])
      (Cert.Reference4Ideal.Value.run m' g')⟩

/-- The value of `Kernel5Ideal` is `Reference5Ideal`'s. -/
theorem algebraic_5 : Cert.algebraic_Kernel5Ideal_Reference5Ideal
    (hKernel5Ideal := Cert.Kernel5Ideal.Gen.facts) (hReference5Ideal := Cert.Reference5Ideal.Gen.facts) :=
  fun m g m' g' _ hag => ⟨fun c => Cert.Kernel5Ideal.OutTwo.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun _ h c => ⟨(h c).1.trans (Cert.Kernel5Ideal.OutTwo.final m c), (h c).2⟩)
      (Cert.Kernel5Ideal.Value.run_blocks m g),
    (θ_run Cert.Reference5Ideal.defs _ _).mono (fun _ h c => by
      obtain ⟨e0, e1, e2⟩ := hag c
      refine ⟨(h c).1.trans ?_, (h c).2⟩
      rw [e0, e1, e2])
      (Cert.Reference5Ideal.Value.run m' g')⟩

end Cert.Proof

end
-- ==== Proof.lean ====
/- The claim: the frames of the programs and their references, then each program's value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference3Ideal.Run
public import proofs.«01_k».proof.Proof.Gen.Kernel3Ideal.Value
public import proofs.«01_k».proof.Proof.Gen.Reference4Ideal.Run
public import proofs.«01_k».proof.Proof.Gen.Kernel4Ideal.Value
public import proofs.«01_k».proof.Proof.Gen.Reference5Ideal.Run
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Pre_tables
public import proofs.«01_k».proof.Proof.ExpertsClaims
public import proofs.«01_k».proof.Proof.FirstClaims
public import proofs.«01_k».proof.Proof.ConvInFrame
public import proofs.«01_k».proof.Proof.MetaClaims
public import proofs.«01_k».proof.Proof.RefFrames
public import proofs.«01_k».proof.Proof.Values
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_tables.Gen.facts,
  quiescent_k1,
  fun m ρ _ => Cert.KernelIdeal.ConvIn.frame m ρ, quiescent_r1,
  quiescent_k2, quiescent_k2i, quiescent_r2,
  fun m ρ _ => Cert.Kernel3.Gen.frame m ρ,
  fun m ρ _ => Cert.Kernel3Ideal.Gen.frame m ρ, quiescent_r3,
  fun m ρ _ => Cert.Kernel4.Gen.frame m ρ,
  fun m ρ _ => Cert.Kernel4Ideal.Gen.frame m ρ, quiescent_r4,
  fun m ρ _ => Cert.Kernel5.Gen.frame m ρ,
  fun m ρ _ => Cert.Kernel5Ideal.Gen.frame m ρ, quiescent_r5,
  quiescent_k6, quiescent_k6i,
  quiescent_r6, quiescent_r6_pre,
  quiescent_k7, quiescent_k7i,
  quiescent_r7, quiescent_r7_pre,
  trivial, algebraic_1,
  trivial, algebraic_2,
  trivial, algebraic_3,
  trivial, algebraic_4,
  trivial, algebraic_5,
  trivial, algebraic_6,
  trivial, algebraic_7⟩

end Cert.Proof

end
